-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16)) (m ((c.tc : Thread Cert.Kernel3Ideal.nD Cert.Kernel3Ideal.τ).loc Cert.Kernel3Ideal.main_arg17))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16)) (m ((c.tc : Thread Cert.Reference3Ideal.nD Cert.Reference3Ideal.τ).loc Cert.Reference3Ideal.main_arg17))) = (fun _ => 1#1)

def Pre_Kernel4 [hPre_experts : Cert.Pre_experts.Facts] (m : (ℓ : Loc Cert.Kernel4.nD Cert.Kernel4.τ Cert.Kernel4.sig) → Buf (Elt Bits) ℓ) : Prop :=
  ∀ c : Dev Cert.Kernel4.nD,
    (Cert.Pre_experts.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))) = (fun _ => 1#1)

def Pre_Kernel4Ideal [hPre_experts : Cert.Pre_experts.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_experts.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_experts [hPre_experts : Cert.Pre_experts.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_experts.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17))
      ∧ r.2.sem = fun _ => 0)

def quiescent_Kernel4 [hKernel4 : Cert.Kernel4.Facts] [hPre_experts : Cert.Pre_experts.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_experts : Cert.Pre_experts.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_experts [hReference4Ideal : Cert.Reference4Ideal.Facts] [hPre_experts : Cert.Pre_experts.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_experts m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)) →
    ∃ (v0 : (c : Dev Cert.Kernel3Ideal.nD) → Buf (Elt Ideal) ((c.tc : Thread Cert.Kernel3Ideal.nD Cert.Kernel3Ideal.τ).loc Cert.Kernel3Ideal.main_v13_0)) (v1 : (c : Dev Cert.Kernel3Ideal.nD) → Buf (Elt Ideal) ((c.tc : Thread Cert.Kernel3Ideal.nD Cert.Kernel3Ideal.τ).loc Cert.Kernel3Ideal.main_v13_1)) (v2 : (c : Dev Cert.Kernel3Ideal.nD) → Buf (Elt Ideal) ((c.tc : Thread Cert.Kernel3Ideal.nD Cert.Kernel3Ideal.τ).loc Cert.Kernel3Ideal.main_v13_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13_0) = v0 c
          ∧ r.2.mem ((c.tc : Thread Cert.Kernel3Ideal.nD Cert.Kernel3Ideal.τ).loc Cert.Kernel3Ideal.main_v13_1) = v1 c
          ∧ r.2.mem ((c.tc : Thread Cert.Kernel3Ideal.nD Cert.Kernel3Ideal.τ).loc Cert.Kernel3Ideal.main_v13_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v67) = v1 c
          ∧ r.2.mem ((c.tc : Thread Cert.Reference3Ideal.nD Cert.Reference3Ideal.τ).loc Cert.Reference3Ideal.main_v70) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17))

def preserves_Kernel4_Kernel4Ideal : Prop :=
  True

def algebraic_Kernel4Ideal_Reference4Ideal_on_rows_used [hKernel4Ideal : Cert.Kernel4Ideal.Facts] [hReference4Ideal : Cert.Reference4Ideal.Facts] [hPre_experts : Cert.Pre_experts.Facts] [hOn_rows_used : Cert.On_rows_used.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v29)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![196608, 1024]⟩ : Shape).Idx, (Cert.On_rows_used.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) i = 1#1 → r.2.mem ((c.tc : Thread Cert.Kernel4Ideal.nD Cert.Kernel4Ideal.τ).loc Cert.Kernel4Ideal.main_v29) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![196608, 1024]⟩ : Shape).Idx, (Cert.On_rows_used.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))) i = 1#1 → r.2.mem ((c.tc : Thread Cert.Reference4Ideal.nD Cert.Reference4Ideal.τ).loc Cert.Reference4Ideal.main_v42) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_experts : Cert.Pre_experts.Facts) (hOn_rows_used : Cert.On_rows_used.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ quiescent_Kernel4 (hKernel4 := hKernel4) (hPre_experts := hPre_experts)
    ∧ quiescent_Kernel4Ideal (hKernel4Ideal := hKernel4Ideal) (hPre_experts := hPre_experts)
    ∧ quiescent_Reference4Ideal (hReference4Ideal := hReference4Ideal)
    ∧ quiescent_Reference4Ideal_pre_experts (hReference4Ideal := hReference4Ideal) (hPre_experts := hPre_experts)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
    ∧ preserves_Kernel4_Kernel4Ideal
    ∧ algebraic_Kernel4Ideal_Reference4Ideal_on_rows_used (hKernel4Ideal := hKernel4Ideal) (hReference4Ideal := hReference4Ideal) (hPre_experts := hPre_experts) (hOn_rows_used := hOn_rows_used)
-- ==== On_rows_used.lean ====
abbrev S768 : Shape := ⟨1, ![768]⟩
abbrev S1 : Shape := ⟨1, ![1]⟩
abbrev S196608x512 : Shape := ⟨2, ![196608, 512]⟩
abbrev S256x1024x256 : Shape := ⟨3, ![256, 1024, 256]⟩
abbrev S256x256x1024 : Shape := ⟨3, ![256, 256, 1024]⟩
abbrev S196608x1024 : Shape := ⟨2, ![196608, 1024]⟩
abbrev S_ : Shape := ⟨0, ![]⟩

class Facts : Prop where
  shapeCasts_S1_S_ : S1.ShapeCasts S_
  bcast_S_S196608x1024 : S_.BroadcastsInDim S196608x1024 (![] : Fin 0 → Fin S196608x1024.rank)

variable [Facts]

def fn {F : FTy → Type} [FloatOps F] (main_arg0 : IVec S768 32) (main_arg1 : IVec S768 32) (main_arg2 : IVec S1 32) (main_arg3 : IVec S196608x512 32) (main_arg4 : FVec F S256x1024x256 .f32) (main_arg5 : FVec F S256x1024x256 .f32) (main_arg6 : FVec F S256x256x1024 .f32) : IVec S196608x1024 1 :=
  let main_v0 : IVec S196608x1024 32 := iotaInDim S196608x1024 32 0
  let main_v1 : IVec S_ 32 := shapeCast S_ main_arg2 shapeCasts_S1_S_
  let main_c : IVec S_ 32 := constantI S_ 32 256#32
  let main_v2 : IVec S_ 32 := muli main_v1 main_c
  let main_v3 : IVec S196608x1024 32 := broadcastInDim S196608x1024 ![] bcast_S_S196608x1024 main_v2
  let main_v4 : IVec S196608x1024 1 := cmpi .slt main_v0 main_v3
  main_v4
-- ==== Pre_experts.lean ====
abbrev S768 : Shape := ⟨1, ![768]⟩
abbrev S1 : Shape := ⟨1, ![1]⟩
abbrev S196608x512 : Shape := ⟨2, ![196608, 512]⟩
abbrev S256x1024x256 : Shape := ⟨3, ![256, 1024, 256]⟩
abbrev S256x256x1024 : Shape := ⟨3, ![256, 256, 1024]⟩
abbrev S_ : Shape := ⟨0, ![]⟩

class Facts : Prop where
  bcast_S_S768 : S_.BroadcastsInDim S768 (![] : Fin 0 → Fin S768.rank)
  reducesTo_S768_S_d0 : S768.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S768 32) (main_arg1 : IVec S768 32) (main_arg2 : IVec S1 32) (main_arg3 : IVec S196608x512 32) (main_arg4 : FVec F S256x1024x256 .f32) (main_arg5 : FVec F S256x1024x256 .f32) (main_arg6 : FVec F S256x256x1024 .f32) : IVec S_ 1 :=
  let main_c : IVec S_ 32 := constantI S_ 32 0#32
  let main_v0 : IVec S768 32 := broadcastInDim S768 ![] bcast_S_S768 main_c
  let main_v1 : IVec S768 1 := cmpi .sge main_arg0 main_v0
  let main_c_0 : IVec S_ 32 := constantI S_ 32 256#32
  let main_v2 : IVec S768 32 := broadcastInDim S768 ![] bcast_S_S768 main_c_0
  let main_v3 : IVec S768 1 := cmpi .slt main_arg0 main_v2
  let main_v4 : IVec S768 1 := andi main_v1 main_v3
  let main_c_1 : IVec S_ 1 := constantI S_ 1 1#1
  let main_v5 : IVec S_ 1 := (fun x v => Host.reduce IntOp.andi x v reducesTo_S768_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 32 := constantI S_ 32 768#32
  let main_v8 : IVec S1 32 := broadcastInDim S1 ![] bcast_S_S1 main_c_3
  let main_v9 : IVec S1 1 := cmpi .sle main_arg2 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_finite.lean ====
abbrev S2x8192x1024 : Shape := ⟨3, ![2, 8192, 1024]⟩
abbrev S128x1x512 : Shape := ⟨3, ![128, 1, 512]⟩
abbrev S64x512 : Shape := ⟨2, ![64, 512]⟩
abbrev S16384x512 : Shape := ⟨2, ![16384, 512]⟩
abbrev S16384x6144 : Shape := ⟨2, ![16384, 6144]⟩
abbrev S512x1024 : Shape := ⟨2, ![512, 1024]⟩
abbrev S1024x1024 : Shape := ⟨2, ![1024, 1024]⟩
abbrev S2x1x1024 : Shape := ⟨3, ![2, 1, 1024]⟩
abbrev S1024 : Shape := ⟨1, ![1024]⟩
abbrev S1024x256 : Shape := ⟨2, ![1024, 256]⟩
abbrev S256x1024 : Shape := ⟨2, ![256, 1024]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S128x1x512 : S_.BroadcastsInDim S128x1x512 (![] : Fin 0 → Fin S128x1x512.rank)
  reducesTo_S128x1x512_S_d0_1_2 : S128x1x512.ReducesTo [0, 1, 2] S_
  bcast_S_S64x512 : S_.BroadcastsInDim S64x512 (![] : Fin 0 → Fin S64x512.rank)
  reducesTo_S64x512_S_d0_1 : S64x512.ReducesTo [0, 1] S_
  bcast_S_S16384x512 : S_.BroadcastsInDim S16384x512 (![] : Fin 0 → Fin S16384x512.rank)
  reducesTo_S16384x512_S_d0_1 : S16384x512.ReducesTo [0, 1] S_
  bcast_S_S16384x6144 : S_.BroadcastsInDim S16384x6144 (![] : Fin 0 → Fin S16384x6144.rank)
  reducesTo_S16384x6144_S_d0_1 : S16384x6144.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S2x1x1024 : S_.BroadcastsInDim S2x1x1024 (![] : Fin 0 → Fin S2x1x1024.rank)
  reducesTo_S2x1x1024_S_d0_1_2 : S2x1x1024.ReducesTo [0, 1, 2] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_

variable [Facts]

def fn_part4 {F : FTy → Type} [FloatOps F] (main_v55 : IVec S_ 1) (main_v67 : IVec S_ 1) : IVec S_ 1 :=
  let main_v68 : IVec S_ 1 := andi main_v67 main_v55
  main_v68

def fn_part3 {F : FTy → Type} [FloatOps F] (main_arg12 : FVec F S2x1x1024 .f32) (main_arg14 : FVec F S1024x256 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S2x1x1024 .f32 := Host.absf main_arg12
  let main_cst_22 : FVec F S_ .f32 := constant S_ .f32 0x7F800000#32
  let main_v49 : FVec F S2x1x1024 .f32 := broadcastInDim S2x1x1024 ![] bcast_S_S2x1x1024 main_cst_22
  let main_v50 : IVec S2x1x1024 1 := cmpf .olt main_v48 main_v49
  let main_c_23 : IVec S_ 1 := constantI S_ 1 1#1
  let main_v51 : IVec S_ 1 := (fun x v => Host.reduce IntOp.andi x v reducesTo_S2x1x1024_S_d0_1_2 h_S_) main_v50 main_c_23
  let main_v52 : FVec F S1024x256 .f32 := Host.absf main_arg14
  let main_cst_24 : FVec F S_ .f32 := constant S_ .f32 0x7F800000#32
  let main_v53 : FVec F S1024x256 .f32 := broadcastInDim S1024x256 ![] bcast_S_S1024x256 main_cst_24
  let main_v54 : IVec S1024x256 1 := cmpf .olt main_v52 main_v53
  let main_c_25 : IVec S_ 1 := constantI S_ 1 1#1
  let main_v55 : IVec S_ 1 := (fun x v => Host.reduce IntOp.andi x v reducesTo_S1024x256_S_d0_1 h_S_) main_v54 main_c_25
  let main_v56 : IVec S_ 1 := andi main_v3 main_v7
  let main_v57 : IVec S_ 1 := andi main_v56 main_v11
  let main_v58 : IVec S_ 1 := andi main_v57 main_v15
  let main_v59 : IVec S_ 1 := andi main_v58 main_v19
  let main_v60 : IVec S_ 1 := andi main_v59 main_v23
  let main_v61 : IVec S_ 1 := andi main_v60 main_v27
  let main_v62 : IVec S_ 1 := andi main_v61 main_v31
  let main_v63 : IVec S_ 1 := andi main_v62 main_v35
  let main_v64 : IVec S_ 1 := andi main_v63 main_v39
  let main_v65 : IVec S_ 1 := andi main_v64 main_v43
  let main_v66 : IVec S_ 1 := andi main_v65 main_v47
  let main_v67 : IVec S_ 1 := andi main_v66 main_v51
  fn_part4 (F := F) main_v55 main_v67

def fn_part2 {F : FTy → Type} [FloatOps F] (main_arg8 : FVec F S1024x1024 .f32) (main_arg9 : FVec F S2x1x1024 .f32) (main_arg10 : FVec F S1024 .f32) (main_arg11 : FVec F S2x1x1024 .f32) (main_arg12 : FVec F S2x1x1024 .f32) (main_arg14 : FVec F S1024x256 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1024x1024 .f32 := Host.absf main_arg8
  let main_cst_14 : FVec F S_ .f32 := constant S_ .f32 0x7F800000#32
  let main_v33 : FVec F S1024x1024 .f32 := broadcastInDim S1024x1024 ![] bcast_S_S1024x1024 main_cst_14
  let main_v34 : IVec S1024x1024 1 := cmpf .olt main_v32 main_v33
  let main_c_15 : IVec S_ 1 := constantI S_ 1 1#1
  let main_v35 : IVec S_ 1 := (fun x v => Host.reduce IntOp.andi x v reducesTo_S1024x1024_S_d0_1 h_S_) main_v34 main_c_15
  let main_v36 : FVec F S2x1x1024 .f32 := Host.absf main_arg9
  let main_cst_16 : FVec F S_ .f32 := constant S_ .f32 0x7F800000#32
  let main_v37 : FVec F S2x1x1024 .f32 := broadcastInDim S2x1x1024 ![] bcast_S_S2x1x1024 main_cst_16
  let main_v38 : IVec S2x1x1024 1 := cmpf .olt main_v36 main_v37
  let main_c_17 : IVec S_ 1 := constantI S_ 1 1#1
  let main_v39 : IVec S_ 1 := (fun x v => Host.reduce IntOp.andi x v reducesTo_S2x1x1024_S_d0_1_2 h_S_) main_v38 main_c_17
  let main_v40 : FVec F S1024 .f32 := Host.absf main_arg10
  let main_cst_18 : FVec F S_ .f32 := constant S_ .f32 0x7F800000#32
  let main_v41 : FVec F S1024 .f32 := broadcastInDim S1024 ![] bcast_S_S1024 main_cst_18
  let main_v42 : IVec S1024 1 := cmpf .olt main_v40 main_v41
  let main_c_19 : IVec S_ 1 := constantI S_ 1 1#1
  let main_v43 : IVec S_ 1 := (fun x v => Host.reduce IntOp.andi x v reducesTo_S1024_S_d0 h_S_) main_v42 main_c_19
  let main_v44 : FVec F S2x1x1024 .f32 := Host.absf main_arg11
  let main_cst_20 : FVec F S_ .f32 := constant S_ .f32 0x7F800000#32
  let main_v45 : FVec F S2x1x1024 .f32 := broadcastInDim S2x1x1024 ![] bcast_S_S2x1x1024 main_cst_20
  let main_v46 : IVec S2x1x1024 1 := cmpf .olt main_v44 main_v45
  let main_c_21 : IVec S_ 1 := constantI S_ 1 1#1
  let main_v47 : IVec S_ 1 := (fun x v => Host.reduce IntOp.andi x v reducesTo_S2x1x1024_S_d0_1_2 h_S_) main_v46 main_c_21
  fn_part3 (F := F) main_arg12 main_arg14 main_v3 main_v7 main_v11 main_v15 main_v19 main_v23 main_v27 main_v31 main_v35 main_v39 main_v43 main_v47

def fn_part1 {F : FTy → Type} [FloatOps F] (main_arg4 : FVec F S16384x512 .bf16) (main_arg5 : FVec F S16384x6144 .bf16) (main_arg6 : FVec F S512x1024 .f32) (main_arg7 : FVec F S512x1024 .f32) (main_arg8 : FVec F S1024x1024 .f32) (main_arg9 : FVec F S2x1x1024 .f32) (main_arg10 : FVec F S1024 .f32) (main_arg11 : FVec F S2x1x1024 .f32) (main_arg12 : FVec F S2x1x1024 .f32) (main_arg14 : FVec F S1024x256 .f32) (main_v3 : IVec S_ 1) (main_v7 : IVec S_ 1) (main_v11 : IVec S_ 1) (main_v15 : IVec S_ 1) : IVec S_ 1 :=
  let main_v16 : FVec F S16384x512 .bf16 := Host.absf main_arg4
  let main_cst_6 : FVec F S_ .bf16 := constant S_ .bf16 0x7F80#16
  let main_v17 : FVec F S16384x512 .bf16 := broadcastInDim S16384x512 ![] bcast_S_S16384x512 main_cst_6
  let main_v18 : IVec S16384x512 1 := cmpf .olt main_v16 main_v17
  let main_c_7 : IVec S_ 1 := constantI S_ 1 1#1
  let main_v19 : IVec S_ 1 := (fun x v => Host.reduce IntOp.andi x v reducesTo_S16384x512_S_d0_1 h_S_) main_v18 main_c_7
  let main_v20 : FVec F S16384x6144 .bf16 := Host.absf main_arg5
  let main_cst_8 : FVec F S_ .bf16 := constant S_ .bf16 0x7F80#16
  let main_v21 : FVec F S16384x6144 .bf16 := broadcastInDim S16384x6144 ![] bcast_S_S16384x6144 main_cst_8
  let main_v22 : IVec S16384x6144 1 := cmpf .olt main_v20 main_v21
  let main_c_9 : IVec S_ 1 := constantI S_ 1 1#1
  let main_v23 : IVec S_ 1 := (fun x v => Host.reduce IntOp.andi x v reducesTo_S16384x6144_S_d0_1 h_S_) main_v22 main_c_9
  let main_v24 : FVec F S512x1024 .f32 := Host.absf main_arg6
  let main_cst_10 : FVec F S_ .f32 := constant S_ .f32 0x7F800000#32
  let main_v25 : FVec F S512x1024 .f32 := broadcastInDim S512x1024 ![] bcast_S_S512x1024 main_cst_10
  let main_v26 : IVec S512x1024 1 := cmpf .olt main_v24 main_v25
  let main_c_11 : IVec S_ 1 := constantI S_ 1 1#1
  let main_v27 : IVec S_ 1 := (fun x v => Host.reduce IntOp.andi x v reducesTo_S512x1024_S_d0_1 h_S_) main_v26 main_c_11
  let main_v28 : FVec F S512x1024 .f32 := Host.absf main_arg7
  let main_cst_12 : FVec F S_ .f32 := constant S_ .f32 0x7F800000#32
  let main_v29 : FVec F S512x1024 .f32 := broadcastInDim S512x1024 ![] bcast_S_S512x1024 main_cst_12
  let main_v30 : IVec S512x1024 1 := cmpf .olt main_v28 main_v29
  let main_c_13 : IVec S_ 1 := constantI S_ 1 1#1
  let main_v31 : IVec S_ 1 := (fun x v => Host.reduce IntOp.andi x v reducesTo_S512x1024_S_d0_1 h_S_) main_v30 main_c_13
  fn_part2 (F := F) main_arg8 main_arg9 main_arg10 main_arg11 main_arg12 main_arg14 main_v3 main_v7 main_v11 main_v15 main_v19 main_v23 main_v27 main_v31

def fn {F : FTy → Type} [FloatOps F] (main_arg0 : FVec F S2x8192x1024 .f32) (main_arg1 : FVec F S128x1x512 .f32) (main_arg2 : FVec F S64x512 .f32) (main_arg3 : FVec F S16384x512 .bf16) (main_arg4 : FVec F S16384x512 .bf16) (main_arg5 : FVec F S16384x6144 .bf16) (main_arg6 : FVec F S512x1024 .f32) (main_arg7 : FVec F S512x1024 .f32) (main_arg8 : FVec F S1024x1024 .f32) (main_arg9 : FVec F S2x1x1024 .f32) (main_arg10 : FVec F S1024 .f32) (main_arg11 : FVec F S2x1x1024 .f32) (main_arg12 : FVec F S2x1x1024 .f32) (main_arg13 : FVec F S2x1x1024 .f32) (main_arg14 : FVec F S1024x256 .f32) (main_arg15 : FVec F S1024x256 .f32) (main_arg16 : FVec F S1024x256 .f32) (main_arg17 : FVec F S256x1024 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S128x1x512 .f32 := Host.absf main_arg1
  let main_cst_0 : FVec F S_ .f32 := constant S_ .f32 0x7F800000#32
  let main_v5 : FVec F S128x1x512 .f32 := broadcastInDim S128x1x512 ![] bcast_S_S128x1x512 main_cst_0
  let main_v6 : IVec S128x1x512 1 := cmpf .olt main_v4 main_v5
  let main_c_1 : IVec S_ 1 := constantI S_ 1 1#1
  let main_v7 : IVec S_ 1 := (fun x v => Host.reduce IntOp.andi x v reducesTo_S128x1x512_S_d0_1_2 h_S_) main_v6 main_c_1
  let main_v8 : FVec F S64x512 .f32 := Host.absf main_arg2
  let main_cst_2 : FVec F S_ .f32 := constant S_ .f32 0x7F800000#32
  let main_v9 : FVec F S64x512 .f32 := broadcastInDim S64x512 ![] bcast_S_S64x512 main_cst_2
  let main_v10 : IVec S64x512 1 := cmpf .olt main_v8 main_v9
  let main_c_3 : IVec S_ 1 := constantI S_ 1 1#1
  let main_v11 : IVec S_ 1 := (fun x v => Host.reduce IntOp.andi x v reducesTo_S64x512_S_d0_1 h_S_) main_v10 main_c_3
  let main_v12 : FVec F S16384x512 .bf16 := Host.absf main_arg3
  let main_cst_4 : FVec F S_ .bf16 := constant S_ .bf16 0x7F80#16
  let main_v13 : FVec F S16384x512 .bf16 := broadcastInDim S16384x512 ![] bcast_S_S16384x512 main_cst_4
  let main_v14 : IVec S16384x512 1 := cmpf .olt main_v12 main_v13
  let main_c_5 : IVec S_ 1 := constantI S_ 1 1#1
  let main_v15 : IVec S_ 1 := (fun x v => Host.reduce IntOp.andi x v reducesTo_S16384x512_S_d0_1 h_S_) main_v14 main_c_5
  fn_part1 (F := F) main_arg4 main_arg5 main_arg6 main_arg7 main_arg8 main_arg9 main_arg10 main_arg11 main_arg12 main_arg14 main_v3 main_v7 main_v11 main_v15
-- ==== Kernel.lean ====
abbrev S8x4096x512 : Shape := ⟨3, ![8, 4096, 512]⟩
abbrev S16384x1024 : Shape := ⟨2, ![16384, 1024]⟩
abbrev S8x16384 : Shape := ⟨2, ![8, 16384]⟩
abbrev S2x1x1024 : Shape := ⟨3, ![2, 1, 1024]⟩
abbrev S1024 : Shape := ⟨1, ![1024]⟩
abbrev S16384x8 : Shape := ⟨2, ![16384, 8]⟩
abbrev S1x1024 : Shape := ⟨2, ![1, 1024]⟩
abbrev S8x512x512 : Shape := ⟨3, ![8, 512, 512]⟩
abbrev S512x1024 : Shape := ⟨2, ![512, 1024]⟩
abbrev S512x8 : Shape := ⟨2, ![512, 8]⟩
abbrev S1x1x1024 : Shape := ⟨3, ![1, 1, 1024]⟩
abbrev S512x1 : Shape := ⟨2, ![512, 1]⟩
abbrev S1x512x512 : Shape := ⟨3, ![1, 512, 512]⟩
abbrev S512x512 : Shape := ⟨2, ![512, 512]⟩
abbrev S512 : Shape := ⟨1, ![512]⟩

abbrev nBuf : Space → Nat
  | .hbm => 17
  | .vmem => 44
  | .smem => 0
  | _ => 0

abbrev bufTy : (tb : Table) → Fin (tcTables nBuf tb) → BufTy
  | .hbm, ⟨0, _⟩ => ⟨S8x4096x512, .i32⟩
  | .hbm, ⟨1, _⟩ => ⟨S8x4096x512, .i32⟩
  | .hbm, ⟨2, _⟩ => ⟨S8x4096x512, .i32⟩
  | .hbm, ⟨3, _⟩ => ⟨S8x4096x512, .i32⟩
  | .hbm, ⟨4, _⟩ => ⟨S16384x1024, .f32⟩
  | .hbm, ⟨5, _⟩ => ⟨S8x16384, .f32⟩
  | .hbm, ⟨6, _⟩ => ⟨S2x1x1024, .f32⟩
  | .hbm, ⟨7, _⟩ => ⟨S1024, .f32⟩
  | .hbm, ⟨8, _⟩ => ⟨S16384x8, .f32⟩
  | .hbm, ⟨9, _⟩ => ⟨S1x1024, .f32⟩
  | .hbm, ⟨10, _⟩ => ⟨S16384x1024, .f32⟩
  | .hbm, ⟨11, _⟩ => ⟨S1x1024, .f32⟩
  | .hbm, ⟨12, _⟩ => ⟨S16384x1024, .f32⟩
  | .hbm, ⟨13, _⟩ => ⟨S1x1024, .f32⟩
  | .hbm, ⟨14, _⟩ => ⟨S16384x1024, .f32⟩
  | .hbm, ⟨15, _⟩ => ⟨S1x1024, .f32⟩
  | .hbm, ⟨16, _⟩ => ⟨S16384x1024, .f32⟩
  | .local _ .vmem, ⟨0, _⟩ => ⟨S8x512x512, .i32⟩
  | .local _ .vmem, ⟨1, _⟩ => ⟨S8x512x512, .i32⟩
  | .local _ .vmem, ⟨2, _⟩ => ⟨S512x1024, .f32⟩
  | .local _ .vmem, ⟨3, _⟩ => ⟨S512x1024, .f32⟩
  | .local _ .vmem, ⟨4, _⟩ => ⟨S512x8, .f32⟩
  | .local _ .vmem, ⟨5, _⟩ => ⟨S512x8, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S8x512x512, .i32⟩
  | .local _ .vmem, ⟨12, _⟩ => ⟨S8x512x512, .i32⟩
  | .local _ .vmem, ⟨13, _⟩ => ⟨S512x1024, .f32⟩
  | .local _ .vmem, ⟨14, _⟩ => ⟨S512x1024, .f32⟩
  | .local _ .vmem, ⟨15, _⟩ => ⟨S512x8, .f32⟩
  | .local _ .vmem, ⟨16, _⟩ => ⟨S512x8, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | .local _ .vmem, ⟨22, _⟩ => ⟨S8x512x512, .i32⟩
  | .local _ .vmem, ⟨23, _⟩ => ⟨S8x512x512, .i32⟩
  | .local _ .vmem, ⟨24, _⟩ => ⟨S512x1024, .f32⟩
  | .local _ .vmem, ⟨25, _⟩ => ⟨S512x1024, .f32⟩
  | .local _ .vmem, ⟨26, _⟩ => ⟨S512x8, .f32⟩
  | .local _ .vmem, ⟨27, _⟩ => ⟨S512x8, .f32⟩
  | .local _ .vmem, ⟨28, _⟩ => ⟨S1x1x1024, .f32⟩
  | .local _ .vmem, ⟨29, _⟩ => ⟨S1x1x1024, .f32⟩
  | .local _ .vmem, ⟨30, _⟩ => ⟨S1x1024, .f32⟩
  | .local _ .vmem, ⟨31, _⟩ => ⟨S512x1024, .f32⟩
  | .local _ .vmem, ⟨32, _⟩ => ⟨S512x1024, .f32⟩
  | .local _ .vmem, ⟨33, _⟩ => ⟨S8x512x512, .i32⟩
  | .local _ .vmem, ⟨34, _⟩ => ⟨S8x512x512, .i32⟩
  | .local _ .vmem, ⟨35, _⟩ => ⟨S512x1024, .f32⟩
  | .local _ .vmem, ⟨36, _⟩ => ⟨S512x1024, .f32⟩
  | .local _ .vmem, ⟨37, _⟩ => ⟨S512x8, .f32⟩
  | .local _ .vmem, ⟨38, _⟩ => ⟨S512x8, .f32⟩
  | .local _ .vmem, ⟨39, _⟩ => ⟨S1x1x1024, .f32⟩
  | .local _ .vmem, ⟨40, _⟩ => ⟨S1x1x1024, .f32⟩
  | .local _ .vmem, ⟨41, _⟩ => ⟨S1x1024, .f32⟩
  | .local _ .vmem, ⟨42, _⟩ => ⟨S512x1024, .f32⟩
  | .local _ .vmem, ⟨43, _⟩ => ⟨S512x1024, .f32⟩
  | _, _ => ⟨S8x4096x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg3_1 : Ref sig .tc := ⟨.vmem, 40, rfl⟩
abbrev cc3_stg4_0 : Ref sig .tc := ⟨.vmem, 41, rfl⟩
abbrev cc3_stg5_0 : Ref sig .tc := ⟨.vmem, 42, rfl⟩
abbrev cc3_stg5_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem3_1 : DmaSem sig := 29
abbrev cc2_sem4_0 : DmaSem sig := 30
abbrev cc2_sem5_0 : DmaSem sig := 31
abbrev cc2_sem5_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem3_1 : DmaSem sig := 40
abbrev cc3_sem4_0 : DmaSem sig := 41
abbrev cc3_sem5_0 : DmaSem sig := 42
abbrev cc3_sem5_1 : DmaSem sig := 43

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let v0 : BitVec 32 := Scalar.addi arg0 c0_i32
  let c16_i32 : BitVec 32 := 16#32
  let v1 : BitVec 32 := Scalar.divsi v0 c16_i32
  let c0_i32_0 : BitVec 32 := 0#32
  let v2 : BitVec 1 := Scalar.cmpi .sgt v0 c0_i32_0
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32 c0_i32_2
  let v8 : BitVec 32 := Scalar.extui v7
  let c0_i32_3 : BitVec 32 := 0#32
  let v9 : BitVec 1 := Scalar.cmpi .slt c16_i32 c0_i32_3
  let v10 : BitVec 32 := Scalar.extui v9
  let v11 : BitVec 32 := Scalar.subi v8 v10
  let v12 : BitVec 1 := Scalar.cmpi .ne v6 v11
  let v13 : BitVec 32 := Scalar.remsi v0 c16_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S8x512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc1_transform_4 (i : grid1.Coords) : Fin 3 → Nat :=
  let arg0 : BitVec 32 := BitVec.ofNat 32 (i 0).val
  let c8_i32 : BitVec 32 := 8#32
  let v0 : BitVec 32 := Scalar.addi arg0 c8_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

abbrev stage1_0 : Fin 2 → Memref sig .tc .vmem S8x512x512 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc2_transform_3 (i : grid2.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

def cc2_transform_4 (i : grid2.Coords) : Fin 3 → Nat :=
  let arg0 : BitVec 32 := BitVec.ofNat 32 (i 0).val
  let c16_i32 : BitVec 32 := 16#32
  let v0 : BitVec 32 := Scalar.addi arg0 c16_i32
  let c16_i32_0 : BitVec 32 := 16#32
  let v1 : BitVec 32 := Scalar.divsi v0 c16_i32_0
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c0_i32_2 : BitVec 32 := 0#32
  let v7 : BitVec 1 := Scalar.cmpi .sgt c16_i32_0 c0_i32_2
  let v8 : BitVec 32 := Scalar.extui v7
  let c0_i32_3 : BitVec 32 := 0#32
  let v9 : BitVec 1 := Scalar.cmpi .slt c16_i32_0 c0_i32_3
  let v10 : BitVec 32 := Scalar.extui v9
  let v11 : BitVec 32 := Scalar.subi v8 v10
  let v12 : BitVec 1 := Scalar.cmpi .ne v6 v11
  let v13 : BitVec 32 := Scalar.remsi v0 c16_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  let c0_i32_6 : BitVec 32 := 0#32
  let c0_i32_7 : BitVec 32 := 0#32
  ![v17.toNat, c0_i32_5.toNat, c0_i32_6.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![v0.toNat, c0_i32.toNat]

abbrev stage2_0 : Fin 2 → Memref sig .tc .vmem S8x512x512 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x8 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![8], ![false]⟩

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

def cc3_transform_3 (i : grid3.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

def cc3_transform_4 (i : grid3.Coords) : Fin 3 → Nat :=
  let arg0 : BitVec 32 := BitVec.ofNat 32 (i 0).val
  let c24_i32 : BitVec 32 := 24#32
  let v0 : BitVec 32 := Scalar.addi arg0 c24_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c24_i32 : BitVec 32 := 24#32
  let v0 : BitVec 32 := Scalar.addi arg0 c24_i32
  let c0_i32 : BitVec 32 := 0#32
  let c0_i32_0 : BitVec 32 := 0#32
  ![v0.toNat, c0_i32.toNat]

abbrev stage3_0 : Fin 2 → Memref sig .tc .vmem S8x512x512 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x8 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x1x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S512x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S8x4096x512 : Shape := ⟨3, ![8, 4096, 512]⟩
abbrev S16384x1024 : Shape := ⟨2, ![16384, 1024]⟩
abbrev S8x16384 : Shape := ⟨2, ![8, 16384]⟩
abbrev S2x1x1024 : Shape := ⟨3, ![2, 1, 1024]⟩
abbrev S1024 : Shape := ⟨1, ![1024]⟩
abbrev S8x16384x512 : Shape := ⟨3, ![8, 16384, 512]⟩
abbrev S_ : Shape := ⟨0, ![]⟩
abbrev S8x16384x1024 : Shape := ⟨3, ![8, 16384, 1024]⟩
abbrev S8x16384x1 : Shape := ⟨3, ![8, 16384, 1]⟩
abbrev S2x8192x1024 : Shape := ⟨3, ![2, 8192, 1024]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x4096x512, .i32⟩
  | .hbm, ⟨1, _⟩ => ⟨S8x4096x512, .i32⟩
  | .hbm, ⟨2, _⟩ => ⟨S8x4096x512, .i32⟩
  | .hbm, ⟨3, _⟩ => ⟨S8x4096x512, .i32⟩
  | .hbm, ⟨4, _⟩ => ⟨S16384x1024, .f32⟩
  | .hbm, ⟨5, _⟩ => ⟨S8x16384, .f32⟩
  | .hbm, ⟨6, _⟩ => ⟨S2x1x1024, .f32⟩
  | .hbm, ⟨7, _⟩ => ⟨S1024, .f32⟩
  | .hbm, ⟨8, _⟩ => ⟨S8x16384x512, .i32⟩
  | .hbm, ⟨9, _⟩ => ⟨S_, .i32⟩
  | .hbm, ⟨10, _⟩ => ⟨S8x16384x512, .i32⟩
  | .hbm, ⟨11, _⟩ => ⟨S8x16384x512, .i32⟩
  | .hbm, ⟨12, _⟩ => ⟨S8x16384x512, .f32⟩
  | .hbm, ⟨13, _⟩ => ⟨S_, .i32⟩
  | .hbm, ⟨14, _⟩ => ⟨S8x16384x512, .i32⟩
  | .hbm, ⟨15, _⟩ => ⟨S8x16384x512, .i32⟩
  | .hbm, ⟨16, _⟩ => ⟨S8x16384x512, .f32⟩
  | .hbm, ⟨17, _⟩ => ⟨S8x16384x1024, .f32⟩
  | .hbm, ⟨18, _⟩ => ⟨S8x16384x1, .f32⟩
  | .hbm, ⟨19, _⟩ => ⟨S8x16384x1024, .f32⟩
  | .hbm, ⟨20, _⟩ => ⟨S8x16384x1024, .f32⟩
  | .hbm, ⟨21, _⟩ => ⟨S_, .f32⟩
  | .hbm, ⟨22, _⟩ => ⟨S16384x1024, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S2x8192x1024, .f32⟩
  | .hbm, ⟨28, _⟩ => ⟨S2x8192x1024, .f32⟩
  | .hbm, ⟨29, _⟩ => ⟨S_, .f32⟩
  | .hbm, ⟨30, _⟩ => ⟨S2x8192, .f32⟩
  | .hbm, ⟨31, _⟩ => ⟨S2x8192x1, .f32⟩
  | .hbm, ⟨32, _⟩ => ⟨S_, .f32⟩
  | .hbm, ⟨33, _⟩ => ⟨S2x8192x1, .f32⟩
  | .hbm, ⟨34, _⟩ => ⟨S2x8192x1, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S1x1x1024, .f32⟩
  | .hbm, ⟨42, _⟩ => ⟨S2x8192x1024, .f32⟩
  | .hbm, ⟨43, _⟩ => ⟨S2x8192x1024, .f32⟩
  | .hbm, ⟨44, _⟩ => ⟨S16384x1024, .f32⟩
  | _, _ => ⟨S8x4096x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel2.lean ====
abbrev S2x8192x1024 : Shape := ⟨3, ![2, 8192, 1024]⟩
abbrev S128x1x512 : Shape := ⟨3, ![128, 1, 512]⟩
abbrev S64x512 : Shape := ⟨2, ![64, 512]⟩
abbrev S1024 : Shape := ⟨1, ![1024]⟩
abbrev S2x1x1024 : Shape := ⟨3, ![2, 1, 1024]⟩
abbrev S1024x6144 : Shape := ⟨2, ![1024, 6144]⟩
abbrev S256x64x1024 : Shape := ⟨3, ![256, 64, 1024]⟩
abbrev S1x1024 : Shape := ⟨2, ![1, 1024]⟩
abbrev S16384x6144 : Shape := ⟨2, ![16384, 6144]⟩
abbrev S8x64x1024 : Shape := ⟨3, ![8, 64, 1024]⟩
abbrev S8x1x512 : Shape := ⟨3, ![8, 1, 512]⟩
abbrev S1x1x1024 : Shape := ⟨3, ![1, 1, 1024]⟩
abbrev S512x6144 : Shape := ⟨2, ![512, 6144]⟩
abbrev S8x64x512 : Shape := ⟨3, ![8, 64, 512]⟩
abbrev S1x64x512 : Shape := ⟨3, ![1, 64, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 11
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S128x1x512, .f32⟩
  | .hbm, ⟨2, _⟩ => ⟨S64x512, .f32⟩
  | .hbm, ⟨3, _⟩ => ⟨S1024, .f32⟩
  | .hbm, ⟨4, _⟩ => ⟨S2x1x1024, .f32⟩
  | .hbm, ⟨5, _⟩ => ⟨S2x1x1024, .f32⟩
  | .hbm, ⟨6, _⟩ => ⟨S1024x6144, .f32⟩
  | .hbm, ⟨7, _⟩ => ⟨S1024x6144, .bf16⟩
  | .hbm, ⟨8, _⟩ => ⟨S256x64x1024, .f32⟩
  | .hbm, ⟨9, _⟩ => ⟨S1x1024, .f32⟩
  | .hbm, ⟨10, _⟩ => ⟨S16384x6144, .bf16⟩
  | .local _ .vmem, ⟨0, _⟩ => ⟨S8x64x1024, .f32⟩
  | .local _ .vmem, ⟨1, _⟩ => ⟨S8x64x1024, .f32⟩
  | .local _ .vmem, ⟨2, _⟩ => ⟨S8x1x512, .f32⟩
  | .local _ .vmem, ⟨3, _⟩ => ⟨S8x1x512, .f32⟩
  | .local _ .vmem, ⟨4, _⟩ => ⟨S64x512, .f32⟩
  | .local _ .vmem, ⟨5, _⟩ => ⟨S1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x6144, .bf16⟩
  | .local _ .vmem, ⟨11, _⟩ => ⟨S512x6144, .bf16⟩
  | .local _ .vmem, ⟨12, _⟩ => ⟨S512x6144, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x6144 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2x8192x1024 : Shape := ⟨3, ![2, 8192, 1024]⟩
abbrev S128x1x512 : Shape := ⟨3, ![128, 1, 512]⟩
abbrev S64x512 : Shape := ⟨2, ![64, 512]⟩
abbrev S1024 : Shape := ⟨1, ![1024]⟩
abbrev S2x1x1024 : Shape := ⟨3, ![2, 1, 1024]⟩
abbrev S1024x6144 : Shape := ⟨2, ![1024, 6144]⟩
abbrev S128x64x512 : Shape := ⟨3, ![128, 64, 512]⟩
abbrev S1x64x512 : Shape := ⟨3, ![1, 64, 512]⟩
abbrev S128x64x1024 : Shape := ⟨3, ![128, 64, 1024]⟩
abbrev S8192x1024 : Shape := ⟨2, ![8192, 1024]⟩
abbrev S1x8192x1024 : Shape := ⟨3, ![1, 8192, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x6144 : Shape := ⟨3, ![2, 8192, 6144]⟩
abbrev S16384x6144 : Shape := ⟨2, ![16384, 6144]⟩

abbrev nBuf : Space → Nat
  | .hbm => 41
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S128x1x512, .f32⟩
  | .hbm, ⟨2, _⟩ => ⟨S64x512, .f32⟩
  | .hbm, ⟨3, _⟩ => ⟨S1024, .f32⟩
  | .hbm, ⟨4, _⟩ => ⟨S2x1x1024, .f32⟩
  | .hbm, ⟨5, _⟩ => ⟨S2x1x1024, .f32⟩
  | .hbm, ⟨6, _⟩ => ⟨S1024x6144, .f32⟩
  | .hbm, ⟨7, _⟩ => ⟨S128x64x512, .f32⟩
  | .hbm, ⟨8, _⟩ => ⟨S1x64x512, .f32⟩
  | .hbm, ⟨9, _⟩ => ⟨S128x64x512, .f32⟩
  | .hbm, ⟨10, _⟩ => ⟨S128x64x1024, .f32⟩
  | .hbm, ⟨11, _⟩ => ⟨S8192x1024, .f32⟩
  | .hbm, ⟨12, _⟩ => ⟨S1x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S_, .f32⟩
  | .hbm, ⟨17, _⟩ => ⟨S2x8192, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S2x8192x1, .f32⟩
  | .hbm, ⟨26, _⟩ => ⟨S2x8192x1024, .f32⟩
  | .hbm, ⟨27, _⟩ => ⟨S2x8192x1024, .f32⟩
  | .hbm, ⟨28, _⟩ => ⟨S1x1x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S2x8192x6144, .f32⟩
  | .hbm, ⟨39, _⟩ => ⟨S16384x6144, .f32⟩
  | .hbm, ⟨40, _⟩ => ⟨S16384x6144, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel3.lean ====
abbrev S2x8192x1024 : Shape := ⟨3, ![2, 8192, 1024]⟩
abbrev S128x1x512 : Shape := ⟨3, ![128, 1, 512]⟩
abbrev S64x512 : Shape := ⟨2, ![64, 512]⟩
abbrev S16384x512 : Shape := ⟨2, ![16384, 512]⟩
abbrev S16384x6144 : Shape := ⟨2, ![16384, 6144]⟩
abbrev S512x1024 : Shape := ⟨2, ![512, 1024]⟩
abbrev S1024x1024 : Shape := ⟨2, ![1024, 1024]⟩
abbrev S2x1x1024 : Shape := ⟨3, ![2, 1, 1024]⟩
abbrev S1024 : Shape := ⟨1, ![1024]⟩
abbrev S1024x256 : Shape := ⟨2, ![1024, 256]⟩
abbrev S256x1024 : Shape := ⟨2, ![256, 1024]⟩
abbrev S1024x512 : Shape := ⟨2, ![1024, 512]⟩
abbrev S256x64x1024 : Shape := ⟨3, ![256, 64, 1024]⟩
abbrev S1x1024 : Shape := ⟨2, ![1, 1024]⟩
abbrev S16384x1024 : Shape := ⟨2, ![16384, 1024]⟩
abbrev S256x16384 : Shape := ⟨2, ![256, 16384]⟩
abbrev S8x64x1024 : Shape := ⟨3, ![8, 64, 1024]⟩
abbrev S8x1x512 : Shape := ⟨3, ![8, 1, 512]⟩
abbrev S512x512 : Shape := ⟨2, ![512, 512]⟩
abbrev S1x1x1024 : Shape := ⟨3, ![1, 1, 1024]⟩
abbrev S256x512 : Shape := ⟨2, ![256, 512]⟩
abbrev S8x64x512 : Shape := ⟨3, ![8, 64, 512]⟩
abbrev S1x64x512 : Shape := ⟨3, ![1, 64, 512]⟩
abbrev S512 : Shape := ⟨1, ![512]⟩
abbrev S512x1 : Shape := ⟨2, ![512, 1]⟩
abbrev S512x256 : Shape := ⟨2, ![512, 256]⟩

abbrev nBuf : Space → Nat
  | .hbm => 34
  | .vmem => 35
  | .smem => 0
  | _ => 0

abbrev bufTy : (tb : Table) → Fin (tcTables nBuf tb) → BufTy
  | .hbm, ⟨0, _⟩ => ⟨S2x8192x1024, .f32⟩
  | .hbm, ⟨1, _⟩ => ⟨S128x1x512, .f32⟩
  | .hbm, ⟨2, _⟩ => ⟨S64x512, .f32⟩
  | .hbm, ⟨3, _⟩ => ⟨S16384x512, .bf16⟩
  | .hbm, ⟨4, _⟩ => ⟨S16384x512, .bf16⟩
  | .hbm, ⟨5, _⟩ => ⟨S16384x6144, .bf16⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S2x1x1024, .f32⟩
  | .hbm, ⟨10, _⟩ => ⟨S1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S1024x512, .f32⟩
  | .hbm, ⟨19, _⟩ => ⟨S1024x512, .bf16⟩
  | .hbm, ⟨20, _⟩ => ⟨S512x1024, .bf16⟩
  | .hbm, ⟨21, _⟩ => ⟨S512x1024, .bf16⟩
  | .hbm, ⟨22, _⟩ => ⟨S1024x1024, .bf16⟩
  | .hbm, ⟨23, _⟩ => ⟨S256x1024, .f32⟩
  | .hbm, ⟨24, _⟩ => ⟨S256x1024, .bf16⟩
  | .hbm, ⟨25, _⟩ => ⟨S256x64x1024, .f32⟩
  | .hbm, ⟨26, _⟩ => ⟨S256x1024, .bf16⟩
  | .hbm, ⟨27, _⟩ => ⟨S256x1024, .f32⟩
  | .hbm, ⟨28, _⟩ => ⟨S256x1024, .f32⟩
  | .hbm, ⟨29, _⟩ => ⟨S256x1024, .bf16⟩
  | .hbm, ⟨30, _⟩ => ⟨S1x1024, .f32⟩
  | .hbm, ⟨31, _⟩ => ⟨S16384x1024, .f32⟩
  | .hbm, ⟨32, _⟩ => ⟨S16384x1024, .bf16⟩
  | .hbm, ⟨33, _⟩ => ⟨S256x16384, .f32⟩
  | .local _ .vmem, ⟨0, _⟩ => ⟨S8x64x1024, .f32⟩
  | .local _ .vmem, ⟨1, _⟩ => ⟨S8x64x1024, .f32⟩
  | .local _ .vmem, ⟨2, _⟩ => ⟨S8x1x512, .f32⟩
  | .local _ .vmem, ⟨3, _⟩ => ⟨S8x1x512, .f32⟩
  | .local _ .vmem, ⟨4, _⟩ => ⟨S64x512, .f32⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1x1024, .f32⟩
  | .local _ .vmem, ⟨17, _⟩ => ⟨S1x1x1024, .f32⟩
  | .local _ .vmem, ⟨18, _⟩ => ⟨S1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x1x1024, .f32⟩
  | .local _ .vmem, ⟨23, _⟩ => ⟨S1x1x1024, .f32⟩
  | .local _ .vmem, ⟨24, _⟩ => ⟨S1x1x1024, .f32⟩
  | .local _ .vmem, ⟨25, _⟩ => ⟨S256x1024, .bf16⟩
  | .local _ .vmem, ⟨26, _⟩ => ⟨S256x1024, .bf16⟩
  | .local _ .vmem, ⟨27, _⟩ => ⟨S1024x512, .bf16⟩
  | .local _ .vmem, ⟨28, _⟩ => ⟨S256x1024, .bf16⟩
  | .local _ .vmem, ⟨29, _⟩ => ⟨S512x1024, .f32⟩
  | .local _ .vmem, ⟨30, _⟩ => ⟨S512x1024, .f32⟩
  | .local _ .vmem, ⟨31, _⟩ => ⟨S512x1024, .bf16⟩
  | .local _ .vmem, ⟨32, _⟩ => ⟨S512x1024, .bf16⟩
  | .local _ .vmem, ⟨33, _⟩ => ⟨S256x512, .f32⟩
  | .local _ .vmem, ⟨34, _⟩ => ⟨S256x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13_0 : Ref sig .tc := ⟨.hbm, 31, rfl⟩
abbrev main_v13_1 : Ref sig .tc := ⟨.hbm, 32, rfl⟩
abbrev main_v13_2 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg21_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28
abbrev cc0_sem19_0 : DmaSem sig := 29
abbrev cc0_sem19_1 : DmaSem sig := 30
abbrev cc0_sem20_0 : DmaSem sig := 31
abbrev cc0_sem20_1 : DmaSem sig := 32
abbrev cc0_sem21_0 : DmaSem sig := 33
abbrev cc0_sem21_1 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_13 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_14 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference3Ideal.lean ====
abbrev S2x8192x1024 : Shape := ⟨3, ![2, 8192, 1024]⟩
abbrev S128x1x512 : Shape := ⟨3, ![128, 1, 512]⟩
abbrev S64x512 : Shape := ⟨2, ![64, 512]⟩
abbrev S16384x512 : Shape := ⟨2, ![16384, 512]⟩
abbrev S16384x6144 : Shape := ⟨2, ![16384, 6144]⟩
abbrev S512x1024 : Shape := ⟨2, ![512, 1024]⟩
abbrev S1024x1024 : Shape := ⟨2, ![1024, 1024]⟩
abbrev S2x1x1024 : Shape := ⟨3, ![2, 1, 1024]⟩
abbrev S1024 : Shape := ⟨1, ![1024]⟩
abbrev S1024x256 : Shape := ⟨2, ![1024, 256]⟩
abbrev S256x1024 : Shape := ⟨2, ![256, 1024]⟩
abbrev S128x64x512 : Shape := ⟨3, ![128, 64, 512]⟩
abbrev S1x64x512 : Shape := ⟨3, ![1, 64, 512]⟩
abbrev S128x64x1024 : Shape := ⟨3, ![128, 64, 1024]⟩
abbrev S8192x1024 : Shape := ⟨2, ![8192, 1024]⟩
abbrev S1x8192x1024 : Shape := ⟨3, ![1, 8192, 1024]⟩
abbrev S16384x1024 : Shape := ⟨2, ![16384, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x256 : Shape := ⟨3, ![2, 8192, 256]⟩
abbrev S16384x256 : Shape := ⟨2, ![16384, 256]⟩
abbrev S256x16384 : Shape := ⟨2, ![256, 16384]⟩

abbrev nBuf : Space → Nat
  | .hbm => 105
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S128x1x512, .f32⟩
  | .hbm, ⟨2, _⟩ => ⟨S64x512, .f32⟩
  | .hbm, ⟨3, _⟩ => ⟨S16384x512, .bf16⟩
  | .hbm, ⟨4, _⟩ => ⟨S16384x512, .bf16⟩
  | .hbm, ⟨5, _⟩ => ⟨S16384x6144, .bf16⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S2x1x1024, .f32⟩
  | .hbm, ⟨10, _⟩ => ⟨S1024, .f32⟩
  | .hbm, ⟨11, _⟩ => ⟨S2x1x1024, .f32⟩
  | .hbm, ⟨12, _⟩ => ⟨S2x1x1024, .f32⟩
  | .hbm, ⟨13, _⟩ => ⟨S2x1x1024, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S16384x512, .f32⟩
  | .hbm, ⟨19, _⟩ => ⟨S16384x512, .f32⟩
  | .hbm, ⟨20, _⟩ => ⟨S16384x6144, .f32⟩
  | .hbm, ⟨21, _⟩ => ⟨S128x64x512, .f32⟩
  | .hbm, ⟨22, _⟩ => ⟨S1x64x512, .f32⟩
  | .hbm, ⟨23, _⟩ => ⟨S128x64x512, .f32⟩
  | .hbm, ⟨24, _⟩ => ⟨S128x64x1024, .f32⟩
  | .hbm, ⟨25, _⟩ => ⟨S8192x1024, .f32⟩
  | .hbm, ⟨26, _⟩ => ⟨S1x8192x1024, .f32⟩
  | .hbm, ⟨27, _⟩ => ⟨S2x8192x1024, .f32⟩
  | .hbm, ⟨28, _⟩ => ⟨S2x8192x1024, .f32⟩
  | .hbm, ⟨29, _⟩ => ⟨S16384x1024, .f32⟩
  | .hbm, ⟨30, _⟩ => ⟨S2x8192x1024, .f32⟩
  | .hbm, ⟨31, _⟩ => ⟨S16384x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192x1024, .f32⟩
  | .hbm, ⟨40, _⟩ => ⟨S2x8192x1024, .f32⟩
  | .hbm, ⟨41, _⟩ => ⟨S16384x1024, .f32⟩
  | .hbm, ⟨42, _⟩ => ⟨S2x8192x1024, .f32⟩
  | .hbm, ⟨43, _⟩ => ⟨S2x8192x1024, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192x1024, .f32⟩
  | .hbm, ⟨48, _⟩ => ⟨S2x8192x1024, .f32⟩
  | .hbm, ⟨49, _⟩ => ⟨S_, .f32⟩
  | .hbm, ⟨50, _⟩ => ⟨S2x8192x1024, .f32⟩
  | .hbm, ⟨51, _⟩ => ⟨S2x8192x1024, .f32⟩
  | .hbm, ⟨52, _⟩ => ⟨S16384x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S_, .f32⟩
  | .hbm, ⟨62, _⟩ => ⟨S2x8192, .f32⟩
  | .hbm, ⟨63, _⟩ => ⟨S2x8192x1, .f32⟩
  | .hbm, ⟨64, _⟩ => ⟨S_, .f32⟩
  | .hbm, ⟨65, _⟩ => ⟨S2x8192x1, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S2x8192x1, .f32⟩
  | .hbm, ⟨71, _⟩ => ⟨S2x8192x1024, .f32⟩
  | .hbm, ⟨72, _⟩ => ⟨S2x8192x1024, .f32⟩
  | .hbm, ⟨73, _⟩ => ⟨S1x1x1024, .f32⟩
  | .hbm, ⟨74, _⟩ => ⟨S2x8192x1024, .f32⟩
  | .hbm, ⟨75, _⟩ => ⟨S2x8192x1024, .f32⟩
  | .hbm, ⟨76, _⟩ => ⟨S_, .f32⟩
  | .hbm, ⟨77, _⟩ => ⟨S2x1x1024, .f32⟩
  | .hbm, ⟨78, _⟩ => ⟨S2x1x1024, .f32⟩
  | .hbm, ⟨79, _⟩ => ⟨S2x8192x1024, .f32⟩
  | .hbm, ⟨80, _⟩ => ⟨S2x8192x1024, .f32⟩
  | .hbm, ⟨81, _⟩ => ⟨S2x8192x1024, .f32⟩
  | .hbm, ⟨82, _⟩ => ⟨S2x8192x1024, .f32⟩
  | .hbm, ⟨83, _⟩ => ⟨S2x8192x256, .f32⟩
  | .hbm, ⟨84, _⟩ => ⟨S2x8192x256, .f32⟩
  | .hbm, ⟨85, _⟩ => ⟨S2x8192x256, .f32⟩
  | .hbm, ⟨86, _⟩ => ⟨S_, .f32⟩
  | .hbm, ⟨87, _⟩ => ⟨S2x8192x256, .f32⟩
  | .hbm, ⟨88, _⟩ => ⟨S2x8192x256, .f32⟩
  | .hbm, ⟨89, _⟩ => ⟨S_, .f32⟩
  | .hbm, ⟨90, _⟩ => ⟨S2x8192x256, .f32⟩
  | .hbm, ⟨91, _⟩ => ⟨S2x8192x256, .f32⟩
  | .hbm, ⟨92, _⟩ => ⟨S2x8192x256, .f32⟩
  | .hbm, ⟨93, _⟩ => ⟨S2x8192x256, .f32⟩
  | .hbm, ⟨94, _⟩ => ⟨S2x8192x256, .f32⟩
  | .hbm, ⟨95, _⟩ => ⟨S2x8192x1024, .f32⟩
  | .hbm, ⟨96, _⟩ => ⟨S2x8192x1024, .f32⟩
  | .hbm, ⟨97, _⟩ => ⟨S2x8192x1024, .f32⟩
  | .hbm, ⟨98, _⟩ => ⟨S2x8192x1024, .f32⟩
  | .hbm, ⟨99, _⟩ => ⟨S16384x1024, .f32⟩
  | .hbm, ⟨100, _⟩ => ⟨S16384x1024, .f32⟩
  | .hbm, ⟨101, _⟩ => ⟨S16384x1024, .bf16⟩
  | .hbm, ⟨102, _⟩ => ⟨S2x8192x256, .f32⟩
  | .hbm, ⟨103, _⟩ => ⟨S16384x256, .f32⟩
  | .hbm, ⟨104, _⟩ => ⟨S256x16384, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_cst_0 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_1 : Ref sig .tc := ⟨.hbm, 46, rfl⟩
abbrev main_v26 : Ref sig .tc := ⟨.hbm, 47, rfl⟩
abbrev main_v27 : Ref sig .tc := ⟨.hbm, 48, rfl⟩
abbrev main_cst_2 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_3 : Ref sig .tc := ⟨.hbm, 61, rfl⟩
abbrev main_v39 : Ref sig .tc := ⟨.hbm, 62, rfl⟩
abbrev main_v40 : Ref sig .tc := ⟨.hbm, 63, rfl⟩
abbrev main_cst_4 : Ref sig .tc := ⟨.hbm, 64, rfl⟩
abbrev main_v41 : Ref sig .tc := ⟨.hbm, 65, rfl⟩
abbrev main_v42 : Ref sig .tc := ⟨.hbm, 66, rfl⟩
abbrev main_cst_5 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_6 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call0_v0 : Ref sig .tc := ⟨.hbm, 84, rfl⟩
abbrev main_call0_v1 : Ref sig .tc := ⟨.hbm, 85, rfl⟩
abbrev main_call0_cst : Ref sig .tc := ⟨.hbm, 86, rfl⟩
abbrev main_call0_v2 : Ref sig .tc := ⟨.hbm, 87, rfl⟩
abbrev main_call0_v3 : Ref sig .tc := ⟨.hbm, 88, rfl⟩
abbrev main_call0_cst_0 : Ref sig .tc := ⟨.hbm, 89, rfl⟩
abbrev main_call0_v4 : Ref sig .tc := ⟨.hbm, 90, rfl⟩
abbrev main_call0_v5 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩

abbrev nD : Nat := 1
abbrev τ : Topo := Topo.v7x

variable {F : FTy → Type} [FloatOps F]
-- ==== Kernel4.lean ====
abbrev S768 : Shape := ⟨1, ![768]⟩
abbrev S1 : Shape := ⟨1, ![1]⟩
abbrev S196608x512 : Shape := ⟨2, ![196608, 512]⟩
abbrev S256x1024x256 : Shape := ⟨3, ![256, 1024, 256]⟩
abbrev S256x256x1024 : Shape := ⟨3, ![256, 256, 1024]⟩
abbrev S_ : Shape := ⟨0, ![]⟩
abbrev S767 : Shape := ⟨1, ![767]⟩
abbrev S777 : Shape := ⟨1, ![777]⟩
abbrev S768x1 : Shape := ⟨2, ![768, 1]⟩
abbrev S196608x1024 : Shape := ⟨2, ![196608, 1024]⟩
abbrev S1024x512 : Shape := ⟨2, ![1024, 512]⟩
abbrev S1024x1024 : Shape := ⟨2, ![1024, 1024]⟩
abbrev S9x1024x256 : Shape := ⟨3, ![9, 1024, 256]⟩
abbrev S9x256x1024 : Shape := ⟨3, ![9, 256, 1024]⟩
abbrev S9 : Shape := ⟨1, ![9]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩
abbrev S256x512 : Shape := ⟨2, ![256, 512]⟩
abbrev S256x1 : Shape := ⟨2, ![256, 1]⟩
abbrev S256x256 : Shape := ⟨2, ![256, 256]⟩

abbrev nBuf : Space → Nat
  | .hbm => 68
  | .vmem => 7
  | .smem => 7
  | _ => 0

abbrev bufTy : (tb : Table) → Fin (tcTables nBuf tb) → BufTy
  | .hbm, ⟨0, _⟩ => ⟨S196608x512, .i32⟩
  | .hbm, ⟨1, _⟩ => ⟨S256x1024x256, .f32⟩
  | .hbm, ⟨2, _⟩ => ⟨S256x1024x256, .f32⟩
  | .hbm, ⟨3, _⟩ => ⟨S256x256x1024, .f32⟩
  | .hbm, ⟨4, _⟩ => ⟨S768, .i32⟩
  | .hbm, ⟨5, _⟩ => ⟨S_, .i32⟩
  | .hbm, ⟨6, _⟩ => ⟨S768, .i32⟩
  | .hbm, ⟨7, _⟩ => ⟨S768, .i1⟩
  | .hbm, ⟨8, _⟩ => ⟨S_, .i32⟩
  | .hbm, ⟨9, _⟩ => ⟨S768, .i32⟩
  | .hbm, ⟨10, _⟩ => ⟨S768, .i1⟩
  | .hbm, ⟨11, _⟩ => ⟨S1, .i32⟩
  | .hbm, ⟨12, _⟩ => ⟨S767, .i32⟩
  | .hbm, ⟨13, _⟩ => ⟨S768, .i32⟩
  | .hbm, ⟨14, _⟩ => ⟨S768, .i1⟩
  | .hbm, ⟨15, _⟩ => ⟨S768, .i1⟩
  | .hbm, ⟨16, _⟩ => ⟨S768, .i1⟩
  | .hbm, ⟨17, _⟩ => ⟨S_, .i32⟩
  | .hbm, ⟨18, _⟩ => ⟨S_, .i32⟩
  | .hbm, ⟨19, _⟩ => ⟨S768, .i32⟩
  | .hbm, ⟨20, _⟩ => ⟨S_, .i32⟩
  | .hbm, ⟨21, _⟩ => ⟨S768, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S768, .i32⟩
  | .hbm, ⟨29, _⟩ => ⟨S768, .i32⟩
  | .hbm, ⟨30, _⟩ => ⟨S_, .i32⟩
  | .hbm, ⟨31, _⟩ => ⟨S768, .i32⟩
  | .hbm, ⟨32, _⟩ => ⟨S768, .i1⟩
  | .hbm, ⟨33, _⟩ => ⟨S_, .i32⟩
  | .hbm, ⟨34, _⟩ => ⟨S768, .i32⟩
  | .hbm, ⟨35, _⟩ => ⟨S768, .i1⟩
  | .hbm, ⟨36, _⟩ => ⟨S_, .i32⟩
  | .hbm, ⟨37, _⟩ => ⟨S_, .i1⟩
  | .hbm, ⟨38, _⟩ => ⟨S768, .i1⟩
  | .hbm, ⟨39, _⟩ => ⟨S768, .i1⟩
  | .hbm, ⟨40, _⟩ => ⟨S768, .i1⟩
  | .hbm, ⟨41, _⟩ => ⟨S768, .i32⟩
  | .hbm, ⟨42, _⟩ => ⟨S768, .i32⟩
  | .hbm, ⟨43, _⟩ => ⟨S_, .i32⟩
  | .hbm, ⟨44, _⟩ => ⟨S777, .i32⟩
  | .hbm, ⟨45, _⟩ => ⟨S_, .i32⟩
  | .hbm, ⟨46, _⟩ => ⟨S768, .i32⟩
  | .hbm, ⟨47, _⟩ => ⟨S768, .i1⟩
  | .hbm, ⟨48, _⟩ => ⟨S_, .i32⟩
  | .hbm, ⟨49, _⟩ => ⟨S_, .i32⟩
  | .hbm, ⟨50, _⟩ => ⟨S768, .i32⟩
  | .hbm, ⟨51, _⟩ => ⟨S768, .i32⟩
  | .hbm, ⟨52, _⟩ => ⟨S_, .i32⟩
  | .hbm, ⟨53, _⟩ => ⟨S768, .i32⟩
  | .hbm, ⟨54, _⟩ => ⟨S768, .i1⟩
  | .hbm, ⟨55, _⟩ => ⟨S_, .i32⟩
  | .hbm, ⟨56, _⟩ => ⟨S_, .i32⟩
  | .hbm, ⟨57, _⟩ => ⟨S768, .i32⟩
  | .hbm, ⟨58, _⟩ => ⟨S768, .i32⟩
  | .hbm, ⟨59, _⟩ => ⟨S_, .i32⟩
  | .hbm, ⟨60, _⟩ => ⟨S768, .i32⟩
  | .hbm, ⟨61, _⟩ => ⟨S768, .i1⟩
  | .hbm, ⟨62, _⟩ => ⟨S_, .i32⟩
  | .hbm, ⟨63, _⟩ => ⟨S768, .i32⟩
  | .hbm, ⟨64, _⟩ => ⟨S768, .i32⟩
  | .hbm, ⟨65, _⟩ => ⟨S768, .i32⟩
  | .hbm, ⟨66, _⟩ => ⟨S768x1, .i32⟩
  | .hbm, ⟨67, _⟩ => ⟨S196608x1024, .bf16⟩
  | .local _ .vmem, ⟨0, _⟩ => ⟨S1024x512, .i32⟩
  | .local _ .vmem, ⟨1, _⟩ => ⟨S1024x512, .i32⟩
  | .local _ .vmem, ⟨2, _⟩ => ⟨S1024x1024, .bf16⟩
  | .local _ .vmem, ⟨3, _⟩ => ⟨S1024x1024, .bf16⟩
  | .local _ .vmem, ⟨4, _⟩ => ⟨S9x1024x256, .f32⟩
  | .local _ .vmem, ⟨5, _⟩ => ⟨S9x1024x256, .f32⟩
  | .local _ .vmem, ⟨6, _⟩ => ⟨S9x256x1024, .f32⟩
  | .local _ .smem, ⟨0, _⟩ => ⟨S768, .i32⟩
  | .local _ .smem, ⟨1, _⟩ => ⟨S768, .i32⟩
  | .local _ .smem, ⟨2, _⟩ => ⟨S1, .i32⟩
  | .local _ .smem, ⟨3, _⟩ => ⟨S768, .i32⟩
  | .local _ .smem, ⟨4, _⟩ => ⟨S768, .i32⟩
  | .local _ .smem, ⟨5, _⟩ => ⟨S768, .i32⟩
  | .local _ .smem, ⟨6, _⟩ => ⟨S777, .i32⟩
  | _, _ => ⟨S196608x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_call0_v0 : Ref sig .tc := ⟨.hbm, 11, rfl⟩
abbrev main_call0_v1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call1_call0_c : Ref sig .tc := ⟨.hbm, 17, rfl⟩
abbrev main_call1_call0_v0 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_c_1 : Ref sig .tc := ⟨.hbm, 22, rfl⟩
abbrev main_call2_v0 : Ref sig .tc := ⟨.hbm, 23, rfl⟩
abbrev main_call2_c : Ref sig .tc := ⟨.hbm, 24, rfl⟩
abbrev main_call2_v1 : Ref sig .tc := ⟨.hbm, 25, rfl⟩
abbrev main_call2_c_0 : Ref sig .tc := ⟨.hbm, 26, rfl⟩
abbrev main_call2_v2 : Ref sig .tc := ⟨.hbm, 27, rfl⟩
abbrev main_call2_v3 : Ref sig .tc := ⟨.hbm, 28, rfl⟩
abbrev main_call2_v4 : Ref sig .tc := ⟨.hbm, 29, rfl⟩
abbrev main_call2_c_1 : Ref sig .tc := ⟨.hbm, 30, rfl⟩
abbrev main_call2_v5 : Ref sig .tc := ⟨.hbm, 31, rfl⟩
abbrev main_call2_v6 : Ref sig .tc := ⟨.hbm, 32, rfl⟩
abbrev main_call2_c_2 : Ref sig .tc := ⟨.hbm, 33, rfl⟩
abbrev main_call2_v7 : Ref sig .tc := ⟨.hbm, 34, rfl⟩
abbrev main_call2_v8 : Ref sig .tc := ⟨.hbm, 35, rfl⟩
abbrev main_call2_c_3 : Ref sig .tc := ⟨.hbm, 36, rfl⟩
abbrev main_call2_v9 : Ref sig .tc := ⟨.hbm, 37, rfl⟩
abbrev main_call2_v10 : Ref sig .tc := ⟨.hbm, 38, rfl⟩
abbrev main_call2_v11 : Ref sig .tc := ⟨.hbm, 39, rfl⟩
abbrev main_call2_v12 : Ref sig .tc := ⟨.hbm, 40, rfl⟩
abbrev main_call2_v13 : Ref sig .tc := ⟨.hbm, 41, rfl⟩
abbrev main_call2_v14 : Ref sig .tc := ⟨.hbm, 42, rfl⟩
abbrev main_c_2 : Ref sig .tc := ⟨.hbm, 43, rfl⟩
abbrev main_v15 : Ref sig .tc := ⟨.hbm, 44, rfl⟩
abbrev main_c_3 : Ref sig .tc := ⟨.hbm, 45, rfl⟩
abbrev main_v16 : Ref sig .tc := ⟨.hbm, 46, rfl⟩
abbrev main_v17 : Ref sig .tc := ⟨.hbm, 47, rfl⟩
abbrev main_c_4 : Ref sig .tc := ⟨.hbm, 48, rfl⟩
abbrev main_call3_v0 : Ref sig .tc := ⟨.hbm, 49, rfl⟩
abbrev main_call3_v1 : Ref sig .tc := ⟨.hbm, 50, rfl⟩
abbrev main_v18 : Ref sig .tc := ⟨.hbm, 51, rfl⟩
abbrev main_c_5 : Ref sig .tc := ⟨.hbm, 52, rfl⟩
abbrev main_v19 : Ref sig .tc := ⟨.hbm, 53, rfl⟩
abbrev main_v20 : Ref sig .tc := ⟨.hbm, 54, rfl⟩
abbrev main_c_6 : Ref sig .tc := ⟨.hbm, 55, rfl⟩
abbrev main_call4_v0 : Ref sig .tc := ⟨.hbm, 56, rfl⟩
abbrev main_call4_v1 : Ref sig .tc := ⟨.hbm, 57, rfl⟩
abbrev main_v21 : Ref sig .tc := ⟨.hbm, 58, rfl⟩
abbrev main_c_7 : Ref sig .tc := ⟨.hbm, 59, rfl⟩
abbrev main_v22 : Ref sig .tc := ⟨.hbm, 60, rfl⟩
abbrev main_v23 : Ref sig .tc := ⟨.hbm, 61, rfl⟩
abbrev main_c_8 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v29 : Ref sig .tc := ⟨.hbm, 67, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_v10 : Ref sig .tc := ⟨.smem, 3, rfl⟩
abbrev main_v13 : Ref sig .tc := ⟨.smem, 4, rfl⟩
abbrev main_v14 : Ref sig .tc := ⟨.smem, 5, rfl⟩
abbrev main_v28 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![192], ![false]⟩

abbrev pre0 : Pipeline.Prefetch sig := ⟨7, ![main_arg0.idx, main_arg1.idx, main_arg2.idx, main_v10.idx, main_v13.idx, main_v14.idx, main_v28.idx], fun | 0 => main_arg0.names | 1 => main_arg1.names | 2 => main_arg2.names | 3 => main_v10.names | 4 => main_v13.names | 5 => main_v14.names | 6 => main_v28.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_cond2 (i : grid0.Coords) : BitVec 1 :=
  let arg0 : BitVec 32 := BitVec.ofNat 32 (i 0).val
  let c4_i32 : BitVec 32 := 4#32
  let v0 : BitVec 32 := Scalar.muli arg0 c4_i32
  let c0_i32_0 : BitVec 32 := 0#32
  let v5 : BitVec 32 := Scalar.addi v0 c0_i32_0
  let c0_i32_1 : BitVec 32 := 0#32
  let v6 : BitVec 1 := Scalar.cmpi .eq v5 c0_i32_1
  let v7 : BitVec 32 := Scalar.extui v6
  let c0_i32_2 : BitVec 32 := 0#32
  let v8 : BitVec 1 := Scalar.cmpi .ne v7 c0_i32_2
  v8

def k0_off1 (v185 : BitVec 32) : Fin 3 → Nat :=
  let c0_i32_92 : BitVec 32 := 0#32
  let c0_i32_93 : BitVec 32 := 0#32
  ![v185.toNat, 0, 0]
def k0_cond1 (i : grid0.Coords) (v1 : BitVec 32) : BitVec 1 :=
  let arg0 : BitVec 32 := BitVec.ofNat 32 (i 0).val
  let c4_i32 : BitVec 32 := 4#32
  let v0 : BitVec 32 := Scalar.muli arg0 c4_i32
  let v2 : BitVec 1 := Scalar.cmpi .slt v0 v1
  let v3 : BitVec 32 := Scalar.extui v2
  let c0_i32 : BitVec 32 := 0#32
  let v4 : BitVec 1 := Scalar.cmpi .ne v3 c0_i32
  v4

def k0_cond3 (v185 : BitVec 32) : BitVec 1 :=
  let c0_i32_78 : BitVec 32 := 0#32
  let v186 : BitVec 1 := Scalar.cmpi .sge v185 c0_i32_78
  let v187 : BitVec 32 := Scalar.extui v186
  let c0_i32_79 : BitVec 32 := 0#32
  let v188 : BitVec 1 := Scalar.cmpi .ne v187 c0_i32_79
  v188

def k0_off2 (v185 : BitVec 32) : Fin 3 → Nat :=
  let c0_i32_104 : BitVec 32 := 0#32
  let c0_i32_105 : BitVec 32 := 0#32
  ![v185.toNat, 0, 0]

def k0_chk1 (i : grid0.Coords) (v1 : BitVec 32) (v185 : BitVec 32) : Prop :=
  (∀ (k0_h1 : k0_cond1 i v1 = 1#1), ∀ (k0_h2 : k0_cond2 i = 1#1), ∀ (k0_h3 : k0_cond3 v185 = 1#1), ∀ a, (k0_off1 v185) a + S1x1024x256.size a ≤ S256x1024x256.size a) ∧
  (∀ (k0_h1 : k0_cond1 i v1 = 1#1), ∀ (k0_h2 : k0_cond2 i = 1#1), ∀ (k0_h3 : k0_cond3 v185 = 1#1), ∀ a, (k0_off2 v185) a + S1x256x1024.size a ≤ S256x256x1024.size a)
theorem k0_off1_inb : ∀ (i : grid0.Coords) (v1 : BitVec 32) (v185 : BitVec 32) (k0_hw1 : k0_chk1 i v1 v185), ∀ (k0_h1 : k0_cond1 i v1 = 1#1), ∀ (k0_h2 : k0_cond2 i = 1#1), ∀ (k0_h3 : k0_cond3 v185 = 1#1), ∀ a, (k0_off1 v185) a + S1x1024x256.size a ≤ S256x1024x256.size a := fun i v1 v185 k0_hw1 k0_h1 k0_h2 k0_h3 => k0_hw1.1 k0_h1 k0_h2 k0_h3
theorem k0_off2_inb : ∀ (i : grid0.Coords) (v1 : BitVec 32) (v185 : BitVec 32) (k0_hw1 : k0_chk1 i v1 v185), ∀ (k0_h1 : k0_cond1 i v1 = 1#1), ∀ (k0_h2 : k0_cond2 i = 1#1), ∀ (k0_h3 : k0_cond3 v185 = 1#1), ∀ a, (k0_off2 v185) a + S1x256x1024.size a ≤ S256x256x1024.size a := fun i v1 v185 k0_hw1 k0_h1 k0_h2 k0_h3 => k0_hw1.2 k0_h1 k0_h2 k0_h3

def k0_off3 (v189 : BitVec 32) : Fin 3 → Nat :=
  let c0_i32_92 : BitVec 32 := 0#32
  let c0_i32_93 : BitVec 32 := 0#32
  ![v189.toNat, 0, 0]
def k0_cond4 (v189 : BitVec 32) : BitVec 1 :=
  let c0_i32_80 : BitVec 32 := 0#32
  let v190 : BitVec 1 := Scalar.cmpi .sge v189 c0_i32_80
  let v191 : BitVec 32 := Scalar.extui v190
  let c0_i32_81 : BitVec 32 := 0#32
  let v192 : BitVec 1 := Scalar.cmpi .ne v191 c0_i32_81
  v192

def k0_off4 (v189 : BitVec 32) : Fin 3 → Nat :=
  let c0_i32_104 : BitVec 32 := 0#32
  let c0_i32_105 : BitVec 32 := 0#32
  ![v189.toNat, 0, 0]

def k0_chk2 (i : grid0.Coords) (v1 : BitVec 32) (v189 : BitVec 32) : Prop :=
  (∀ (k0_h1 : k0_cond1 i v1 = 1#1), ∀ (k0_h2 : k0_cond2 i = 1#1), ∀ (k0_h4 : k0_cond4 v189 = 1#1), ∀ a, (k0_off3 v189) a + S1x1024x256.size a ≤ S256x1024x256.size a) ∧
  (∀ (k0_h1 : k0_cond1 i v1 = 1#1), ∀ (k0_h2 : k0_cond2 i = 1#1), ∀ (k0_h4 : k0_cond4 v189 = 1#1), ∀ a, (k0_off4 v189) a + S1x256x1024.size a ≤ S256x256x1024.size a)
theorem k0_off3_inb : ∀ (i : grid0.Coords) (v1 : BitVec 32) (v189 : BitVec 32) (k0_hw2 : k0_chk2 i v1 v189), ∀ (k0_h1 : k0_cond1 i v1 = 1#1), ∀ (k0_h2 : k0_cond2 i = 1#1), ∀ (k0_h4 : k0_cond4 v189 = 1#1), ∀ a, (k0_off3 v189) a + S1x1024x256.size a ≤ S256x1024x256.size a := fun i v1 v189 k0_hw2 k0_h1 k0_h2 k0_h4 => k0_hw2.1 k0_h1 k0_h2 k0_h4
theorem k0_off4_inb : ∀ (i : grid0.Coords) (v1 : BitVec 32) (v189 : BitVec 32) (k0_hw2 : k0_chk2 i v1 v189), ∀ (k0_h1 : k0_cond1 i v1 = 1#1), ∀ (k0_h2 : k0_cond2 i = 1#1), ∀ (k0_h4 : k0_cond4 v189 = 1#1), ∀ a, (k0_off4 v189) a + S1x256x1024.size a ≤ S256x256x1024.size a := fun i v1 v189 k0_hw2 k0_h1 k0_h2 k0_h4 => k0_hw2.2 k0_h1 k0_h2 k0_h4

def k0_off5 (v193 : BitVec 32) : Fin 3 → Nat :=
  let c0_i32_92 : BitVec 32 := 0#32
  let c0_i32_93 : BitVec 32 := 0#32
  ![v193.toNat, 0, 0]
def k0_cond5 (v193 : BitVec 32) : BitVec 1 :=
  let c0_i32_82 : BitVec 32 := 0#32
  let v194 : BitVec 1 := Scalar.cmpi .sge v193 c0_i32_82
  let v195 : BitVec 32 := Scalar.extui v194
  let c0_i32_83 : BitVec 32 := 0#32
  let v196 : BitVec 1 := Scalar.cmpi .ne v195 c0_i32_83
  v196

def k0_off6 (v193 : BitVec 32) : Fin 3 → Nat :=
  let c0_i32_104 : BitVec 32 := 0#32
  let c0_i32_105 : BitVec 32 := 0#32
  ![v193.toNat, 0, 0]

def k0_chk3 (i : grid0.Coords) (v1 : BitVec 32) (v193 : BitVec 32) : Prop :=
  (∀ (k0_h1 : k0_cond1 i v1 = 1#1), ∀ (k0_h2 : k0_cond2 i = 1#1), ∀ (k0_h5 : k0_cond5 v193 = 1#1), ∀ a, (k0_off5 v193) a + S1x1024x256.size a ≤ S256x1024x256.size a) ∧
  (∀ (k0_h1 : k0_cond1 i v1 = 1#1), ∀ (k0_h2 : k0_cond2 i = 1#1), ∀ (k0_h5 : k0_cond5 v193 = 1#1), ∀ a, (k0_off6 v193) a + S1x256x1024.size a ≤ S256x256x1024.size a)
theorem k0_off5_inb : ∀ (i : grid0.Coords) (v1 : BitVec 32) (v193 : BitVec 32) (k0_hw3 : k0_chk3 i v1 v193), ∀ (k0_h1 : k0_cond1 i v1 = 1#1), ∀ (k0_h2 : k0_cond2 i = 1#1), ∀ (k0_h5 : k0_cond5 v193 = 1#1), ∀ a, (k0_off5 v193) a + S1x1024x256.size a ≤ S256x1024x256.size a := fun i v1 v193 k0_hw3 k0_h1 k0_h2 k0_h5 => k0_hw3.1 k0_h1 k0_h2 k0_h5
theorem k0_off6_inb : ∀ (i : grid0.Coords) (v1 : BitVec 32) (v193 : BitVec 32) (k0_hw3 : k0_chk3 i v1 v193), ∀ (k0_h1 : k0_cond1 i v1 = 1#1), ∀ (k0_h2 : k0_cond2 i = 1#1), ∀ (k0_h5 : k0_cond5 v193 = 1#1), ∀ a, (k0_off6 v193) a + S1x256x1024.size a ≤ S256x256x1024.size a := fun i v1 v193 k0_hw3 k0_h1 k0_h2 k0_h5 => k0_hw3.2 k0_h1 k0_h2 k0_h5

def k0_off7 (v197 : BitVec 32) : Fin 3 → Nat :=
  let c0_i32_92 : BitVec 32 := 0#32
  let c0_i32_93 : BitVec 32 := 0#32
  ![v197.toNat, 0, 0]
def k0_cond6 (v197 : BitVec 32) : BitVec 1 :=
  let c0_i32_84 : BitVec 32 := 0#32
  let v198 : BitVec 1 := Scalar.cmpi .sge v197 c0_i32_84
  let v199 : BitVec 32 := Scalar.extui v198
  let c0_i32_85 : BitVec 32 := 0#32
  let v200 : BitVec 1 := Scalar.cmpi .ne v199 c0_i32_85
  v200

def k0_off8 (v197 : BitVec 32) : Fin 3 → Nat :=
  let c0_i32_104 : BitVec 32 := 0#32
  let c0_i32_105 : BitVec 32 := 0#32
  ![v197.toNat, 0, 0]

def k0_chk4 (i : grid0.Coords) (v1 : BitVec 32) (v197 : BitVec 32) : Prop :=
  (∀ (k0_h1 : k0_cond1 i v1 = 1#1), ∀ (k0_h2 : k0_cond2 i = 1#1), ∀ (k0_h6 : k0_cond6 v197 = 1#1), ∀ a, (k0_off7 v197) a + S1x1024x256.size a ≤ S256x1024x256.size a) ∧
  (∀ (k0_h1 : k0_cond1 i v1 = 1#1), ∀ (k0_h2 : k0_cond2 i = 1#1), ∀ (k0_h6 : k0_cond6 v197 = 1#1), ∀ a, (k0_off8 v197) a + S1x256x1024.size a ≤ S256x256x1024.size a)
theorem k0_off7_inb : ∀ (i : grid0.Coords) (v1 : BitVec 32) (v197 : BitVec 32) (k0_hw4 : k0_chk4 i v1 v197), ∀ (k0_h1 : k0_cond1 i v1 = 1#1), ∀ (k0_h2 : k0_cond2 i = 1#1), ∀ (k0_h6 : k0_cond6 v197 = 1#1), ∀ a, (k0_off7 v197) a + S1x1024x256.size a ≤ S256x1024x256.size a := fun i v1 v197 k0_hw4 k0_h1 k0_h2 k0_h6 => k0_hw4.1 k0_h1 k0_h2 k0_h6
theorem k0_off8_inb : ∀ (i : grid0.Coords) (v1 : BitVec 32) (v197 : BitVec 32) (k0_hw4 : k0_chk4 i v1 v197), ∀ (k0_h1 : k0_cond1 i v1 = 1#1), ∀ (k0_h2 : k0_cond2 i = 1#1), ∀ (k0_h6 : k0_cond6 v197 = 1#1), ∀ a, (k0_off8 v197) a + S1x256x1024.size a ≤ S256x256x1024.size a := fun i v1 v197 k0_hw4 k0_h1 k0_h2 k0_h6 => k0_hw4.2 k0_h1 k0_h2 k0_h6

def k0_off9 (v201 : BitVec 32) : Fin 3 → Nat :=
  let c0_i32_92 : BitVec 32 := 0#32
  let c0_i32_93 : BitVec 32 := 0#32
  ![v201.toNat, 0, 0]
def k0_cond7 (v201 : BitVec 32) : BitVec 1 :=
  let c0_i32_86 : BitVec 32 := 0#32
  let v202 : BitVec 1 := Scalar.cmpi .sge v201 c0_i32_86
  let v203 : BitVec 32 := Scalar.extui v202
  let c0_i32_87 : BitVec 32 := 0#32
  let v204 : BitVec 1 := Scalar.cmpi .ne v203 c0_i32_87
  v204

def k0_off10 (v201 : BitVec 32) : Fin 3 → Nat :=
  let c0_i32_104 : BitVec 32 := 0#32
  let c0_i32_105 : BitVec 32 := 0#32
  ![v201.toNat, 0, 0]

def k0_chk5 (i : grid0.Coords) (v1 : BitVec 32) (v201 : BitVec 32) : Prop :=
  (∀ (k0_h1 : k0_cond1 i v1 = 1#1), ∀ (k0_h2 : k0_cond2 i = 1#1), ∀ (k0_h7 : k0_cond7 v201 = 1#1), ∀ a, (k0_off9 v201) a + S1x1024x256.size a ≤ S256x1024x256.size a) ∧
  (∀ (k0_h1 : k0_cond1 i v1 = 1#1), ∀ (k0_h2 : k0_cond2 i = 1#1), ∀ (k0_h7 : k0_cond7 v201 = 1#1), ∀ a, (k0_off10 v201) a + S1x256x1024.size a ≤ S256x256x1024.size a)
theorem k0_off9_inb : ∀ (i : grid0.Coords) (v1 : BitVec 32) (v201 : BitVec 32) (k0_hw5 : k0_chk5 i v1 v201), ∀ (k0_h1 : k0_cond1 i v1 = 1#1), ∀ (k0_h2 : k0_cond2 i = 1#1), ∀ (k0_h7 : k0_cond7 v201 = 1#1), ∀ a, (k0_off9 v201) a + S1x1024x256.size a ≤ S256x1024x256.size a := fun i v1 v201 k0_hw5 k0_h1 k0_h2 k0_h7 => k0_hw5.1 k0_h1 k0_h2 k0_h7
theorem k0_off10_inb : ∀ (i : grid0.Coords) (v1 : BitVec 32) (v201 : BitVec 32) (k0_hw5 : k0_chk5 i v1 v201), ∀ (k0_h1 : k0_cond1 i v1 = 1#1), ∀ (k0_h2 : k0_cond2 i = 1#1), ∀ (k0_h7 : k0_cond7 v201 = 1#1), ∀ a, (k0_off10 v201) a + S1x256x1024.size a ≤ S256x256x1024.size a := fun i v1 v201 k0_hw5 k0_h1 k0_h2 k0_h7 => k0_hw5.2 k0_h1 k0_h2 k0_h7

def k0_off11 (i : grid0.Coords) : Fin 1 → Nat :=
  let arg0 : BitVec 32 := BitVec.ofNat 32 (i 0).val
  let c4_i32 : BitVec 32 := 4#32
  let v0 : BitVec 32 := Scalar.muli arg0 c4_i32
  let c0_i32_0 : BitVec 32 := 0#32
  let v5 : BitVec 32 := Scalar.addi v0 c0_i32_0
  let v11 : Index := Scalar.indexCast v5
  ![v11.toNat]
def k0_off12 (i : grid0.Coords) : Fin 1 → Nat :=
  let arg0 : BitVec 32 := BitVec.ofNat 32 (i 0).val
  let c4_i32 : BitVec 32 := 4#32
  let v0 : BitVec 32 := Scalar.muli arg0 c4_i32
  let c0_i32_0 : BitVec 32 := 0#32
  let v5 : BitVec 32 := Scalar.addi v0 c0_i32_0
  let v185 : Index := Scalar.indexCast v5
  ![v185.toNat]
def k0_off13 (v186 : BitVec 32) : Fin 1 → Nat :=
  ![v186.toNat]
def k0_cond8 (i : grid0.Coords) (v9 : BitVec 32) (v12 : BitVec 32) : BitVec 1 :=
  let arg0 : BitVec 32 := BitVec.ofNat 32 (i 0).val
  let c4_i32 : BitVec 32 := 4#32
  let v0 : BitVec 32 := Scalar.muli arg0 c4_i32
  let c0_i32_0 : BitVec 32 := 0#32
  let v5 : BitVec 32 := Scalar.addi v0 c0_i32_0
  let v10 : BitVec 1 := Scalar.cmpi .slt v5 v9
  let c1_i32 : BitVec 32 := 1#32
  let v13 : BitVec 1 := Scalar.cmpi .eq v12 c1_i32
  let v14 : BitVec 1 := Scalar.andi v10 v13
  let v15 : BitVec 32 := Scalar.extui v14
  let c0_i32_4 : BitVec 32 := 0#32
  let v16 : BitVec 1 := Scalar.cmpi .ne v15 c0_i32_4
  v16

def k0_off14 (v186 : BitVec 32) : Fin 3 → Nat :=
  let c0_i32_77 : BitVec 32 := 0#32
  let c0_i32_78 : BitVec 32 := 0#32
  ![v186.toNat, 0, 0]
def k0_off15 (v188 : BitVec 32) : Fin 3 → Nat :=
  let c0_i32_79 : BitVec 32 := 0#32
  let c0_i32_80 : BitVec 32 := 0#32
  ![v188.toNat, 0, 0]

def k0_off16 (v186 : BitVec 32) : Fin 1 → Nat :=
  ![v186.toNat]
def k0_off17 (v186 : BitVec 32) : Fin 3 → Nat :=
  let c0_i32_81 : BitVec 32 := 0#32
  let c0_i32_82 : BitVec 32 := 0#32
  ![v186.toNat, 0, 0]
def k0_off18 (v186 : BitVec 32) : Fin 3 → Nat :=
  let c0_i32_85 : BitVec 32 := 0#32
  let c0_i32_86 : BitVec 32 := 0#32
  ![v186.toNat, 0, 0]

def k0_chk6 (i : grid0.Coords) (v1 : BitVec 32) (v9 : BitVec 32) (v12 : BitVec 32) (v186 : BitVec 32) : Prop :=
  (∀ (k0_h1 : k0_cond1 i v1 = 1#1), ∀ (k0_h8 : k0_cond8 i v9 v12 = 1#1), ∀ a, (k0_off13 v186) a + S1.size a ≤ S9.size a) ∧
  (∀ (k0_h1 : k0_cond1 i v1 = 1#1), ∀ (k0_h8 : k0_cond8 i v9 v12 = 1#1), ∀ a, (k0_off14 v186) a + S1x1024x256.size a ≤ S9x1024x256.size a) ∧
  (∀ (k0_h1 : k0_cond1 i v1 = 1#1), ∀ (k0_h8 : k0_cond8 i v9 v12 = 1#1), ∀ a, (k0_off16 v186) a + S1.size a ≤ S9.size a) ∧
  (∀ (k0_h1 : k0_cond1 i v1 = 1#1), ∀ (k0_h8 : k0_cond8 i v9 v12 = 1#1), ∀ a, (k0_off17 v186) a + S1x1024x256.size a ≤ S9x1024x256.size a) ∧
  (∀ (k0_h1 : k0_cond1 i v1 = 1#1), ∀ (k0_h8 : k0_cond8 i v9 v12 = 1#1), ∀ a, (k0_off18 v186) a + S1x256x1024.size a ≤ S9x256x1024.size a)
theorem k0_off13_inb : ∀ (i : grid0.Coords) (v1 : BitVec 32) (v9 : BitVec 32) (v12 : BitVec 32) (v186 : BitVec 32) (k0_hw6 : k0_chk6 i v1 v9 v12 v186), ∀ (k0_h1 : k0_cond1 i v1 = 1#1), ∀ (k0_h8 : k0_cond8 i v9 v12 = 1#1), ∀ a, (k0_off13 v186) a + S1.size a ≤ S9.size a := fun i v1 v9 v12 v186 k0_hw6 k0_h1 k0_h8 => k0_hw6.1 k0_h1 k0_h8
theorem k0_off14_inb : ∀ (i : grid0.Coords) (v1 : BitVec 32) (v9 : BitVec 32) (v12 : BitVec 32) (v186 : BitVec 32) (k0_hw6 : k0_chk6 i v1 v9 v12 v186), ∀ (k0_h1 : k0_cond1 i v1 = 1#1), ∀ (k0_h8 : k0_cond8 i v9 v12 = 1#1), ∀ a, (k0_off14 v186) a + S1x1024x256.size a ≤ S9x1024x256.size a := fun i v1 v9 v12 v186 k0_hw6 k0_h1 k0_h8 => k0_hw6.2.1 k0_h1 k0_h8
theorem k0_off16_inb : ∀ (i : grid0.Coords) (v1 : BitVec 32) (v9 : BitVec 32) (v12 : BitVec 32) (v186 : BitVec 32) (k0_hw6 : k0_chk6 i v1 v9 v12 v186), ∀ (k0_h1 : k0_cond1 i v1 = 1#1), ∀ (k0_h8 : k0_cond8 i v9 v12 = 1#1), ∀ a, (k0_off16 v186) a + S1.size a ≤ S9.size a := fun i v1 v9 v12 v186 k0_hw6 k0_h1 k0_h8 => k0_hw6.2.2.1 k0_h1 k0_h8
theorem k0_off17_inb : ∀ (i : grid0.Coords) (v1 : BitVec 32) (v9 : BitVec 32) (v12 : BitVec 32) (v186 : BitVec 32) (k0_hw6 : k0_chk6 i v1 v9 v12 v186), ∀ (k0_h1 : k0_cond1 i v1 = 1#1), ∀ (k0_h8 : k0_cond8 i v9 v12 = 1#1), ∀ a, (k0_off17 v186) a + S1x1024x256.size a ≤ S9x1024x256.size a := fun i v1 v9 v12 v186 k0_hw6 k0_h1 k0_h8 => k0_hw6.2.2.2.1 k0_h1 k0_h8
theorem k0_off18_inb : ∀ (i : grid0.Coords) (v1 : BitVec 32) (v9 : BitVec 32) (v12 : BitVec 32) (v186 : BitVec 32) (k0_hw6 : k0_chk6 i v1 v9 v12 v186), ∀ (k0_h1 : k0_cond1 i v1 = 1#1), ∀ (k0_h8 : k0_cond8 i v9 v12 = 1#1), ∀ a, (k0_off18 v186) a + S1x256x1024.size a ≤ S9x256x1024.size a := fun i v1 v9 v12 v186 k0_hw6 k0_h1 k0_h8 => k0_hw6.2.2.2.2 k0_h1 k0_h8

def k0_off19 (v188 : BitVec 32) : Fin 3 → Nat :=
  let c0_i32_87 : BitVec 32 := 0#32
  let c0_i32_88 : BitVec 32 := 0#32
  ![v188.toNat, 0, 0]

def k0_chk7 (i : grid0.Coords) (v1 : BitVec 32) (v9 : BitVec 32) (v12 : BitVec 32) (v188 : BitVec 32) : Prop :=
  (∀ (k0_h1 : k0_cond1 i v1 = 1#1), ∀ (k0_h8 : k0_cond8 i v9 v12 = 1#1), ∀ a, (k0_off15 v188) a + S1x1024x256.size a ≤ S256x1024x256.size a) ∧
  (∀ (k0_h1 : k0_cond1 i v1 = 1#1), ∀ (k0_h8 : k0_cond8 i v9 v12 = 1#1), ∀ a, (k0_off19 v188) a + S1x256x1024.size a ≤ S256x256x1024.size a)
theorem k0_off15_inb : ∀ (i : grid0.Coords) (v1 : BitVec 32) (v9 : BitVec 32) (v12 : BitVec 32) (v188 : BitVec 32) (k0_hw7 : k0_chk7 i v1 v9 v12 v188), ∀ (k0_h1 : k0_cond1 i v1 = 1#1), ∀ (k0_h8 : k0_cond8 i v9 v12 = 1#1), ∀ a, (k0_off15 v188) a + S1x1024x256.size a ≤ S256x1024x256.size a := fun i v1 v9 v12 v188 k0_hw7 k0_h1 k0_h8 => k0_hw7.1 k0_h1 k0_h8
theorem k0_off19_inb : ∀ (i : grid0.Coords) (v1 : BitVec 32) (v9 : BitVec 32) (v12 : BitVec 32) (v188 : BitVec 32) (k0_hw7 : k0_chk7 i v1 v9 v12 v188), ∀ (k0_h1 : k0_cond1 i v1 = 1#1), ∀ (k0_h8 : k0_cond8 i v9 v12 = 1#1), ∀ a, (k0_off19 v188) a + S1x256x1024.size a ≤ S256x256x1024.size a := fun i v1 v9 v12 v188 k0_hw7 k0_h1 k0_h8 => k0_hw7.2 k0_h1 k0_h8

def k0_off20 (i : grid0.Coords) : Fin 1 → Nat :=
  let arg0 : BitVec 32 := BitVec.ofNat 32 (i 0).val
  let c4_i32 : BitVec 32 := 4#32
  let v0 : BitVec 32 := Scalar.muli arg0 c4_i32
  let c0_i32_0 : BitVec 32 := 0#32
  let v5 : BitVec 32 := Scalar.addi v0 c0_i32_0
  let v207 : Index := Scalar.indexCast v5
  ![v207.toNat]
def k0_off21 (v208 : BitVec 32) : Fin 1 → Nat :=
  let c5_i32 : BitVec 32 := 5#32
  let v209 : BitVec 32 := Scalar.addi v208 c5_i32
  let v221 : Index := Scalar.indexCast v209
  ![v221.toNat]

def k0_chk8 (i : grid0.Coords) (v1 : BitVec 32) (v9 : BitVec 32) (v12 : BitVec 32) (v208 : BitVec 32) : Prop :=
  (∀ (k0_h1 : k0_cond1 i v1 = 1#1), ∀ (k0_h8 : k0_cond8 i v9 v12 = 1#1), ∀ a, (k0_off21 v208) a + S1.size a ≤ S777.size a)
theorem k0_off21_inb : ∀ (i : grid0.Coords) (v1 : BitVec 32) (v9 : BitVec 32) (v12 : BitVec 32) (v208 : BitVec 32) (k0_hw8 : k0_chk8 i v1 v9 v12 v208), ∀ (k0_h1 : k0_cond1 i v1 = 1#1), ∀ (k0_h8 : k0_cond8 i v9 v12 = 1#1), ∀ a, (k0_off21 v208) a + S1.size a ≤ S777.size a := fun i v1 v9 v12 v208 k0_hw8 k0_h1 k0_h8 => k0_hw8 k0_h1 k0_h8

def k0_off22 (v186 : BitVec 32) : Fin 1 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  ![v220.toNat]
def k0_cond9 (v222 : BitVec 32) : BitVec 1 :=
  let c0_i32_95 : BitVec 32 := 0#32
  let v223 : BitVec 1 := Scalar.cmpi .sge v222 c0_i32_95
  let v224 : BitVec 32 := Scalar.extui v223
  let c0_i32_96 : BitVec 32 := 0#32
  let v225 : BitVec 1 := Scalar.cmpi .ne v224 c0_i32_96
  v225

def k0_off23 (v186 : BitVec 32) : Fin 3 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  let c0_i32_97 : BitVec 32 := 0#32
  let c0_i32_98 : BitVec 32 := 0#32
  ![v220.toNat, 0, 0]
def k0_off24 (v222 : BitVec 32) : Fin 3 → Nat :=
  let c0_i32_99 : BitVec 32 := 0#32
  let c0_i32_100 : BitVec 32 := 0#32
  ![v222.toNat, 0, 0]
def k0_off25 (v186 : BitVec 32) : Fin 3 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  let c0_i32_105 : BitVec 32 := 0#32
  let c0_i32_106 : BitVec 32 := 0#32
  ![v220.toNat, 0, 0]
def k0_off26 (v222 : BitVec 32) : Fin 3 → Nat :=
  let c0_i32_107 : BitVec 32 := 0#32
  let c0_i32_108 : BitVec 32 := 0#32
  ![v222.toNat, 0, 0]

def k0_chk9 (i : grid0.Coords) (v1 : BitVec 32) (v9 : BitVec 32) (v12 : BitVec 32) (v186 : BitVec 32) (v222 : BitVec 32) : Prop :=
  (∀ (k0_h1 : k0_cond1 i v1 = 1#1), ∀ (k0_h8 : k0_cond8 i v9 v12 = 1#1), ∀ (k0_h9 : k0_cond9 v222 = 1#1), ∀ a, (k0_off22 v186) a + S1.size a ≤ S9.size a) ∧
  (∀ (k0_h1 : k0_cond1 i v1 = 1#1), ∀ (k0_h8 : k0_cond8 i v9 v12 = 1#1), ∀ (k0_h9 : k0_cond9 v222 = 1#1), ∀ a, (k0_off23 v186) a + S1x1024x256.size a ≤ S9x1024x256.size a) ∧
  (∀ (k0_h1 : k0_cond1 i v1 = 1#1), ∀ (k0_h8 : k0_cond8 i v9 v12 = 1#1), ∀ (k0_h9 : k0_cond9 v222 = 1#1), ∀ a, (k0_off24 v222) a + S1x1024x256.size a ≤ S256x1024x256.size a) ∧
  (∀ (k0_h1 : k0_cond1 i v1 = 1#1), ∀ (k0_h8 : k0_cond8 i v9 v12 = 1#1), ∀ (k0_h9 : k0_cond9 v222 = 1#1), ∀ a, (k0_off25 v186) a + S1x256x1024.size a ≤ S9x256x1024.size a) ∧
  (∀ (k0_h1 : k0_cond1 i v1 = 1#1), ∀ (k0_h8 : k0_cond8 i v9 v12 = 1#1), ∀ (k0_h9 : k0_cond9 v222 = 1#1), ∀ a, (k0_off26 v222) a + S1x256x1024.size a ≤ S256x256x1024.size a)
theorem k0_off22_inb : ∀ (i : grid0.Coords) (v1 : BitVec 32) (v9 : BitVec 32) (v12 : BitVec 32) (v186 : BitVec 32) (v222 : BitVec 32) (k0_hw9 : k0_chk9 i v1 v9 v12 v186 v222), ∀ (k0_h1 : k0_cond1 i v1 = 1#1), ∀ (k0_h8 : k0_cond8 i v9 v12 = 1#1), ∀ (k0_h9 : k0_cond9 v222 = 1#1), ∀ a, (k0_off22 v186) a + S1.size a ≤ S9.size a := fun i v1 v9 v12 v186 v222 k0_hw9 k0_h1 k0_h8 k0_h9 => k0_hw9.1 k0_h1 k0_h8 k0_h9
theorem k0_off23_inb : ∀ (i : grid0.Coords) (v1 : BitVec 32) (v9 : BitVec 32) (v12 : BitVec 32) (v186 : BitVec 32) (v222 : BitVec 32) (k0_hw9 : k0_chk9 i v1 v9 v12 v186 v222), ∀ (k0_h1 : k0_cond1 i v1 = 1#1), ∀ (k0_h8 : k0_cond8 i v9 v12 = 1#1), ∀ (k0_h9 : k0_cond9 v222 = 1#1), ∀ a, (k0_off23 v186) a + S1x1024x256.size a ≤ S9x1024x256.size a := fun i v1 v9 v12 v186 v222 k0_hw9 k0_h1 k0_h8 k0_h9 => k0_hw9.2.1 k0_h1 k0_h8 k0_h9
theorem k0_off24_inb : ∀ (i : grid0.Coords) (v1 : BitVec 32) (v9 : BitVec 32) (v12 : BitVec 32) (v186 : BitVec 32) (v222 : BitVec 32) (k0_hw9 : k0_chk9 i v1 v9 v12 v186 v222), ∀ (k0_h1 : k0_cond1 i v1 = 1#1), ∀ (k0_h8 : k0_cond8 i v9 v12 = 1#1), ∀ (k0_h9 : k0_cond9 v222 = 1#1), ∀ a, (k0_off24 v222) a + S1x1024x256.size a ≤ S256x1024x256.size a := fun i v1 v9 v12 v186 v222 k0_hw9 k0_h1 k0_h8 k0_h9 => k0_hw9.2.2.1 k0_h1 k0_h8 k0_h9
theorem k0_off25_inb : ∀ (i : grid0.Coords) (v1 : BitVec 32) (v9 : BitVec 32) (v12 : BitVec 32) (v186 : BitVec 32) (v222 : BitVec 32) (k0_hw9 : k0_chk9 i v1 v9 v12 v186 v222), ∀ (k0_h1 : k0_cond1 i v1 = 1#1), ∀ (k0_h8 : k0_cond8 i v9 v12 = 1#1), ∀ (k0_h9 : k0_cond9 v222 = 1#1), ∀ a, (k0_off25 v186) a + S1x256x1024.size a ≤ S9x256x1024.size a := fun i v1 v9 v12 v186 v222 k0_hw9 k0_h1 k0_h8 k0_h9 => k0_hw9.2.2.2.1 k0_h1 k0_h8 k0_h9
theorem k0_off26_inb : ∀ (i : grid0.Coords) (v1 : BitVec 32) (v9 : BitVec 32) (v12 : BitVec 32) (v186 : BitVec 32) (v222 : BitVec 32) (k0_hw9 : k0_chk9 i v1 v9 v12 v186 v222), ∀ (k0_h1 : k0_cond1 i v1 = 1#1), ∀ (k0_h8 : k0_cond8 i v9 v12 = 1#1), ∀ (k0_h9 : k0_cond9 v222 = 1#1), ∀ a, (k0_off26 v222) a + S1x256x1024.size a ≤ S256x256x1024.size a := fun i v1 v9 v12 v186 v222 k0_hw9 k0_h1 k0_h8 k0_h9 => k0_hw9.2.2.2.2 k0_h1 k0_h8 k0_h9

def k0_cond10 (i : grid0.Coords) : BitVec 1 :=
  let arg0 : BitVec 32 := BitVec.ofNat 32 (i 0).val
  let c4_i32 : BitVec 32 := 4#32
  let v0 : BitVec 32 := Scalar.muli arg0 c4_i32
  let c1_i32_5 : BitVec 32 := 1#32
  let v17 : BitVec 32 := Scalar.addi v0 c1_i32_5
  let c0_i32_6 : BitVec 32 := 0#32
  let v18 : BitVec 1 := Scalar.cmpi .eq v17 c0_i32_6
  let v19 : BitVec 32 := Scalar.extui v18
  let c0_i32_7 : BitVec 32 := 0#32
  let v20 : BitVec 1 := Scalar.cmpi .ne v19 c0_i32_7
  v20

def k0_off27 (v185 : BitVec 32) : Fin 3 → Nat :=
  let c0_i32_92 : BitVec 32 := 0#32
  let c0_i32_93 : BitVec 32 := 0#32
  ![v185.toNat, 0, 0]
def k0_cond11 (v185 : BitVec 32) : BitVec 1 :=
  let c0_i32_78 : BitVec 32 := 0#32
  let v186 : BitVec 1 := Scalar.cmpi .sge v185 c0_i32_78
  let v187 : BitVec 32 := Scalar.extui v186
  let c0_i32_79 : BitVec 32 := 0#32
  let v188 : BitVec 1 := Scalar.cmpi .ne v187 c0_i32_79
  v188

def k0_off28 (v185 : BitVec 32) : Fin 3 → Nat :=
  let c0_i32_104 : BitVec 32 := 0#32
  let c0_i32_105 : BitVec 32 := 0#32
  ![v185.toNat, 0, 0]

def k0_chk10 (i : grid0.Coords) (v1 : BitVec 32) (v185 : BitVec 32) : Prop :=
  (∀ (k0_h1 : k0_cond1 i v1 = 1#1), ∀ (k0_h10 : k0_cond10 i = 1#1), ∀ (k0_h11 : k0_cond11 v185 = 1#1), ∀ a, (k0_off27 v185) a + S1x1024x256.size a ≤ S256x1024x256.size a) ∧
  (∀ (k0_h1 : k0_cond1 i v1 = 1#1), ∀ (k0_h10 : k0_cond10 i = 1#1), ∀ (k0_h11 : k0_cond11 v185 = 1#1), ∀ a, (k0_off28 v185) a + S1x256x1024.size a ≤ S256x256x1024.size a)
theorem k0_off27_inb : ∀ (i : grid0.Coords) (v1 : BitVec 32) (v185 : BitVec 32) (k0_hw10 : k0_chk10 i v1 v185), ∀ (k0_h1 : k0_cond1 i v1 = 1#1), ∀ (k0_h10 : k0_cond10 i = 1#1), ∀ (k0_h11 : k0_cond11 v185 = 1#1), ∀ a, (k0_off27 v185) a + S1x1024x256.size a ≤ S256x1024x256.size a := fun i v1 v185 k0_hw10 k0_h1 k0_h10 k0_h11 => k0_hw10.1 k0_h1 k0_h10 k0_h11
theorem k0_off28_inb : ∀ (i : grid0.Coords) (v1 : BitVec 32) (v185 : BitVec 32) (k0_hw10 : k0_chk10 i v1 v185), ∀ (k0_h1 : k0_cond1 i v1 = 1#1), ∀ (k0_h10 : k0_cond10 i = 1#1), ∀ (k0_h11 : k0_cond11 v185 = 1#1), ∀ a, (k0_off28 v185) a + S1x256x1024.size a ≤ S256x256x1024.size a := fun i v1 v185 k0_hw10 k0_h1 k0_h10 k0_h11 => k0_hw10.2 k0_h1 k0_h10 k0_h11

def k0_off29 (v189 : BitVec 32) : Fin 3 → Nat :=
  let c0_i32_92 : BitVec 32 := 0#32
  let c0_i32_93 : BitVec 32 := 0#32
  ![v189.toNat, 0, 0]
def k0_cond12 (v189 : BitVec 32) : BitVec 1 :=
  let c0_i32_80 : BitVec 32 := 0#32
  let v190 : BitVec 1 := Scalar.cmpi .sge v189 c0_i32_80
  let v191 : BitVec 32 := Scalar.extui v190
  let c0_i32_81 : BitVec 32 := 0#32
  let v192 : BitVec 1 := Scalar.cmpi .ne v191 c0_i32_81
  v192

def k0_off30 (v189 : BitVec 32) : Fin 3 → Nat :=
  let c0_i32_104 : BitVec 32 := 0#32
  let c0_i32_105 : BitVec 32 := 0#32
  ![v189.toNat, 0, 0]

def k0_chk11 (i : grid0.Coords) (v1 : BitVec 32) (v189 : BitVec 32) : Prop :=
  (∀ (k0_h1 : k0_cond1 i v1 = 1#1), ∀ (k0_h10 : k0_cond10 i = 1#1), ∀ (k0_h12 : k0_cond12 v189 = 1#1), ∀ a, (k0_off29 v189) a + S1x1024x256.size a ≤ S256x1024x256.size a) ∧
  (∀ (k0_h1 : k0_cond1 i v1 = 1#1), ∀ (k0_h10 : k0_cond10 i = 1#1), ∀ (k0_h12 : k0_cond12 v189 = 1#1), ∀ a, (k0_off30 v189) a + S1x256x1024.size a ≤ S256x256x1024.size a)
theorem k0_off29_inb : ∀ (i : grid0.Coords) (v1 : BitVec 32) (v189 : BitVec 32) (k0_hw11 : k0_chk11 i v1 v189), ∀ (k0_h1 : k0_cond1 i v1 = 1#1), ∀ (k0_h10 : k0_cond10 i = 1#1), ∀ (k0_h12 : k0_cond12 v189 = 1#1), ∀ a, (k0_off29 v189) a + S1x1024x256.size a ≤ S256x1024x256.size a := fun i v1 v189 k0_hw11 k0_h1 k0_h10 k0_h12 => k0_hw11.1 k0_h1 k0_h10 k0_h12
theorem k0_off30_inb : ∀ (i : grid0.Coords) (v1 : BitVec 32) (v189 : BitVec 32) (k0_hw11 : k0_chk11 i v1 v189), ∀ (k0_h1 : k0_cond1 i v1 = 1#1), ∀ (k0_h10 : k0_cond10 i = 1#1), ∀ (k0_h12 : k0_cond12 v189 = 1#1), ∀ a, (k0_off30 v189) a + S1x256x1024.size a ≤ S256x256x1024.size a := fun i v1 v189 k0_hw11 k0_h1 k0_h10 k0_h12 => k0_hw11.2 k0_h1 k0_h10 k0_h12

def k0_off31 (v193 : BitVec 32) : Fin 3 → Nat :=
  let c0_i32_92 : BitVec 32 := 0#32
  let c0_i32_93 : BitVec 32 := 0#32
  ![v193.toNat, 0, 0]
def k0_cond13 (v193 : BitVec 32) : BitVec 1 :=
  let c0_i32_82 : BitVec 32 := 0#32
  let v194 : BitVec 1 := Scalar.cmpi .sge v193 c0_i32_82
  let v195 : BitVec 32 := Scalar.extui v194
  let c0_i32_83 : BitVec 32 := 0#32
  let v196 : BitVec 1 := Scalar.cmpi .ne v195 c0_i32_83
  v196

def k0_off32 (v193 : BitVec 32) : Fin 3 → Nat :=
  let c0_i32_104 : BitVec 32 := 0#32
  let c0_i32_105 : BitVec 32 := 0#32
  ![v193.toNat, 0, 0]

def k0_chk12 (i : grid0.Coords) (v1 : BitVec 32) (v193 : BitVec 32) : Prop :=
  (∀ (k0_h1 : k0_cond1 i v1 = 1#1), ∀ (k0_h10 : k0_cond10 i = 1#1), ∀ (k0_h13 : k0_cond13 v193 = 1#1), ∀ a, (k0_off31 v193) a + S1x1024x256.size a ≤ S256x1024x256.size a) ∧
  (∀ (k0_h1 : k0_cond1 i v1 = 1#1), ∀ (k0_h10 : k0_cond10 i = 1#1), ∀ (k0_h13 : k0_cond13 v193 = 1#1), ∀ a, (k0_off32 v193) a + S1x256x1024.size a ≤ S256x256x1024.size a)
theorem k0_off31_inb : ∀ (i : grid0.Coords) (v1 : BitVec 32) (v193 : BitVec 32) (k0_hw12 : k0_chk12 i v1 v193), ∀ (k0_h1 : k0_cond1 i v1 = 1#1), ∀ (k0_h10 : k0_cond10 i = 1#1), ∀ (k0_h13 : k0_cond13 v193 = 1#1), ∀ a, (k0_off31 v193) a + S1x1024x256.size a ≤ S256x1024x256.size a := fun i v1 v193 k0_hw12 k0_h1 k0_h10 k0_h13 => k0_hw12.1 k0_h1 k0_h10 k0_h13
theorem k0_off32_inb : ∀ (i : grid0.Coords) (v1 : BitVec 32) (v193 : BitVec 32) (k0_hw12 : k0_chk12 i v1 v193), ∀ (k0_h1 : k0_cond1 i v1 = 1#1), ∀ (k0_h10 : k0_cond10 i = 1#1), ∀ (k0_h13 : k0_cond13 v193 = 1#1), ∀ a, (k0_off32 v193) a + S1x256x1024.size a ≤ S256x256x1024.size a := fun i v1 v193 k0_hw12 k0_h1 k0_h10 k0_h13 => k0_hw12.2 k0_h1 k0_h10 k0_h13

def k0_off33 (v197 : BitVec 32) : Fin 3 → Nat :=
  let c0_i32_92 : BitVec 32 := 0#32
  let c0_i32_93 : BitVec 32 := 0#32
  ![v197.toNat, 0, 0]
def k0_cond14 (v197 : BitVec 32) : BitVec 1 :=
  let c0_i32_84 : BitVec 32 := 0#32
  let v198 : BitVec 1 := Scalar.cmpi .sge v197 c0_i32_84
  let v199 : BitVec 32 := Scalar.extui v198
  let c0_i32_85 : BitVec 32 := 0#32
  let v200 : BitVec 1 := Scalar.cmpi .ne v199 c0_i32_85
  v200

def k0_off34 (v197 : BitVec 32) : Fin 3 → Nat :=
  let c0_i32_104 : BitVec 32 := 0#32
  let c0_i32_105 : BitVec 32 := 0#32
  ![v197.toNat, 0, 0]

def k0_chk13 (i : grid0.Coords) (v1 : BitVec 32) (v197 : BitVec 32) : Prop :=
  (∀ (k0_h1 : k0_cond1 i v1 = 1#1), ∀ (k0_h10 : k0_cond10 i = 1#1), ∀ (k0_h14 : k0_cond14 v197 = 1#1), ∀ a, (k0_off33 v197) a + S1x1024x256.size a ≤ S256x1024x256.size a) ∧
  (∀ (k0_h1 : k0_cond1 i v1 = 1#1), ∀ (k0_h10 : k0_cond10 i = 1#1), ∀ (k0_h14 : k0_cond14 v197 = 1#1), ∀ a, (k0_off34 v197) a + S1x256x1024.size a ≤ S256x256x1024.size a)
theorem k0_off33_inb : ∀ (i : grid0.Coords) (v1 : BitVec 32) (v197 : BitVec 32) (k0_hw13 : k0_chk13 i v1 v197), ∀ (k0_h1 : k0_cond1 i v1 = 1#1), ∀ (k0_h10 : k0_cond10 i = 1#1), ∀ (k0_h14 : k0_cond14 v197 = 1#1), ∀ a, (k0_off33 v197) a + S1x1024x256.size a ≤ S256x1024x256.size a := fun i v1 v197 k0_hw13 k0_h1 k0_h10 k0_h14 => k0_hw13.1 k0_h1 k0_h10 k0_h14
theorem k0_off34_inb : ∀ (i : grid0.Coords) (v1 : BitVec 32) (v197 : BitVec 32) (k0_hw13 : k0_chk13 i v1 v197), ∀ (k0_h1 : k0_cond1 i v1 = 1#1), ∀ (k0_h10 : k0_cond10 i = 1#1), ∀ (k0_h14 : k0_cond14 v197 = 1#1), ∀ a, (k0_off34 v197) a + S1x256x1024.size a ≤ S256x256x1024.size a := fun i v1 v197 k0_hw13 k0_h1 k0_h10 k0_h14 => k0_hw13.2 k0_h1 k0_h10 k0_h14

def k0_off35 (v201 : BitVec 32) : Fin 3 → Nat :=
  let c0_i32_92 : BitVec 32 := 0#32
  let c0_i32_93 : BitVec 32 := 0#32
  ![v201.toNat, 0, 0]
def k0_cond15 (v201 : BitVec 32) : BitVec 1 :=
  let c0_i32_86 : BitVec 32 := 0#32
  let v202 : BitVec 1 := Scalar.cmpi .sge v201 c0_i32_86
  let v203 : BitVec 32 := Scalar.extui v202
  let c0_i32_87 : BitVec 32 := 0#32
  let v204 : BitVec 1 := Scalar.cmpi .ne v203 c0_i32_87
  v204

def k0_off36 (v201 : BitVec 32) : Fin 3 → Nat :=
  let c0_i32_104 : BitVec 32 := 0#32
  let c0_i32_105 : BitVec 32 := 0#32
  ![v201.toNat, 0, 0]

def k0_chk14 (i : grid0.Coords) (v1 : BitVec 32) (v201 : BitVec 32) : Prop :=
  (∀ (k0_h1 : k0_cond1 i v1 = 1#1), ∀ (k0_h10 : k0_cond10 i = 1#1), ∀ (k0_h15 : k0_cond15 v201 = 1#1), ∀ a, (k0_off35 v201) a + S1x1024x256.size a ≤ S256x1024x256.size a) ∧
  (∀ (k0_h1 : k0_cond1 i v1 = 1#1), ∀ (k0_h10 : k0_cond10 i = 1#1), ∀ (k0_h15 : k0_cond15 v201 = 1#1), ∀ a, (k0_off36 v201) a + S1x256x1024.size a ≤ S256x256x1024.size a)
theorem k0_off35_inb : ∀ (i : grid0.Coords) (v1 : BitVec 32) (v201 : BitVec 32) (k0_hw14 : k0_chk14 i v1 v201), ∀ (k0_h1 : k0_cond1 i v1 = 1#1), ∀ (k0_h10 : k0_cond10 i = 1#1), ∀ (k0_h15 : k0_cond15 v201 = 1#1), ∀ a, (k0_off35 v201) a + S1x1024x256.size a ≤ S256x1024x256.size a := fun i v1 v201 k0_hw14 k0_h1 k0_h10 k0_h15 => k0_hw14.1 k0_h1 k0_h10 k0_h15
theorem k0_off36_inb : ∀ (i : grid0.Coords) (v1 : BitVec 32) (v201 : BitVec 32) (k0_hw14 : k0_chk14 i v1 v201), ∀ (k0_h1 : k0_cond1 i v1 = 1#1), ∀ (k0_h10 : k0_cond10 i = 1#1), ∀ (k0_h15 : k0_cond15 v201 = 1#1), ∀ a, (k0_off36 v201) a + S1x256x1024.size a ≤ S256x256x1024.size a := fun i v1 v201 k0_hw14 k0_h1 k0_h10 k0_h15 => k0_hw14.2 k0_h1 k0_h10 k0_h15

def k0_off37 (i : grid0.Coords) : Fin 1 → Nat :=
  let arg0 : BitVec 32 := BitVec.ofNat 32 (i 0).val
  let c4_i32 : BitVec 32 := 4#32
  let v0 : BitVec 32 := Scalar.muli arg0 c4_i32
  let c1_i32_5 : BitVec 32 := 1#32
  let v17 : BitVec 32 := Scalar.addi v0 c1_i32_5
  let v23 : Index := Scalar.indexCast v17
  ![v23.toNat]
def k0_off38 (i : grid0.Coords) : Fin 1 → Nat :=
  let arg0 : BitVec 32 := BitVec.ofNat 32 (i 0).val
  let c4_i32 : BitVec 32 := 4#32
  let v0 : BitVec 32 := Scalar.muli arg0 c4_i32
  let c1_i32_5 : BitVec 32 := 1#32
  let v17 : BitVec 32 := Scalar.addi v0 c1_i32_5
  let v185 : Index := Scalar.indexCast v17
  ![v185.toNat]
def k0_off39 (v186 : BitVec 32) : Fin 1 → Nat :=
  ![v186.toNat]
def k0_cond16 (i : grid0.Coords) (v21 : BitVec 32) (v24 : BitVec 32) : BitVec 1 :=
  let arg0 : BitVec 32 := BitVec.ofNat 32 (i 0).val
  let c4_i32 : BitVec 32 := 4#32
  let v0 : BitVec 32 := Scalar.muli arg0 c4_i32
  let c1_i32_5 : BitVec 32 := 1#32
  let v17 : BitVec 32 := Scalar.addi v0 c1_i32_5
  let v22 : BitVec 1 := Scalar.cmpi .slt v17 v21
  let c1_i32_9 : BitVec 32 := 1#32
  let v25 : BitVec 1 := Scalar.cmpi .eq v24 c1_i32_9
  let v26 : BitVec 1 := Scalar.andi v22 v25
  let v27 : BitVec 32 := Scalar.extui v26
  let c0_i32_10 : BitVec 32 := 0#32
  let v28 : BitVec 1 := Scalar.cmpi .ne v27 c0_i32_10
  v28

def k0_off40 (v186 : BitVec 32) : Fin 3 → Nat :=
  let c0_i32_77 : BitVec 32 := 0#32
  let c0_i32_78 : BitVec 32 := 0#32
  ![v186.toNat, 0, 0]
def k0_off41 (v188 : BitVec 32) : Fin 3 → Nat :=
  let c0_i32_79 : BitVec 32 := 0#32
  let c0_i32_80 : BitVec 32 := 0#32
  ![v188.toNat, 0, 0]

def k0_off42 (v186 : BitVec 32) : Fin 1 → Nat :=
  ![v186.toNat]
def k0_off43 (v186 : BitVec 32) : Fin 3 → Nat :=
  let c0_i32_81 : BitVec 32 := 0#32
  let c0_i32_82 : BitVec 32 := 0#32
  ![v186.toNat, 0, 0]
def k0_off44 (v186 : BitVec 32) : Fin 3 → Nat :=
  let c0_i32_85 : BitVec 32 := 0#32
  let c0_i32_86 : BitVec 32 := 0#32
  ![v186.toNat, 0, 0]

def k0_chk15 (i : grid0.Coords) (v1 : BitVec 32) (v21 : BitVec 32) (v24 : BitVec 32) (v186 : BitVec 32) : Prop :=
  (∀ (k0_h1 : k0_cond1 i v1 = 1#1), ∀ (k0_h16 : k0_cond16 i v21 v24 = 1#1), ∀ a, (k0_off39 v186) a + S1.size a ≤ S9.size a) ∧
  (∀ (k0_h1 : k0_cond1 i v1 = 1#1), ∀ (k0_h16 : k0_cond16 i v21 v24 = 1#1), ∀ a, (k0_off40 v186) a + S1x1024x256.size a ≤ S9x1024x256.size a) ∧
  (∀ (k0_h1 : k0_cond1 i v1 = 1#1), ∀ (k0_h16 : k0_cond16 i v21 v24 = 1#1), ∀ a, (k0_off42 v186) a + S1.size a ≤ S9.size a) ∧
  (∀ (k0_h1 : k0_cond1 i v1 = 1#1), ∀ (k0_h16 : k0_cond16 i v21 v24 = 1#1), ∀ a, (k0_off43 v186) a + S1x1024x256.size a ≤ S9x1024x256.size a) ∧
  (∀ (k0_h1 : k0_cond1 i v1 = 1#1), ∀ (k0_h16 : k0_cond16 i v21 v24 = 1#1), ∀ a, (k0_off44 v186) a + S1x256x1024.size a ≤ S9x256x1024.size a)
theorem k0_off39_inb : ∀ (i : grid0.Coords) (v1 : BitVec 32) (v21 : BitVec 32) (v24 : BitVec 32) (v186 : BitVec 32) (k0_hw15 : k0_chk15 i v1 v21 v24 v186), ∀ (k0_h1 : k0_cond1 i v1 = 1#1), ∀ (k0_h16 : k0_cond16 i v21 v24 = 1#1), ∀ a, (k0_off39 v186) a + S1.size a ≤ S9.size a := fun i v1 v21 v24 v186 k0_hw15 k0_h1 k0_h16 => k0_hw15.1 k0_h1 k0_h16
theorem k0_off40_inb : ∀ (i : grid0.Coords) (v1 : BitVec 32) (v21 : BitVec 32) (v24 : BitVec 32) (v186 : BitVec 32) (k0_hw15 : k0_chk15 i v1 v21 v24 v186), ∀ (k0_h1 : k0_cond1 i v1 = 1#1), ∀ (k0_h16 : k0_cond16 i v21 v24 = 1#1), ∀ a, (k0_off40 v186) a + S1x1024x256.size a ≤ S9x1024x256.size a := fun i v1 v21 v24 v186 k0_hw15 k0_h1 k0_h16 => k0_hw15.2.1 k0_h1 k0_h16
theorem k0_off42_inb : ∀ (i : grid0.Coords) (v1 : BitVec 32) (v21 : BitVec 32) (v24 : BitVec 32) (v186 : BitVec 32) (k0_hw15 : k0_chk15 i v1 v21 v24 v186), ∀ (k0_h1 : k0_cond1 i v1 = 1#1), ∀ (k0_h16 : k0_cond16 i v21 v24 = 1#1), ∀ a, (k0_off42 v186) a + S1.size a ≤ S9.size a := fun i v1 v21 v24 v186 k0_hw15 k0_h1 k0_h16 => k0_hw15.2.2.1 k0_h1 k0_h16
theorem k0_off43_inb : ∀ (i : grid0.Coords) (v1 : BitVec 32) (v21 : BitVec 32) (v24 : BitVec 32) (v186 : BitVec 32) (k0_hw15 : k0_chk15 i v1 v21 v24 v186), ∀ (k0_h1 : k0_cond1 i v1 = 1#1), ∀ (k0_h16 : k0_cond16 i v21 v24 = 1#1), ∀ a, (k0_off43 v186) a + S1x1024x256.size a ≤ S9x1024x256.size a := fun i v1 v21 v24 v186 k0_hw15 k0_h1 k0_h16 => k0_hw15.2.2.2.1 k0_h1 k0_h16
theorem k0_off44_inb : ∀ (i : grid0.Coords) (v1 : BitVec 32) (v21 : BitVec 32) (v24 : BitVec 32) (v186 : BitVec 32) (k0_hw15 : k0_chk15 i v1 v21 v24 v186), ∀ (k0_h1 : k0_cond1 i v1 = 1#1), ∀ (k0_h16 : k0_cond16 i v21 v24 = 1#1), ∀ a, (k0_off44 v186) a + S1x256x1024.size a ≤ S9x256x1024.size a := fun i v1 v21 v24 v186 k0_hw15 k0_h1 k0_h16 => k0_hw15.2.2.2.2 k0_h1 k0_h16

def k0_off45 (v188 : BitVec 32) : Fin 3 → Nat :=
  let c0_i32_87 : BitVec 32 := 0#32
  let c0_i32_88 : BitVec 32 := 0#32
  ![v188.toNat, 0, 0]

def k0_chk16 (i : grid0.Coords) (v1 : BitVec 32) (v21 : BitVec 32) (v24 : BitVec 32) (v188 : BitVec 32) : Prop :=
  (∀ (k0_h1 : k0_cond1 i v1 = 1#1), ∀ (k0_h16 : k0_cond16 i v21 v24 = 1#1), ∀ a, (k0_off41 v188) a + S1x1024x256.size a ≤ S256x1024x256.size a) ∧
  (∀ (k0_h1 : k0_cond1 i v1 = 1#1), ∀ (k0_h16 : k0_cond16 i v21 v24 = 1#1), ∀ a, (k0_off45 v188) a + S1x256x1024.size a ≤ S256x256x1024.size a)
theorem k0_off41_inb : ∀ (i : grid0.Coords) (v1 : BitVec 32) (v21 : BitVec 32) (v24 : BitVec 32) (v188 : BitVec 32) (k0_hw16 : k0_chk16 i v1 v21 v24 v188), ∀ (k0_h1 : k0_cond1 i v1 = 1#1), ∀ (k0_h16 : k0_cond16 i v21 v24 = 1#1), ∀ a, (k0_off41 v188) a + S1x1024x256.size a ≤ S256x1024x256.size a := fun i v1 v21 v24 v188 k0_hw16 k0_h1 k0_h16 => k0_hw16.1 k0_h1 k0_h16
theorem k0_off45_inb : ∀ (i : grid0.Coords) (v1 : BitVec 32) (v21 : BitVec 32) (v24 : BitVec 32) (v188 : BitVec 32) (k0_hw16 : k0_chk16 i v1 v21 v24 v188), ∀ (k0_h1 : k0_cond1 i v1 = 1#1), ∀ (k0_h16 : k0_cond16 i v21 v24 = 1#1), ∀ a, (k0_off45 v188) a + S1x256x1024.size a ≤ S256x256x1024.size a := fun i v1 v21 v24 v188 k0_hw16 k0_h1 k0_h16 => k0_hw16.2 k0_h1 k0_h16

def k0_off46 (i : grid0.Coords) : Fin 1 → Nat :=
  let arg0 : BitVec 32 := BitVec.ofNat 32 (i 0).val
  let c4_i32 : BitVec 32 := 4#32
  let v0 : BitVec 32 := Scalar.muli arg0 c4_i32
  let c1_i32_5 : BitVec 32 := 1#32
  let v17 : BitVec 32 := Scalar.addi v0 c1_i32_5
  let v207 : Index := Scalar.indexCast v17
  ![v207.toNat]
def k0_off47 (v208 : BitVec 32) : Fin 1 → Nat :=
  let c5_i32 : BitVec 32 := 5#32
  let v209 : BitVec 32 := Scalar.addi v208 c5_i32
  let v221 : Index := Scalar.indexCast v209
  ![v221.toNat]

def k0_chk17 (i : grid0.Coords) (v1 : BitVec 32) (v21 : BitVec 32) (v24 : BitVec 32) (v208 : BitVec 32) : Prop :=
  (∀ (k0_h1 : k0_cond1 i v1 = 1#1), ∀ (k0_h16 : k0_cond16 i v21 v24 = 1#1), ∀ a, (k0_off47 v208) a + S1.size a ≤ S777.size a)
theorem k0_off47_inb : ∀ (i : grid0.Coords) (v1 : BitVec 32) (v21 : BitVec 32) (v24 : BitVec 32) (v208 : BitVec 32) (k0_hw17 : k0_chk17 i v1 v21 v24 v208), ∀ (k0_h1 : k0_cond1 i v1 = 1#1), ∀ (k0_h16 : k0_cond16 i v21 v24 = 1#1), ∀ a, (k0_off47 v208) a + S1.size a ≤ S777.size a := fun i v1 v21 v24 v208 k0_hw17 k0_h1 k0_h16 => k0_hw17 k0_h1 k0_h16

def k0_off48 (v186 : BitVec 32) : Fin 1 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  ![v220.toNat]
def k0_cond17 (v222 : BitVec 32) : BitVec 1 :=
  let c0_i32_95 : BitVec 32 := 0#32
  let v223 : BitVec 1 := Scalar.cmpi .sge v222 c0_i32_95
  let v224 : BitVec 32 := Scalar.extui v223
  let c0_i32_96 : BitVec 32 := 0#32
  let v225 : BitVec 1 := Scalar.cmpi .ne v224 c0_i32_96
  v225

def k0_off49 (v186 : BitVec 32) : Fin 3 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  let c0_i32_97 : BitVec 32 := 0#32
  let c0_i32_98 : BitVec 32 := 0#32
  ![v220.toNat, 0, 0]
def k0_off50 (v222 : BitVec 32) : Fin 3 → Nat :=
  let c0_i32_99 : BitVec 32 := 0#32
  let c0_i32_100 : BitVec 32 := 0#32
  ![v222.toNat, 0, 0]
def k0_off51 (v186 : BitVec 32) : Fin 3 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  let c0_i32_105 : BitVec 32 := 0#32
  let c0_i32_106 : BitVec 32 := 0#32
  ![v220.toNat, 0, 0]
def k0_off52 (v222 : BitVec 32) : Fin 3 → Nat :=
  let c0_i32_107 : BitVec 32 := 0#32
  let c0_i32_108 : BitVec 32 := 0#32
  ![v222.toNat, 0, 0]

def k0_chk18 (i : grid0.Coords) (v1 : BitVec 32) (v21 : BitVec 32) (v24 : BitVec 32) (v186 : BitVec 32) (v222 : BitVec 32) : Prop :=
  (∀ (k0_h1 : k0_cond1 i v1 = 1#1), ∀ (k0_h16 : k0_cond16 i v21 v24 = 1#1), ∀ (k0_h17 : k0_cond17 v222 = 1#1), ∀ a, (k0_off48 v186) a + S1.size a ≤ S9.size a) ∧
  (∀ (k0_h1 : k0_cond1 i v1 = 1#1), ∀ (k0_h16 : k0_cond16 i v21 v24 = 1#1), ∀ (k0_h17 : k0_cond17 v222 = 1#1), ∀ a, (k0_off49 v186) a + S1x1024x256.size a ≤ S9x1024x256.size a) ∧
  (∀ (k0_h1 : k0_cond1 i v1 = 1#1), ∀ (k0_h16 : k0_cond16 i v21 v24 = 1#1), ∀ (k0_h17 : k0_cond17 v222 = 1#1), ∀ a, (k0_off50 v222) a + S1x1024x256.size a ≤ S256x1024x256.size a) ∧
  (∀ (k0_h1 : k0_cond1 i v1 = 1#1), ∀ (k0_h16 : k0_cond16 i v21 v24 = 1#1), ∀ (k0_h17 : k0_cond17 v222 = 1#1), ∀ a, (k0_off51 v186) a + S1x256x1024.size a ≤ S9x256x1024.size a) ∧
  (∀ (k0_h1 : k0_cond1 i v1 = 1#1), ∀ (k0_h16 : k0_cond16 i v21 v24 = 1#1), ∀ (k0_h17 : k0_cond17 v222 = 1#1), ∀ a, (k0_off52 v222) a + S1x256x1024.size a ≤ S256x256x1024.size a)
theorem k0_off48_inb : ∀ (i : grid0.Coords) (v1 : BitVec 32) (v21 : BitVec 32) (v24 : BitVec 32) (v186 : BitVec 32) (v222 : BitVec 32) (k0_hw18 : k0_chk18 i v1 v21 v24 v186 v222), ∀ (k0_h1 : k0_cond1 i v1 = 1#1), ∀ (k0_h16 : k0_cond16 i v21 v24 = 1#1), ∀ (k0_h17 : k0_cond17 v222 = 1#1), ∀ a, (k0_off48 v186) a + S1.size a ≤ S9.size a := fun i v1 v21 v24 v186 v222 k0_hw18 k0_h1 k0_h16 k0_h17 => k0_hw18.1 k0_h1 k0_h16 k0_h17
theorem k0_off49_inb : ∀ (i : grid0.Coords) (v1 : BitVec 32) (v21 : BitVec 32) (v24 : BitVec 32) (v186 : BitVec 32) (v222 : BitVec 32) (k0_hw18 : k0_chk18 i v1 v21 v24 v186 v222), ∀ (k0_h1 : k0_cond1 i v1 = 1#1), ∀ (k0_h16 : k0_cond16 i v21 v24 = 1#1), ∀ (k0_h17 : k0_cond17 v222 = 1#1), ∀ a, (k0_off49 v186) a + S1x1024x256.size a ≤ S9x1024x256.size a := fun i v1 v21 v24 v186 v222 k0_hw18 k0_h1 k0_h16 k0_h17 => k0_hw18.2.1 k0_h1 k0_h16 k0_h17
theorem k0_off50_inb : ∀ (i : grid0.Coords) (v1 : BitVec 32) (v21 : BitVec 32) (v24 : BitVec 32) (v186 : BitVec 32) (v222 : BitVec 32) (k0_hw18 : k0_chk18 i v1 v21 v24 v186 v222), ∀ (k0_h1 : k0_cond1 i v1 = 1#1), ∀ (k0_h16 : k0_cond16 i v21 v24 = 1#1), ∀ (k0_h17 : k0_cond17 v222 = 1#1), ∀ a, (k0_off50 v222) a + S1x1024x256.size a ≤ S256x1024x256.size a := fun i v1 v21 v24 v186 v222 k0_hw18 k0_h1 k0_h16 k0_h17 => k0_hw18.2.2.1 k0_h1 k0_h16 k0_h17
theorem k0_off51_inb : ∀ (i : grid0.Coords) (v1 : BitVec 32) (v21 : BitVec 32) (v24 : BitVec 32) (v186 : BitVec 32) (v222 : BitVec 32) (k0_hw18 : k0_chk18 i v1 v21 v24 v186 v222), ∀ (k0_h1 : k0_cond1 i v1 = 1#1), ∀ (k0_h16 : k0_cond16 i v21 v24 = 1#1), ∀ (k0_h17 : k0_cond17 v222 = 1#1), ∀ a, (k0_off51 v186) a + S1x256x1024.size a ≤ S9x256x1024.size a := fun i v1 v21 v24 v186 v222 k0_hw18 k0_h1 k0_h16 k0_h17 => k0_hw18.2.2.2.1 k0_h1 k0_h16 k0_h17
theorem k0_off52_inb : ∀ (i : grid0.Coords) (v1 : BitVec 32) (v21 : BitVec 32) (v24 : BitVec 32) (v186 : BitVec 32) (v222 : BitVec 32) (k0_hw18 : k0_chk18 i v1 v21 v24 v186 v222), ∀ (k0_h1 : k0_cond1 i v1 = 1#1), ∀ (k0_h16 : k0_cond16 i v21 v24 = 1#1), ∀ (k0_h17 : k0_cond17 v222 = 1#1), ∀ a, (k0_off52 v222) a + S1x256x1024.size a ≤ S256x256x1024.size a := fun i v1 v21 v24 v186 v222 k0_hw18 k0_h1 k0_h16 k0_h17 => k0_hw18.2.2.2.2 k0_h1 k0_h16 k0_h17

def k0_cond18 (i : grid0.Coords) : BitVec 1 :=
  let arg0 : BitVec 32 := BitVec.ofNat 32 (i 0).val
  let c4_i32 : BitVec 32 := 4#32
  let v0 : BitVec 32 := Scalar.muli arg0 c4_i32
  let c2_i32 : BitVec 32 := 2#32
  let v29 : BitVec 32 := Scalar.addi v0 c2_i32
  let c0_i32_11 : BitVec 32 := 0#32
  let v30 : BitVec 1 := Scalar.cmpi .eq v29 c0_i32_11
  let v31 : BitVec 32 := Scalar.extui v30
  let c0_i32_12 : BitVec 32 := 0#32
  let v32 : BitVec 1 := Scalar.cmpi .ne v31 c0_i32_12
  v32

def k0_off53 (v185 : BitVec 32) : Fin 3 → Nat :=
  let c0_i32_92 : BitVec 32 := 0#32
  let c0_i32_93 : BitVec 32 := 0#32
  ![v185.toNat, 0, 0]
def k0_cond19 (v185 : BitVec 32) : BitVec 1 :=
  let c0_i32_78 : BitVec 32 := 0#32
  let v186 : BitVec 1 := Scalar.cmpi .sge v185 c0_i32_78
  let v187 : BitVec 32 := Scalar.extui v186
  let c0_i32_79 : BitVec 32 := 0#32
  let v188 : BitVec 1 := Scalar.cmpi .ne v187 c0_i32_79
  v188

def k0_off54 (v185 : BitVec 32) : Fin 3 → Nat :=
  let c0_i32_104 : BitVec 32 := 0#32
  let c0_i32_105 : BitVec 32 := 0#32
  ![v185.toNat, 0, 0]

def k0_chk19 (i : grid0.Coords) (v1 : BitVec 32) (v185 : BitVec 32) : Prop :=
  (∀ (k0_h1 : k0_cond1 i v1 = 1#1), ∀ (k0_h18 : k0_cond18 i = 1#1), ∀ (k0_h19 : k0_cond19 v185 = 1#1), ∀ a, (k0_off53 v185) a + S1x1024x256.size a ≤ S256x1024x256.size a) ∧
  (∀ (k0_h1 : k0_cond1 i v1 = 1#1), ∀ (k0_h18 : k0_cond18 i = 1#1), ∀ (k0_h19 : k0_cond19 v185 = 1#1), ∀ a, (k0_off54 v185) a + S1x256x1024.size a ≤ S256x256x1024.size a)
theorem k0_off53_inb : ∀ (i : grid0.Coords) (v1 : BitVec 32) (v185 : BitVec 32) (k0_hw19 : k0_chk19 i v1 v185), ∀ (k0_h1 : k0_cond1 i v1 = 1#1), ∀ (k0_h18 : k0_cond18 i = 1#1), ∀ (k0_h19 : k0_cond19 v185 = 1#1), ∀ a, (k0_off53 v185) a + S1x1024x256.size a ≤ S256x1024x256.size a := fun i v1 v185 k0_hw19 k0_h1 k0_h18 k0_h19 => k0_hw19.1 k0_h1 k0_h18 k0_h19
theorem k0_off54_inb : ∀ (i : grid0.Coords) (v1 : BitVec 32) (v185 : BitVec 32) (k0_hw19 : k0_chk19 i v1 v185), ∀ (k0_h1 : k0_cond1 i v1 = 1#1), ∀ (k0_h18 : k0_cond18 i = 1#1), ∀ (k0_h19 : k0_cond19 v185 = 1#1), ∀ a, (k0_off54 v185) a + S1x256x1024.size a ≤ S256x256x1024.size a := fun i v1 v185 k0_hw19 k0_h1 k0_h18 k0_h19 => k0_hw19.2 k0_h1 k0_h18 k0_h19

def k0_off55 (v189 : BitVec 32) : Fin 3 → Nat :=
  let c0_i32_92 : BitVec 32 := 0#32
  let c0_i32_93 : BitVec 32 := 0#32
  ![v189.toNat, 0, 0]
def k0_cond20 (v189 : BitVec 32) : BitVec 1 :=
  let c0_i32_80 : BitVec 32 := 0#32
  let v190 : BitVec 1 := Scalar.cmpi .sge v189 c0_i32_80
  let v191 : BitVec 32 := Scalar.extui v190
  let c0_i32_81 : BitVec 32 := 0#32
  let v192 : BitVec 1 := Scalar.cmpi .ne v191 c0_i32_81
  v192

def k0_off56 (v189 : BitVec 32) : Fin 3 → Nat :=
  let c0_i32_104 : BitVec 32 := 0#32
  let c0_i32_105 : BitVec 32 := 0#32
  ![v189.toNat, 0, 0]

def k0_chk20 (i : grid0.Coords) (v1 : BitVec 32) (v189 : BitVec 32) : Prop :=
  (∀ (k0_h1 : k0_cond1 i v1 = 1#1), ∀ (k0_h18 : k0_cond18 i = 1#1), ∀ (k0_h20 : k0_cond20 v189 = 1#1), ∀ a, (k0_off55 v189) a + S1x1024x256.size a ≤ S256x1024x256.size a) ∧
  (∀ (k0_h1 : k0_cond1 i v1 = 1#1), ∀ (k0_h18 : k0_cond18 i = 1#1), ∀ (k0_h20 : k0_cond20 v189 = 1#1), ∀ a, (k0_off56 v189) a + S1x256x1024.size a ≤ S256x256x1024.size a)
theorem k0_off55_inb : ∀ (i : grid0.Coords) (v1 : BitVec 32) (v189 : BitVec 32) (k0_hw20 : k0_chk20 i v1 v189), ∀ (k0_h1 : k0_cond1 i v1 = 1#1), ∀ (k0_h18 : k0_cond18 i = 1#1), ∀ (k0_h20 : k0_cond20 v189 = 1#1), ∀ a, (k0_off55 v189) a + S1x1024x256.size a ≤ S256x1024x256.size a := fun i v1 v189 k0_hw20 k0_h1 k0_h18 k0_h20 => k0_hw20.1 k0_h1 k0_h18 k0_h20
theorem k0_off56_inb : ∀ (i : grid0.Coords) (v1 : BitVec 32) (v189 : BitVec 32) (k0_hw20 : k0_chk20 i v1 v189), ∀ (k0_h1 : k0_cond1 i v1 = 1#1), ∀ (k0_h18 : k0_cond18 i = 1#1), ∀ (k0_h20 : k0_cond20 v189 = 1#1), ∀ a, (k0_off56 v189) a + S1x256x1024.size a ≤ S256x256x1024.size a := fun i v1 v189 k0_hw20 k0_h1 k0_h18 k0_h20 => k0_hw20.2 k0_h1 k0_h18 k0_h20

def k0_off57 (v193 : BitVec 32) : Fin 3 → Nat :=
  let c0_i32_92 : BitVec 32 := 0#32
  let c0_i32_93 : BitVec 32 := 0#32
  ![v193.toNat, 0, 0]
def k0_cond21 (v193 : BitVec 32) : BitVec 1 :=
  let c0_i32_82 : BitVec 32 := 0#32
  let v194 : BitVec 1 := Scalar.cmpi .sge v193 c0_i32_82
  let v195 : BitVec 32 := Scalar.extui v194
  let c0_i32_83 : BitVec 32 := 0#32
  let v196 : BitVec 1 := Scalar.cmpi .ne v195 c0_i32_83
  v196

def k0_off58 (v193 : BitVec 32) : Fin 3 → Nat :=
  let c0_i32_104 : BitVec 32 := 0#32
  let c0_i32_105 : BitVec 32 := 0#32
  ![v193.toNat, 0, 0]

def k0_chk21 (i : grid0.Coords) (v1 : BitVec 32) (v193 : BitVec 32) : Prop :=
  (∀ (k0_h1 : k0_cond1 i v1 = 1#1), ∀ (k0_h18 : k0_cond18 i = 1#1), ∀ (k0_h21 : k0_cond21 v193 = 1#1), ∀ a, (k0_off57 v193) a + S1x1024x256.size a ≤ S256x1024x256.size a) ∧
  (∀ (k0_h1 : k0_cond1 i v1 = 1#1), ∀ (k0_h18 : k0_cond18 i = 1#1), ∀ (k0_h21 : k0_cond21 v193 = 1#1), ∀ a, (k0_off58 v193) a + S1x256x1024.size a ≤ S256x256x1024.size a)
theorem k0_off57_inb : ∀ (i : grid0.Coords) (v1 : BitVec 32) (v193 : BitVec 32) (k0_hw21 : k0_chk21 i v1 v193), ∀ (k0_h1 : k0_cond1 i v1 = 1#1), ∀ (k0_h18 : k0_cond18 i = 1#1), ∀ (k0_h21 : k0_cond21 v193 = 1#1), ∀ a, (k0_off57 v193) a + S1x1024x256.size a ≤ S256x1024x256.size a := fun i v1 v193 k0_hw21 k0_h1 k0_h18 k0_h21 => k0_hw21.1 k0_h1 k0_h18 k0_h21
theorem k0_off58_inb : ∀ (i : grid0.Coords) (v1 : BitVec 32) (v193 : BitVec 32) (k0_hw21 : k0_chk21 i v1 v193), ∀ (k0_h1 : k0_cond1 i v1 = 1#1), ∀ (k0_h18 : k0_cond18 i = 1#1), ∀ (k0_h21 : k0_cond21 v193 = 1#1), ∀ a, (k0_off58 v193) a + S1x256x1024.size a ≤ S256x256x1024.size a := fun i v1 v193 k0_hw21 k0_h1 k0_h18 k0_h21 => k0_hw21.2 k0_h1 k0_h18 k0_h21

def k0_off59 (v197 : BitVec 32) : Fin 3 → Nat :=
  let c0_i32_92 : BitVec 32 := 0#32
  let c0_i32_93 : BitVec 32 := 0#32
  ![v197.toNat, 0, 0]
def k0_cond22 (v197 : BitVec 32) : BitVec 1 :=
  let c0_i32_84 : BitVec 32 := 0#32
  let v198 : BitVec 1 := Scalar.cmpi .sge v197 c0_i32_84
  let v199 : BitVec 32 := Scalar.extui v198
  let c0_i32_85 : BitVec 32 := 0#32
  let v200 : BitVec 1 := Scalar.cmpi .ne v199 c0_i32_85
  v200

def k0_off60 (v197 : BitVec 32) : Fin 3 → Nat :=
  let c0_i32_104 : BitVec 32 := 0#32
  let c0_i32_105 : BitVec 32 := 0#32
  ![v197.toNat, 0, 0]

def k0_chk22 (i : grid0.Coords) (v1 : BitVec 32) (v197 : BitVec 32) : Prop :=
  (∀ (k0_h1 : k0_cond1 i v1 = 1#1), ∀ (k0_h18 : k0_cond18 i = 1#1), ∀ (k0_h22 : k0_cond22 v197 = 1#1), ∀ a, (k0_off59 v197) a + S1x1024x256.size a ≤ S256x1024x256.size a) ∧
  (∀ (k0_h1 : k0_cond1 i v1 = 1#1), ∀ (k0_h18 : k0_cond18 i = 1#1), ∀ (k0_h22 : k0_cond22 v197 = 1#1), ∀ a, (k0_off60 v197) a + S1x256x1024.size a ≤ S256x256x1024.size a)
theorem k0_off59_inb : ∀ (i : grid0.Coords) (v1 : BitVec 32) (v197 : BitVec 32) (k0_hw22 : k0_chk22 i v1 v197), ∀ (k0_h1 : k0_cond1 i v1 = 1#1), ∀ (k0_h18 : k0_cond18 i = 1#1), ∀ (k0_h22 : k0_cond22 v197 = 1#1), ∀ a, (k0_off59 v197) a + S1x1024x256.size a ≤ S256x1024x256.size a := fun i v1 v197 k0_hw22 k0_h1 k0_h18 k0_h22 => k0_hw22.1 k0_h1 k0_h18 k0_h22
theorem k0_off60_inb : ∀ (i : grid0.Coords) (v1 : BitVec 32) (v197 : BitVec 32) (k0_hw22 : k0_chk22 i v1 v197), ∀ (k0_h1 : k0_cond1 i v1 = 1#1), ∀ (k0_h18 : k0_cond18 i = 1#1), ∀ (k0_h22 : k0_cond22 v197 = 1#1), ∀ a, (k0_off60 v197) a + S1x256x1024.size a ≤ S256x256x1024.size a := fun i v1 v197 k0_hw22 k0_h1 k0_h18 k0_h22 => k0_hw22.2 k0_h1 k0_h18 k0_h22

def k0_off61 (v201 : BitVec 32) : Fin 3 → Nat :=
  let c0_i32_92 : BitVec 32 := 0#32
  let c0_i32_93 : BitVec 32 := 0#32
  ![v201.toNat, 0, 0]
def k0_cond23 (v201 : BitVec 32) : BitVec 1 :=
  let c0_i32_86 : BitVec 32 := 0#32
  let v202 : BitVec 1 := Scalar.cmpi .sge v201 c0_i32_86
  let v203 : BitVec 32 := Scalar.extui v202
  let c0_i32_87 : BitVec 32 := 0#32
  let v204 : BitVec 1 := Scalar.cmpi .ne v203 c0_i32_87
  v204

def k0_off62 (v201 : BitVec 32) : Fin 3 → Nat :=
  let c0_i32_104 : BitVec 32 := 0#32
  let c0_i32_105 : BitVec 32 := 0#32
  ![v201.toNat, 0, 0]

def k0_chk23 (i : grid0.Coords) (v1 : BitVec 32) (v201 : BitVec 32) : Prop :=
  (∀ (k0_h1 : k0_cond1 i v1 = 1#1), ∀ (k0_h18 : k0_cond18 i = 1#1), ∀ (k0_h23 : k0_cond23 v201 = 1#1), ∀ a, (k0_off61 v201) a + S1x1024x256.size a ≤ S256x1024x256.size a) ∧
  (∀ (k0_h1 : k0_cond1 i v1 = 1#1), ∀ (k0_h18 : k0_cond18 i = 1#1), ∀ (k0_h23 : k0_cond23 v201 = 1#1), ∀ a, (k0_off62 v201) a + S1x256x1024.size a ≤ S256x256x1024.size a)
theorem k0_off61_inb : ∀ (i : grid0.Coords) (v1 : BitVec 32) (v201 : BitVec 32) (k0_hw23 : k0_chk23 i v1 v201), ∀ (k0_h1 : k0_cond1 i v1 = 1#1), ∀ (k0_h18 : k0_cond18 i = 1#1), ∀ (k0_h23 : k0_cond23 v201 = 1#1), ∀ a, (k0_off61 v201) a + S1x1024x256.size a ≤ S256x1024x256.size a := fun i v1 v201 k0_hw23 k0_h1 k0_h18 k0_h23 => k0_hw23.1 k0_h1 k0_h18 k0_h23
theorem k0_off62_inb : ∀ (i : grid0.Coords) (v1 : BitVec 32) (v201 : BitVec 32) (k0_hw23 : k0_chk23 i v1 v201), ∀ (k0_h1 : k0_cond1 i v1 = 1#1), ∀ (k0_h18 : k0_cond18 i = 1#1), ∀ (k0_h23 : k0_cond23 v201 = 1#1), ∀ a, (k0_off62 v201) a + S1x256x1024.size a ≤ S256x256x1024.size a := fun i v1 v201 k0_hw23 k0_h1 k0_h18 k0_h23 => k0_hw23.2 k0_h1 k0_h18 k0_h23

def k0_off63 (i : grid0.Coords) : Fin 1 → Nat :=
  let arg0 : BitVec 32 := BitVec.ofNat 32 (i 0).val
  let c4_i32 : BitVec 32 := 4#32
  let v0 : BitVec 32 := Scalar.muli arg0 c4_i32
  let c2_i32 : BitVec 32 := 2#32
  let v29 : BitVec 32 := Scalar.addi v0 c2_i32
  let v35 : Index := Scalar.indexCast v29
  ![v35.toNat]
def k0_off64 (i : grid0.Coords) : Fin 1 → Nat :=
  let arg0 : BitVec 32 := BitVec.ofNat 32 (i 0).val
  let c4_i32 : BitVec 32 := 4#32
  let v0 : BitVec 32 := Scalar.muli arg0 c4_i32
  let c2_i32 : BitVec 32 := 2#32
  let v29 : BitVec 32 := Scalar.addi v0 c2_i32
  let v185 : Index := Scalar.indexCast v29
  ![v185.toNat]
def k0_off65 (v186 : BitVec 32) : Fin 1 → Nat :=
  ![v186.toNat]
def k0_cond24 (i : grid0.Coords) (v33 : BitVec 32) (v36 : BitVec 32) : BitVec 1 :=
  let arg0 : BitVec 32 := BitVec.ofNat 32 (i 0).val
  let c4_i32 : BitVec 32 := 4#32
  let v0 : BitVec 32 := Scalar.muli arg0 c4_i32
  let c2_i32 : BitVec 32 := 2#32
  let v29 : BitVec 32 := Scalar.addi v0 c2_i32
  let v34 : BitVec 1 := Scalar.cmpi .slt v29 v33
  let c1_i32_14 : BitVec 32 := 1#32
  let v37 : BitVec 1 := Scalar.cmpi .eq v36 c1_i32_14
  let v38 : BitVec 1 := Scalar.andi v34 v37
  let v39 : BitVec 32 := Scalar.extui v38
  let c0_i32_15 : BitVec 32 := 0#32
  let v40 : BitVec 1 := Scalar.cmpi .ne v39 c0_i32_15
  v40

def k0_off66 (v186 : BitVec 32) : Fin 3 → Nat :=
  let c0_i32_77 : BitVec 32 := 0#32
  let c0_i32_78 : BitVec 32 := 0#32
  ![v186.toNat, 0, 0]
def k0_off67 (v188 : BitVec 32) : Fin 3 → Nat :=
  let c0_i32_79 : BitVec 32 := 0#32
  let c0_i32_80 : BitVec 32 := 0#32
  ![v188.toNat, 0, 0]

def k0_off68 (v186 : BitVec 32) : Fin 1 → Nat :=
  ![v186.toNat]
def k0_off69 (v186 : BitVec 32) : Fin 3 → Nat :=
  let c0_i32_81 : BitVec 32 := 0#32
  let c0_i32_82 : BitVec 32 := 0#32
  ![v186.toNat, 0, 0]
def k0_off70 (v186 : BitVec 32) : Fin 3 → Nat :=
  let c0_i32_85 : BitVec 32 := 0#32
  let c0_i32_86 : BitVec 32 := 0#32
  ![v186.toNat, 0, 0]

def k0_chk24 (i : grid0.Coords) (v1 : BitVec 32) (v33 : BitVec 32) (v36 : BitVec 32) (v186 : BitVec 32) : Prop :=
  (∀ (k0_h1 : k0_cond1 i v1 = 1#1), ∀ (k0_h24 : k0_cond24 i v33 v36 = 1#1), ∀ a, (k0_off65 v186) a + S1.size a ≤ S9.size a) ∧
  (∀ (k0_h1 : k0_cond1 i v1 = 1#1), ∀ (k0_h24 : k0_cond24 i v33 v36 = 1#1), ∀ a, (k0_off66 v186) a + S1x1024x256.size a ≤ S9x1024x256.size a) ∧
  (∀ (k0_h1 : k0_cond1 i v1 = 1#1), ∀ (k0_h24 : k0_cond24 i v33 v36 = 1#1), ∀ a, (k0_off68 v186) a + S1.size a ≤ S9.size a) ∧
  (∀ (k0_h1 : k0_cond1 i v1 = 1#1), ∀ (k0_h24 : k0_cond24 i v33 v36 = 1#1), ∀ a, (k0_off69 v186) a + S1x1024x256.size a ≤ S9x1024x256.size a) ∧
  (∀ (k0_h1 : k0_cond1 i v1 = 1#1), ∀ (k0_h24 : k0_cond24 i v33 v36 = 1#1), ∀ a, (k0_off70 v186) a + S1x256x1024.size a ≤ S9x256x1024.size a)
theorem k0_off65_inb : ∀ (i : grid0.Coords) (v1 : BitVec 32) (v33 : BitVec 32) (v36 : BitVec 32) (v186 : BitVec 32) (k0_hw24 : k0_chk24 i v1 v33 v36 v186), ∀ (k0_h1 : k0_cond1 i v1 = 1#1), ∀ (k0_h24 : k0_cond24 i v33 v36 = 1#1), ∀ a, (k0_off65 v186) a + S1.size a ≤ S9.size a := fun i v1 v33 v36 v186 k0_hw24 k0_h1 k0_h24 => k0_hw24.1 k0_h1 k0_h24
theorem k0_off66_inb : ∀ (i : grid0.Coords) (v1 : BitVec 32) (v33 : BitVec 32) (v36 : BitVec 32) (v186 : BitVec 32) (k0_hw24 : k0_chk24 i v1 v33 v36 v186), ∀ (k0_h1 : k0_cond1 i v1 = 1#1), ∀ (k0_h24 : k0_cond24 i v33 v36 = 1#1), ∀ a, (k0_off66 v186) a + S1x1024x256.size a ≤ S9x1024x256.size a := fun i v1 v33 v36 v186 k0_hw24 k0_h1 k0_h24 => k0_hw24.2.1 k0_h1 k0_h24
theorem k0_off68_inb : ∀ (i : grid0.Coords) (v1 : BitVec 32) (v33 : BitVec 32) (v36 : BitVec 32) (v186 : BitVec 32) (k0_hw24 : k0_chk24 i v1 v33 v36 v186), ∀ (k0_h1 : k0_cond1 i v1 = 1#1), ∀ (k0_h24 : k0_cond24 i v33 v36 = 1#1), ∀ a, (k0_off68 v186) a + S1.size a ≤ S9.size a := fun i v1 v33 v36 v186 k0_hw24 k0_h1 k0_h24 => k0_hw24.2.2.1 k0_h1 k0_h24
theorem k0_off69_inb : ∀ (i : grid0.Coords) (v1 : BitVec 32) (v33 : BitVec 32) (v36 : BitVec 32) (v186 : BitVec 32) (k0_hw24 : k0_chk24 i v1 v33 v36 v186), ∀ (k0_h1 : k0_cond1 i v1 = 1#1), ∀ (k0_h24 : k0_cond24 i v33 v36 = 1#1), ∀ a, (k0_off69 v186) a + S1x1024x256.size a ≤ S9x1024x256.size a := fun i v1 v33 v36 v186 k0_hw24 k0_h1 k0_h24 => k0_hw24.2.2.2.1 k0_h1 k0_h24
theorem k0_off70_inb : ∀ (i : grid0.Coords) (v1 : BitVec 32) (v33 : BitVec 32) (v36 : BitVec 32) (v186 : BitVec 32) (k0_hw24 : k0_chk24 i v1 v33 v36 v186), ∀ (k0_h1 : k0_cond1 i v1 = 1#1), ∀ (k0_h24 : k0_cond24 i v33 v36 = 1#1), ∀ a, (k0_off70 v186) a + S1x256x1024.size a ≤ S9x256x1024.size a := fun i v1 v33 v36 v186 k0_hw24 k0_h1 k0_h24 => k0_hw24.2.2.2.2 k0_h1 k0_h24

def k0_off71 (v188 : BitVec 32) : Fin 3 → Nat :=
  let c0_i32_87 : BitVec 32 := 0#32
  let c0_i32_88 : BitVec 32 := 0#32
  ![v188.toNat, 0, 0]

def k0_chk25 (i : grid0.Coords) (v1 : BitVec 32) (v33 : BitVec 32) (v36 : BitVec 32) (v188 : BitVec 32) : Prop :=
  (∀ (k0_h1 : k0_cond1 i v1 = 1#1), ∀ (k0_h24 : k0_cond24 i v33 v36 = 1#1), ∀ a, (k0_off67 v188) a + S1x1024x256.size a ≤ S256x1024x256.size a) ∧
  (∀ (k0_h1 : k0_cond1 i v1 = 1#1), ∀ (k0_h24 : k0_cond24 i v33 v36 = 1#1), ∀ a, (k0_off71 v188) a + S1x256x1024.size a ≤ S256x256x1024.size a)
theorem k0_off67_inb : ∀ (i : grid0.Coords) (v1 : BitVec 32) (v33 : BitVec 32) (v36 : BitVec 32) (v188 : BitVec 32) (k0_hw25 : k0_chk25 i v1 v33 v36 v188), ∀ (k0_h1 : k0_cond1 i v1 = 1#1), ∀ (k0_h24 : k0_cond24 i v33 v36 = 1#1), ∀ a, (k0_off67 v188) a + S1x1024x256.size a ≤ S256x1024x256.size a := fun i v1 v33 v36 v188 k0_hw25 k0_h1 k0_h24 => k0_hw25.1 k0_h1 k0_h24
theorem k0_off71_inb : ∀ (i : grid0.Coords) (v1 : BitVec 32) (v33 : BitVec 32) (v36 : BitVec 32) (v188 : BitVec 32) (k0_hw25 : k0_chk25 i v1 v33 v36 v188), ∀ (k0_h1 : k0_cond1 i v1 = 1#1), ∀ (k0_h24 : k0_cond24 i v33 v36 = 1#1), ∀ a, (k0_off71 v188) a + S1x256x1024.size a ≤ S256x256x1024.size a := fun i v1 v33 v36 v188 k0_hw25 k0_h1 k0_h24 => k0_hw25.2 k0_h1 k0_h24

def k0_off72 (i : grid0.Coords) : Fin 1 → Nat :=
  let arg0 : BitVec 32 := BitVec.ofNat 32 (i 0).val
  let c4_i32 : BitVec 32 := 4#32
  let v0 : BitVec 32 := Scalar.muli arg0 c4_i32
  let c2_i32 : BitVec 32 := 2#32
  let v29 : BitVec 32 := Scalar.addi v0 c2_i32
  let v207 : Index := Scalar.indexCast v29
  ![v207.toNat]
def k0_off73 (v208 : BitVec 32) : Fin 1 → Nat :=
  let c5_i32 : BitVec 32 := 5#32
  let v209 : BitVec 32 := Scalar.addi v208 c5_i32
  let v221 : Index := Scalar.indexCast v209
  ![v221.toNat]

def k0_chk26 (i : grid0.Coords) (v1 : BitVec 32) (v33 : BitVec 32) (v36 : BitVec 32) (v208 : BitVec 32) : Prop :=
  (∀ (k0_h1 : k0_cond1 i v1 = 1#1), ∀ (k0_h24 : k0_cond24 i v33 v36 = 1#1), ∀ a, (k0_off73 v208) a + S1.size a ≤ S777.size a)
theorem k0_off73_inb : ∀ (i : grid0.Coords) (v1 : BitVec 32) (v33 : BitVec 32) (v36 : BitVec 32) (v208 : BitVec 32) (k0_hw26 : k0_chk26 i v1 v33 v36 v208), ∀ (k0_h1 : k0_cond1 i v1 = 1#1), ∀ (k0_h24 : k0_cond24 i v33 v36 = 1#1), ∀ a, (k0_off73 v208) a + S1.size a ≤ S777.size a := fun i v1 v33 v36 v208 k0_hw26 k0_h1 k0_h24 => k0_hw26 k0_h1 k0_h24

def k0_off74 (v186 : BitVec 32) : Fin 1 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  ![v220.toNat]
def k0_cond25 (v222 : BitVec 32) : BitVec 1 :=
  let c0_i32_95 : BitVec 32 := 0#32
  let v223 : BitVec 1 := Scalar.cmpi .sge v222 c0_i32_95
  let v224 : BitVec 32 := Scalar.extui v223
  let c0_i32_96 : BitVec 32 := 0#32
  let v225 : BitVec 1 := Scalar.cmpi .ne v224 c0_i32_96
  v225

def k0_off75 (v186 : BitVec 32) : Fin 3 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  let c0_i32_97 : BitVec 32 := 0#32
  let c0_i32_98 : BitVec 32 := 0#32
  ![v220.toNat, 0, 0]
def k0_off76 (v222 : BitVec 32) : Fin 3 → Nat :=
  let c0_i32_99 : BitVec 32 := 0#32
  let c0_i32_100 : BitVec 32 := 0#32
  ![v222.toNat, 0, 0]
def k0_off77 (v186 : BitVec 32) : Fin 3 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  let c0_i32_105 : BitVec 32 := 0#32
  let c0_i32_106 : BitVec 32 := 0#32
  ![v220.toNat, 0, 0]
def k0_off78 (v222 : BitVec 32) : Fin 3 → Nat :=
  let c0_i32_107 : BitVec 32 := 0#32
  let c0_i32_108 : BitVec 32 := 0#32
  ![v222.toNat, 0, 0]

def k0_chk27 (i : grid0.Coords) (v1 : BitVec 32) (v33 : BitVec 32) (v36 : BitVec 32) (v186 : BitVec 32) (v222 : BitVec 32) : Prop :=
  (∀ (k0_h1 : k0_cond1 i v1 = 1#1), ∀ (k0_h24 : k0_cond24 i v33 v36 = 1#1), ∀ (k0_h25 : k0_cond25 v222 = 1#1), ∀ a, (k0_off74 v186) a + S1.size a ≤ S9.size a) ∧
  (∀ (k0_h1 : k0_cond1 i v1 = 1#1), ∀ (k0_h24 : k0_cond24 i v33 v36 = 1#1), ∀ (k0_h25 : k0_cond25 v222 = 1#1), ∀ a, (k0_off75 v186) a + S1x1024x256.size a ≤ S9x1024x256.size a) ∧
  (∀ (k0_h1 : k0_cond1 i v1 = 1#1), ∀ (k0_h24 : k0_cond24 i v33 v36 = 1#1), ∀ (k0_h25 : k0_cond25 v222 = 1#1), ∀ a, (k0_off76 v222) a + S1x1024x256.size a ≤ S256x1024x256.size a) ∧
  (∀ (k0_h1 : k0_cond1 i v1 = 1#1), ∀ (k0_h24 : k0_cond24 i v33 v36 = 1#1), ∀ (k0_h25 : k0_cond25 v222 = 1#1), ∀ a, (k0_off77 v186) a + S1x256x1024.size a ≤ S9x256x1024.size a) ∧
  (∀ (k0_h1 : k0_cond1 i v1 = 1#1), ∀ (k0_h24 : k0_cond24 i v33 v36 = 1#1), ∀ (k0_h25 : k0_cond25 v222 = 1#1), ∀ a, (k0_off78 v222) a + S1x256x1024.size a ≤ S256x256x1024.size a)
theorem k0_off74_inb : ∀ (i : grid0.Coords) (v1 : BitVec 32) (v33 : BitVec 32) (v36 : BitVec 32) (v186 : BitVec 32) (v222 : BitVec 32) (k0_hw27 : k0_chk27 i v1 v33 v36 v186 v222), ∀ (k0_h1 : k0_cond1 i v1 = 1#1), ∀ (k0_h24 : k0_cond24 i v33 v36 = 1#1), ∀ (k0_h25 : k0_cond25 v222 = 1#1), ∀ a, (k0_off74 v186) a + S1.size a ≤ S9.size a := fun i v1 v33 v36 v186 v222 k0_hw27 k0_h1 k0_h24 k0_h25 => k0_hw27.1 k0_h1 k0_h24 k0_h25
theorem k0_off75_inb : ∀ (i : grid0.Coords) (v1 : BitVec 32) (v33 : BitVec 32) (v36 : BitVec 32) (v186 : BitVec 32) (v222 : BitVec 32) (k0_hw27 : k0_chk27 i v1 v33 v36 v186 v222), ∀ (k0_h1 : k0_cond1 i v1 = 1#1), ∀ (k0_h24 : k0_cond24 i v33 v36 = 1#1), ∀ (k0_h25 : k0_cond25 v222 = 1#1), ∀ a, (k0_off75 v186) a + S1x1024x256.size a ≤ S9x1024x256.size a := fun i v1 v33 v36 v186 v222 k0_hw27 k0_h1 k0_h24 k0_h25 => k0_hw27.2.1 k0_h1 k0_h24 k0_h25
theorem k0_off76_inb : ∀ (i : grid0.Coords) (v1 : BitVec 32) (v33 : BitVec 32) (v36 : BitVec 32) (v186 : BitVec 32) (v222 : BitVec 32) (k0_hw27 : k0_chk27 i v1 v33 v36 v186 v222), ∀ (k0_h1 : k0_cond1 i v1 = 1#1), ∀ (k0_h24 : k0_cond24 i v33 v36 = 1#1), ∀ (k0_h25 : k0_cond25 v222 = 1#1), ∀ a, (k0_off76 v222) a + S1x1024x256.size a ≤ S256x1024x256.size a := fun i v1 v33 v36 v186 v222 k0_hw27 k0_h1 k0_h24 k0_h25 => k0_hw27.2.2.1 k0_h1 k0_h24 k0_h25
theorem k0_off77_inb : ∀ (i : grid0.Coords) (v1 : BitVec 32) (v33 : BitVec 32) (v36 : BitVec 32) (v186 : BitVec 32) (v222 : BitVec 32) (k0_hw27 : k0_chk27 i v1 v33 v36 v186 v222), ∀ (k0_h1 : k0_cond1 i v1 = 1#1), ∀ (k0_h24 : k0_cond24 i v33 v36 = 1#1), ∀ (k0_h25 : k0_cond25 v222 = 1#1), ∀ a, (k0_off77 v186) a + S1x256x1024.size a ≤ S9x256x1024.size a := fun i v1 v33 v36 v186 v222 k0_hw27 k0_h1 k0_h24 k0_h25 => k0_hw27.2.2.2.1 k0_h1 k0_h24 k0_h25
theorem k0_off78_inb : ∀ (i : grid0.Coords) (v1 : BitVec 32) (v33 : BitVec 32) (v36 : BitVec 32) (v186 : BitVec 32) (v222 : BitVec 32) (k0_hw27 : k0_chk27 i v1 v33 v36 v186 v222), ∀ (k0_h1 : k0_cond1 i v1 = 1#1), ∀ (k0_h24 : k0_cond24 i v33 v36 = 1#1), ∀ (k0_h25 : k0_cond25 v222 = 1#1), ∀ a, (k0_off78 v222) a + S1x256x1024.size a ≤ S256x256x1024.size a := fun i v1 v33 v36 v186 v222 k0_hw27 k0_h1 k0_h24 k0_h25 => k0_hw27.2.2.2.2 k0_h1 k0_h24 k0_h25

def k0_cond26 (i : grid0.Coords) : BitVec 1 :=
  let arg0 : BitVec 32 := BitVec.ofNat 32 (i 0).val
  let c4_i32 : BitVec 32 := 4#32
  let v0 : BitVec 32 := Scalar.muli arg0 c4_i32
  let c3_i32 : BitVec 32 := 3#32
  let v41 : BitVec 32 := Scalar.addi v0 c3_i32
  let c0_i32_16 : BitVec 32 := 0#32
  let v42 : BitVec 1 := Scalar.cmpi .eq v41 c0_i32_16
  let v43 : BitVec 32 := Scalar.extui v42
  let c0_i32_17 : BitVec 32 := 0#32
  let v44 : BitVec 1 := Scalar.cmpi .ne v43 c0_i32_17
  v44

def k0_off79 (v185 : BitVec 32) : Fin 3 → Nat :=
  let c0_i32_92 : BitVec 32 := 0#32
  let c0_i32_93 : BitVec 32 := 0#32
  ![v185.toNat, 0, 0]
def k0_cond27 (v185 : BitVec 32) : BitVec 1 :=
  let c0_i32_78 : BitVec 32 := 0#32
  let v186 : BitVec 1 := Scalar.cmpi .sge v185 c0_i32_78
  let v187 : BitVec 32 := Scalar.extui v186
  let c0_i32_79 : BitVec 32 := 0#32
  let v188 : BitVec 1 := Scalar.cmpi .ne v187 c0_i32_79
  v188

def k0_off80 (v185 : BitVec 32) : Fin 3 → Nat :=
  let c0_i32_104 : BitVec 32 := 0#32
  let c0_i32_105 : BitVec 32 := 0#32
  ![v185.toNat, 0, 0]

def k0_chk28 (i : grid0.Coords) (v1 : BitVec 32) (v185 : BitVec 32) : Prop :=
  (∀ (k0_h1 : k0_cond1 i v1 = 1#1), ∀ (k0_h26 : k0_cond26 i = 1#1), ∀ (k0_h27 : k0_cond27 v185 = 1#1), ∀ a, (k0_off79 v185) a + S1x1024x256.size a ≤ S256x1024x256.size a) ∧
  (∀ (k0_h1 : k0_cond1 i v1 = 1#1), ∀ (k0_h26 : k0_cond26 i = 1#1), ∀ (k0_h27 : k0_cond27 v185 = 1#1), ∀ a, (k0_off80 v185) a + S1x256x1024.size a ≤ S256x256x1024.size a)
theorem k0_off79_inb : ∀ (i : grid0.Coords) (v1 : BitVec 32) (v185 : BitVec 32) (k0_hw28 : k0_chk28 i v1 v185), ∀ (k0_h1 : k0_cond1 i v1 = 1#1), ∀ (k0_h26 : k0_cond26 i = 1#1), ∀ (k0_h27 : k0_cond27 v185 = 1#1), ∀ a, (k0_off79 v185) a + S1x1024x256.size a ≤ S256x1024x256.size a := fun i v1 v185 k0_hw28 k0_h1 k0_h26 k0_h27 => k0_hw28.1 k0_h1 k0_h26 k0_h27
theorem k0_off80_inb : ∀ (i : grid0.Coords) (v1 : BitVec 32) (v185 : BitVec 32) (k0_hw28 : k0_chk28 i v1 v185), ∀ (k0_h1 : k0_cond1 i v1 = 1#1), ∀ (k0_h26 : k0_cond26 i = 1#1), ∀ (k0_h27 : k0_cond27 v185 = 1#1), ∀ a, (k0_off80 v185) a + S1x256x1024.size a ≤ S256x256x1024.size a := fun i v1 v185 k0_hw28 k0_h1 k0_h26 k0_h27 => k0_hw28.2 k0_h1 k0_h26 k0_h27

def k0_off81 (v189 : BitVec 32) : Fin 3 → Nat :=
  let c0_i32_92 : BitVec 32 := 0#32
  let c0_i32_93 : BitVec 32 := 0#32
  ![v189.toNat, 0, 0]
def k0_cond28 (v189 : BitVec 32) : BitVec 1 :=
  let c0_i32_80 : BitVec 32 := 0#32
  let v190 : BitVec 1 := Scalar.cmpi .sge v189 c0_i32_80
  let v191 : BitVec 32 := Scalar.extui v190
  let c0_i32_81 : BitVec 32 := 0#32
  let v192 : BitVec 1 := Scalar.cmpi .ne v191 c0_i32_81
  v192

def k0_off82 (v189 : BitVec 32) : Fin 3 → Nat :=
  let c0_i32_104 : BitVec 32 := 0#32
  let c0_i32_105 : BitVec 32 := 0#32
  ![v189.toNat, 0, 0]

def k0_chk29 (i : grid0.Coords) (v1 : BitVec 32) (v189 : BitVec 32) : Prop :=
  (∀ (k0_h1 : k0_cond1 i v1 = 1#1), ∀ (k0_h26 : k0_cond26 i = 1#1), ∀ (k0_h28 : k0_cond28 v189 = 1#1), ∀ a, (k0_off81 v189) a + S1x1024x256.size a ≤ S256x1024x256.size a) ∧
  (∀ (k0_h1 : k0_cond1 i v1 = 1#1), ∀ (k0_h26 : k0_cond26 i = 1#1), ∀ (k0_h28 : k0_cond28 v189 = 1#1), ∀ a, (k0_off82 v189) a + S1x256x1024.size a ≤ S256x256x1024.size a)
theorem k0_off81_inb : ∀ (i : grid0.Coords) (v1 : BitVec 32) (v189 : BitVec 32) (k0_hw29 : k0_chk29 i v1 v189), ∀ (k0_h1 : k0_cond1 i v1 = 1#1), ∀ (k0_h26 : k0_cond26 i = 1#1), ∀ (k0_h28 : k0_cond28 v189 = 1#1), ∀ a, (k0_off81 v189) a + S1x1024x256.size a ≤ S256x1024x256.size a := fun i v1 v189 k0_hw29 k0_h1 k0_h26 k0_h28 => k0_hw29.1 k0_h1 k0_h26 k0_h28
theorem k0_off82_inb : ∀ (i : grid0.Coords) (v1 : BitVec 32) (v189 : BitVec 32) (k0_hw29 : k0_chk29 i v1 v189), ∀ (k0_h1 : k0_cond1 i v1 = 1#1), ∀ (k0_h26 : k0_cond26 i = 1#1), ∀ (k0_h28 : k0_cond28 v189 = 1#1), ∀ a, (k0_off82 v189) a + S1x256x1024.size a ≤ S256x256x1024.size a := fun i v1 v189 k0_hw29 k0_h1 k0_h26 k0_h28 => k0_hw29.2 k0_h1 k0_h26 k0_h28

def k0_off83 (v193 : BitVec 32) : Fin 3 → Nat :=
  let c0_i32_92 : BitVec 32 := 0#32
  let c0_i32_93 : BitVec 32 := 0#32
  ![v193.toNat, 0, 0]
def k0_cond29 (v193 : BitVec 32) : BitVec 1 :=
  let c0_i32_82 : BitVec 32 := 0#32
  let v194 : BitVec 1 := Scalar.cmpi .sge v193 c0_i32_82
  let v195 : BitVec 32 := Scalar.extui v194
  let c0_i32_83 : BitVec 32 := 0#32
  let v196 : BitVec 1 := Scalar.cmpi .ne v195 c0_i32_83
  v196

def k0_off84 (v193 : BitVec 32) : Fin 3 → Nat :=
  let c0_i32_104 : BitVec 32 := 0#32
  let c0_i32_105 : BitVec 32 := 0#32
  ![v193.toNat, 0, 0]

def k0_chk30 (i : grid0.Coords) (v1 : BitVec 32) (v193 : BitVec 32) : Prop :=
  (∀ (k0_h1 : k0_cond1 i v1 = 1#1), ∀ (k0_h26 : k0_cond26 i = 1#1), ∀ (k0_h29 : k0_cond29 v193 = 1#1), ∀ a, (k0_off83 v193) a + S1x1024x256.size a ≤ S256x1024x256.size a) ∧
  (∀ (k0_h1 : k0_cond1 i v1 = 1#1), ∀ (k0_h26 : k0_cond26 i = 1#1), ∀ (k0_h29 : k0_cond29 v193 = 1#1), ∀ a, (k0_off84 v193) a + S1x256x1024.size a ≤ S256x256x1024.size a)
theorem k0_off83_inb : ∀ (i : grid0.Coords) (v1 : BitVec 32) (v193 : BitVec 32) (k0_hw30 : k0_chk30 i v1 v193), ∀ (k0_h1 : k0_cond1 i v1 = 1#1), ∀ (k0_h26 : k0_cond26 i = 1#1), ∀ (k0_h29 : k0_cond29 v193 = 1#1), ∀ a, (k0_off83 v193) a + S1x1024x256.size a ≤ S256x1024x256.size a := fun i v1 v193 k0_hw30 k0_h1 k0_h26 k0_h29 => k0_hw30.1 k0_h1 k0_h26 k0_h29
theorem k0_off84_inb : ∀ (i : grid0.Coords) (v1 : BitVec 32) (v193 : BitVec 32) (k0_hw30 : k0_chk30 i v1 v193), ∀ (k0_h1 : k0_cond1 i v1 = 1#1), ∀ (k0_h26 : k0_cond26 i = 1#1), ∀ (k0_h29 : k0_cond29 v193 = 1#1), ∀ a, (k0_off84 v193) a + S1x256x1024.size a ≤ S256x256x1024.size a := fun i v1 v193 k0_hw30 k0_h1 k0_h26 k0_h29 => k0_hw30.2 k0_h1 k0_h26 k0_h29

def k0_off85 (v197 : BitVec 32) : Fin 3 → Nat :=
  let c0_i32_92 : BitVec 32 := 0#32
  let c0_i32_93 : BitVec 32 := 0#32
  ![v197.toNat, 0, 0]
def k0_cond30 (v197 : BitVec 32) : BitVec 1 :=
  let c0_i32_84 : BitVec 32 := 0#32
  let v198 : BitVec 1 := Scalar.cmpi .sge v197 c0_i32_84
  let v199 : BitVec 32 := Scalar.extui v198
  let c0_i32_85 : BitVec 32 := 0#32
  let v200 : BitVec 1 := Scalar.cmpi .ne v199 c0_i32_85
  v200

def k0_off86 (v197 : BitVec 32) : Fin 3 → Nat :=
  let c0_i32_104 : BitVec 32 := 0#32
  let c0_i32_105 : BitVec 32 := 0#32
  ![v197.toNat, 0, 0]

def k0_chk31 (i : grid0.Coords) (v1 : BitVec 32) (v197 : BitVec 32) : Prop :=
  (∀ (k0_h1 : k0_cond1 i v1 = 1#1), ∀ (k0_h26 : k0_cond26 i = 1#1), ∀ (k0_h30 : k0_cond30 v197 = 1#1), ∀ a, (k0_off85 v197) a + S1x1024x256.size a ≤ S256x1024x256.size a) ∧
  (∀ (k0_h1 : k0_cond1 i v1 = 1#1), ∀ (k0_h26 : k0_cond26 i = 1#1), ∀ (k0_h30 : k0_cond30 v197 = 1#1), ∀ a, (k0_off86 v197) a + S1x256x1024.size a ≤ S256x256x1024.size a)
theorem k0_off85_inb : ∀ (i : grid0.Coords) (v1 : BitVec 32) (v197 : BitVec 32) (k0_hw31 : k0_chk31 i v1 v197), ∀ (k0_h1 : k0_cond1 i v1 = 1#1), ∀ (k0_h26 : k0_cond26 i = 1#1), ∀ (k0_h30 : k0_cond30 v197 = 1#1), ∀ a, (k0_off85 v197) a + S1x1024x256.size a ≤ S256x1024x256.size a := fun i v1 v197 k0_hw31 k0_h1 k0_h26 k0_h30 => k0_hw31.1 k0_h1 k0_h26 k0_h30
theorem k0_off86_inb : ∀ (i : grid0.Coords) (v1 : BitVec 32) (v197 : BitVec 32) (k0_hw31 : k0_chk31 i v1 v197), ∀ (k0_h1 : k0_cond1 i v1 = 1#1), ∀ (k0_h26 : k0_cond26 i = 1#1), ∀ (k0_h30 : k0_cond30 v197 = 1#1), ∀ a, (k0_off86 v197) a + S1x256x1024.size a ≤ S256x256x1024.size a := fun i v1 v197 k0_hw31 k0_h1 k0_h26 k0_h30 => k0_hw31.2 k0_h1 k0_h26 k0_h30

def k0_off87 (v201 : BitVec 32) : Fin 3 → Nat :=
  let c0_i32_92 : BitVec 32 := 0#32
  let c0_i32_93 : BitVec 32 := 0#32
  ![v201.toNat, 0, 0]
def k0_cond31 (v201 : BitVec 32) : BitVec 1 :=
  let c0_i32_86 : BitVec 32 := 0#32
  let v202 : BitVec 1 := Scalar.cmpi .sge v201 c0_i32_86
  let v203 : BitVec 32 := Scalar.extui v202
  let c0_i32_87 : BitVec 32 := 0#32
  let v204 : BitVec 1 := Scalar.cmpi .ne v203 c0_i32_87
  v204

def k0_off88 (v201 : BitVec 32) : Fin 3 → Nat :=
  let c0_i32_104 : BitVec 32 := 0#32
  let c0_i32_105 : BitVec 32 := 0#32
  ![v201.toNat, 0, 0]

def k0_chk32 (i : grid0.Coords) (v1 : BitVec 32) (v201 : BitVec 32) : Prop :=
  (∀ (k0_h1 : k0_cond1 i v1 = 1#1), ∀ (k0_h26 : k0_cond26 i = 1#1), ∀ (k0_h31 : k0_cond31 v201 = 1#1), ∀ a, (k0_off87 v201) a + S1x1024x256.size a ≤ S256x1024x256.size a) ∧
  (∀ (k0_h1 : k0_cond1 i v1 = 1#1), ∀ (k0_h26 : k0_cond26 i = 1#1), ∀ (k0_h31 : k0_cond31 v201 = 1#1), ∀ a, (k0_off88 v201) a + S1x256x1024.size a ≤ S256x256x1024.size a)
theorem k0_off87_inb : ∀ (i : grid0.Coords) (v1 : BitVec 32) (v201 : BitVec 32) (k0_hw32 : k0_chk32 i v1 v201), ∀ (k0_h1 : k0_cond1 i v1 = 1#1), ∀ (k0_h26 : k0_cond26 i = 1#1), ∀ (k0_h31 : k0_cond31 v201 = 1#1), ∀ a, (k0_off87 v201) a + S1x1024x256.size a ≤ S256x1024x256.size a := fun i v1 v201 k0_hw32 k0_h1 k0_h26 k0_h31 => k0_hw32.1 k0_h1 k0_h26 k0_h31
theorem k0_off88_inb : ∀ (i : grid0.Coords) (v1 : BitVec 32) (v201 : BitVec 32) (k0_hw32 : k0_chk32 i v1 v201), ∀ (k0_h1 : k0_cond1 i v1 = 1#1), ∀ (k0_h26 : k0_cond26 i = 1#1), ∀ (k0_h31 : k0_cond31 v201 = 1#1), ∀ a, (k0_off88 v201) a + S1x256x1024.size a ≤ S256x256x1024.size a := fun i v1 v201 k0_hw32 k0_h1 k0_h26 k0_h31 => k0_hw32.2 k0_h1 k0_h26 k0_h31

def k0_off89 (i : grid0.Coords) : Fin 1 → Nat :=
  let arg0 : BitVec 32 := BitVec.ofNat 32 (i 0).val
  let c4_i32 : BitVec 32 := 4#32
  let v0 : BitVec 32 := Scalar.muli arg0 c4_i32
  let c3_i32 : BitVec 32 := 3#32
  let v41 : BitVec 32 := Scalar.addi v0 c3_i32
  let v47 : Index := Scalar.indexCast v41
  ![v47.toNat]
def k0_off90 (i : grid0.Coords) : Fin 1 → Nat :=
  let arg0 : BitVec 32 := BitVec.ofNat 32 (i 0).val
  let c4_i32 : BitVec 32 := 4#32
  let v0 : BitVec 32 := Scalar.muli arg0 c4_i32
  let c3_i32 : BitVec 32 := 3#32
  let v41 : BitVec 32 := Scalar.addi v0 c3_i32
  let v185 : Index := Scalar.indexCast v41
  ![v185.toNat]
def k0_off91 (v186 : BitVec 32) : Fin 1 → Nat :=
  ![v186.toNat]
def k0_cond32 (i : grid0.Coords) (v45 : BitVec 32) (v48 : BitVec 32) : BitVec 1 :=
  let arg0 : BitVec 32 := BitVec.ofNat 32 (i 0).val
  let c4_i32 : BitVec 32 := 4#32
  let v0 : BitVec 32 := Scalar.muli arg0 c4_i32
  let c3_i32 : BitVec 32 := 3#32
  let v41 : BitVec 32 := Scalar.addi v0 c3_i32
  let v46 : BitVec 1 := Scalar.cmpi .slt v41 v45
  let c1_i32_19 : BitVec 32 := 1#32
  let v49 : BitVec 1 := Scalar.cmpi .eq v48 c1_i32_19
  let v50 : BitVec 1 := Scalar.andi v46 v49
  let v51 : BitVec 32 := Scalar.extui v50
  let c0_i32_20 : BitVec 32 := 0#32
  let v52 : BitVec 1 := Scalar.cmpi .ne v51 c0_i32_20
  v52

def k0_off92 (v186 : BitVec 32) : Fin 3 → Nat :=
  let c0_i32_77 : BitVec 32 := 0#32
  let c0_i32_78 : BitVec 32 := 0#32
  ![v186.toNat, 0, 0]
def k0_off93 (v188 : BitVec 32) : Fin 3 → Nat :=
  let c0_i32_79 : BitVec 32 := 0#32
  let c0_i32_80 : BitVec 32 := 0#32
  ![v188.toNat, 0, 0]

def k0_off94 (v186 : BitVec 32) : Fin 1 → Nat :=
  ![v186.toNat]
def k0_off95 (v186 : BitVec 32) : Fin 3 → Nat :=
  let c0_i32_81 : BitVec 32 := 0#32
  let c0_i32_82 : BitVec 32 := 0#32
  ![v186.toNat, 0, 0]
def k0_off96 (v186 : BitVec 32) : Fin 3 → Nat :=
  let c0_i32_85 : BitVec 32 := 0#32
  let c0_i32_86 : BitVec 32 := 0#32
  ![v186.toNat, 0, 0]

def k0_chk33 (i : grid0.Coords) (v1 : BitVec 32) (v45 : BitVec 32) (v48 : BitVec 32) (v186 : BitVec 32) : Prop :=
  (∀ (k0_h1 : k0_cond1 i v1 = 1#1), ∀ (k0_h32 : k0_cond32 i v45 v48 = 1#1), ∀ a, (k0_off91 v186) a + S1.size a ≤ S9.size a) ∧
  (∀ (k0_h1 : k0_cond1 i v1 = 1#1), ∀ (k0_h32 : k0_cond32 i v45 v48 = 1#1), ∀ a, (k0_off92 v186) a + S1x1024x256.size a ≤ S9x1024x256.size a) ∧
  (∀ (k0_h1 : k0_cond1 i v1 = 1#1), ∀ (k0_h32 : k0_cond32 i v45 v48 = 1#1), ∀ a, (k0_off94 v186) a + S1.size a ≤ S9.size a) ∧
  (∀ (k0_h1 : k0_cond1 i v1 = 1#1), ∀ (k0_h32 : k0_cond32 i v45 v48 = 1#1), ∀ a, (k0_off95 v186) a + S1x1024x256.size a ≤ S9x1024x256.size a) ∧
  (∀ (k0_h1 : k0_cond1 i v1 = 1#1), ∀ (k0_h32 : k0_cond32 i v45 v48 = 1#1), ∀ a, (k0_off96 v186) a + S1x256x1024.size a ≤ S9x256x1024.size a)
theorem k0_off91_inb : ∀ (i : grid0.Coords) (v1 : BitVec 32) (v45 : BitVec 32) (v48 : BitVec 32) (v186 : BitVec 32) (k0_hw33 : k0_chk33 i v1 v45 v48 v186), ∀ (k0_h1 : k0_cond1 i v1 = 1#1), ∀ (k0_h32 : k0_cond32 i v45 v48 = 1#1), ∀ a, (k0_off91 v186) a + S1.size a ≤ S9.size a := fun i v1 v45 v48 v186 k0_hw33 k0_h1 k0_h32 => k0_hw33.1 k0_h1 k0_h32
theorem k0_off92_inb : ∀ (i : grid0.Coords) (v1 : BitVec 32) (v45 : BitVec 32) (v48 : BitVec 32) (v186 : BitVec 32) (k0_hw33 : k0_chk33 i v1 v45 v48 v186), ∀ (k0_h1 : k0_cond1 i v1 = 1#1), ∀ (k0_h32 : k0_cond32 i v45 v48 = 1#1), ∀ a, (k0_off92 v186) a + S1x1024x256.size a ≤ S9x1024x256.size a := fun i v1 v45 v48 v186 k0_hw33 k0_h1 k0_h32 => k0_hw33.2.1 k0_h1 k0_h32
theorem k0_off94_inb : ∀ (i : grid0.Coords) (v1 : BitVec 32) (v45 : BitVec 32) (v48 : BitVec 32) (v186 : BitVec 32) (k0_hw33 : k0_chk33 i v1 v45 v48 v186), ∀ (k0_h1 : k0_cond1 i v1 = 1#1), ∀ (k0_h32 : k0_cond32 i v45 v48 = 1#1), ∀ a, (k0_off94 v186) a + S1.size a ≤ S9.size a := fun i v1 v45 v48 v186 k0_hw33 k0_h1 k0_h32 => k0_hw33.2.2.1 k0_h1 k0_h32
theorem k0_off95_inb : ∀ (i : grid0.Coords) (v1 : BitVec 32) (v45 : BitVec 32) (v48 : BitVec 32) (v186 : BitVec 32) (k0_hw33 : k0_chk33 i v1 v45 v48 v186), ∀ (k0_h1 : k0_cond1 i v1 = 1#1), ∀ (k0_h32 : k0_cond32 i v45 v48 = 1#1), ∀ a, (k0_off95 v186) a + S1x1024x256.size a ≤ S9x1024x256.size a := fun i v1 v45 v48 v186 k0_hw33 k0_h1 k0_h32 => k0_hw33.2.2.2.1 k0_h1 k0_h32
theorem k0_off96_inb : ∀ (i : grid0.Coords) (v1 : BitVec 32) (v45 : BitVec 32) (v48 : BitVec 32) (v186 : BitVec 32) (k0_hw33 : k0_chk33 i v1 v45 v48 v186), ∀ (k0_h1 : k0_cond1 i v1 = 1#1), ∀ (k0_h32 : k0_cond32 i v45 v48 = 1#1), ∀ a, (k0_off96 v186) a + S1x256x1024.size a ≤ S9x256x1024.size a := fun i v1 v45 v48 v186 k0_hw33 k0_h1 k0_h32 => k0_hw33.2.2.2.2 k0_h1 k0_h32

def k0_off97 (v188 : BitVec 32) : Fin 3 → Nat :=
  let c0_i32_87 : BitVec 32 := 0#32
  let c0_i32_88 : BitVec 32 := 0#32
  ![v188.toNat, 0, 0]

def k0_chk34 (i : grid0.Coords) (v1 : BitVec 32) (v45 : BitVec 32) (v48 : BitVec 32) (v188 : BitVec 32) : Prop :=
  (∀ (k0_h1 : k0_cond1 i v1 = 1#1), ∀ (k0_h32 : k0_cond32 i v45 v48 = 1#1), ∀ a, (k0_off93 v188) a + S1x1024x256.size a ≤ S256x1024x256.size a) ∧
  (∀ (k0_h1 : k0_cond1 i v1 = 1#1), ∀ (k0_h32 : k0_cond32 i v45 v48 = 1#1), ∀ a, (k0_off97 v188) a + S1x256x1024.size a ≤ S256x256x1024.size a)
theorem k0_off93_inb : ∀ (i : grid0.Coords) (v1 : BitVec 32) (v45 : BitVec 32) (v48 : BitVec 32) (v188 : BitVec 32) (k0_hw34 : k0_chk34 i v1 v45 v48 v188), ∀ (k0_h1 : k0_cond1 i v1 = 1#1), ∀ (k0_h32 : k0_cond32 i v45 v48 = 1#1), ∀ a, (k0_off93 v188) a + S1x1024x256.size a ≤ S256x1024x256.size a := fun i v1 v45 v48 v188 k0_hw34 k0_h1 k0_h32 => k0_hw34.1 k0_h1 k0_h32
theorem k0_off97_inb : ∀ (i : grid0.Coords) (v1 : BitVec 32) (v45 : BitVec 32) (v48 : BitVec 32) (v188 : BitVec 32) (k0_hw34 : k0_chk34 i v1 v45 v48 v188), ∀ (k0_h1 : k0_cond1 i v1 = 1#1), ∀ (k0_h32 : k0_cond32 i v45 v48 = 1#1), ∀ a, (k0_off97 v188) a + S1x256x1024.size a ≤ S256x256x1024.size a := fun i v1 v45 v48 v188 k0_hw34 k0_h1 k0_h32 => k0_hw34.2 k0_h1 k0_h32

def k0_off98 (i : grid0.Coords) : Fin 1 → Nat :=
  let arg0 : BitVec 32 := BitVec.ofNat 32 (i 0).val
  let c4_i32 : BitVec 32 := 4#32
  let v0 : BitVec 32 := Scalar.muli arg0 c4_i32
  let c3_i32 : BitVec 32 := 3#32
  let v41 : BitVec 32 := Scalar.addi v0 c3_i32
  let v207 : Index := Scalar.indexCast v41
  ![v207.toNat]
def k0_off99 (v208 : BitVec 32) : Fin 1 → Nat :=
  let c5_i32 : BitVec 32 := 5#32
  let v209 : BitVec 32 := Scalar.addi v208 c5_i32
  let v221 : Index := Scalar.indexCast v209
  ![v221.toNat]

def k0_chk35 (i : grid0.Coords) (v1 : BitVec 32) (v45 : BitVec 32) (v48 : BitVec 32) (v208 : BitVec 32) : Prop :=
  (∀ (k0_h1 : k0_cond1 i v1 = 1#1), ∀ (k0_h32 : k0_cond32 i v45 v48 = 1#1), ∀ a, (k0_off99 v208) a + S1.size a ≤ S777.size a)
theorem k0_off99_inb : ∀ (i : grid0.Coords) (v1 : BitVec 32) (v45 : BitVec 32) (v48 : BitVec 32) (v208 : BitVec 32) (k0_hw35 : k0_chk35 i v1 v45 v48 v208), ∀ (k0_h1 : k0_cond1 i v1 = 1#1), ∀ (k0_h32 : k0_cond32 i v45 v48 = 1#1), ∀ a, (k0_off99 v208) a + S1.size a ≤ S777.size a := fun i v1 v45 v48 v208 k0_hw35 k0_h1 k0_h32 => k0_hw35 k0_h1 k0_h32

def k0_off100 (v186 : BitVec 32) : Fin 1 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  ![v220.toNat]
def k0_cond33 (v222 : BitVec 32) : BitVec 1 :=
  let c0_i32_95 : BitVec 32 := 0#32
  let v223 : BitVec 1 := Scalar.cmpi .sge v222 c0_i32_95
  let v224 : BitVec 32 := Scalar.extui v223
  let c0_i32_96 : BitVec 32 := 0#32
  let v225 : BitVec 1 := Scalar.cmpi .ne v224 c0_i32_96
  v225

def k0_off101 (v186 : BitVec 32) : Fin 3 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  let c0_i32_97 : BitVec 32 := 0#32
  let c0_i32_98 : BitVec 32 := 0#32
  ![v220.toNat, 0, 0]
def k0_off102 (v222 : BitVec 32) : Fin 3 → Nat :=
  let c0_i32_99 : BitVec 32 := 0#32
  let c0_i32_100 : BitVec 32 := 0#32
  ![v222.toNat, 0, 0]
def k0_off103 (v186 : BitVec 32) : Fin 3 → Nat :=
  let c5_i32_89 : BitVec 32 := 5#32
  let v210 : BitVec 32 := Scalar.addi v186 c5_i32_89
  let c9_i32 : BitVec 32 := 9#32
  let c0_i32_90 : BitVec 32 := 0#32
  let v211 : BitVec 1 := Scalar.cmpi .eq c9_i32 c0_i32_90
  let c1_i32_91 : BitVec 32 := 1#32
  let v212 : BitVec 32 := Scalar.select v211 c1_i32_91 c9_i32
  let v213 : BitVec 32 := Scalar.remsi v210 v212
  let c0_i32_93 : BitVec 32 := 0#32
  let v215 : BitVec 1 := Scalar.cmpi .slt v213 c0_i32_93
  let c0_i32_94 : BitVec 32 := 0#32
  let v216 : BitVec 1 := Scalar.cmpi .slt v212 c0_i32_94
  let v217 : BitVec 1 := Scalar.xori v215 v216
  let c0_i32_92 : BitVec 32 := 0#32
  let v214 : BitVec 1 := Scalar.cmpi .ne v213 c0_i32_92
  let v218 : BitVec 1 := Scalar.andi v217 v214
  let v219 : BitVec 32 := Scalar.addi v213 v212
  let v220 : BitVec 32 := Scalar.select v218 v219 v213
  let c0_i32_105 : BitVec 32 := 0#32
  let c0_i32_106 : BitVec 32 := 0#32
  ![v220.toNat, 0, 0]
def k0_off104 (v222 : BitVec 32) : Fin 3 → Nat :=
  let c0_i32_107 : BitVec 32 := 0#32
  let c0_i32_108 : BitVec 32 := 0#32
  ![v222.toNat, 0, 0]

def k0_chk36 (i : grid0.Coords) (v1 : BitVec 32) (v45 : BitVec 32) (v48 : BitVec 32) (v186 : BitVec 32) (v222 : BitVec 32) : Prop :=
  (∀ (k0_h1 : k0_cond1 i v1 = 1#1), ∀ (k0_h32 : k0_cond32 i v45 v48 = 1#1), ∀ (k0_h33 : k0_cond33 v222 = 1#1), ∀ a, (k0_off100 v186) a + S1.size a ≤ S9.size a) ∧
  (∀ (k0_h1 : k0_cond1 i v1 = 1#1), ∀ (k0_h32 : k0_cond32 i v45 v48 = 1#1), ∀ (k0_h33 : k0_cond33 v222 = 1#1), ∀ a, (k0_off101 v186) a + S1x1024x256.size a ≤ S9x1024x256.size a) ∧
  (∀ (k0_h1 : k0_cond1 i v1 = 1#1), ∀ (k0_h32 : k0_cond32 i v45 v48 = 1#1), ∀ (k0_h33 : k0_cond33 v222 = 1#1), ∀ a, (k0_off102 v222) a + S1x1024x256.size a ≤ S256x1024x256.size a) ∧
  (∀ (k0_h1 : k0_cond1 i v1 = 1#1), ∀ (k0_h32 : k0_cond32 i v45 v48 = 1#1), ∀ (k0_h33 : k0_cond33 v222 = 1#1), ∀ a, (k0_off103 v186) a + S1x256x1024.size a ≤ S9x256x1024.size a) ∧
  (∀ (k0_h1 : k0_cond1 i v1 = 1#1), ∀ (k0_h32 : k0_cond32 i v45 v48 = 1#1), ∀ (k0_h33 : k0_cond33 v222 = 1#1), ∀ a, (k0_off104 v222) a + S1x256x1024.size a ≤ S256x256x1024.size a)
theorem k0_off100_inb : ∀ (i : grid0.Coords) (v1 : BitVec 32) (v45 : BitVec 32) (v48 : BitVec 32) (v186 : BitVec 32) (v222 : BitVec 32) (k0_hw36 : k0_chk36 i v1 v45 v48 v186 v222), ∀ (k0_h1 : k0_cond1 i v1 = 1#1), ∀ (k0_h32 : k0_cond32 i v45 v48 = 1#1), ∀ (k0_h33 : k0_cond33 v222 = 1#1), ∀ a, (k0_off100 v186) a + S1.size a ≤ S9.size a := fun i v1 v45 v48 v186 v222 k0_hw36 k0_h1 k0_h32 k0_h33 => k0_hw36.1 k0_h1 k0_h32 k0_h33
theorem k0_off101_inb : ∀ (i : grid0.Coords) (v1 : BitVec 32) (v45 : BitVec 32) (v48 : BitVec 32) (v186 : BitVec 32) (v222 : BitVec 32) (k0_hw36 : k0_chk36 i v1 v45 v48 v186 v222), ∀ (k0_h1 : k0_cond1 i v1 = 1#1), ∀ (k0_h32 : k0_cond32 i v45 v48 = 1#1), ∀ (k0_h33 : k0_cond33 v222 = 1#1), ∀ a, (k0_off101 v186) a + S1x1024x256.size a ≤ S9x1024x256.size a := fun i v1 v45 v48 v186 v222 k0_hw36 k0_h1 k0_h32 k0_h33 => k0_hw36.2.1 k0_h1 k0_h32 k0_h33
theorem k0_off102_inb : ∀ (i : grid0.Coords) (v1 : BitVec 32) (v45 : BitVec 32) (v48 : BitVec 32) (v186 : BitVec 32) (v222 : BitVec 32) (k0_hw36 : k0_chk36 i v1 v45 v48 v186 v222), ∀ (k0_h1 : k0_cond1 i v1 = 1#1), ∀ (k0_h32 : k0_cond32 i v45 v48 = 1#1), ∀ (k0_h33 : k0_cond33 v222 = 1#1), ∀ a, (k0_off102 v222) a + S1x1024x256.size a ≤ S256x1024x256.size a := fun i v1 v45 v48 v186 v222 k0_hw36 k0_h1 k0_h32 k0_h33 => k0_hw36.2.2.1 k0_h1 k0_h32 k0_h33
theorem k0_off103_inb : ∀ (i : grid0.Coords) (v1 : BitVec 32) (v45 : BitVec 32) (v48 : BitVec 32) (v186 : BitVec 32) (v222 : BitVec 32) (k0_hw36 : k0_chk36 i v1 v45 v48 v186 v222), ∀ (k0_h1 : k0_cond1 i v1 = 1#1), ∀ (k0_h32 : k0_cond32 i v45 v48 = 1#1), ∀ (k0_h33 : k0_cond33 v222 = 1#1), ∀ a, (k0_off103 v186) a + S1x256x1024.size a ≤ S9x256x1024.size a := fun i v1 v45 v48 v186 v222 k0_hw36 k0_h1 k0_h32 k0_h33 => k0_hw36.2.2.2.1 k0_h1 k0_h32 k0_h33
theorem k0_off104_inb : ∀ (i : grid0.Coords) (v1 : BitVec 32) (v45 : BitVec 32) (v48 : BitVec 32) (v186 : BitVec 32) (v222 : BitVec 32) (k0_hw36 : k0_chk36 i v1 v45 v48 v186 v222), ∀ (k0_h1 : k0_cond1 i v1 = 1#1), ∀ (k0_h32 : k0_cond32 i v45 v48 = 1#1), ∀ (k0_h33 : k0_cond33 v222 = 1#1), ∀ a, (k0_off104 v222) a + S1x256x1024.size a ≤ S256x256x1024.size a := fun i v1 v45 v48 v186 v222 k0_hw36 k0_h1 k0_h32 k0_h33 => k0_hw36.2.2.2.2 k0_h1 k0_h32 k0_h33

def k0_off105 (i : grid0.Coords) : Fin 1 → Nat :=
  let arg0 : BitVec 32 := BitVec.ofNat 32 (i 0).val
  let c4_i32 : BitVec 32 := 4#32
  let v0 : BitVec 32 := Scalar.muli arg0 c4_i32
  let c0_i32_21 : BitVec 32 := 0#32
  let v53 : BitVec 32 := Scalar.addi v0 c0_i32_21
  let v54 : Index := Scalar.indexCast v53
  ![v54.toNat]
def k0_off106 (v55 : BitVec 32) : Fin 3 → Nat :=
  let v69 : Index := Scalar.indexCast v55
  let c0_24 : Index := 0#32
  let c0_25 : Index := 0#32
  ![v69.toNat, 0, 0]

def k0_off107 (v55 : BitVec 32) : Fin 3 → Nat :=
  let v80 : Index := Scalar.indexCast v55
  let c0_30 : Index := 0#32
  let c0_31 : Index := 0#32
  ![v80.toNat, 0, 0]

def k0_chk37 (i : grid0.Coords) (v1 : BitVec 32) (v55 : BitVec 32) : Prop :=
  (∀ (k0_h1 : k0_cond1 i v1 = 1#1), ∀ a, (k0_off106 v55) a + S1x1024x256.size a ≤ S9x1024x256.size a) ∧
  (∀ (k0_h1 : k0_cond1 i v1 = 1#1), ∀ a, (k0_off107 v55) a + S1x256x1024.size a ≤ S9x256x1024.size a)
theorem k0_off106_inb : ∀ (i : grid0.Coords) (v1 : BitVec 32) (v55 : BitVec 32) (k0_hw37 : k0_chk37 i v1 v55), ∀ (k0_h1 : k0_cond1 i v1 = 1#1), ∀ a, (k0_off106 v55) a + S1x1024x256.size a ≤ S9x1024x256.size a := fun i v1 v55 k0_hw37 k0_h1 => k0_hw37.1 k0_h1
theorem k0_off107_inb : ∀ (i : grid0.Coords) (v1 : BitVec 32) (v55 : BitVec 32) (k0_hw37 : k0_chk37 i v1 v55), ∀ (k0_h1 : k0_cond1 i v1 = 1#1), ∀ a, (k0_off107 v55) a + S1x256x1024.size a ≤ S9x256x1024.size a := fun i v1 v55 k0_hw37 k0_h1 => k0_hw37.2 k0_h1

def k0_off108 (i : grid0.Coords) : Fin 1 → Nat :=
  let arg0 : BitVec 32 := BitVec.ofNat 32 (i 0).val
  let c4_i32 : BitVec 32 := 4#32
  let v0 : BitVec 32 := Scalar.muli arg0 c4_i32
  let c1_i32_35 : BitVec 32 := 1#32
  let v86 : BitVec 32 := Scalar.addi v0 c1_i32_35
  let v87 : Index := Scalar.indexCast v86
  ![v87.toNat]
def k0_off109 (v88 : BitVec 32) : Fin 3 → Nat :=
  let v102 : Index := Scalar.indexCast v88
  let c0_38 : Index := 0#32
  let c0_39 : Index := 0#32
  ![v102.toNat, 0, 0]

def k0_off110 (v88 : BitVec 32) : Fin 3 → Nat :=
  let v113 : Index := Scalar.indexCast v88
  let c0_44 : Index := 0#32
  let c0_45 : Index := 0#32
  ![v113.toNat, 0, 0]

def k0_chk38 (i : grid0.Coords) (v1 : BitVec 32) (v88 : BitVec 32) : Prop :=
  (∀ (k0_h1 : k0_cond1 i v1 = 1#1), ∀ a, (k0_off109 v88) a + S1x1024x256.size a ≤ S9x1024x256.size a) ∧
  (∀ (k0_h1 : k0_cond1 i v1 = 1#1), ∀ a, (k0_off110 v88) a + S1x256x1024.size a ≤ S9x256x1024.size a)
theorem k0_off109_inb : ∀ (i : grid0.Coords) (v1 : BitVec 32) (v88 : BitVec 32) (k0_hw38 : k0_chk38 i v1 v88), ∀ (k0_h1 : k0_cond1 i v1 = 1#1), ∀ a, (k0_off109 v88) a + S1x1024x256.size a ≤ S9x1024x256.size a := fun i v1 v88 k0_hw38 k0_h1 => k0_hw38.1 k0_h1
theorem k0_off110_inb : ∀ (i : grid0.Coords) (v1 : BitVec 32) (v88 : BitVec 32) (k0_hw38 : k0_chk38 i v1 v88), ∀ (k0_h1 : k0_cond1 i v1 = 1#1), ∀ a, (k0_off110 v88) a + S1x256x1024.size a ≤ S9x256x1024.size a := fun i v1 v88 k0_hw38 k0_h1 => k0_hw38.2 k0_h1

def k0_off111 (i : grid0.Coords) : Fin 1 → Nat :=
  let arg0 : BitVec 32 := BitVec.ofNat 32 (i 0).val
  let c4_i32 : BitVec 32 := 4#32
  let v0 : BitVec 32 := Scalar.muli arg0 c4_i32
  let c2_i32_49 : BitVec 32 := 2#32
  let v119 : BitVec 32 := Scalar.addi v0 c2_i32_49
  let v120 : Index := Scalar.indexCast v119
  ![v120.toNat]
def k0_off112 (v121 : BitVec 32) : Fin 3 → Nat :=
  let v135 : Index := Scalar.indexCast v121
  let c0_52 : Index := 0#32
  let c0_53 : Index := 0#32
  ![v135.toNat, 0, 0]

def k0_off113 (v121 : BitVec 32) : Fin 3 → Nat :=
  let v146 : Index := Scalar.indexCast v121
  let c0_58 : Index := 0#32
  let c0_59 : Index := 0#32
  ![v146.toNat, 0, 0]

def k0_chk39 (i : grid0.Coords) (v1 : BitVec 32) (v121 : BitVec 32) : Prop :=
  (∀ (k0_h1 : k0_cond1 i v1 = 1#1), ∀ a, (k0_off112 v121) a + S1x1024x256.size a ≤ S9x1024x256.size a) ∧
  (∀ (k0_h1 : k0_cond1 i v1 = 1#1), ∀ a, (k0_off113 v121) a + S1x256x1024.size a ≤ S9x256x1024.size a)
theorem k0_off112_inb : ∀ (i : grid0.Coords) (v1 : BitVec 32) (v121 : BitVec 32) (k0_hw39 : k0_chk39 i v1 v121), ∀ (k0_h1 : k0_cond1 i v1 = 1#1), ∀ a, (k0_off112 v121) a + S1x1024x256.size a ≤ S9x1024x256.size a := fun i v1 v121 k0_hw39 k0_h1 => k0_hw39.1 k0_h1
theorem k0_off113_inb : ∀ (i : grid0.Coords) (v1 : BitVec 32) (v121 : BitVec 32) (k0_hw39 : k0_chk39 i v1 v121), ∀ (k0_h1 : k0_cond1 i v1 = 1#1), ∀ a, (k0_off113 v121) a + S1x256x1024.size a ≤ S9x256x1024.size a := fun i v1 v121 k0_hw39 k0_h1 => k0_hw39.2 k0_h1

def k0_off114 (i : grid0.Coords) : Fin 1 → Nat :=
  let arg0 : BitVec 32 := BitVec.ofNat 32 (i 0).val
  let c4_i32 : BitVec 32 := 4#32
  let v0 : BitVec 32 := Scalar.muli arg0 c4_i32
  let c3_i32_63 : BitVec 32 := 3#32
  let v152 : BitVec 32 := Scalar.addi v0 c3_i32_63
  let v153 : Index := Scalar.indexCast v152
  ![v153.toNat]
def k0_off115 (v154 : BitVec 32) : Fin 3 → Nat :=
  let v168 : Index := Scalar.indexCast v154
  let c0_66 : Index := 0#32
  let c0_67 : Index := 0#32
  ![v168.toNat, 0, 0]

def k0_off116 (v154 : BitVec 32) : Fin 3 → Nat :=
  let v179 : Index := Scalar.indexCast v154
  let c0_72 : Index := 0#32
  let c0_73 : Index := 0#32
  ![v179.toNat, 0, 0]

def k0_chk40 (i : grid0.Coords) (v1 : BitVec 32) (v154 : BitVec 32) : Prop :=
  (∀ (k0_h1 : k0_cond1 i v1 = 1#1), ∀ a, (k0_off115 v154) a + S1x1024x256.size a ≤ S9x1024x256.size a) ∧
  (∀ (k0_h1 : k0_cond1 i v1 = 1#1), ∀ a, (k0_off116 v154) a + S1x256x1024.size a ≤ S9x256x1024.size a)
theorem k0_off115_inb : ∀ (i : grid0.Coords) (v1 : BitVec 32) (v154 : BitVec 32) (k0_hw40 : k0_chk40 i v1 v154), ∀ (k0_h1 : k0_cond1 i v1 = 1#1), ∀ a, (k0_off115 v154) a + S1x1024x256.size a ≤ S9x1024x256.size a := fun i v1 v154 k0_hw40 k0_h1 => k0_hw40.1 k0_h1
theorem k0_off116_inb : ∀ (i : grid0.Coords) (v1 : BitVec 32) (v154 : BitVec 32) (k0_hw40 : k0_chk40 i v1 v154), ∀ (k0_h1 : k0_cond1 i v1 = 1#1), ∀ a, (k0_off116 v154) a + S1x256x1024.size a ≤ S9x256x1024.size a := fun i v1 v154 k0_hw40 k0_h1 => k0_hw40.2 k0_h1

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.minsi arg0 v18
  let c0_i32_5 : BitVec 32 := 0#32
  let c0_i32_6 : BitVec 32 := 0#32
  ![v19.toNat, c0_i32_5.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 2 (Rect.unit (s := S1) ![0] S1.size inb_S1_S1_0) numel1_S1
  let c1_i32 : BitVec 32 := 1#32
  let v1 : BitVec 32 := Scalar.subi v0 c1_i32
  let c4_i32 : BitVec 32 := 4#32
  let v2 : BitVec 32 := Scalar.divsi v1 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let v19 : BitVec 32 := Scalar.minsi arg0 v18
  let c0_i32_5 : BitVec 32 := 0#32
  let c0_i32_6 : BitVec 32 := 0#32
  ![v19.toNat, c0_i32_5.toNat]

abbrev stage0_0 : Fin 2 → Memref sig .tc .vmem S1024x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S768 : Shape := ⟨1, ![768]⟩
abbrev S1 : Shape := ⟨1, ![1]⟩
abbrev S196608x512 : Shape := ⟨2, ![196608, 512]⟩
abbrev S256x1024x256 : Shape := ⟨3, ![256, 1024, 256]⟩
abbrev S256x256x1024 : Shape := ⟨3, ![256, 256, 1024]⟩
abbrev S_ : Shape := ⟨0, ![]⟩
abbrev S196608x1024 : Shape := ⟨2, ![196608, 1024]⟩
abbrev S768x256x1024 : Shape := ⟨3, ![768, 256, 1024]⟩
abbrev S256 : Shape := ⟨1, ![256]⟩
abbrev S1x256x1 : Shape := ⟨3, ![1, 256, 1]⟩
abbrev S768x1x1 : Shape := ⟨3, ![768, 1, 1]⟩
abbrev S768x256x1 : Shape := ⟨3, ![768, 256, 1]⟩
abbrev S768x1 : Shape := ⟨2, ![768, 1]⟩
abbrev S768x1024x256 : Shape := ⟨3, ![768, 1024, 256]⟩
abbrev S768x256x256 : Shape := ⟨3, ![768, 256, 256]⟩

abbrev nBuf : Space → Nat
  | .hbm => 70
  | .vmem => 0
  | .smem => 0
  | _ => 0

abbrev bufTy : (tb : Table) → Fin (tcTables nBuf tb) → BufTy
  | .hbm, ⟨0, _⟩ => ⟨S768, .i32⟩
  | .hbm, ⟨1, _⟩ => ⟨S768, .i32⟩
  | .hbm, ⟨2, _⟩ => ⟨S1, .i32⟩
  | .hbm, ⟨3, _⟩ => ⟨S196608x512, .i32⟩
  | .hbm, ⟨4, _⟩ => ⟨S256x1024x256, .f32⟩
  | .hbm, ⟨5, _⟩ => ⟨S256x1024x256, .f32⟩
  | .hbm, ⟨6, _⟩ => ⟨S256x256x1024, .f32⟩
  | .hbm, ⟨7, _⟩ => ⟨S_, .i32⟩
  | .hbm, ⟨8, _⟩ => ⟨S196608x512, .i32⟩
  | .hbm, ⟨9, _⟩ => ⟨S196608x512, .i32⟩
  | .hbm, ⟨10, _⟩ => ⟨S196608x512, .f32⟩
  | .hbm, ⟨11, _⟩ => ⟨S_, .i32⟩
  | .hbm, ⟨12, _⟩ => ⟨S196608x512, .i32⟩
  | .hbm, ⟨13, _⟩ => ⟨S196608x512, .i32⟩
  | .hbm, ⟨14, _⟩ => ⟨S196608x512, .f32⟩
  | .hbm, ⟨15, _⟩ => ⟨S196608x1024, .f32⟩
  | .hbm, ⟨16, _⟩ => ⟨S768x256x1024, .f32⟩
  | .hbm, ⟨17, _⟩ => ⟨S256, .i32⟩
  | .hbm, ⟨18, _⟩ => ⟨S1x256x1, .i32⟩
  | .hbm, ⟨19, _⟩ => ⟨S768x1x1, .i32⟩
  | .hbm, ⟨20, _⟩ => ⟨S768x256x1, .i32⟩
  | .hbm, ⟨21, _⟩ => ⟨S768x256x1, .i32⟩
  | .hbm, ⟨22, _⟩ => ⟨S768x256x1, .i1⟩
  | .hbm, ⟨23, _⟩ => ⟨S_, .i32⟩
  | .hbm, ⟨24, _⟩ => ⟨S_, .f32⟩
  | .hbm, ⟨25, _⟩ => ⟨S768x256x1024, .i1⟩
  | .hbm, ⟨26, _⟩ => ⟨S768x256x1024, .f32⟩
  | .hbm, ⟨27, _⟩ => ⟨S768x256x1024, .f32⟩
  | .hbm, ⟨28, _⟩ => ⟨S_, .i32⟩
  | .hbm, ⟨29, _⟩ => ⟨S768, .i32⟩
  | .hbm, ⟨30, _⟩ => ⟨S768, .i1⟩
  | .hbm, ⟨31, _⟩ => ⟨S_, .i32⟩
  | .hbm, ⟨32, _⟩ => ⟨S768, .i32⟩
  | .hbm, ⟨33, _⟩ => ⟨S768, .i32⟩
  | .hbm, ⟨34, _⟩ => ⟨S768, .i32⟩
  | .hbm, ⟨35, _⟩ => ⟨S768x1, .i32⟩
  | .hbm, ⟨36, _⟩ => ⟨S768x1024x256, .f32⟩
  | .hbm, ⟨37, _⟩ => ⟨S768x256x256, .f32⟩
  | .hbm, ⟨38, _⟩ => ⟨S768x256x256, .f32⟩
  | .hbm, ⟨39, _⟩ => ⟨S768x256x256, .f32⟩
  | .hbm, ⟨40, _⟩ => ⟨S_, .f32⟩
  | .hbm, ⟨41, _⟩ => ⟨S768x256x256, .f32⟩
  | .hbm, ⟨42, _⟩ => ⟨S768x256x256, .f32⟩
  | .hbm, ⟨43, _⟩ => ⟨S_, .f32⟩
  | .hbm, ⟨44, _⟩ => ⟨S768x256x256, .f32⟩
  | .hbm, ⟨45, _⟩ => ⟨S768x256x256, .f32⟩
  | .hbm, ⟨46, _⟩ => ⟨S768x256x256, .f32⟩
  | .hbm, ⟨47, _⟩ => ⟨S_, .i32⟩
  | .hbm, ⟨48, _⟩ => ⟨S768, .i32⟩
  | .hbm, ⟨49, _⟩ => ⟨S768, .i1⟩
  | .hbm, ⟨50, _⟩ => ⟨S_, .i32⟩
  | .hbm, ⟨51, _⟩ => ⟨S768, .i32⟩
  | .hbm, ⟨52, _⟩ => ⟨S768, .i32⟩
  | .hbm, ⟨53, _⟩ => ⟨S768, .i32⟩
  | .hbm, ⟨54, _⟩ => ⟨S768x1, .i32⟩
  | .hbm, ⟨55, _⟩ => ⟨S768x1024x256, .f32⟩
  | .hbm, ⟨56, _⟩ => ⟨S768x256x256, .f32⟩
  | .hbm, ⟨57, _⟩ => ⟨S768x256x256, .f32⟩
  | .hbm, ⟨58, _⟩ => ⟨S_, .i32⟩
  | .hbm, ⟨59, _⟩ => ⟨S768, .i32⟩
  | .hbm, ⟨60, _⟩ => ⟨S768, .i1⟩
  | .hbm, ⟨61, _⟩ => ⟨S_, .i32⟩
  | .hbm, ⟨62, _⟩ => ⟨S768, .i32⟩
  | .hbm, ⟨63, _⟩ => ⟨S768, .i32⟩
  | .hbm, ⟨64, _⟩ => ⟨S768, .i32⟩
  | .hbm, ⟨65, _⟩ => ⟨S768x1, .i32⟩
  | .hbm, ⟨66, _⟩ => ⟨S768x256x1024, .f32⟩
  | .hbm, ⟨67, _⟩ => ⟨S768x256x1024, .f32⟩
  | .hbm, ⟨68, _⟩ => ⟨S196608x1024, .f32⟩
  | .hbm, ⟨69, _⟩ => ⟨S196608x1024, .bf16⟩
  | _, _ => ⟨S768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v23 : Ref sig .tc := ⟨.hbm, 46, rfl⟩
abbrev main_c_4 : Ref sig .tc := ⟨.hbm, 47, rfl⟩
abbrev main_v24 : Ref sig .tc := ⟨.hbm, 48, rfl⟩
abbrev main_v25 : Ref sig .tc := ⟨.hbm, 49, rfl⟩
abbrev main_c_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_c_7 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]
-- ==== Proof.Row.lean ====
/- One output row of the combine, as a function of what the row reads: the words of its eight gathered
   expert rows, its eight routing weights, its row of the residual, the gate of its batch and the final
   norm's gain. The kernel's block and the reference's array are both stated through it. -/
module

public import Idealize.ShloMosaic.Init
public import Idealize.ShloMosaic.Lib.Pointwise.Tactic

@[expose] public section

noncomputable section

namespace Cert.Row

open Idealize.ShloMosaic

/-- The bf16 value in half `i` of a word. -/
def half (i : Nat) (x : BitVec 32) : EReal := Ideal.ofBits .bf16 (x.extractLsb' (i * 16) 16)

/-- Feature `d` of a packed row: the low halves come first, then the high halves. -/
def feat (x : Fin 512 → BitVec 32) (d : Fin 1024) : EReal :=
  if h : d.val < 512 then half 0 (x ⟨d.val, h⟩) else half 1 (x ⟨d.val - 512, by omega⟩)

/-- The gated residual row before its norm. -/
def mix (xs : Fin 8 → Fin 512 → BitVec 32) (w : Fin 8 → EReal) (r g : Fin 1024 → EReal) (d : Fin 1024) : EReal :=
  r d + g d * ∑ k : Fin 8, w k * feat (xs k) d

/-- The normed row. -/
def out (xs : Fin 8 → Fin 512 → BitVec 32) (w : Fin 8 → EReal) (r g fg : Fin 1024 → EReal) (d : Fin 1024) : EReal :=
  mix xs w r g d * Ideal.rsqrt (Ideal.div (∑ e : Fin 1024, mix xs w r g e * mix xs w r g e) (Ideal.ofBits .f32 0x44800000#32)
    + Ideal.ofBits .f32 0x358637BD#32) * fg d

theorem feat_lo (x : Fin 512 → BitVec 32) (l : Fin 512) (h : l.val < 1024) : feat x ⟨l.val, h⟩ = half 0 (x l) := by
  unfold feat; rw [dif_pos l.isLt]

theorem feat_hi (x : Fin 512 → BitVec 32) (l : Fin 512) (h : 512 + l.val < 1024) :
    feat x ⟨512 + l.val, h⟩ = half 1 (x l) := by
  unfold feat
  have hn : ¬ (512 + l.val < 512) := by omega
  rw [dif_neg hn]
  congr 2
  exact Fin.ext (by simp)

theorem mix_eq (xs : Fin 8 → Fin 512 → BitVec 32) (w : Fin 8 → EReal) (r g : Fin 1024 → EReal) (d : Fin 1024) :
    mix xs w r g d = r d + g d * (w 0 * feat (xs 0) d + w 1 * feat (xs 1) d + w 2 * feat (xs 2) d + w 3 * feat (xs 3) d
      + w 4 * feat (xs 4) d + w 5 * feat (xs 5) d + w 6 * feat (xs 6) d + w 7 * feat (xs 7) d) := by
  rw [mix, Fin.sum_univ_eight]

/-- A sum over the features, low halves and high halves apart. -/
theorem sum_halves (f : Fin 1024 → EReal) :
    ∑ e : Fin 1024, f e = ∑ l : Fin 512, f ⟨l.val, by omega⟩ + ∑ l : Fin 512, f ⟨512 + l.val, by omega⟩ :=
  Fin.sum_univ_add (a := 512) (b := 512) f

/-- A bf16 pattern denotes what its 32-bit extension by zeros denotes. -/
theorem ofBits_append_zero (b : BitVec 16) :
    Ideal.ofBits .f32 ((b ++ (0#16 : BitVec 16) : BitVec 32)) = Ideal.ofBits .bf16 b := by
  have hn : ((b ++ (0#16 : BitVec 16) : BitVec 32)).toNat = b.toNat * 65536 := by
    simp only [BitVec.toNat_append, Nat.shiftLeft_eq]
    simp
  have hb := b.isLt
  have hs : ((b ++ (0#16 : BitVec 16) : BitVec 32)).extractLsb' 31 1 = b.extractLsb' 15 1 := by
    apply BitVec.eq_of_toNat_eq
    simp only [BitVec.extractLsb'_toNat, hn, Nat.shiftRight_eq_div_pow]; omega
  have he : ((b ++ (0#16 : BitVec 16) : BitVec 32)).extractLsb' 23 8 = b.extractLsb' 7 8 := by
    apply BitVec.eq_of_toNat_eq
    simp only [BitVec.extractLsb'_toNat, hn, Nat.shiftRight_eq_div_pow]; omega
  have hf : (((b ++ (0#16 : BitVec 16) : BitVec 32)).extractLsb' 0 23).toNat = (b.extractLsb' 0 7).toNat * 2 ^ 16 := by
    simp only [BitVec.extractLsb'_toNat, BitVec.toNat_append, Nat.shiftRight_zero, Nat.shiftLeft_eq]
    simp only [BitVec.toNat_ofNat, Nat.zero_mod, Nat.or_zero]
    have := b.isLt
    omega
  have hz : (2 : ℝ) ^ (-16 : ℤ) * 2 ^ (16 : ℕ) = 1 := by norm_num
  have h2 : ∀ z : ℤ, (2 : ℝ) ^ (z - 7) = 2 ^ (16 : ℕ) * (2 : ℝ) ^ (z - 23) := fun z => by
    rw [show z - 7 = (16 : ℕ) + (z - 23) by push_cast; ring, zpow_add₀ (by norm_num), zpow_natCast]
  show Ideal.ieee 8 23 _ = Ideal.ieee 8 7 _
  unfold Ideal.ieee
  simp only [show 8 + 23 = 31 from rfl, show 8 + 7 = 15 from rfl, hs, he, hf]
  generalize (b.extractLsb' 0 7).toNat = fr
  generalize (b.extractLsb' 7 8).toNat = ex
  generalize (b.extractLsb' 15 1 == 1#1) = neg
  have hfr : (fr * 2 ^ 16 = 0) = (fr = 0) := by simp
  simp only [hfr]
  split_ifs <;> first | rfl | skip
  all_goals
    congr 1
    push_cast
    first | (rw [h2]; ring) | (norm_num; ring)

/-- A word shifted up by sixteen denotes its low half. -/
theorem ofBits_shl (x : BitVec 32) : Ideal.ofBits .f32 (x <<< (16 : Nat)) = half 0 x := by
  rw [half, ← ofBits_append_zero]
  congr 1
  apply BitVec.eq_of_toNat_eq
  have hx := x.isLt
  simp only [BitVec.toNat_append, Nat.shiftLeft_eq, BitVec.toNat_shiftLeft, BitVec.extractLsb'_toNat]
  simp
  omega

theorem mask_bit : ∀ k : Fin 32, (4294901760#32)[k.val] = decide (16 ≤ k.val) := by decide

/-- A word with its low half cleared denotes its high half. -/
theorem ofBits_mask (x : BitVec 32) : Ideal.ofBits .f32 (x &&& 4294901760#32) = half 1 x := by
  rw [half, ← ofBits_append_zero]
  congr 1
  have hs : x &&& 4294901760#32 = (x >>> (16 : Nat)) <<< (16 : Nat) := by
    ext i hi
    have hk' : (4294901760#32)[i] = decide (16 ≤ i) := mask_bit ⟨i, hi⟩
    rw [BitVec.getElem_and, hk']
    by_cases h : i < 16
    · simp [h]
    · have h2 : 16 + (i - 16) = i := by omega
      have h3 : 16 ≤ i := by omega
      simp [h, h3, h2, BitVec.getLsbD_eq_getElem, hi]
  rw [hs]
  apply BitVec.eq_of_toNat_eq
  have hx := x.isLt
  simp only [BitVec.toNat_append, Nat.shiftLeft_eq, BitVec.toNat_shiftLeft, BitVec.extractLsb'_toNat, BitVec.toNat_ushiftRight,
    Nat.shiftRight_eq_div_pow]
  simp
  omega

end Cert.Row

end
-- ==== Proof.Block.lean ====
/- What one grid point of a combine region leaves in its block, element by element: the normed row of `Row`. -/
module

public import proofs.«01_k».proof.Proof.Row
public import proofs.«01_k».proof.Proof.Gen.KernelIdeal.Frame
public import Idealize.ShloMosaic.Lib.Pointwise.Reduce
public import Idealize.ShloMosaic.Lib.Pointwise.Select
public import Idealize.ShloMosaic.Lib.Pointwise.Reshape
public import Idealize.ShloMosaic.Lib.Pipeline.ValueKit

@[expose] public section

noncomputable section

namespace Cert.Block

open Idealize.ShloMosaic Cert.KernelIdeal Cert.KernelIdeal.Gen

variable (x0 : Vec Ideal S8x512x512 .i32) (x1 : Vec Ideal S512x1024 .f32) (x2 : Vec Ideal S512x8 .f32)
  (x3 : Vec Ideal S1x1x1024 .f32) (x4 : Vec Ideal S1x1024 .f32)

/-- Row `r` of the block, from the row's parts of the five input blocks. -/
def row (r : Fin 512) (d : Fin 1024) : EReal :=
  Row.out (fun k l => x0 (ix3 k r l)) (fun k => x2 (ix2 r k)) (fun d => x1 (ix2 r d)) (fun d => x3 (ix3 0 0 d))
    (fun d => x4 (ix2 0 d)) d

/-- The block after the body. -/
theorem out0_apply (r : Fin 512) (d : Fin 1024) : out0_5 x0 x1 x2 x3 x4 (ix2 r d) = row x0 x1 x2 x3 x4 r d := by
  unfold_out out0_5
  frame_out
  unfold_payloads
  pointwise
  unfold row Row.out
  rw [Row.sum_halves]
  simp only [Row.mix_eq, Row.feat_lo, Row.feat_hi]
  rfl

end Cert.Block

end
-- ==== Proof.Outs.lean ====
/- The four regions leave the same function of their input blocks: the later three, whose result is written into the
   array the one before it left, compute what the first computes. -/
module

public import proofs.«01_k».proof.Proof.Gen.KernelIdeal.Frame
public import Idealize.ShloMosaic.Lib.Pipeline.ValueKit

@[expose] public section

noncomputable section

namespace Cert.Outs

open Idealize.ShloMosaic Idealize.ShloMosaic.TcCoe Cert.KernelIdeal Cert.KernelIdeal.Gen

variable {F : FTy → Type} [FloatOps F] (V : (c : Dev nD) → (b : Ref sig .tc) → Buf (Elt F) ((c : Thread nD τ).loc b)) (c : Dev nD)

theorem outs1 (t : Fin cfg1.N) : outsAt1 V c t
    = out0_5 (iblk1 V c 0 t) (iblk1 V c 1 t) (iblk1 V c 2 t) (iblk1 V c 3 t) (iblk1 V c 4 t) := by
  unfold outsAt1 out1_A_5
  rw [View.read_writes_eq_canon _ _ _ (cover1_A_5 c _ _ _ _ _ _ _ _ _ _ _ _ _ _ _ _ _ _)]
  unfold kernelRun1_A
  dsimp only
  sl_unfold_words
  simp only [View.readAt_eq_ld, (hs1_0 t).read_unread, (hs1_1 t).read_unread, (hs1_2 t).read_unread, (hs1_3 t).read_unread, (hs1_4 t).read_unread]
  rfl

theorem outs2 (t : Fin cfg2.N) : outsAt2 V c t
    = out0_5 (iblk2 V c 0 t) (iblk2 V c 1 t) (iblk2 V c 2 t) (iblk2 V c 3 t) (iblk2 V c 4 t) := by
  unfold outsAt2 out2_A_5
  rw [View.read_writes_eq_canon _ _ _ (cover2_A_5 c _ _ _ _ _ _ _ _ _ _ _ _ _ _ _ _ _ _)]
  unfold kernelRun2_A
  dsimp only
  sl_unfold_words
  simp only [View.readAt_eq_ld, (hs2_0 t).read_unread, (hs2_1 t).read_unread, (hs2_2 t).read_unread, (hs2_3 t).read_unread, (hs2_4 t).read_unread]
  rfl

theorem outs3 (t : Fin cfg3.N) : outsAt3 V c t
    = out0_5 (iblk3 V c 0 t) (iblk3 V c 1 t) (iblk3 V c 2 t) (iblk3 V c 3 t) (iblk3 V c 4 t) := by
  unfold outsAt3 out3_A_5
  rw [View.read_writes_eq_canon _ _ _ (cover3_A_5 c _ _ _ _ _ _ _ _ _ _ _ _ _ _ _ _ _ _)]
  unfold kernelRun3_A
  dsimp only
  sl_unfold_words
  simp only [View.readAt_eq_ld, (hs3_0 t).read_unread, (hs3_1 t).read_unread, (hs3_2 t).read_unread, (hs3_3 t).read_unread, (hs3_4 t).read_unread]
  rfl

end Cert.Outs

end
-- ==== Proof.Regions.lean ====
/- What each of the four combine regions leaves in its result array: the rows of its own quarter of the tokens are the
   normed rows of `Row`, the others are as they were. -/
module

public import proofs.«01_k».proof.Proof.Block
public import proofs.«01_k».proof.Proof.Outs

@[expose] public section

noncomputable section

namespace Cert.Regions

open Idealize.ShloMosaic Idealize.ShloMosaic.TcCoe Cert.KernelIdeal Cert.KernelIdeal.Gen
open Idealize.ShloMosaic.Pipeline (Dat)

/-- One element of the result: the token's words in its quarter, its weights, residual row, batch gate and gain. -/
def elem (y : Vec Ideal S8x4096x512 .i32) (x : Vec Ideal S16384x1024 .f32) (w : Vec Ideal S16384x8 .f32)
    (g : Vec Ideal S2x1x1024 .f32) (fg : Vec Ideal S1x1024 .f32) (i : S16384x1024.Idx) : EReal :=
  Row.out (fun k l => y (ix3 k ⟨(i 0).val % 4096, Nat.mod_lt _ (by decide)⟩ l)) (fun k => w (ix2 (i 0) k)) (fun d => x (ix2 (i 0) d))
    (fun d => g (ix3 ⟨(i 0).val / 8192, Nat.div_lt_of_lt_mul (i 0).isLt⟩ 0 d)) (fun d => fg (ix2 0 d)) (i 1)

/-- The packed words of quarter `q` of the tokens. -/
def pick (y0 y1 y2 y3 : Vec Ideal S8x4096x512 .i32) (q : ℕ) : Vec Ideal S8x4096x512 .i32 :=
  match q with
  | 0 => y0
  | 1 => y1
  | 2 => y2
  | _ => y3

/-- The whole result, from the eight arguments. -/
def result (y0 y1 y2 y3 : Vec Ideal S8x4096x512 .i32) (x : Vec Ideal S16384x1024 .f32) (w : Vec Ideal S8x16384 .f32)
    (g : Vec Ideal S2x1x1024 .f32) (fg : Vec Ideal S1024 .f32) : Vec Ideal S16384x1024 .f32 := fun i =>
  elem (pick y0 y1 y2 y3 ((i 0).val / 4096)) x (fun i => w (ix2 (i 1) (i 0))) g (fun i => fg (ix1 (i 1))) i

private theorem congrArg₆ {A B C D E G H : Sort*} (f : A → B → C → D → E → G → H) {a a' : A} {b b' : B} {c c' : C} {d d' : D} {e e' : E}
    {g g' : G} (ha : a = a') (hb : b = b') (hc : c = c') (hd : d = d') (he : e = e') (hg : g = g') :
    f a b c d e g = f a' b' c' d' e' g' := by
  subst ha hb hc hd he hg; rfl

variable (V : (c : Dev nD) → (b : Ref sig .tc) → Buf (Elt Ideal) ((c : Thread nD τ).loc b)) (c : Dev nD)

theorem idx0 : ∀ t : Fin cfg0.N, win0_0.index t = ![0, t.val, 0] ∧ win0_1.index t = ![t.val, 0] ∧ win0_2.index t = ![t.val, 0]
    ∧ win0_3.index t = ![t.val / 16, 0, 0] ∧ win0_4.index t = ![0, 0] ∧ win0_5.index t = ![t.val, 0] :=
  (by decide +kernel : ∀ t : Fin grid0.N, _)

theorem final0 : (dat0 V c).arrAt 5 cfg0.N = fun i : S16384x1024.Idx => if (i 0).val / 512 / 8 = 0 then
      elem (V c main_arg0) (V c main_arg4) (V c main_v0) (V c main_arg6) (V c main_v1) i else V c main_v2 i := by
  refine (dat0 V c).arrAt_eq_of_coversWhere 5 _ (fun β => β (0 : Fin 2) / 8 = 0) (by decide +kernel) (fun t hf y => ?_)
    (fun j => Iff.rfl)
  blk_simp
  rw [after0_5]
  obtain ⟨e0, e1, e2, e3, e4, e5⟩ := idx0 t
  have ht : t.val < 8 := t.isLt
  obtain ⟨r, d, rfl⟩ : ∃ (r : Fin 512) (d : Fin 1024), y = ix2 r d := ⟨y 0, y 1, eq_ix2 y⟩
  rw [Block.out0_apply]
  unfold Block.row elem
  refine congrArg₆ Row.out ?_ ?_ ?_ ?_ ?_ ?_
  · funext k l; blk_ext! [iblk0, e0, e5]
  · funext k; blk_ext! [iblk0, e2, e5]
  · funext d; blk_ext! [iblk0, e1, e5]
  · funext d; blk_ext! [iblk0, e3, e5]
  · funext d; blk_ext! [iblk0, e4, e5]
  · apply Fin.ext; blk_simp [e5]

theorem idx1 : ∀ t : Fin cfg1.N, win1_0.index t = ![0, t.val, 0] ∧ win1_1.index t = ![t.val + 8, 0] ∧ win1_2.index t = ![t.val + 8, 0]
    ∧ win1_3.index t = ![(t.val + 8) / 16, 0, 0] ∧ win1_4.index t = ![0, 0] ∧ win1_5.index t = ![t.val + 8, 0] :=
  (by decide +kernel : ∀ t : Fin grid1.N, _)

theorem final1 : (dat1 V c).arrAt 5 cfg1.N = fun i : S16384x1024.Idx => if (i 0).val / 512 / 8 = 1 then
      elem (V c main_arg1) (V c main_arg4) (V c main_v0) (V c main_arg6) (V c main_v3) i else V c main_v4 i := by
  refine (dat1 V c).arrAt_eq_of_coversWhere 5 _ (fun β => β (0 : Fin 2) / 8 = 1) (by decide +kernel) (fun t hf y => ?_)
    (fun j => Iff.rfl)
  blk_simp
  rw [after1_5, Outs.outs1]
  obtain ⟨e0, e1, e2, e3, e4, e5⟩ := idx1 t
  have ht : t.val < 8 := t.isLt
  obtain ⟨r, d, rfl⟩ : ∃ (r : Fin 512) (d : Fin 1024), y = ix2 r d := ⟨y 0, y 1, eq_ix2 y⟩
  rw [Block.out0_apply]
  unfold Block.row elem
  refine congrArg₆ Row.out ?_ ?_ ?_ ?_ ?_ ?_
  · funext k l; blk_ext! [iblk1, e0, e5]
  · funext k; blk_ext! [iblk1, e2, e5]
  · funext d; blk_ext! [iblk1, e1, e5]
  · funext d; blk_ext! [iblk1, e3, e5]
  · funext d; blk_ext! [iblk1, e4, e5]
  · apply Fin.ext; blk_simp [e5]

theorem idx2 : ∀ t : Fin cfg2.N, win2_0.index t = ![0, t.val, 0] ∧ win2_1.index t = ![t.val + 16, 0] ∧ win2_2.index t = ![t.val + 16, 0]
    ∧ win2_3.index t = ![(t.val + 16) / 16, 0, 0] ∧ win2_4.index t = ![0, 0] ∧ win2_5.index t = ![t.val + 16, 0] :=
  (by decide +kernel : ∀ t : Fin grid2.N, _)

theorem final2 : (dat2 V c).arrAt 5 cfg2.N = fun i : S16384x1024.Idx => if (i 0).val / 512 / 8 = 2 then
      elem (V c main_arg2) (V c main_arg4) (V c main_v0) (V c main_arg6) (V c main_v5) i else V c main_v6 i := by
  refine (dat2 V c).arrAt_eq_of_coversWhere 5 _ (fun β => β (0 : Fin 2) / 8 = 2) (by decide +kernel) (fun t hf y => ?_)
    (fun j => Iff.rfl)
  blk_simp
  rw [after2_5, Outs.outs2]
  obtain ⟨e0, e1, e2, e3, e4, e5⟩ := idx2 t
  have ht : t.val < 8 := t.isLt
  obtain ⟨r, d, rfl⟩ : ∃ (r : Fin 512) (d : Fin 1024), y = ix2 r d := ⟨y 0, y 1, eq_ix2 y⟩
  rw [Block.out0_apply]
  unfold Block.row elem
  refine congrArg₆ Row.out ?_ ?_ ?_ ?_ ?_ ?_
  · funext k l; blk_ext! [iblk2, e0, e5]
  · funext k; blk_ext! [iblk2, e2, e5]
  · funext d; blk_ext! [iblk2, e1, e5]
  · funext d; blk_ext! [iblk2, e3, e5]
  · funext d; blk_ext! [iblk2, e4, e5]
  · apply Fin.ext; blk_simp [e5]

theorem idx3 : ∀ t : Fin cfg3.N, win3_0.index t = ![0, t.val, 0] ∧ win3_1.index t = ![t.val + 24, 0] ∧ win3_2.index t = ![t.val + 24, 0]
    ∧ win3_3.index t = ![(t.val + 24) / 16, 0, 0] ∧ win3_4.index t = ![0, 0] ∧ win3_5.index t = ![t.val + 24, 0] :=
  (by decide +kernel : ∀ t : Fin grid3.N, _)

theorem final3 : (dat3 V c).arrAt 5 cfg3.N = fun i : S16384x1024.Idx => if (i 0).val / 512 / 8 = 3 then
      elem (V c main_arg3) (V c main_arg4) (V c main_v0) (V c main_arg6) (V c main_v7) i else V c main_v8 i := by
  refine (dat3 V c).arrAt_eq_of_coversWhere 5 _ (fun β => β (0 : Fin 2) / 8 = 3) (by decide +kernel) (fun t hf y => ?_)
    (fun j => Iff.rfl)
  blk_simp
  rw [after3_5, Outs.outs3]
  obtain ⟨e0, e1, e2, e3, e4, e5⟩ := idx3 t
  have ht : t.val < 8 := t.isLt
  obtain ⟨r, d, rfl⟩ : ∃ (r : Fin 512) (d : Fin 1024), y = ix2 r d := ⟨y 0, y 1, eq_ix2 y⟩
  rw [Block.out0_apply]
  unfold Block.row elem
  refine congrArg₆ Row.out ?_ ?_ ?_ ?_ ?_ ?_
  · funext k l; blk_ext! [iblk3, e0, e5]
  · funext k; blk_ext! [iblk3, e2, e5]
  · funext d; blk_ext! [iblk3, e1, e5]
  · funext d; blk_ext! [iblk3, e3, e5]
  · funext d; blk_ext! [iblk3, e4, e5]
  · apply Fin.ext; blk_simp [e5]

end Cert.Regions

end
-- ==== Proof.Final.lean ====
/- The result array after the four regions: every element is the normed row's element `elem`, read off the arguments. -/
module

public import proofs.«01_k».proof.Proof.Regions
public import Idealize.ShloMosaic.Lib.Claim

@[expose] public section

noncomputable section

namespace Cert.Final

open Idealize.ShloMosaic Idealize.ShloMosaic.TcCoe Cert.KernelIdeal Cert.KernelIdeal.Gen Cert.Regions

variable (m : (ℓ : Loc nD τ sig) → Buf (Elt Ideal) ℓ) (ρ : Dev nD → PrngReg) (c : Dev nD)

/-- An argument array at launch. -/
abbrev arg (b : Ref sig .tc) : Buf (Elt Ideal) ((c : Thread nD τ).loc b) := m ((c : Thread nD τ).loc b)

/-- The routing weights, one row per token. -/
def weights : Vec Ideal S16384x8 .f32 := fun i => arg m c main_arg5 (ix2 (i 1) (i 0))

/-- The gain as one row. -/
def gain : Vec Ideal S1x1024 .f32 := fun i => arg m c main_arg7 (ix1 (i 1))

theorem weights1 : V1 m ρ c main_v0 = weights m c := by
  show StableHlo.after hostOps0 (W0 m ρ c) _ = _
  after_results
  funext i
  pointwise
  rfl

theorem reshape_gain (x : Vec Ideal S1024 .f32) :
    (fun i => shapeCast S1x1024 x shapeCasts_S1024_S1x1024 i) = fun i : S1x1024.Idx => x (ix1 (i 1)) := by
  funext i
  pointwise

theorem gain1 : V1 m ρ c main_v1 = gain m c := by
  show StableHlo.after hostOps0 (W0 m ρ c) _ = _
  after_results
  rw [W0_args m ρ c main_arg7 (by decide)]
  exact reshape_gain _

theorem gain3 : V3 m ρ c main_v3 = gain m c := by
  show StableHlo.after hostOps1 (W2 m ρ c) _ = _
  after_results
  rw [W2_args m ρ c main_arg7 (by decide)]
  exact reshape_gain _

theorem copy3 : V3 m ρ c main_v4 = V2 m ρ c main_v2 := by
  show StableHlo.after hostOps1 (W2 m ρ c) _ = _
  after_results
  rfl

theorem weights3 : V3 m ρ c main_v0 = weights m c :=
  (W3_of m ρ c main_v0 (by decide)).trans <| (W2_of m ρ c main_v0 (by decide +kernel)).trans <| weights1 m ρ c

theorem gain5 : V5 m ρ c main_v5 = gain m c := by
  show StableHlo.after hostOps2 (W4 m ρ c) _ = _
  after_results
  rw [W4_args m ρ c main_arg7 (by decide)]
  exact reshape_gain _

theorem copy5 : V5 m ρ c main_v6 = V4 m ρ c main_v4 := by
  show StableHlo.after hostOps2 (W4 m ρ c) _ = _
  after_results
  rfl

theorem weights5 : V5 m ρ c main_v0 = weights m c :=
  (W5_of m ρ c main_v0 (by decide)).trans <| (W4_of m ρ c main_v0 (by decide +kernel)).trans <| weights3 m ρ c

theorem gain7 : V7 m ρ c main_v7 = gain m c := by
  show StableHlo.after hostOps3 (W6 m ρ c) _ = _
  after_results
  rw [W6_args m ρ c main_arg7 (by decide)]
  exact reshape_gain _

theorem copy7 : V7 m ρ c main_v8 = V6 m ρ c main_v6 := by
  show StableHlo.after hostOps3 (W6 m ρ c) _ = _
  after_results
  rfl

theorem weights7 : V7 m ρ c main_v0 = weights m c :=
  (W7_of m ρ c main_v0 (by decide)).trans <| (W6_of m ρ c main_v0 (by decide +kernel)).trans <| weights5 m ρ c

/-- What the result array holds. -/
def OUT : Vec Ideal S16384x1024 .f32 :=
  Regions.result (arg m c main_arg0) (arg m c main_arg1) (arg m c main_arg2) (arg m c main_arg3) (arg m c main_arg4) (arg m c main_arg5)
    (arg m c main_arg6) (arg m c main_arg7)

theorem result0 : V2 m ρ c main_v2 = fun i : S16384x1024.Idx => if (i 0).val / 512 / 8 = 0 then
    elem (arg m c main_arg0) (arg m c main_arg4) (weights m c) (arg m c main_arg6) (gain m c) i else V1 m ρ c main_v2 i := by
  rw [← weights1 m ρ c, ← gain1 m ρ c]
  rw [show arg m c main_arg0 = V1 m ρ c main_arg0 from (W1_args m ρ c main_arg0 (by decide)).symm,
    show arg m c main_arg4 = V1 m ρ c main_arg4 from (W1_args m ρ c main_arg4 (by decide)).symm,
    show arg m c main_arg6 = V1 m ρ c main_arg6 from (W1_args m ρ c main_arg6 (by decide)).symm]
  exact (hF0 m ρ c 5).symm.trans (final0 (V1 m ρ) c)

theorem result1 : V4 m ρ c main_v4 = fun i : S16384x1024.Idx => if (i 0).val / 512 / 8 = 1 then
    elem (arg m c main_arg1) (arg m c main_arg4) (weights m c) (arg m c main_arg6) (gain m c) i else V2 m ρ c main_v2 i := by
  rw [← weights3 m ρ c, ← gain3 m ρ c, ← copy3 m ρ c]
  rw [show arg m c main_arg1 = V3 m ρ c main_arg1 from (W3_args m ρ c main_arg1 (by decide)).symm,
    show arg m c main_arg4 = V3 m ρ c main_arg4 from (W3_args m ρ c main_arg4 (by decide)).symm,
    show arg m c main_arg6 = V3 m ρ c main_arg6 from (W3_args m ρ c main_arg6 (by decide)).symm]
  exact (hF1 m ρ c 5).symm.trans (final1 (V3 m ρ) c)

theorem result2 : V6 m ρ c main_v6 = fun i : S16384x1024.Idx => if (i 0).val / 512 / 8 = 2 then
    elem (arg m c main_arg2) (arg m c main_arg4) (weights m c) (arg m c main_arg6) (gain m c) i else V4 m ρ c main_v4 i := by
  rw [← weights5 m ρ c, ← gain5 m ρ c, ← copy5 m ρ c]
  rw [show arg m c main_arg2 = V5 m ρ c main_arg2 from (W5_args m ρ c main_arg2 (by decide)).symm,
    show arg m c main_arg4 = V5 m ρ c main_arg4 from (W5_args m ρ c main_arg4 (by decide)).symm,
    show arg m c main_arg6 = V5 m ρ c main_arg6 from (W5_args m ρ c main_arg6 (by decide)).symm]
  exact (hF2 m ρ c 5).symm.trans (final2 (V5 m ρ) c)

theorem result3 : V8 m ρ c main_v8 = fun i : S16384x1024.Idx => if (i 0).val / 512 / 8 = 3 then
    elem (arg m c main_arg3) (arg m c main_arg4) (weights m c) (arg m c main_arg6) (gain m c) i else V6 m ρ c main_v6 i := by
  rw [← weights7 m ρ c, ← gain7 m ρ c, ← copy7 m ρ c]
  rw [show arg m c main_arg3 = V7 m ρ c main_arg3 from (W7_args m ρ c main_arg3 (by decide)).symm,
    show arg m c main_arg4 = V7 m ρ c main_arg4 from (W7_args m ρ c main_arg4 (by decide)).symm,
    show arg m c main_arg6 = V7 m ρ c main_arg6 from (W7_args m ρ c main_arg6 (by decide)).symm]
  exact (hF3 m ρ c 5).symm.trans (final3 (V7 m ρ) c)

theorem value : V8 m ρ c main_v8 = OUT m c := by
  funext i
  have h : (i 0).val < 16384 := (i 0).isLt
  rw [result3, result2, result1, result0]
  unfold OUT Regions.result
  have hq : (i 0).val / 4096 = (i 0).val / 512 / 8 := by omega
  obtain e | e | e | e : (i 0).val / 512 / 8 = 0 ∨ (i 0).val / 512 / 8 = 1 ∨ (i 0).val / 512 / 8 = 2 ∨ (i 0).val / 512 / 8 = 3 := by
    omega
  · rw [hq.trans e]
    exact (if_neg (by omega)).trans ((if_neg (by omega)).trans ((if_neg (by omega)).trans (if_pos e)))
  · rw [hq.trans e]
    exact (if_neg (by omega)).trans ((if_neg (by omega)).trans (if_pos e))
  · rw [hq.trans e]
    exact (if_neg (by omega)).trans (if_pos e)
  · rw [hq.trans e]
    exact if_pos e

end Cert.Final

end
-- ==== Proof.Run.lean ====
/- The run of the idealized combine chain, with what the result array ends holding. -/
module

public import proofs.«01_k».proof.Proof.Gen.KernelIdeal.Frame

@[expose] public section

noncomputable section

namespace Cert.Run

open Idealize.ShloMosaic Idealize.ShloMosaic.TcCoe Cert.KernelIdeal Cert.KernelIdeal.Gen
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F] (m : (ℓ : Loc nD τ sig) → Buf (Elt F) ℓ) (ρ : Dev nD → PrngReg)

set_option backward.isDefEq.respectTransparency.types false in
/-- Every execution ends with the result array at the last boundary's contents and the arguments as launched. -/
theorem run : θ_run defs (onTc (τ := τ) (main (F := F))) ⟨m, fun _ => 0, ρ⟩ (fun r => ∀ c : Dev nD,
      r.2.mem ((c.tc : Thread nD τ).loc main_v8) = V8 m ρ c main_v8
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ c =>
      ⟨h c _ (mem_uc main_v8 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.Run

end
-- ==== Proof.RefValue.lean ====
/- The plain reference's result, element by element: the same normed row. -/
module

public import proofs.«01_k».proof.Proof.Regions
public import proofs.«01_k».proof.Proof.Gen.ReferenceIdeal.Read
public import Idealize.ShloMosaic.Lib.Pointwise.Reduce
public import Idealize.ShloMosaic.Lib.Pointwise.Select
public import Idealize.ShloMosaic.Lib.Pointwise.Reshape

@[expose] public section

noncomputable section

namespace Cert.RefValue

open Idealize.ShloMosaic Idealize.ShloMosaic.TcCoe Cert.ReferenceIdeal Cert.ReferenceIdeal.Gen Cert.ReferenceIdeal.Read Cert.Regions

variable (y0 y1 y2 y3 : Vec Ideal S8x4096x512 .i32) (x : Vec Ideal S16384x1024 .f32) (w : Vec Ideal S8x16384 .f32)
  (g : Vec Ideal S2x1x1024 .f32) (fg : Vec Ideal S1024 .f32)

/-- The words of token `n`, in its quarter. -/
def words (k : Fin 8) (n : Fin 16384) (l : Fin 512) : BitVec 32 :=
  pick y0 y1 y2 y3 (n.val / 4096) (ix3 k ⟨n.val % 4096, Nat.mod_lt _ (by decide)⟩ l)

theorem words_eq (k : Fin 8) (n : Fin 16384) (l : Fin 512) : val_main_v0 y0 y1 y2 y3 (ix3 k n l) = words y0 y1 y2 y3 k n l := by
  unfold val_main_v0
  pointwise
  have hn := n.isLt
  unfold words
  split
  · rw [show n.val / 4096 = 0 by omega]
    exact congrArg (fun j => y0 (ix3 k j l)) (Fin.ext (by show n.val = n.val % 4096; omega))
  split
  · rw [show n.val / 4096 = 1 by omega]
    exact congrArg (fun j => y1 (ix3 k j l)) (Fin.ext (by show n.val - 4096 = n.val % 4096; omega))
  split
  · rw [show n.val / 4096 = 2 by omega]
    exact congrArg (fun j => y2 (ix3 k j l)) (Fin.ext (by show n.val - 4096 - 4096 = n.val % 4096; omega))
  · rw [show n.val / 4096 = 3 by omega]
    exact congrArg (fun j => y3 (ix3 k j l)) (Fin.ext (by show n.val - 4096 - 4096 - 4096 = n.val % 4096; omega))

theorem feat_eq (k : Fin 8) (n : Fin 16384) (d : Fin 1024) :
    val_main_v7 y0 y1 y2 y3 (ix3 k n d) = Row.feat (words y0 y1 y2 y3 k n) d := by
  unfold val_main_v7
  pointwise
  unfold Row.feat
  split
  · rw [val_main_v3_apply, val_main_v2_apply, val_main_v1_apply, val_main_c_apply, words_eq]
    exact Row.ofBits_shl _
  · rw [val_main_v6_apply, val_main_v5_apply, val_main_v4_apply, val_main_c_0_apply, words_eq]
    exact Row.ofBits_mask _

theorem zero_eq : (FloatOps.ofBits (F := Ideal) .f32 0#32) = (0 : EReal) := Ideal.ofBits_zero_f32

theorem routed_eq (n : Fin 16384) (d : Fin 1024) :
    val_main_v11 y0 y1 y2 y3 w (ix2 n d) = ∑ k : Fin 8, w (ix2 k n) * Row.feat (words y0 y1 y2 y3 k n) d := by
  rw [val_main_v11_apply, val_main_cst_apply]
  refine (congrArg (· + _) zero_eq).trans ((zero_add _).trans (Finset.sum_congr rfl fun k _ => ?_))
  rw [show idx_main_v11 (ix2 n d) k = ix3 k n d from eq_ix3 _, val_main_v10_apply, feat_eq, val_main_v9_apply, val_main_v8_apply,
    show idx_main_v8 (idx_main_v9 (ix3 k n d)) = ix2 k n from eq_ix2 _]
  exact mul_comm _ _

/-- The token of batch `b`, position `s`. -/
def tok (b : Fin 2) (s : Fin 8192) : Fin 16384 := ⟨b.val * 8192 + s.val, by omega⟩

theorem idx_tok (b : Fin 2) (s : Fin 8192) (d : Fin 1024) : idx_main_v12 (ix3 b s d) = ix2 (tok b s) d := by
  have hd := d.isLt
  refine (eq_ix2 _).trans (congrArg₂ ix2 (Fin.ext ?_) (Fin.ext ?_))
  · show ((b.val * 8192 + s.val) * 1024 + d.val) / 1024 = b.val * 8192 + s.val
    omega
  · show ((b.val * 8192 + s.val) * 1024 + d.val) % 1024 = d.val
    omega

theorem mix_eq (b : Fin 2) (s : Fin 8192) (d : Fin 1024) : val_main_v16 y0 y1 y2 y3 x w g (ix3 b s d) =
    Row.mix (fun k => words y0 y1 y2 y3 k (tok b s)) (fun k => w (ix2 k (tok b s))) (fun d => x (ix2 (tok b s) d))
      (fun d => g (ix3 b 0 d)) d := by
  rw [val_main_v16_apply, val_main_v12_apply, val_main_v15_apply, val_main_v14_apply, val_main_v13_apply, idx_tok,
    show idx_main_v13 (ix3 b s d) = ix2 (tok b s) d from idx_tok b s d, routed_eq,
    show idx_main_v14 (ix3 b s d) = ix3 b 0 d from eq_ix3 _]
  rfl

theorem idx_out (i : S16384x1024.Idx) : idx_main_v30 i =
    ix3 (⟨(i 0).val / 8192, Nat.div_lt_of_lt_mul (i 0).isLt⟩ : Fin 2) (⟨(i 0).val % 8192, Nat.mod_lt _ (by decide)⟩ : Fin 8192) (i 1) := by
  have h0 : (i 0).val < 16384 := (i 0).isLt
  have h1 : (i 1).val < 1024 := (i 1).isLt
  refine (eq_ix3 _).trans ?_
  congr 1
  · exact Fin.ext (by show ((i 0).val * 1024 + (i 1).val) / 8388608 = (i 0).val / 8192; omega)
  · exact Fin.ext (by show ((i 0).val * 1024 + (i 1).val) / 1024 % 8192 = (i 0).val % 8192; omega)
  · exact Fin.ext (by show ((i 0).val * 1024 + (i 1).val) % 1024 = (i 1).val; omega)

theorem normed_eq (b : Fin 2) (s : Fin 8192) (d : Fin 1024) : val_main_v29 y0 y1 y2 y3 x w g fg (ix3 b s d) =
    Row.out (fun k => words y0 y1 y2 y3 k (tok b s)) (fun k => w (ix2 k (tok b s))) (fun d => x (ix2 (tok b s) d))
      (fun d => g (ix3 b 0 d)) (fun d => fg (ix1 d)) d := by
  rw [val_main_v29_apply, val_main_v26_apply, val_main_v25_apply, val_main_v24_apply, val_main_v23_apply, val_main_v22_apply,
    val_main_v21_apply, val_main_v20_apply, val_main_v19_apply, val_main_v18_apply, mix_eq, val_main_v28_apply, val_main_v27_apply,
    val_main_cst_1_apply, val_main_cst_2_apply, val_main_cst_3_apply]
  have e (k : Fin 1024) : idx_main_v18 (idx_main_v19 (idx_main_v25 (ix3 b s d))) k = ix3 b s k := eq_ix3 _
  simp only [e, val_main_v17_apply, mix_eq]
  rw [show idx_main_v27 (idx_main_v28 (ix3 b s d)) = ix1 d from eq_ix1 _]
  unfold Row.out
  rw [zero_eq, zero_add]
  rfl

theorem result_eq : val_main_v30 y0 y1 y2 y3 x w g fg = result y0 y1 y2 y3 x w g fg := by
  funext i
  have h0 : (i 0).val < 16384 := (i 0).isLt
  rw [val_main_v30_apply, idx_out]
  refine (normed_eq y0 y1 y2 y3 x w g fg _ _ _).trans ?_
  rw [show tok ⟨(i 0).val / 8192, Nat.div_lt_of_lt_mul (i 0).isLt⟩ ⟨(i 0).val % 8192, Nat.mod_lt _ (by decide)⟩ = i 0 from
    Fin.ext (by show (i 0).val / 8192 * 8192 + (i 0).val % 8192 = (i 0).val; omega)]
  rfl

end Cert.RefValue

end
-- ==== Proof.Norm.lean ====
/- One row of the layer before its products: the row with its embedding added, and the normed and modulated row. -/
module

public import Idealize.ShloMosaic.Init
public import Idealize.ShloMosaic.Lib.Pointwise.Tactic

@[expose] public section

noncomputable section

namespace Cert.Norm

open Idealize.ShloMosaic

/-- A row with its embedding: the row table's features first, then the column table's. -/
def embed (x : Fin 1024 → EReal) (er ec : Fin 512 → EReal) (d : Fin 1024) : EReal :=
  x d + if h : d.val < 512 then er ⟨d.val, h⟩ else ec ⟨d.val - 512, by omega⟩

/-- The row over the root of its mean square, times the gain. -/
def normed (x g : Fin 1024 → EReal) (d : Fin 1024) : EReal :=
  x d * Ideal.rsqrt (Ideal.div (∑ e : Fin 1024, x e * x e) (Ideal.ofBits .f32 0x44800000#32) + Ideal.ofBits .f32 0x358637BD#32) * g d

/-- The normed row, scaled and shifted. -/
def modulated (x g sc sh : Fin 1024 → EReal) (d : Fin 1024) : EReal :=
  normed x g d * (1 + sc d) + sh d

/-- One element of a modulated row times a weight column. -/
def proj (x g sc sh w : Fin 1024 → EReal) : EReal := ∑ k : Fin 1024, modulated x g sc sh k * w k

theorem proj_congr {x x' g g' sc sc' sh sh' w w' : Fin 1024 → EReal} (hx : x = x') (hg : g = g') (hc : sc = sc') (hs : sh = sh')
    (hw : w = w') : proj x g sc sh w = proj x' g' sc' sh' w' := by
  subst hx hg hc hs hw; rfl

theorem proj_of {h x g sc sh w w' : Fin 1024 → EReal} (hh : ∀ k, h k = modulated x g sc sh k) (hw : ∀ k, w' k = w k) :
    ∑ k : Fin 1024, h k * w' k = proj x g sc sh w :=
  Finset.sum_congr rfl fun k _ => congrArg₂ (· * ·) (hh k) (hw k)

theorem embed_congr {x x' : Fin 1024 → EReal} {er er' ec ec' : Fin 512 → EReal} (hx : x = x') (hr : er = er') (hc : ec = ec') :
    embed x er ec = embed x' er' ec' := by
  subst hx hr hc; rfl

end Cert.Norm

end
-- ==== Proof.Block2.lean ====
/- What one grid point of the input projection leaves in its block, element by element: a row, normed and modulated, times a
   column of the weights. -/
module

public import proofs.«01_k».proof.Proof.Norm
public import proofs.«01_k».proof.Proof.Gen.Kernel2Ideal.Frame
public import Idealize.ShloMosaic.Lib.Pointwise.Reduce
public import Idealize.ShloMosaic.Lib.Pointwise.Select
public import Idealize.ShloMosaic.Lib.Pointwise.Reshape
public import Idealize.ShloMosaic.Lib.Pointwise.Contract
public import Idealize.ShloMosaic.Lib.Pipeline.ValueKit

@[expose] public section

noncomputable section

namespace Cert.Block2

open Idealize.ShloMosaic Cert.Kernel2Ideal Cert.Kernel2Ideal.Gen

variable (x0 : Vec Ideal S8x64x1024 .f32) (x1 : Vec Ideal S8x1x512 .f32) (x2 : Vec Ideal S64x512 .f32) (x3 : Vec Ideal S1x1024 .f32)
   (x4 x5 : Vec Ideal S1x1x1024 .f32) (x6 : Vec Ideal S1024x6144 .bf16)

/-- Row `r` of the block, from the row's parts of the five input blocks. -/
def emb (r : Fin 512) (d : Fin 1024) : EReal :=
  Norm.embed (fun d => x0 (ix3 ⟨r.val / 64, by omega⟩ ⟨r.val % 64, by omega⟩ d)) (fun l => x1 (ix3 ⟨r.val / 64, by omega⟩ 0 l)) (fun l => x2 (ix2 ⟨r.val % 64, by omega⟩ l)) d

theorem embed_lo (r : Fin 512) (l : Fin 512) (h : l.val < 1024) : emb x0 x1 x2 r ⟨l.val, h⟩ =
    x0 (ix3 ⟨r.val / 64, by omega⟩ ⟨r.val % 64, by omega⟩ ⟨l.val, h⟩) + x1 (ix3 ⟨r.val / 64, by omega⟩ 0 l) := by
  unfold emb Norm.embed; rw [dif_pos l.isLt]

theorem embed_hi (r : Fin 512) (l : Fin 512) (h : 512 + l.val < 1024) : emb x0 x1 x2 r ⟨512 + l.val, h⟩ =
    x0 (ix3 ⟨r.val / 64, by omega⟩ ⟨r.val % 64, by omega⟩ ⟨512 + l.val, h⟩) + x2 (ix2 ⟨r.val % 64, by omega⟩ l) := by
  unfold emb Norm.embed; rw [dif_neg (by show ¬ (512 + l.val < 512); omega)]
  exact congrArg (fun j => x0 _ + x2 (ix2 _ j)) (Fin.ext (by show 512 + l.val - 512 = l.val; omega))

/-- Row `r` of the block the products take. -/
def row (r : Fin 512) (d : Fin 1024) : EReal :=
  Norm.modulated (emb x0 x1 x2 r) (fun d => x3 (ix2 0 d)) (fun d => x5 (ix3 0 0 d)) (fun d => x4 (ix3 0 0 d)) d

theorem sum_halves (f : Fin 1024 → EReal) :
    ∑ e : Fin 1024, f e = ∑ l : Fin 512, f ⟨l.val, by omega⟩ + ∑ l : Fin 512, f ⟨512 + l.val, by omega⟩ :=
  Fin.sum_univ_add (a := 512) (b := 512) f

theorem pay2_apply (r : Fin 512) (d : Fin 1024) : k0_pay2 x0 x1 x2 x3 x5 x4 (ix2 r d) = row x0 x1 x2 x3 x4 x5 r d := by
  unfold k0_pay2
  pointwise
  unfold row Norm.modulated Norm.normed
  refine congrArg₂ (· + ·) (congrArg₂ (· * ·) (congrArg₂ (· * ·) (congrArg₂ (· * ·) ?_
    (congrArg Ideal.rsqrt (congrArg (· + _) (congrArg (Ideal.div · _) (Eq.trans ?_ (sum_halves _).symm))))) rfl) rfl) rfl
  swap
  · simp only [embed_lo, embed_hi]
  unfold emb Norm.embed
  split
  · rfl
  · exact congrArg (fun j => x0 (ix3 _ _ j) + _) (Fin.ext (by show 512 + (d.val - 512) = d.val; omega))

theorem pay3_apply (h : Vec Ideal S512x1024 .bf16) (w : Vec Ideal S1024x512 .bf16) (r c : Fin 512)  : k0_pay3 h w (ix2 r c) = ∑ k : Fin 1024, h (ix2 r k) * w (ix2 k c) := by
  unfold k0_pay3
  pointwise

/-- The product of the block's rows with the whole weight matrix. -/
def prod (h : Vec Ideal S512x1024 .bf16) (w : Vec Ideal S1024x6144 .bf16) (i : S512x6144.Idx) : EReal :=
  ∑ k : Fin 1024, h (ix2 (i 0) k) * w (ix2 k (i 1))

theorem chunk (h : Vec Ideal S512x1024 .bf16) (o : ℕ) (inb : ∀ a, (![0, o] : Fin 2 → ℕ) a + S1024x512.size a ≤ S1024x6144.size a)
    (inb' : ∀ a, (![0, o] : Fin 2 → ℕ) a + S512x512.size a ≤ S512x6144.size a) (x : S512x512.Idx) :
    k0_pay3 h (View.ld x6 (Rect.unit (s := S1024x6144) ![0, o] S1024x512.size inb)) x
      = prod h x6 ((Rect.unit (s := S512x6144) ![0, o] S512x512.size inb').emb x) := by
  obtain ⟨r, c, rfl⟩ : ∃ (r : Fin 512) (c : Fin 512), x = ix2 r c := ⟨x 0, x 1, eq_ix2 x⟩
  rw [pay3_apply]
  unfold prod
  refine Finset.sum_congr rfl fun k _ => congrArg₂ (· * ·) (congrArg h (congrArg₂ ix2 (Fin.ext ?_) rfl)) ?_
  · simp only [Rect.emb_apply]; show _ = 0 + 1 * r.val; simp
  · pointwise
    exact congrArg (fun j => x6 (ix2 k j)) (Fin.ext (by simp [Rect.emb_apply]))

theorem out_apply (r : Fin 512) (d : Fin 6144) : out0_7 x0 x1 x2 x3 x4 x5 x6 (ix2 r d) = ∑ k : Fin 1024, row x0 x1 x2 x3 x4 x5 r k * x6 (ix2 k d) := by
  unfold_out out0_7
  frame_out
  refine (View.canon_apply_of_pieces (prod (k0_pay2 x0 x1 x2 x3 x5 x4) x6) _ ?_ _ (cover0_7 _ _ _ _ _ _ _ _ _ _ _ _ _)).trans ?_
  · simp only [List.forall_mem_cons, List.not_mem_nil, false_imp_iff, implies_true, and_true]
    refine ⟨?_, ?_, ?_, ?_, ?_, ?_, ?_, ?_, ?_, ?_, ?_, ?_⟩ <;> exact fun x => chunk _ _ _ _ _ x
  · exact Finset.sum_congr rfl fun k _ => congrArg (· * _) (pay2_apply ..)
end Cert.Block2

end
-- ==== Proof.Value2.lean ====
/- The input projection's result array, element by element, in terms of its arguments. -/
module

public import proofs.«01_k».proof.Proof.Block2
public import proofs.«01_k».proof.Proof.Gen.Kernel2Ideal.Value
public import Idealize.ShloMosaic.Lib.Claim

@[expose] public section

noncomputable section

namespace Cert.Value2

open Idealize.ShloMosaic Idealize.ShloMosaic.TcCoe Cert.Kernel2Ideal Cert.Kernel2Ideal.Gen
open Idealize.ShloMosaic.Pipeline (Dat)

/-- Row `n` of the tokens with its embedding, from the tokens by image row and column. -/
def rowIn (x : Vec Ideal S256x64x1024 .f32) (er : Vec Ideal S128x1x512 .f32) (ec : Vec Ideal S64x512 .f32) (n : Fin 16384)
    (d : Fin 1024) : EReal :=
  Norm.embed (fun d => x (ix3 ⟨n.val / 64, by omega⟩ ⟨n.val % 64, by omega⟩ d)) (fun l => er (ix3 ⟨n.val / 64 % 128, by omega⟩ 0 l))
    (fun l => ec (ix2 ⟨n.val % 64, by omega⟩ l)) d

/-- The projection before its arguments are laid out. -/
def elem (x : Vec Ideal S256x64x1024 .f32) (er : Vec Ideal S128x1x512 .f32) (ec : Vec Ideal S64x512 .f32) (g : Vec Ideal S1x1024 .f32)
    (sh sc : Vec Ideal S2x1x1024 .f32) (w : Vec Ideal S1024x6144 .bf16) (i : S16384x6144.Idx) : EReal :=
  Norm.proj (rowIn x er ec (i 0)) (fun d => g (ix2 0 d))
    (fun d => sc (ix3 ⟨(i 0).val / 8192, Nat.div_lt_of_lt_mul (i 0).isLt⟩ 0 d))
    (fun d => sh (ix3 ⟨(i 0).val / 8192, Nat.div_lt_of_lt_mul (i 0).isLt⟩ 0 d)) (fun k => w (ix2 k (i 1)))

variable (m : (ℓ : Loc nD τ sig) → Buf (Elt Ideal) ℓ) (c : Dev nD)

theorem idx : ∀ t : Fin cfg0.N, win0_0.index t = ![t.val, 0, 0] ∧ win0_1.index t = ![t.val % 16, 0, 0] ∧ win0_2.index t = ![0, 0]
    ∧ win0_3.index t = ![0, 0] ∧ win0_4.index t = ![t.val / 16, 0, 0] ∧ win0_5.index t = ![t.val / 16, 0, 0] ∧ win0_6.index t = ![0, 0]
    ∧ win0_7.index t = ![t.val, 0] :=
  (by decide +kernel : ∀ t : Fin grid0.N, _)

theorem final : (dats m 0 c).arrAt 7 cfg0.N = fun i : S16384x6144.Idx => elem (V m c main_v1) (V m c main_arg1) (V m c main_arg2) (V m c main_v2)
    (V m c main_arg4) (V m c main_arg5) (V m c main_v0) i := by
  refine (dats m 0 c).arrAt_eq_of_covers 7 _ (by decide +kernel) (fun t hf y => ?_)
  blk_simp
  rw [after0_7]
  obtain ⟨e0, e1, e2, e3, e4, e5, e6, e7⟩ := idx t
  have ht : t.val < 32 := t.isLt
  obtain ⟨r, d, rfl⟩ : ∃ (r : Fin 512) (d : Fin 6144), y = ix2 r d := ⟨y 0, y 1, eq_ix2 y⟩
  refine (Block2.out_apply _ _ _ _ _ _ _ r d).trans (Norm.proj_congr ?_ ?_ ?_ ?_ ?_)
  · funext d
    refine congrFun (Norm.embed_congr ?_ ?_ ?_) d
    · funext d; blk_ext! [iblk, e0, e7]
    · funext l; blk_ext! [iblk, e1, e7]
    · funext l; blk_ext! [iblk, e2, e7]
  · funext d; blk_ext! [iblk, e3, e7]
  · funext d; blk_ext! [iblk, e5, e7]
  · funext d; blk_ext! [iblk, e4, e7]
  · funext k; blk_ext! [iblk, e6, e7]

/-- An argument array at launch. -/
abbrev arg (b : Ref sig .tc) : Buf (Elt Ideal) ((c : Thread nD τ).loc b) := m ((c : Thread nD τ).loc b)

/-- Row `n` of the tokens with its embedding, from the tokens by batch and position. -/
def rowOf (x : Vec Ideal S2x8192x1024 .f32) (er : Vec Ideal S128x1x512 .f32) (ec : Vec Ideal S64x512 .f32) (n : Fin 16384)
    (d : Fin 1024) : EReal :=
  Norm.embed (fun d => x (ix3 ⟨n.val / 8192, by omega⟩ ⟨n.val % 8192, by omega⟩ d))
    (fun l => er (ix3 ⟨n.val / 64 % 128, by omega⟩ 0 l)) (fun l => ec (ix2 ⟨n.val % 64, by omega⟩ l)) d

/-- The whole projection, from the seven arguments. -/
def result (x : Vec Ideal S2x8192x1024 .f32) (er : Vec Ideal S128x1x512 .f32) (ec : Vec Ideal S64x512 .f32) (g : Vec Ideal S1024 .f32)
    (sh sc : Vec Ideal S2x1x1024 .f32) (w : Vec Ideal S1024x6144 .f32) : Vec Ideal S16384x6144 .bf16 := fun i =>
  Norm.proj (rowOf x er ec (i 0)) (fun d => g (ix1 d)) (fun d => sc (ix3 ⟨(i 0).val / 8192, Nat.div_lt_of_lt_mul (i 0).isLt⟩ 0 d))
    (fun d => sh (ix3 ⟨(i 0).val / 8192, Nat.div_lt_of_lt_mul (i 0).isLt⟩ 0 d)) (fun k => w (ix2 k (i 1)))

theorem weights : V m c main_v0 = arg m c main_arg6 := by
  show StableHlo.after hostOps0 _ _ = _
  after_results
  funext i
  pointwise

theorem tokens : V m c main_v1 = fun i : S256x64x1024.Idx => arg m c main_arg0 (ix3
      ⟨((i 0).val * 64 + (i 1).val) / 8192, Nat.div_lt_of_lt_mul (by have := (i 0).isLt; have := (i 1).isLt; simp at *; omega)⟩
      ⟨((i 0).val * 64 + (i 1).val) % 8192, Nat.mod_lt _ (by decide)⟩ (i 2)) := by
  show StableHlo.after hostOps0 _ _ = _
  after_results
  funext i
  pointwise
  have h0 : (i 0).val < 256 := (i 0).isLt
  have h1 : (i 1).val < 64 := (i 1).isLt
  refine congrArg (arg m c main_arg0) ?_
  congr 1 <;> apply Fin.ext
  · show (i 0).val / 128 = ((i 0).val * 64 + (i 1).val) / 8192
    omega
  · show (i 0).val % 128 * 64 + (i 1).val = ((i 0).val * 64 + (i 1).val) % 8192
    omega

theorem gain : V m c main_v2 = fun i : S1x1024.Idx => arg m c main_arg3 (ix1 (i 1)) := by
  show StableHlo.after hostOps0 _ _ = _
  after_results
  funext i
  pointwise

/-- What the result array holds. -/
def OUT : Vec Ideal S16384x6144 .bf16 :=
  result (arg m c main_arg0) (arg m c main_arg1) (arg m c main_arg2) (arg m c main_arg3) (arg m c main_arg4) (arg m c main_arg5)
    (arg m c main_arg6)

theorem value : (dats m 0 c).arrAt 7 cfg0.N = OUT m c := by
  rw [final, tokens, gain, weights, V_main_arg1, V_main_arg2, V_main_arg4, V_main_arg5]
  funext i
  refine Norm.proj_congr ?_ rfl rfl rfl rfl
  funext d
  refine congrFun (Norm.embed_congr ?_ rfl rfl) d
  funext d
  refine congrArg (arg m c main_arg0) ?_
  congr 1 <;> apply Fin.ext
  · show ((i 0).val / 64 * 64 + (i 0).val % 64) / 8192 = (i 0).val / 8192
    omega
  · show ((i 0).val / 64 * 64 + (i 0).val % 64) % 8192 = (i 0).val % 8192
    omega

end Cert.Value2

end
-- ==== Proof.RefValue2.lean ====
/- The plain projection's result, element by element: the same row times the same column. -/
module

public import proofs.«01_k».proof.Proof.Value2
public import proofs.«01_k».proof.Proof.Gen.Reference2Ideal.Read

@[expose] public section

noncomputable section

namespace Cert.RefValue2

open Idealize.ShloMosaic Idealize.ShloMosaic.TcCoe Cert.Reference2Ideal Cert.Reference2Ideal.Gen Cert.Reference2Ideal.Read

variable (x : Vec Ideal S2x8192x1024 .f32) (er : Vec Ideal S128x1x512 .f32) (ec : Vec Ideal S64x512 .f32) (g : Vec Ideal S1024 .f32)
  (sh sc : Vec Ideal S2x1x1024 .f32) (w : Vec Ideal S1024x6144 .f32)

theorem zero_eq : (FloatOps.ofBits (F := Ideal) .f32 0#32) = (0 : EReal) := Ideal.ofBits_zero_f32

theorem one_eq : (FloatOps.ofBits (F := Ideal) .f32 0x3F800000#32) = (1 : EReal) := Ideal.ofBits_one_f32

/-- The token of batch `b`, position `s`. -/
def tok (b : Fin 2) (s : Fin 8192) : Fin 16384 := ⟨b.val * 8192 + s.val, by omega⟩

theorem idx_emb (s : Fin 8192) (d : Fin 1024) : idx_main_v4 (ix2 s d) = ix3 ⟨s.val / 64, by omega⟩ ⟨s.val % 64, by omega⟩ d := by
  have hd := d.isLt
  refine (eq_ix3 _).trans ?_
  congr 1 <;> apply Fin.ext
  · show (s.val * 1024 + d.val) / 65536 = s.val / 64
    omega
  · show (s.val * 1024 + d.val) / 1024 % 64 = s.val % 64
    omega
  · show (s.val * 1024 + d.val) % 1024 = d.val
    omega

theorem emb_eq (b : Fin 2) (s : Fin 8192) (d : Fin 1024) : val_main_v7 x er ec (ix3 b s d) = Value2.rowOf x er ec (tok b s) d := by
  rw [val_main_v7_apply, val_main_v6_apply, val_main_v5_apply, val_main_v4_apply,
    show idx_main_v5 (idx_main_v6 (ix3 b s d)) = ix2 s d from eq_ix2 _, idx_emb]
  unfold val_main_v3
  pointwise
  have hb := b.isLt
  have hs := s.isLt
  unfold Value2.rowOf Norm.embed
  refine congrArg₂ (· + ·) (congrArg x ?_) ?_
  · congr 1 <;> apply Fin.ext
    · show b.val = (b.val * 8192 + s.val) / 8192
      omega
    · show s.val = (b.val * 8192 + s.val) % 8192
      omega
  split
  · rw [val_main_v0_apply]
    refine congrArg er ((eq_ix3 _).trans ?_)
    congr 1
    exact Fin.ext (by show s.val / 64 = (b.val * 8192 + s.val) / 64 % 128; omega)
  · rw [val_main_v2_apply, val_main_v1_apply]
    refine congrArg ec ((eq_ix2 _).trans ?_)
    congr 1
    exact Fin.ext (by show s.val % 64 = (b.val * 8192 + s.val) % 64; omega)

theorem mod_eq (b : Fin 2) (s : Fin 8192) (d : Fin 1024) : val_main_v26 x er ec g sh sc (ix3 b s d) =
    Norm.modulated (Value2.rowOf x er ec (tok b s)) (fun d => g (ix1 d)) (fun d => sc (ix3 b 0 d)) (fun d => sh (ix3 b 0 d)) d := by
  rw [val_main_v26_apply, val_main_v24_apply, val_main_v20_apply, val_main_v17_apply, val_main_v16_apply, val_main_v15_apply,
    val_main_v14_apply, val_main_v12_apply, val_main_v10_apply, val_main_v9_apply, val_main_v11_apply, val_main_v13_apply,
    val_main_cst_apply, val_main_cst_0_apply, val_main_cst_1_apply, val_main_v19_apply, val_main_v18_apply, val_main_v23_apply,
    val_main_v22_apply, val_main_v21_apply, val_main_cst_2_apply, val_main_v25_apply]
  have e (k : Fin 1024) : idx_main_v9 (idx_main_v10 (idx_main_v16 (ix3 b s d))) k = ix3 b s k := eq_ix3 _
  simp only [e, val_main_v8_apply, emb_eq]
  rw [show idx_main_v18 (idx_main_v19 (ix3 b s d)) = ix1 d from eq_ix1 _, show idx_main_v23 (ix3 b s d) = ix3 b 0 d from eq_ix3 _,
    show idx_main_v25 (ix3 b s d) = ix3 b 0 d from eq_ix3 _]
  unfold Norm.modulated Norm.normed
  rw [zero_eq, zero_add, one_eq]
  rfl

theorem idx_out (i : S16384x6144.Idx) : idx_main_v28 i =
    ix3 (⟨(i 0).val / 8192, Nat.div_lt_of_lt_mul (i 0).isLt⟩ : Fin 2) (⟨(i 0).val % 8192, Nat.mod_lt _ (by decide)⟩ : Fin 8192) (i 1) := by
  have h0 : (i 0).val < 16384 := (i 0).isLt
  have h1 : (i 1).val < 6144 := (i 1).isLt
  refine (eq_ix3 _).trans ?_
  congr 1
  · exact Fin.ext (by show ((i 0).val * 6144 + (i 1).val) / 50331648 = (i 0).val / 8192; omega)
  · exact Fin.ext (by show ((i 0).val * 6144 + (i 1).val) / 6144 % 8192 = (i 0).val % 8192; omega)
  · exact Fin.ext (by show ((i 0).val * 6144 + (i 1).val) % 6144 = (i 1).val; omega)

theorem result_eq : val_main_v29 x er ec g sh sc w = Value2.result x er ec g sh sc w := by
  funext i
  have h0 : (i 0).val < 16384 := (i 0).isLt
  rw [val_main_v29_apply, val_main_v28_apply, idx_out]
  refine (val_main_v27_apply x er ec g sh sc w _).trans (Norm.proj_of (fun k => ?_) fun k => ?_)
  · refine (congrArg (val_main_v26 x er ec g sh sc) (eq_ix3 _)).trans ((mod_eq x er ec g sh sc _ _ _).trans ?_)
    exact congrArg (fun n : Fin 16384 => Norm.modulated (Value2.rowOf x er ec n) (fun d => g (ix1 d))
      (fun d => sc (ix3 ⟨(i 0).val / 8192, Nat.div_lt_of_lt_mul (i 0).isLt⟩ 0 d))
      (fun d => sh (ix3 ⟨(i 0).val / 8192, Nat.div_lt_of_lt_mul (i 0).isLt⟩ 0 d)) k)
      (Fin.ext (by show (i 0).val / 8192 * 8192 + (i 0).val % 8192 = (i 0).val; omega) :
        tok ⟨(i 0).val / 8192, Nat.div_lt_of_lt_mul (i 0).isLt⟩ ⟨(i 0).val % 8192, Nat.mod_lt _ (by decide)⟩ = i 0)
  · exact congrArg w (eq_ix2 _)

end Cert.RefValue2

end
-- ==== Proof.Merge.lean ====
/- One row of the layer's middle: the two gated output products, the output projection onto the residual, the second norm, the
   shared expert and one router logit. -/
module

public import proofs.«01_k».proof.Proof.Norm

@[expose] public section

noncomputable section

namespace Cert.Merge

open Idealize.ShloMosaic

/-- What one token's row is made of: its own values and the weights every row takes. -/
structure Row where
  /-- the token and its two embeddings -/
  x : Fin 1024 → EReal
  er : Fin 512 → EReal
  ec : Fin 512 → EReal
  /-- the two mixers' rows and their gates -/
  yh : Fin 512 → EReal
  yg : Fin 512 → EReal
  gh : Fin 1024 → EReal
  gg : Fin 1024 → EReal
  /-- the mixers' output weights and the output projection -/
  wh : Fin 512 → Fin 1024 → EReal
  wg : Fin 512 → Fin 1024 → EReal
  wo : Fin 1024 → Fin 1024 → EReal
  /-- the residual's gate, the second norm's gain, scale and shift -/
  g1 : Fin 1024 → EReal
  n2 : Fin 1024 → EReal
  sc : Fin 1024 → EReal
  sh : Fin 1024 → EReal

/-- The shared expert's weights and gate. -/
structure Shared where
  g2 : Fin 1024 → EReal
  gate : Fin 1024 → Fin 256 → EReal
  up : Fin 1024 → Fin 256 → EReal
  down : Fin 256 → Fin 1024 → EReal

/-- One feature of the two mixers, each under its gate. -/
def mix (yh yg wh wg : Fin 512 → EReal) (gh gg : EReal) : EReal :=
  Ideal.logistic gh * (∑ j : Fin 512, yh j * wh j) + Ideal.logistic gg * ∑ j : Fin 512, yg j * wg j

/-- A row of the mixers times a column. -/
def dot (a b : Fin 1024 → EReal) : EReal := ∑ k : Fin 1024, a k * b k

def mixed (R : Row) (k : Fin 1024) : EReal := mix R.yh R.yg (fun j => R.wh j k) (fun j => R.wg j k) (R.gh k) (R.gg k)

/-- The row with the mixers added. -/
def x1 (R : Row) (d : Fin 1024) : EReal := Norm.embed R.x R.er R.ec d + R.g1 d * dot (mixed R) (fun k => R.wo k d)

/-- The second norm's row. -/
def h2 (R : Row) (d : Fin 1024) : EReal := Norm.modulated (x1 R) R.n2 R.sc R.sh d

/-- One hidden feature of the shared expert. -/
def hidden (h gate up : Fin 1024 → EReal) : EReal := dot h gate * Ideal.logistic (dot h gate) * dot h up

/-- The shared expert's row. -/
def expert (S : Shared) (h : Fin 1024 → EReal) (d : Fin 1024) : EReal :=
  ∑ f : Fin 256, hidden h (fun k => S.gate k f) (fun k => S.up k f) * S.down f d

/-- The row with the shared expert added. -/
def xres (R : Row) (S : Shared) (d : Fin 1024) : EReal := x1 R d + S.g2 d * expert S (h2 R) d

/-- A router logit as three products: the weights' and the row's leading parts, and each one's rest with the other's leading part. -/
def logit3 (h w wl : Fin 1024 → EReal) : EReal :=
  (∑ k : Fin 1024, w k * h k) + ((∑ k : Fin 1024, wl k * h k) + ∑ k : Fin 1024, w k * (h k - h k))

theorem Row.congr {R R' : Row} (h0 : R.x = R'.x) (h1 : R.er = R'.er) (h2 : R.ec = R'.ec) (h3 : R.yh = R'.yh) (h4 : R.yg = R'.yg)
    (h5 : R.gh = R'.gh) (h6 : R.gg = R'.gg) (h7 : R.wh = R'.wh) (h8 : R.wg = R'.wg) (h9 : R.wo = R'.wo) (h10 : R.g1 = R'.g1)
    (h11 : R.n2 = R'.n2) (h12 : R.sc = R'.sc) (h13 : R.sh = R'.sh) : R = R' := by
  cases R; cases R'; simp only at *; subst h0 h1 h2 h3 h4 h5 h6 h7 h8 h9 h10 h11 h12 h13; rfl

theorem Shared.congr {S S' : Shared} (h0 : S.g2 = S'.g2) (h1 : S.gate = S'.gate) (h2 : S.up = S'.up) (h3 : S.down = S'.down) :
    S = S' := by
  cases S; cases S'; simp only at *; subst h0 h1 h2 h3; rfl

theorem dot_of {a b a' b' : Fin 1024 → EReal} (ha : ∀ k, a' k = a k) (hb : ∀ k, b' k = b k) :
    ∑ k : Fin 1024, a' k * b' k = dot a b :=
  Finset.sum_congr rfl fun k _ => congrArg₂ (· * ·) (ha k) (hb k)

theorem dot_comm {a b a' b' : Fin 1024 → EReal} (ha : ∀ k, a' k = a k) (hb : ∀ k, b' k = b k) :
    ∑ k : Fin 1024, b' k * a' k = dot a b :=
  Finset.sum_congr rfl fun k _ => (mul_comm _ _).trans (congrArg₂ (· * ·) (ha k) (hb k))

theorem mix_of {yh yg wh wg yh' yg' wh' wg' : Fin 512 → EReal} {gh gg gh' gg' : EReal} (h0 : ∀ j, yh' j = yh j) (h1 : ∀ j, yg' j = yg j)
    (h2 : ∀ j, wh' j = wh j) (h3 : ∀ j, wg' j = wg j) (h4 : gh' = gh) (h5 : gg' = gg) :
    Ideal.logistic gh' * (∑ j : Fin 512, yh' j * wh' j) + Ideal.logistic gg' * (∑ j : Fin 512, yg' j * wg' j) = mix yh yg wh wg gh gg := by
  subst h4 h5
  exact congrArg₂ (· + ·) (congrArg (_ * ·) (Finset.sum_congr rfl fun k _ => congrArg₂ (· * ·) (h0 k) (h2 k)))
    (congrArg (_ * ·) (Finset.sum_congr rfl fun k _ => congrArg₂ (· * ·) (h1 k) (h3 k)))

theorem expert_of (S : Shared) {h : Fin 1024 → EReal} {d : Fin 1024} {a b : Fin 256 → EReal}
    (ha : ∀ f, a f = hidden h (fun k => S.gate k f) (fun k => S.up k f)) (hb : ∀ f, b f = S.down f d) :
    ∑ f : Fin 256, a f * b f = expert S h d :=
  Finset.sum_congr rfl fun f _ => congrArg₂ (· * ·) (ha f) (hb f)

/-- A value that is a real number. -/
def IsReal (x : EReal) : Prop := ∃ r : ℝ, x = (r : EReal)

theorem IsReal.add {x y : EReal} : IsReal x → IsReal y → IsReal (x + y) := by
  rintro ⟨r, rfl⟩ ⟨s, rfl⟩; exact ⟨r + s, (EReal.coe_add r s).symm⟩

theorem IsReal.mul {x y : EReal} : IsReal x → IsReal y → IsReal (x * y) := by
  rintro ⟨r, rfl⟩ ⟨s, rfl⟩; exact ⟨r * s, (EReal.coe_mul r s).symm⟩

theorem IsReal.sum {n : ℕ} {f : Fin n → EReal} (h : ∀ i, IsReal (f i)) : IsReal (∑ i, f i) :=
  Finset.sum_induction f IsReal (fun _ _ => IsReal.add) ⟨0, rfl⟩ fun i _ => h i

theorem IsReal.logistic {x : EReal} : IsReal x → IsReal (Ideal.logistic x) := by
  rintro ⟨r, rfl⟩; exact ⟨_, Ideal.logistic_coe r⟩

theorem IsReal.sub_self {x : EReal} : IsReal x → x - x = 0 := by
  rintro ⟨r, rfl⟩; rw [← EReal.coe_sub, _root_.sub_self]; rfl

theorem isReal_of_abs {x : EReal} (h : max x (-x) < ⊤) : IsReal x := by
  induction x with
  | bot => simp at h
  | top => simp at h
  | coe r => exact ⟨r, rfl⟩

theorem sum_sq {n : ℕ} {f : Fin n → EReal} (h : ∀ i, IsReal (f i)) : ∃ r : ℝ, 0 ≤ r ∧ ∑ i, f i * f i = (r : EReal) :=
  Finset.sum_induction (fun i => f i * f i) (fun x => ∃ r : ℝ, 0 ≤ r ∧ x = (r : EReal))
    (by rintro _ _ ⟨r, hr, rfl⟩ ⟨s, hs, rfl⟩; exact ⟨r + s, add_nonneg hr hs, (EReal.coe_add r s).symm⟩) ⟨0, le_rfl, rfl⟩
    fun i _ => by obtain ⟨r, hr⟩ := h i; exact ⟨r * r, mul_self_nonneg r, by simp only [hr, ← EReal.coe_mul]⟩

theorem modulated_real {x g sc sh : Fin 1024 → EReal} (hx : ∀ d, IsReal (x d)) (hg : ∀ d, IsReal (g d)) (hc : ∀ d, IsReal (sc d))
    (hs : ∀ d, IsReal (sh d)) (d : Fin 1024) : IsReal (Norm.modulated x g sc sh d) := by
  have hr : IsReal (Ideal.rsqrt (Ideal.div (∑ e : Fin 1024, x e * x e) (Ideal.ofBits .f32 0x44800000#32) + Ideal.ofBits .f32 0x358637BD#32)) := by
    obtain ⟨r, h0, hr⟩ := sum_sq hx
    obtain ⟨n, hn, en⟩ : ∃ n : ℝ, 0 < n ∧ Ideal.ofBits .f32 0x44800000#32 = (n : EReal) :=
      ⟨1024, by norm_num, by simp [Ideal.ofBits, Ideal.ieee, -EReal.coe_mul]; norm_num⟩
    obtain ⟨e, he, ee⟩ : ∃ e : ℝ, 0 < e ∧ Ideal.ofBits .f32 0x358637BD#32 = (e : EReal) :=
      ⟨8796093 * (2 ^ 43)⁻¹, by positivity, by simp [Ideal.ofBits, Ideal.ieee, -EReal.coe_mul]⟩
    rw [hr, en, ee, Ideal.div, if_neg (by exact_mod_cast hn.ne'), ← EReal.coe_inv, ← EReal.coe_mul, ← EReal.coe_add]
    have hp : 0 < r * n⁻¹ + e := by positivity
    rw [Ideal.rsqrt_coe, if_neg (not_lt.2 hp.le), if_neg hp.ne']
    exact ⟨_, rfl⟩
  exact (((hx d).mul hr).mul (hg d)).mul (IsReal.add ⟨1, rfl⟩ (hc d)) |>.add (hs d)

theorem mixed_real {R : Row} (h3 : ∀ j, IsReal (R.yh j)) (h4 : ∀ j, IsReal (R.yg j)) (h5 : ∀ k, IsReal (R.gh k)) (h6 : ∀ k, IsReal (R.gg k))
    (h7 : ∀ j k, IsReal (R.wh j k)) (h8 : ∀ j k, IsReal (R.wg j k)) (k : Fin 1024) : IsReal (mixed R k) :=
  ((h5 k).logistic.mul (IsReal.sum fun j => (h3 j).mul (h7 j k))).add ((h6 k).logistic.mul (IsReal.sum fun j => (h4 j).mul (h8 j k)))

theorem h2_real {R : Row} (h0 : ∀ d, IsReal (R.x d)) (h1 : ∀ d, IsReal (R.er d)) (h2 : ∀ d, IsReal (R.ec d)) (h3 : ∀ j, IsReal (R.yh j))
    (h4 : ∀ j, IsReal (R.yg j)) (h5 : ∀ k, IsReal (R.gh k)) (h6 : ∀ k, IsReal (R.gg k))
    (h7 : ∀ j k, IsReal (R.wh j k)) (h8 : ∀ j k, IsReal (R.wg j k)) (h9 : ∀ j k, IsReal (R.wo j k)) (h10 : ∀ k, IsReal (R.g1 k))
    (h11 : ∀ k, IsReal (R.n2 k)) (h12 : ∀ k, IsReal (R.sc k)) (h13 : ∀ k, IsReal (R.sh k)) (d : Fin 1024) : IsReal (Merge.h2 R d) := by
  refine modulated_real (fun d => ?_) h11 h12 h13 d
  refine IsReal.add (IsReal.add (h0 d) ?_) ((h10 d).mul (IsReal.sum fun k => (mixed_real h3 h4 h5 h6 h7 h8 k).mul (h9 k d)))
  split
  · exact h1 _
  · exact h2 _

/-- The logit with its operands split into a part and a rest: the rests of real values are zero. -/
theorem logit_split {h w : Fin 1024 → EReal} (hh : ∀ k, IsReal (h k)) (hw : ∀ k, IsReal (w k)) :
    logit3 h w (fun k => w k - w k) = dot h w := by
  unfold logit3
  have e1 : ∑ k : Fin 1024, (w k - w k) * h k = 0 := Finset.sum_eq_zero fun k _ => by rw [(hw k).sub_self, zero_mul]
  have e2 : ∑ k : Fin 1024, w k * (h k - h k) = 0 := Finset.sum_eq_zero fun k _ => by rw [(hh k).sub_self, mul_zero]
  rw [e1, e2, add_zero, add_zero]
  exact dot_comm (fun _ => rfl) (fun _ => rfl)

end Cert.Merge

end
-- ==== Proof.Block3.lean ====
/- What one grid point of the merge call leaves in its three blocks, element by element. -/
module

public import proofs.«01_k».proof.Proof.Merge
public import proofs.«01_k».proof.Proof.Gen.Kernel3Ideal.Frame
public import Idealize.ShloMosaic.Lib.Pointwise.Reduce
public import Idealize.ShloMosaic.Lib.Pointwise.Select
public import Idealize.ShloMosaic.Lib.Pointwise.Reshape
public import Idealize.ShloMosaic.Lib.Pointwise.Contract
public import Idealize.ShloMosaic.Lib.Pipeline.ValueKit

@[expose] public section

noncomputable section

namespace Cert.Block3

open Idealize.ShloMosaic Cert.Kernel3Ideal Cert.Kernel3Ideal.Gen

theorem embed_apply (x0 : Vec Ideal S8x64x1024 .f32) (x1 : Vec Ideal S8x1x512 .f32) (x2 : Vec Ideal S64x512 .f32) (r : Fin 512)
    (d : Fin 1024) : k0_pay3 x0 x1 x2 (ix2 r d) =
      Norm.embed (fun d => x0 (ix3 ⟨r.val / 64, by omega⟩ ⟨r.val % 64, by omega⟩ d)) (fun l => x1 (ix3 ⟨r.val / 64, by omega⟩ 0 l))
        (fun l => x2 (ix2 ⟨r.val % 64, by omega⟩ l)) d := by
  unfold k0_pay3
  pointwise
  unfold Norm.embed
  split
  · rfl
  · exact congrArg (fun j => x0 (ix3 _ _ j) + _) (Fin.ext (by show 512 + (d.val - 512) = d.val; omega))

theorem mix_apply (v13 v21 : Vec Ideal S512x1024 .bf16) (v16 v24 : Vec Ideal S512x512 .bf16) (v17 v25 : Vec Ideal S512x1024 .bf16)
    (r : Fin 512) (k : Fin 1024) : k0_pay5 v13 v16 v17 v21 v24 v25 (ix2 r k) =
      Merge.mix (fun j => v16 (ix2 r j)) (fun j => v24 (ix2 r j)) (fun j => v17 (ix2 j k)) (fun j => v25 (ix2 j k))
        (v13 (ix2 r k)) (v21 (ix2 r k)) := by
  unfold k0_pay5
  pointwise
  exact Merge.mix_of (fun _ => rfl) (fun _ => rfl) (fun _ => rfl) (fun _ => rfl) rfl rfl

theorem resid_apply (v12 : Vec Ideal S512x1024 .f32) (v30 : Vec Ideal S1x1x1024 .f32) (v32 : Vec Ideal S512x1024 .bf16)
    (v33 : Vec Ideal S1024x1024 .bf16) (r : Fin 512) (d : Fin 1024) : k0_pay6 v12 (k0_pay4 v30) v32 v33 (ix2 r d) =
      v12 (ix2 r d) + v30 (ix3 0 0 d) * Merge.dot (fun k => v32 (ix2 r k)) (fun k => v33 (ix2 k d)) := by
  unfold k0_pay6 k0_pay4
  pointwise
  exact congrArg (_ + _ * ·) (Merge.dot_of (fun _ => rfl) (fun _ => rfl))

theorem norm_apply (v12 : Vec Ideal S512x1024 .f32) (v31 : Vec Ideal S1x1024 .f32) (v32 : Vec Ideal S512x1024 .bf16)
    (v33 : Vec Ideal S1024x1024 .bf16) (v49 : Vec Ideal S1x1024 .f32) (v53 v59 : Vec Ideal S1x1x1024 .f32) (r : Fin 512)
    (d : Fin 1024) : k0_pay7 v12 v31 v32 v33 v49 v53 v59 (ix2 r d) =
      Norm.modulated (fun e => k0_pay6 v12 v31 v32 v33 (ix2 r e)) (fun d => v49 (ix2 0 d)) (fun d => v53 (ix3 0 0 d))
        (fun d => v59 (ix3 0 0 d)) d := by
  unfold k0_pay7
  generalize k0_pay6 v12 v31 v32 v33 = P
  pointwise
  unfold Norm.modulated Norm.normed
  rfl

theorem round_apply (v12 : Vec Ideal S512x1024 .f32) (v31 : Vec Ideal S1x1024 .f32) (v32 : Vec Ideal S512x1024 .bf16)
    (v33 : Vec Ideal S1024x1024 .bf16) (v49 : Vec Ideal S1x1024 .f32) (v53 v59 : Vec Ideal S1x1x1024 .f32) (i : S512x1024.Idx) :
    k0_pay8 v12 v31 v32 v33 v49 v53 v59 i = k0_pay7 v12 v31 v32 v33 v49 v53 v59 i := rfl

theorem expert_apply (v38 : Vec Ideal S512x1024 .f32) (v63 : Vec Ideal S512x1024 .bf16) (v79 : Vec Ideal S1024x512 .bf16)
    (v88 : Vec Ideal S256x1024 .bf16) (v91 : Vec Ideal S1x1x1024 .f32) (r : Fin 512) (d : Fin 1024) :
    k0_pay2 v38 v63 v79 v88 v91 (ix2 r d) = v38 (ix2 r d) + v91 (ix3 0 0 d) *
      Merge.expert ⟨fun d => v91 (ix3 0 0 d), fun k f => v79 (ix2 k ⟨f.val, by omega⟩), fun k f => v79 (ix2 k ⟨256 + f.val, by omega⟩),
        fun f d => v88 (ix2 f d)⟩ (fun k => v63 (ix2 r k)) d := by
  unfold k0_pay2
  pointwise
  exact congrArg (fun z : EReal => v38 (ix2 r d) + v91 (ix3 0 0 d) * z) (Merge.expert_of _ (fun f => rfl) fun f => rfl)

theorem logit_apply (v12 : Vec Ideal S512x1024 .f32) (v31 : Vec Ideal S1x1024 .f32) (v32 : Vec Ideal S512x1024 .bf16)
    (v33 : Vec Ideal S1024x1024 .bf16) (v49 : Vec Ideal S1x1024 .f32) (v53 v59 : Vec Ideal S1x1x1024 .f32)
    (w wl : Vec Ideal S256x1024 .bf16) (e : Fin 256) (r : Fin 512) :
    k0_pay1 (k0_pay9 v12 v31 v32 v33 v49 v53 v59) (k0_pay10 v12 v31 v32 v33 v49 v53 v59 w) (k0_pay11 v12 v31 v32 v33 v49 v53 v59 wl) w
      (ix2 e r) = (∑ k : Fin 1024, w (ix2 e k) * k0_pay7 v12 v31 v32 v33 v49 v53 v59 (ix2 r k)) +
        ((∑ k : Fin 1024, wl (ix2 e k) * k0_pay7 v12 v31 v32 v33 v49 v53 v59 (ix2 r k)) +
          ∑ k : Fin 1024, w (ix2 e k) * (k0_pay7 v12 v31 v32 v33 v49 v53 v59 (ix2 r k) - k0_pay7 v12 v31 v32 v33 v49 v53 v59 (ix2 r k))) := by
  unfold k0_pay1 k0_pay9 k0_pay10 k0_pay11 k0_pay8
  generalize k0_pay7 v12 v31 v32 v33 v49 v53 v59 = P
  pointwise

variable (x0 : Vec Ideal S8x64x1024 .f32) (x1 : Vec Ideal S8x1x512 .f32) (x2 : Vec Ideal S64x512 .f32) (x3 x4 : Vec Ideal S512x512 .bf16)
  (x5 x6 x7 x8 : Vec Ideal S512x1024 .bf16) (x9 : Vec Ideal S1024x1024 .bf16) (x10 : Vec Ideal S1x1x1024 .f32)
  (x11 : Vec Ideal S1x1024 .f32) (x12 x13 x14 : Vec Ideal S1x1x1024 .f32) (x15 x16 : Vec Ideal S256x1024 .bf16)
  (x17 : Vec Ideal S1024x512 .bf16) (x18 : Vec Ideal S256x1024 .bf16)

/-- Row `r` of the block. -/
def row (r : Fin 512) : Merge.Row where
  x d := x0 (ix3 ⟨r.val / 64, by omega⟩ ⟨r.val % 64, by omega⟩ d)
  er l := x1 (ix3 ⟨r.val / 64, by omega⟩ 0 l)
  ec l := x2 (ix2 ⟨r.val % 64, by omega⟩ l)
  yh j := x3 (ix2 r j)
  yg j := x4 (ix2 r j)
  gh k := x5 (ix2 r k)
  gg k := x6 (ix2 r k)
  wh j k := x7 (ix2 j k)
  wg j k := x8 (ix2 j k)
  wo k d := x9 (ix2 k d)
  g1 d := x10 (ix3 0 0 d)
  n2 d := x11 (ix2 0 d)
  sc d := x13 (ix3 0 0 d)
  sh d := x12 (ix3 0 0 d)

/-- The shared expert's weights as the block holds them. -/
def shared : Merge.Shared where
  g2 d := x14 (ix3 0 0 d)
  gate k f := x17 (ix2 k ⟨f.val, by omega⟩)
  up k f := x17 (ix2 k ⟨256 + f.val, by omega⟩)
  down f d := x18 (ix2 f d)

theorem x1_apply (r : Fin 512) (d : Fin 1024) :
    k0_pay6 (k0_pay3 x0 x1 x2) (k0_pay4 x10) (k0_pay5 x5 x3 x7 x6 x4 x8) x9 (ix2 r d) =
      Merge.x1 (row x0 x1 x2 x3 x4 x5 x6 x7 x8 x9 x10 x11 x12 x13 r) d := by
  rw [resid_apply, embed_apply]
  exact congrArg (_ + _ * Merge.dot · _) (funext fun k => mix_apply ..)

theorem h2_apply (r : Fin 512) (d : Fin 1024) :
    k0_pay7 (k0_pay3 x0 x1 x2) (k0_pay4 x10) (k0_pay5 x5 x3 x7 x6 x4 x8) x9 x11 x13 x12 (ix2 r d) =
      Merge.h2 (row x0 x1 x2 x3 x4 x5 x6 x7 x8 x9 x10 x11 x12 x13 r) d := by
  rw [norm_apply]
  exact congrArg (fun f => Norm.modulated f _ _ _ d) (funext fun e => x1_apply x0 x1 x2 x3 x4 x5 x6 x7 x8 x9 x10 x11 x12 x13 r e)

theorem out20_apply (r : Fin 512) (d : Fin 1024) :
    out0_20 x0 x1 x2 x3 x4 x5 x6 x7 x8 x9 x10 x11 x12 x13 x14 x15 x16 x17 x18 (ix2 r d) =
      Merge.h2 (row x0 x1 x2 x3 x4 x5 x6 x7 x8 x9 x10 x11 x12 x13 r) d := by
  unfold_out out0_20
  frame_out
  rw [round_apply]
  exact h2_apply ..

theorem out19_apply (r : Fin 512) (d : Fin 1024) :
    out0_19 x0 x1 x2 x3 x4 x5 x6 x7 x8 x9 x10 x11 x12 x13 x14 x15 x16 x17 x18 (ix2 r d) =
      Merge.xres (row x0 x1 x2 x3 x4 x5 x6 x7 x8 x9 x10 x11 x12 x13 r) (shared x14 x17 x18) d := by
  unfold_out out0_19
  frame_out
  rw [expert_apply, x1_apply x0 x1 x2 x3 x4 x5 x6 x7 x8 x9 x10 x11 x12 x13]
  exact congrArg (fun h => _ + _ * Merge.expert (shared x14 x17 x18) h d) (funext fun e => h2_apply ..)

theorem out21_apply (e : Fin 256) (r : Fin 512) :
    out0_21 x0 x1 x2 x3 x4 x5 x6 x7 x8 x9 x10 x11 x12 x13 x14 x15 x16 x17 x18 (ix2 e r) =
      Merge.logit3 (Merge.h2 (row x0 x1 x2 x3 x4 x5 x6 x7 x8 x9 x10 x11 x12 x13 r)) (fun k => x15 (ix2 e k)) (fun k => x16 (ix2 e k)) := by
  unfold_out out0_21
  frame_out
  rw [logit_apply]
  exact congrArg (fun h => Merge.logit3 h (fun k => x15 (ix2 e k)) (fun k => x16 (ix2 e k)))
    (funext fun k => h2_apply x0 x1 x2 x3 x4 x5 x6 x7 x8 x9 x10 x11 x12 x13 r k)

end Cert.Block3

end
-- ==== Proof.Value3.lean ====
/- The merge call's three result arrays, element by element, in terms of its arguments. -/
module

public import proofs.«01_k».proof.Proof.Block3
public import proofs.«01_k».proof.Proof.Gen.Kernel3Ideal.Value
public import Idealize.ShloMosaic.Lib.Claim

@[expose] public section

noncomputable section

namespace Cert.Value3

open Idealize.ShloMosaic Idealize.ShloMosaic.TcCoe Cert.Kernel3Ideal Cert.Kernel3Ideal.Gen
open Idealize.ShloMosaic.Pipeline (Dat)

variable (m : (ℓ : Loc nD τ sig) → Buf (Elt Ideal) ℓ) (c : Dev nD)

/-- Row `n`, from the arrays as the call takes them. -/
def rowIn (x : Vec Ideal S256x64x1024 .f32) (er : Vec Ideal S128x1x512 .f32) (ec : Vec Ideal S64x512 .f32) (yh yg : Vec Ideal S16384x512 .bf16)
    (p : Vec Ideal S16384x6144 .bf16) (wh wg : Vec Ideal S512x1024 .bf16) (wo : Vec Ideal S1024x1024 .bf16) (g1 : Vec Ideal S2x1x1024 .f32)
    (n2 : Vec Ideal S1x1024 .f32) (sh sc : Vec Ideal S2x1x1024 .f32) (n : Fin 16384) : Merge.Row where
  x d := x (ix3 ⟨n.val / 64, by omega⟩ ⟨n.val % 64, by omega⟩ d)
  er l := er (ix3 ⟨n.val / 64 % 128, by omega⟩ 0 l)
  ec l := ec (ix2 ⟨n.val % 64, by omega⟩ l)
  yh j := yh (ix2 n j)
  yg j := yg (ix2 n j)
  gh k := p (ix2 n ⟨4096 + k.val, by omega⟩)
  gg k := p (ix2 n ⟨5120 + k.val, by omega⟩)
  wh j k := wh (ix2 j k)
  wg j k := wg (ix2 j k)
  wo k d := wo (ix2 k d)
  g1 d := g1 (ix3 ⟨n.val / 8192, by omega⟩ 0 d)
  n2 d := n2 (ix2 0 d)
  sc d := sc (ix3 ⟨n.val / 8192, by omega⟩ 0 d)
  sh d := sh (ix3 ⟨n.val / 8192, by omega⟩ 0 d)

abbrev rowV (n : Fin 16384) : Merge.Row :=
  rowIn (V m c main_v7) (V m c main_arg1) (V m c main_arg2) (V m c main_arg3) (V m c main_arg4) (V m c main_arg5) (V m c main_v2)
    (V m c main_v3) (V m c main_v4) (V m c main_arg9) (V m c main_v12) (V m c main_arg11) (V m c main_arg12) n

/-- The shared expert's weights as the call takes them, and the gate of row `n`. -/
def sharedIn (g2 : Vec Ideal S2x1x1024 .f32) (gu : Vec Ideal S1024x512 .bf16) (dn : Vec Ideal S256x1024 .bf16) (n : Fin 16384) : Merge.Shared where
  g2 d := g2 (ix3 ⟨n.val / 8192, by omega⟩ 0 d)
  gate k f := gu (ix2 k ⟨f.val, by omega⟩)
  up k f := gu (ix2 k ⟨256 + f.val, by omega⟩)
  down f d := dn (ix2 f d)

abbrev sharedV (n : Fin 16384) : Merge.Shared := sharedIn (V m c main_arg13) (V m c main_v1) (V m c main_v6) n

theorem idx : ∀ t : Fin cfg0.N, win0_0.index t = ![t.val, 0, 0] ∧ win0_1.index t = ![t.val % 16, 0, 0] ∧ win0_2.index t = ![0, 0]
    ∧ win0_3.index t = ![t.val, 0] ∧ win0_4.index t = ![t.val, 0] ∧ win0_5.index t = ![t.val, 4] ∧ win0_6.index t = ![t.val, 5]
    ∧ win0_7.index t = ![0, 0] ∧ win0_8.index t = ![0, 0] ∧ win0_9.index t = ![0, 0] ∧ win0_10.index t = ![t.val / 16, 0, 0]
    ∧ win0_11.index t = ![0, 0] ∧ win0_12.index t = ![t.val / 16, 0, 0] ∧ win0_13.index t = ![t.val / 16, 0, 0]
    ∧ win0_14.index t = ![t.val / 16, 0, 0] ∧ win0_15.index t = ![0, 0] ∧ win0_16.index t = ![0, 0] ∧ win0_17.index t = ![0, 0]
    ∧ win0_18.index t = ![0, 0] ∧ win0_19.index t = ![t.val, 0] ∧ win0_20.index t = ![t.val, 0] ∧ win0_21.index t = ![0, t.val] :=
  (by decide +kernel : ∀ t : Fin grid0.N, _)

/-! A block's element is its array's. -/

theorem blk_x (t : Fin cfg0.N) (r : Fin 512) (n : Fin 16384) (h : n.val = t.val * 512 + r.val) (d : Fin 1024) : iblk m c 0 t (ix3 ⟨r.val / 64, by omega⟩ ⟨r.val % 64, by omega⟩ d) = V m c main_v7 (ix3 ⟨n.val / 64, by omega⟩ ⟨n.val % 64, by omega⟩ d) := by
  have e : win0_0.index t = _ := (idx t).1
  have ht : t.val < 32 := t.isLt
  blk_ext! [iblk, e]

theorem blk_er (t : Fin cfg0.N) (r : Fin 512) (n : Fin 16384) (h : n.val = t.val * 512 + r.val) (d : Fin 512) : iblk m c 1 t (ix3 ⟨r.val / 64, by omega⟩ 0 d) = V m c main_arg1 (ix3 ⟨n.val / 64 % 128, by omega⟩ 0 d) := by
  have e : win0_1.index t = _ := (idx t).2.1
  have ht : t.val < 32 := t.isLt
  blk_ext! [iblk, e]

theorem blk_ec (t : Fin cfg0.N) (r : Fin 512) (n : Fin 16384) (h : n.val = t.val * 512 + r.val) (d : Fin 512) : iblk m c 2 t (ix2 ⟨r.val % 64, by omega⟩ d) = V m c main_arg2 (ix2 ⟨n.val % 64, by omega⟩ d) := by
  have e : win0_2.index t = _ := (idx t).2.2.1
  have ht : t.val < 32 := t.isLt
  blk_ext! [iblk, e]

theorem blk_yh (t : Fin cfg0.N) (r : Fin 512) (n : Fin 16384) (h : n.val = t.val * 512 + r.val) (d : Fin 512) : iblk m c 3 t (ix2 r d) = V m c main_arg3 (ix2 n d) := by
  have e : win0_3.index t = _ := (idx t).2.2.2.1
  have ht : t.val < 32 := t.isLt
  blk_ext! [iblk, e]

theorem blk_yg (t : Fin cfg0.N) (r : Fin 512) (n : Fin 16384) (h : n.val = t.val * 512 + r.val) (d : Fin 512) : iblk m c 4 t (ix2 r d) = V m c main_arg4 (ix2 n d) := by
  have e : win0_4.index t = _ := (idx t).2.2.2.2.1
  have ht : t.val < 32 := t.isLt
  blk_ext! [iblk, e]

theorem blk_gh (t : Fin cfg0.N) (r : Fin 512) (n : Fin 16384) (h : n.val = t.val * 512 + r.val) (d : Fin 1024) : iblk m c 5 t (ix2 r d) = V m c main_arg5 (ix2 n ⟨4096 + d.val, by omega⟩) := by
  have e : win0_5.index t = _ := (idx t).2.2.2.2.2.1
  have ht : t.val < 32 := t.isLt
  blk_ext! [iblk, e]

theorem blk_gg (t : Fin cfg0.N) (r : Fin 512) (n : Fin 16384) (h : n.val = t.val * 512 + r.val) (d : Fin 1024) : iblk m c 6 t (ix2 r d) = V m c main_arg5 (ix2 n ⟨5120 + d.val, by omega⟩) := by
  have e : win0_6.index t = _ := (idx t).2.2.2.2.2.2.1
  have ht : t.val < 32 := t.isLt
  blk_ext! [iblk, e]

theorem blk_wh (t : Fin cfg0.N) (j : Fin 512) (d : Fin 1024) : iblk m c 7 t (ix2 j d) = V m c main_v2 (ix2 j d) := by
  have e : win0_7.index t = _ := (idx t).2.2.2.2.2.2.2.1
  have ht : t.val < 32 := t.isLt
  blk_ext! [iblk, e]

theorem blk_wg (t : Fin cfg0.N) (j : Fin 512) (d : Fin 1024) : iblk m c 8 t (ix2 j d) = V m c main_v3 (ix2 j d) := by
  have e : win0_8.index t = _ := (idx t).2.2.2.2.2.2.2.2.1
  have ht : t.val < 32 := t.isLt
  blk_ext! [iblk, e]

theorem blk_wo (t : Fin cfg0.N) (j : Fin 1024) (d : Fin 1024) : iblk m c 9 t (ix2 j d) = V m c main_v4 (ix2 j d) := by
  have e : win0_9.index t = _ := (idx t).2.2.2.2.2.2.2.2.2.1
  have ht : t.val < 32 := t.isLt
  blk_ext! [iblk, e]

theorem blk_g1 (t : Fin cfg0.N) (n : Fin 16384) (h : n.val / 512 = t.val) (d : Fin 1024) : iblk m c 10 t (ix3 0 0 d) = V m c main_arg9 (ix3 ⟨n.val / 8192, by omega⟩ 0 d) := by
  have e : win0_10.index t = _ := (idx t).2.2.2.2.2.2.2.2.2.2.1
  have ht : t.val < 32 := t.isLt
  blk_ext! [iblk, e]

theorem blk_n2 (t : Fin cfg0.N) (d : Fin 1024) : iblk m c 11 t (ix2 0 d) = V m c main_v12 (ix2 0 d) := by
  have e : win0_11.index t = _ := (idx t).2.2.2.2.2.2.2.2.2.2.2.1
  have ht : t.val < 32 := t.isLt
  blk_ext! [iblk, e]

theorem blk_sc (t : Fin cfg0.N) (n : Fin 16384) (h : n.val / 512 = t.val) (d : Fin 1024) : iblk m c 13 t (ix3 0 0 d) = V m c main_arg12 (ix3 ⟨n.val / 8192, by omega⟩ 0 d) := by
  have e : win0_13.index t = _ := (idx t).2.2.2.2.2.2.2.2.2.2.2.2.2.1
  have ht : t.val < 32 := t.isLt
  blk_ext! [iblk, e]

theorem blk_sh (t : Fin cfg0.N) (n : Fin 16384) (h : n.val / 512 = t.val) (d : Fin 1024) : iblk m c 12 t (ix3 0 0 d) = V m c main_arg11 (ix3 ⟨n.val / 8192, by omega⟩ 0 d) := by
  have e : win0_12.index t = _ := (idx t).2.2.2.2.2.2.2.2.2.2.2.2.1
  have ht : t.val < 32 := t.isLt
  blk_ext! [iblk, e]

theorem blk_g2 (t : Fin cfg0.N) (n : Fin 16384) (h : n.val / 512 = t.val) (d : Fin 1024) : iblk m c 14 t (ix3 0 0 d) = V m c main_arg13 (ix3 ⟨n.val / 8192, by omega⟩ 0 d) := by
  have e : win0_14.index t = _ := (idx t).2.2.2.2.2.2.2.2.2.2.2.2.2.2.1
  have ht : t.val < 32 := t.isLt
  blk_ext! [iblk, e]

theorem blk_rw (t : Fin cfg0.N) (j : Fin 256) (d : Fin 1024) : iblk m c 15 t (ix2 j d) = V m c main_v8 (ix2 j d) := by
  have e : win0_15.index t = _ := (idx t).2.2.2.2.2.2.2.2.2.2.2.2.2.2.2.1
  have ht : t.val < 32 := t.isLt
  blk_ext! [iblk, e]

theorem blk_rl (t : Fin cfg0.N) (j : Fin 256) (d : Fin 1024) : iblk m c 16 t (ix2 j d) = V m c main_v11 (ix2 j d) := by
  have e : win0_16.index t = _ := (idx t).2.2.2.2.2.2.2.2.2.2.2.2.2.2.2.2.1
  have ht : t.val < 32 := t.isLt
  blk_ext! [iblk, e]

theorem blk_gu (t : Fin cfg0.N) (j : Fin 1024) (d : Fin 512) : iblk m c 17 t (ix2 j d) = V m c main_v1 (ix2 j d) := by
  have e : win0_17.index t = _ := (idx t).2.2.2.2.2.2.2.2.2.2.2.2.2.2.2.2.2.1
  have ht : t.val < 32 := t.isLt
  blk_ext! [iblk, e]

theorem blk_dn (t : Fin cfg0.N) (j : Fin 256) (d : Fin 1024) : iblk m c 18 t (ix2 j d) = V m c main_v6 (ix2 j d) := by
  have e : win0_18.index t = _ := (idx t).2.2.2.2.2.2.2.2.2.2.2.2.2.2.2.2.2.2.1
  have ht : t.val < 32 := t.isLt
  blk_ext! [iblk, e]

set_option maxHeartbeats 2000000 in
/-- Row `r` of the block at point `t` is row `512 t + r`. -/
theorem row_eq (t : Fin cfg0.N) (r : Fin 512) (n : Fin 16384) (h : n.val = t.val * 512 + r.val) :
    Block3.row (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (iblk m c 13 t) r = rowV m c n := by
  have h' : n.val / 512 = t.val := by omega
  exact Merge.Row.congr (funext fun d => blk_x m c t r n h d) (funext fun d => blk_er m c t r n h d) (funext fun d => blk_ec m c t r n h d)
    (funext fun d => blk_yh m c t r n h d) (funext fun d => blk_yg m c t r n h d) (funext fun d => blk_gh m c t r n h d)
    (funext fun d => blk_gg m c t r n h d) (funext fun j => funext fun d => blk_wh m c t j d)
    (funext fun j => funext fun d => blk_wg m c t j d) (funext fun j => funext fun d => blk_wo m c t j d)
    (funext fun d => blk_g1 m c t n h' d) (funext fun d => blk_n2 m c t d) (funext fun d => blk_sc m c t n h' d)
    (funext fun d => blk_sh m c t n h' d)

theorem shared_eq (t : Fin cfg0.N) (n : Fin 16384) (h : n.val / 512 = t.val) :
    Block3.shared (iblk m c 14 t) (iblk m c 17 t) (iblk m c 18 t) = sharedV m c n :=
  Merge.Shared.congr (funext fun d => blk_g2 m c t n h d) (funext fun j => funext fun d => blk_gu m c t j _)
    (funext fun j => funext fun d => blk_gu m c t j _) (funext fun j => funext fun d => blk_dn m c t j d)

theorem emb19 (t : Fin cfg0.N) (r : Fin 512) (d : Fin 1024) : (win0_19.blk t).view.emb (ix2 r d) = ix2 ⟨t.val * 512 + r.val, by have : t.val < 32 := t.isLt; omega⟩ d := by
  have e : win0_19.index t = _ := (idx t).2.2.2.2.2.2.2.2.2.2.2.2.2.2.2.2.2.2.2.1
  blk_ext! [e]

theorem final19 : (dats m 0 c).arrAt 19 cfg0.N = fun i : S16384x1024.Idx => Merge.xres (rowV m c (i 0)) (sharedV m c (i 0)) (i 1) := by
  refine (dats m 0 c).arrAt_eq_of_covers 19 _ (by decide +kernel) (fun t hf y => ?_)
  blk_simp
  rw [after0_19]
  obtain ⟨e0, e1, e2, e3, e4, e5, e6, e7, e8, e9, e10, e11, e12, e13, e14, e15, e16, e17, e18, e19, e20, e21⟩ := idx t
  have ht : t.val < 32 := t.isLt
  obtain ⟨r, d, rfl⟩ : ∃ (r : Fin 512) (d : Fin 1024), y = ix2 r d := ⟨y 0, y 1, eq_ix2 y⟩
  refine (Block3.out19_apply _ _ _ _ _ _ _ _ _ _ _ _ _ _ _ _ _ _ _ r d).trans ?_
  rw [row_eq m c t r ⟨t.val * 512 + r.val, by omega⟩ rfl, shared_eq m c t ⟨t.val * 512 + r.val, by omega⟩ (by show (t.val * 512 + r.val) / 512 = t.val; omega), emb19]
  rfl

theorem emb20 (t : Fin cfg0.N) (r : Fin 512) (d : Fin 1024) : (win0_20.blk t).view.emb (ix2 r d) = ix2 ⟨t.val * 512 + r.val, by have : t.val < 32 := t.isLt; omega⟩ d := by
  have e : win0_20.index t = _ := (idx t).2.2.2.2.2.2.2.2.2.2.2.2.2.2.2.2.2.2.2.2.1
  blk_ext! [e]

theorem emb21 (t : Fin cfg0.N) (d : Fin 256) (r : Fin 512) : (win0_21.blk t).view.emb (ix2 d r) = ix2 d ⟨t.val * 512 + r.val, by have : t.val < 32 := t.isLt; omega⟩ := by
  have e : win0_21.index t = _ := (idx t).2.2.2.2.2.2.2.2.2.2.2.2.2.2.2.2.2.2.2.2.2
  blk_ext! [e]

theorem final20 : (dats m 0 c).arrAt 20 cfg0.N = fun i : S16384x1024.Idx => Merge.h2 (rowV m c (i 0)) (i 1) := by
  refine (dats m 0 c).arrAt_eq_of_covers 20 _ (by decide +kernel) (fun t hf y => ?_)
  blk_simp
  rw [after0_20]
  have ht : t.val < 32 := t.isLt
  obtain ⟨r, d, rfl⟩ : ∃ (r : Fin 512) (d : Fin 1024), y = ix2 r d := ⟨y 0, y 1, eq_ix2 y⟩
  refine (Block3.out20_apply _ _ _ _ _ _ _ _ _ _ _ _ _ _ _ _ _ _ _ r d).trans ?_
  rw [row_eq m c t r ⟨t.val * 512 + r.val, by omega⟩ rfl, emb20]
  rfl

theorem final21 : (dats m 0 c).arrAt 21 cfg0.N = fun i : S256x16384.Idx =>
    Merge.logit3 (Merge.h2 (rowV m c (i 1))) (fun k => V m c main_v8 (ix2 (i 0) k)) (fun k => V m c main_v11 (ix2 (i 0) k)) := by
  refine (dats m 0 c).arrAt_eq_of_covers 21 _ (by decide +kernel) (fun t hf y => ?_)
  blk_simp
  rw [after0_21]
  have ht : t.val < 32 := t.isLt
  obtain ⟨d, r, rfl⟩ : ∃ (d : Fin 256) (r : Fin 512), y = ix2 d r := ⟨y 0, y 1, eq_ix2 y⟩
  refine (Block3.out21_apply _ _ _ _ _ _ _ _ _ _ _ _ _ _ _ _ _ _ _ d r).trans ?_
  rw [row_eq m c t r ⟨t.val * 512 + r.val, by omega⟩ rfl, emb21, funext fun k => blk_rw m c t d k, funext fun k => blk_rl m c t d k]
  rfl

end Cert.Value3

end
-- ==== Proof.Result3.lean ====
/- The merge call's three results from the arrays the program is given. -/
module

public import proofs.«01_k».proof.Proof.Value3

@[expose] public section

noncomputable section

namespace Cert.Value3

open Idealize.ShloMosaic Idealize.ShloMosaic.TcCoe Cert.Kernel3Ideal Cert.Kernel3Ideal.Gen
open Idealize.ShloMosaic.Pipeline (Dat)

/-- Row `n`, from the program's arguments. -/
def rowOf (x : Vec Ideal S2x8192x1024 .f32) (er : Vec Ideal S128x1x512 .f32) (ec : Vec Ideal S64x512 .f32) (yh yg : Vec Ideal S16384x512 .bf16)
    (p : Vec Ideal S16384x6144 .bf16) (wh wg : Vec Ideal S512x1024 .f32) (wo : Vec Ideal S1024x1024 .f32) (g1 : Vec Ideal S2x1x1024 .f32)
    (n2 : Vec Ideal S1024 .f32) (sh sc : Vec Ideal S2x1x1024 .f32) (n : Fin 16384) : Merge.Row where
  x d := x (ix3 ⟨n.val / 8192, by omega⟩ ⟨n.val % 8192, by omega⟩ d)
  er l := er (ix3 ⟨n.val / 64 % 128, by omega⟩ 0 l)
  ec l := ec (ix2 ⟨n.val % 64, by omega⟩ l)
  yh j := yh (ix2 n j)
  yg j := yg (ix2 n j)
  gh k := p (ix2 n ⟨4096 + k.val, by omega⟩)
  gg k := p (ix2 n ⟨5120 + k.val, by omega⟩)
  wh j k := wh (ix2 j k)
  wg j k := wg (ix2 j k)
  wo k d := wo (ix2 k d)
  g1 d := g1 (ix3 ⟨n.val / 8192, by omega⟩ 0 d)
  n2 d := n2 (ix1 d)
  sc d := sc (ix3 ⟨n.val / 8192, by omega⟩ 0 d)
  sh d := sh (ix3 ⟨n.val / 8192, by omega⟩ 0 d)

/-- The shared expert's weights, and the gate of row `n`. -/
def sharedOf (g2 : Vec Ideal S2x1x1024 .f32) (gate up : Vec Ideal S1024x256 .f32) (dn : Vec Ideal S256x1024 .f32) (n : Fin 16384) : Merge.Shared where
  g2 d := g2 (ix3 ⟨n.val / 8192, by omega⟩ 0 d)
  gate k f := gate (ix2 k f)
  up k f := up (ix2 k f)
  down f d := dn (ix2 f d)

variable (m : (ℓ : Loc nD τ sig) → Buf (Elt Ideal) ℓ) (c : Dev nD)

/-- An argument array at launch. -/
abbrev arg (b : Ref sig .tc) : Buf (Elt Ideal) ((c : Thread nD τ).loc b) := m ((c : Thread nD τ).loc b)

theorem tokens : V m c main_v7 = fun i : S256x64x1024.Idx => arg m c main_arg0 (ix3
      ⟨((i 0).val * 64 + (i 1).val) / 8192, Nat.div_lt_of_lt_mul (by have := (i 0).isLt; have := (i 1).isLt; simp at *; omega)⟩
      ⟨((i 0).val * 64 + (i 1).val) % 8192, Nat.mod_lt _ (by decide)⟩ (i 2)) := by
  show StableHlo.after hostOps0 _ _ = _
  after_results
  funext i
  pointwise
  have h0 : (i 0).val < 256 := (i 0).isLt
  have h1 : (i 1).val < 64 := (i 1).isLt
  refine congrArg (arg m c main_arg0) ?_
  congr 1 <;> apply Fin.ext
  · show (i 0).val / 128 = ((i 0).val * 64 + (i 1).val) / 8192
    omega
  · show (i 0).val % 128 * 64 + (i 1).val = ((i 0).val * 64 + (i 1).val) % 8192
    omega

theorem gain : V m c main_v12 = fun i : S1x1024.Idx => arg m c main_arg10 (ix1 (i 1)) := by
  show StableHlo.after hostOps0 _ _ = _
  after_results
  funext i
  pointwise

theorem weights2 : V m c main_v2 = arg m c main_arg6 := by
  show StableHlo.after hostOps0 _ _ = _
  after_results
  funext i
  pointwise

theorem weights3 : V m c main_v3 = arg m c main_arg7 := by
  show StableHlo.after hostOps0 _ _ = _
  after_results
  funext i
  pointwise

theorem weights4 : V m c main_v4 = arg m c main_arg8 := by
  show StableHlo.after hostOps0 _ _ = _
  after_results
  funext i
  pointwise

theorem weights6 : V m c main_v6 = arg m c main_arg17 := by
  show StableHlo.after hostOps0 _ _ = _
  after_results
  funext i
  pointwise

theorem weights1 : V m c main_v1 = fun i : S1024x512.Idx => if h : (i 1).val < 256 then arg m c main_arg15 (ix2 (i 0) ⟨(i 1).val, h⟩)
    else arg m c main_arg16 (ix2 (i 0) ⟨(i 1).val - 256, by have := (i 1).isLt; simp at this; omega⟩) := by
  show StableHlo.after hostOps0 _ _ = _
  after_results
  funext i
  pointwise

theorem router : V m c main_v8 = fun i : S256x1024.Idx => arg m c main_arg14 (ix2 (i 1) (i 0)) := by
  show StableHlo.after hostOps0 _ _ = _
  after_results
  funext i
  pointwise

theorem router_rest : V m c main_v11 = fun i : S256x1024.Idx =>
    (show EReal from arg m c main_arg14 (ix2 (i 1) (i 0))) - (show EReal from arg m c main_arg14 (ix2 (i 1) (i 0))) := by
  show StableHlo.after hostOps0 _ _ = _
  after_results
  funext i
  pointwise

/-- Row `n` from the program's arguments on a device. -/
abbrev ROW (n : Fin 16384) : Merge.Row :=
  rowOf (arg m c main_arg0) (arg m c main_arg1) (arg m c main_arg2) (arg m c main_arg3) (arg m c main_arg4) (arg m c main_arg5)
    (arg m c main_arg6) (arg m c main_arg7) (arg m c main_arg8) (arg m c main_arg9) (arg m c main_arg10) (arg m c main_arg11)
    (arg m c main_arg12) n

abbrev SHARED (n : Fin 16384) : Merge.Shared := sharedOf (arg m c main_arg13) (arg m c main_arg15) (arg m c main_arg16) (arg m c main_arg17) n

theorem rowV_eq (n : Fin 16384) : rowV m c n = ROW m c n := by
  unfold rowV
  rw [tokens, gain, weights2, weights3, weights4, V_main_arg1, V_main_arg2, V_main_arg3, V_main_arg4, V_main_arg5, V_main_arg9,
    V_main_arg11, V_main_arg12]
  refine Merge.Row.congr (funext fun d => congrArg (arg m c main_arg0) ?_) rfl rfl rfl rfl rfl rfl rfl rfl rfl rfl rfl rfl rfl
  congr 1 <;> apply Fin.ext
  · show (n.val / 64 * 64 + n.val % 64) / 8192 = n.val / 8192
    omega
  · show (n.val / 64 * 64 + n.val % 64) % 8192 = n.val % 8192
    omega

theorem sharedV_eq (n : Fin 16384) : sharedV m c n = SHARED m c n := by
  unfold sharedV
  rw [weights1, weights6, V_main_arg13]
  refine Merge.Shared.congr rfl (funext fun k => funext fun f => dif_pos f.isLt) (funext fun k => funext fun f => ?_) rfl
  refine (dif_neg (by show ¬ 256 + f.val < 256; omega)).trans ?_
  exact congrArg (fun j => arg m c main_arg16 (ix2 k j)) (Fin.ext (by show 256 + f.val - 256 = f.val; omega))

/-- What the three result arrays hold. -/
def XRES : Vec Ideal S16384x1024 .f32 := fun i => Merge.xres (ROW m c (i 0)) (SHARED m c (i 0)) (i 1)
def H2 : Vec Ideal S16384x1024 .bf16 := fun i => Merge.h2 (ROW m c (i 0)) (i 1)
def LOGITS : Vec Ideal S256x16384 .f32 := fun i => Merge.dot (Merge.h2 (ROW m c (i 1))) (fun k => arg m c main_arg14 (ix2 k (i 0)))

theorem value19 : (dats m 0 c).arrAt 19 cfg0.N = XRES m c := by
  rw [final19]
  funext i
  exact (congrArg (fun r => Merge.xres r (sharedV m c (i 0)) (i 1)) (rowV_eq m c (i 0))).trans
    (congrArg (fun s => Merge.xres (ROW m c (i 0)) s (i 1)) (sharedV_eq m c (i 0)))

theorem value20 : (dats m 0 c).arrAt 20 cfg0.N = H2 m c := by
  rw [final20]
  funext i
  exact congrArg (fun r => Merge.h2 r (i 1)) (rowV_eq m c (i 0))

theorem value21 (hw : ∀ i, Merge.IsReal (arg m c main_arg14 i)) (hh : ∀ n d, Merge.IsReal (Merge.h2 (ROW m c n) d)) :
    (dats m 0 c).arrAt 21 cfg0.N = LOGITS m c := by
  rw [final21, router, router_rest]
  funext i
  refine (congrArg (fun r => Merge.logit3 (Merge.h2 r) _ _) (rowV_eq m c (i 1))).trans ?_
  exact Merge.logit_split (fun k => hh _ k) fun k => hw _

end Cert.Value3

end
-- ==== Proof.RefValue3.lean ====
/- The plain middle's three results, element by element: the same row functions of the same arrays. -/
module

public import proofs.«01_k».proof.Proof.Result3
public import proofs.«01_k».proof.Proof.RefValue2
public import proofs.«01_k».proof.Proof.Gen.Reference3Ideal.Read

@[expose] public section

noncomputable section

namespace Cert.RefValue3

open Idealize.ShloMosaic Idealize.ShloMosaic.TcCoe Cert.Reference3Ideal Cert.Reference3Ideal.Gen Cert.Reference3Ideal.Read
open Cert.RefValue2 (tok zero_eq one_eq)

variable (x0 : Vec Ideal S2x8192x1024 .f32) (x1 : Vec Ideal S128x1x512 .f32) (x2 : Vec Ideal S64x512 .f32) (x3 : Vec Ideal S16384x512 .bf16) (x4 : Vec Ideal S16384x512 .bf16) (x5 : Vec Ideal S16384x6144 .bf16) (x6 : Vec Ideal S512x1024 .f32) (x7 : Vec Ideal S512x1024 .f32) (x8 : Vec Ideal S1024x1024 .f32) (x9 : Vec Ideal S2x1x1024 .f32) (x10 : Vec Ideal S1024 .f32) (x11 : Vec Ideal S2x1x1024 .f32) (x12 : Vec Ideal S2x1x1024 .f32) (x13 : Vec Ideal S2x1x1024 .f32) (x14 : Vec Ideal S1024x256 .f32) (x15 : Vec Ideal S1024x256 .f32) (x16 : Vec Ideal S1024x256 .f32) (x17 : Vec Ideal S256x1024 .f32)

/-- The row of batch `b`, position `s`. -/
abbrev R (b : Fin 2) (s : Fin 8192) : Merge.Row := Value3.rowOf x0 x1 x2 x3 x4 x5 x6 x7 x8 x9 x10 x11 x12 (tok b s)

abbrev S (b : Fin 2) (s : Fin 8192) : Merge.Shared := Value3.sharedOf x13 x15 x16 x17 (tok b s)

theorem tok_div (b : Fin 2) (s : Fin 8192) (h : (tok b s).val / 8192 < 2) : (⟨(tok b s).val / 8192, h⟩ : Fin 2) = b :=
  Fin.ext (by show (b.val * 8192 + s.val) / 8192 = b.val; omega)

theorem idx_emb (s : Fin 8192) (d : Fin 1024) : idx_main_v7 (ix2 s d) = ix3 ⟨s.val / 64, by omega⟩ ⟨s.val % 64, by omega⟩ d := by
  have hd := d.isLt
  refine (eq_ix3 _).trans ?_
  congr 1 <;> apply Fin.ext
  · show (s.val * 1024 + d.val) / 65536 = s.val / 64
    omega
  · show (s.val * 1024 + d.val) / 1024 % 64 = s.val % 64
    omega
  · show (s.val * 1024 + d.val) % 1024 = d.val
    omega

theorem emb_eq (b : Fin 2) (s : Fin 8192) (d : Fin 1024) : val_main_v10 x0 x1 x2 (ix3 b s d) =
    Norm.embed (R x0 x1 x2 x3 x4 x5 x6 x7 x8 x9 x10 x11 x12 b s).x (R x0 x1 x2 x3 x4 x5 x6 x7 x8 x9 x10 x11 x12 b s).er (R x0 x1 x2 x3 x4 x5 x6 x7 x8 x9 x10 x11 x12 b s).ec d := by
  rw [val_main_v10_apply, val_main_v9_apply, val_main_v8_apply, val_main_v7_apply,
    show idx_main_v8 (idx_main_v9 (ix3 b s d)) = ix2 s d from eq_ix2 _, idx_emb]
  unfold val_main_v6
  pointwise
  have hb := b.isLt
  have hs := s.isLt
  unfold Norm.embed
  refine congrArg₂ (· + ·) (congrArg x0 ?_) ?_
  · congr 1 <;> apply Fin.ext
    · show b.val = (b.val * 8192 + s.val) / 8192
      omega
    · show s.val = (b.val * 8192 + s.val) % 8192
      omega
  split
  · rw [val_main_v3_apply]
    refine congrArg x1 ((eq_ix3 _).trans ?_)
    congr 1
    exact Fin.ext (by show s.val / 64 = (b.val * 8192 + s.val) / 64 % 128; omega)
  · rw [val_main_v5_apply, val_main_v4_apply]
    refine congrArg x2 ((eq_ix2 _).trans ?_)
    congr 1
    exact Fin.ext (by show s.val % 64 = (b.val * 8192 + s.val) % 64; omega)

theorem idx_12 (b : Fin 2) (s : Fin 8192) (k : Fin 1024) : idx_main_v12 (ix3 b s k) = ix2 (tok b s) k := by
  have hk := k.isLt
  refine (eq_ix2 _).trans ?_
  congr 1 <;> apply Fin.ext
  · show ((b.val * 8192 + s.val) * 1024 + k.val) / 1024 = b.val * 8192 + s.val
    omega
  · show ((b.val * 8192 + s.val) * 1024 + k.val) % 1024 = k.val
    omega

theorem idx_14 (b : Fin 2) (s : Fin 8192) (k : Fin 1024) : idx_main_v14 (ix3 b s k) = ix2 (tok b s) k := by
  have hk := k.isLt
  refine (eq_ix2 _).trans ?_
  congr 1 <;> apply Fin.ext
  · show ((b.val * 8192 + s.val) * 1024 + k.val) / 1024 = b.val * 8192 + s.val
    omega
  · show ((b.val * 8192 + s.val) * 1024 + k.val) % 1024 = k.val
    omega

theorem idx_22 (b : Fin 2) (s : Fin 8192) (k : Fin 1024) : idx_main_v22 (ix3 b s k) = ix2 (tok b s) k := by
  have hk := k.isLt
  refine (eq_ix2 _).trans ?_
  congr 1 <;> apply Fin.ext
  · show ((b.val * 8192 + s.val) * 1024 + k.val) / 1024 = b.val * 8192 + s.val
    omega
  · show ((b.val * 8192 + s.val) * 1024 + k.val) % 1024 = k.val
    omega

theorem idx_31 (b : Fin 2) (s : Fin 8192) (k : Fin 1024) : idx_main_v31 (ix3 b s k) = ix2 (tok b s) k := by
  have hk := k.isLt
  refine (eq_ix2 _).trans ?_
  congr 1 <;> apply Fin.ext
  · show ((b.val * 8192 + s.val) * 1024 + k.val) / 1024 = b.val * 8192 + s.val
    omega
  · show ((b.val * 8192 + s.val) * 1024 + k.val) % 1024 = k.val
    omega

theorem gate_15 (b : Fin 2) (s : Fin 8192) (k : Fin 1024) :
    val_main_v20 x5 (ix3 b s k) = Ideal.logistic (x5 (ix2 (tok b s) ⟨4096 + k.val, by omega⟩)) := by
  rw [val_main_v20_apply, val_main_v18_apply, val_main_v19_apply, val_main_v16_apply, val_main_v15_apply, val_main_v17_apply,
    val_main_cst_apply, val_main_cst_0_apply, val_main_v12_apply, val_main_v11_apply, val_main_v2_apply, idx_12,
    show idx_main_v11 (ix2 (tok b s) k) = ix2 (tok b s) ⟨4096 + k.val, by omega⟩ from eq_ix2 _, one_eq]
  rfl

theorem gate_24 (b : Fin 2) (s : Fin 8192) (k : Fin 1024) :
    val_main_v29 x5 (ix3 b s k) = Ideal.logistic (x5 (ix2 (tok b s) ⟨5120 + k.val, by omega⟩)) := by
  rw [val_main_v29_apply, val_main_v27_apply, val_main_v28_apply, val_main_v25_apply, val_main_v24_apply, val_main_v26_apply,
    val_main_cst_1_apply, val_main_cst_2_apply, val_main_v14_apply, val_main_v13_apply, val_main_v2_apply, idx_14,
    show idx_main_v13 (ix2 (tok b s) k) = ix2 (tok b s) ⟨5120 + k.val, by omega⟩ from eq_ix2 _, one_eq]
  rfl

theorem prod_21 (b : Fin 2) (s : Fin 8192) (k : Fin 1024) :
    val_main_v22 x3 x6 (ix3 b s k) = ∑ j : Fin 512, (x3 (ix2 (tok b s) j) : EReal) * x6 (ix2 j k) := by
  rw [val_main_v22_apply, idx_22]
  refine (val_main_v21_apply x3 x6 _).trans (Finset.sum_congr rfl fun j _ => congrArg₂ (· * ·) ?_ (congrArg x6 (eq_ix2 _)))
  exact (val_main_v0_apply x3 _).trans (congrArg x3 (eq_ix2 _))

theorem prod_30 (b : Fin 2) (s : Fin 8192) (k : Fin 1024) :
    val_main_v31 x4 x7 (ix3 b s k) = ∑ j : Fin 512, (x4 (ix2 (tok b s) j) : EReal) * x7 (ix2 j k) := by
  rw [val_main_v31_apply, idx_31]
  refine (val_main_v30_apply x4 x7 _).trans (Finset.sum_congr rfl fun j _ => congrArg₂ (· * ·) ?_ (congrArg x7 (eq_ix2 _)))
  exact (val_main_v1_apply x4 _).trans (congrArg x4 (eq_ix2 _))

theorem mixed_eq (b : Fin 2) (s : Fin 8192) (k : Fin 1024) :
    val_main_v33 x3 x4 x5 x6 x7 (ix3 b s k) = Merge.mixed (R x0 x1 x2 x3 x4 x5 x6 x7 x8 x9 x10 x11 x12 b s) k := by
  rw [val_main_v33_apply, val_main_v23_apply, val_main_v32_apply, gate_15, gate_24, prod_21, prod_30]
  rfl

theorem x1_eq (b : Fin 2) (s : Fin 8192) (d : Fin 1024) :
    val_main_v37 x0 x1 x2 x3 x4 x5 x6 x7 x8 x9 (ix3 b s d) = Merge.x1 (R x0 x1 x2 x3 x4 x5 x6 x7 x8 x9 x10 x11 x12 b s) d := by
  rw [val_main_v37_apply, val_main_v36_apply, val_main_v35_apply, emb_eq x0 x1 x2 x3 x4 x5 x6 x7 x8 x9 x10 x11 x12]
  unfold Merge.x1
  have e1 : x9 (idx_main_v35 (ix3 b s d)) = (R x0 x1 x2 x3 x4 x5 x6 x7 x8 x9 x10 x11 x12 b s).g1 d := by
    refine congrArg x9 ((eq_ix3 _).trans ?_)
    exact congrArg (fun b : Fin 2 => (ix3 b 0 d : S2x1x1024.Idx)) (tok_div b s _).symm
  have e2 : val_main_v34 x3 x4 x5 x6 x7 x8 (ix3 b s d) = Merge.dot (Merge.mixed (R x0 x1 x2 x3 x4 x5 x6 x7 x8 x9 x10 x11 x12 b s)) (fun k => x8 (ix2 k d)) := by
    refine (val_main_v34_apply x3 x4 x5 x6 x7 x8 _).trans (Merge.dot_of (fun k => ?_) fun k => congrArg x8 (eq_ix2 _))
    exact (congrArg (val_main_v33 x3 x4 x5 x6 x7) (eq_ix3 _)).trans (mixed_eq x0 x1 x2 x3 x4 x5 x6 x7 x8 x9 x10 x11 x12 b s k)
  rw [e1, e2]
  rfl

theorem h2_eq (b : Fin 2) (s : Fin 8192) (d : Fin 1024) : val_main_v56 x0 x1 x2 x3 x4 x5 x6 x7 x8 x9 x10 x11 x12 (ix3 b s d) = Merge.h2 (R x0 x1 x2 x3 x4 x5 x6 x7 x8 x9 x10 x11 x12 b s) d := by
  rw [val_main_v56_apply, val_main_v54_apply, val_main_v50_apply, val_main_v47_apply, val_main_v46_apply, val_main_v45_apply,
    val_main_v44_apply, val_main_v42_apply, val_main_v40_apply, val_main_v39_apply, val_main_v41_apply, val_main_v43_apply,
    val_main_cst_3_apply, val_main_cst_4_apply, val_main_cst_5_apply, val_main_v49_apply, val_main_v48_apply, val_main_v53_apply,
    val_main_v52_apply, val_main_v51_apply, val_main_cst_6_apply, val_main_v55_apply]
  have e (k : Fin 1024) : idx_main_v39 (idx_main_v40 (idx_main_v46 (ix3 b s d))) k = ix3 b s k := eq_ix3 _
  simp only [e, val_main_v38_apply, x1_eq x0 x1 x2 x3 x4 x5 x6 x7 x8 x9 x10 x11 x12]
  have t (y : Vec Ideal S2x1x1024 .f32) : y (ix3 b 0 d) = y (ix3 ⟨(tok b s).val / 8192, by omega⟩ 0 d) :=
    congrArg (fun b : Fin 2 => y (ix3 b 0 d)) (tok_div b s _).symm
  rw [show idx_main_v48 (idx_main_v49 (ix3 b s d)) = ix1 d from eq_ix1 _, show idx_main_v53 (ix3 b s d) = ix3 b 0 d from eq_ix3 _,
    show idx_main_v55 (ix3 b s d) = ix3 b 0 d from eq_ix3 _, t x12, t x11]
  unfold Merge.h2 Norm.modulated Norm.normed
  rw [zero_eq, zero_add, one_eq]
  rfl

theorem dot_57 (b : Fin 2) (s : Fin 8192) (f : Fin 256) :
    val_main_v57 x0 x1 x2 x3 x4 x5 x6 x7 x8 x9 x10 x11 x12 x15 (ix3 b s f) = Merge.dot (Merge.h2 (R x0 x1 x2 x3 x4 x5 x6 x7 x8 x9 x10 x11 x12 b s)) (fun k => x15 (ix2 k f)) := by
  refine (val_main_v57_apply x0 x1 x2 x3 x4 x5 x6 x7 x8 x9 x10 x11 x12 x15 _).trans (Merge.dot_of (fun k => ?_) fun k => congrArg x15 (eq_ix2 _))
  exact (congrArg (val_main_v56 x0 x1 x2 x3 x4 x5 x6 x7 x8 x9 x10 x11 x12) (eq_ix3 _)).trans (h2_eq x0 x1 x2 x3 x4 x5 x6 x7 x8 x9 x10 x11 x12 b s k)

theorem dot_59 (b : Fin 2) (s : Fin 8192) (f : Fin 256) :
    val_main_v59 x0 x1 x2 x3 x4 x5 x6 x7 x8 x9 x10 x11 x12 x16 (ix3 b s f) = Merge.dot (Merge.h2 (R x0 x1 x2 x3 x4 x5 x6 x7 x8 x9 x10 x11 x12 b s)) (fun k => x16 (ix2 k f)) := by
  refine (val_main_v59_apply x0 x1 x2 x3 x4 x5 x6 x7 x8 x9 x10 x11 x12 x16 _).trans (Merge.dot_of (fun k => ?_) fun k => congrArg x16 (eq_ix2 _))
  exact (congrArg (val_main_v56 x0 x1 x2 x3 x4 x5 x6 x7 x8 x9 x10 x11 x12) (eq_ix3 _)).trans (h2_eq x0 x1 x2 x3 x4 x5 x6 x7 x8 x9 x10 x11 x12 b s k)

theorem dot_68 (b : Fin 2) (s : Fin 8192) (f : Fin 256) :
    val_main_v68 x0 x1 x2 x3 x4 x5 x6 x7 x8 x9 x10 x11 x12 x14 (ix3 b s f) = Merge.dot (Merge.h2 (R x0 x1 x2 x3 x4 x5 x6 x7 x8 x9 x10 x11 x12 b s)) (fun k => x14 (ix2 k f)) := by
  refine (val_main_v68_apply x0 x1 x2 x3 x4 x5 x6 x7 x8 x9 x10 x11 x12 x14 _).trans (Merge.dot_of (fun k => ?_) fun k => congrArg x14 (eq_ix2 _))
  exact (congrArg (val_main_v56 x0 x1 x2 x3 x4 x5 x6 x7 x8 x9 x10 x11 x12) (eq_ix3 _)).trans (h2_eq x0 x1 x2 x3 x4 x5 x6 x7 x8 x9 x10 x11 x12 b s k)

theorem hidden_eq (b : Fin 2) (s : Fin 8192) (f : Fin 256) : val_main_v60 x0 x1 x2 x3 x4 x5 x6 x7 x8 x9 x10 x11 x12 x15 x16 (ix3 b s f) =
    Merge.hidden (Merge.h2 (R x0 x1 x2 x3 x4 x5 x6 x7 x8 x9 x10 x11 x12 b s)) (fun k => x15 (ix2 k f)) (fun k => x16 (ix2 k f)) := by
  rw [val_main_v60_apply, val_main_v58_apply, val_main_call0_v5_apply, val_main_call0_v3_apply, val_main_call0_v4_apply,
    val_main_call0_v1_apply, val_main_call0_v0_apply, val_main_call0_v2_apply, val_main_call0_cst_apply, val_main_call0_cst_0_apply,
    dot_57, dot_59, one_eq]
  rfl

theorem xres_eq (b : Fin 2) (s : Fin 8192) (d : Fin 1024) : val_main_v64 x0 x1 x2 x3 x4 x5 x6 x7 x8 x9 x10 x11 x12 x13 x15 x16 x17 (ix3 b s d) =
    Merge.xres (R x0 x1 x2 x3 x4 x5 x6 x7 x8 x9 x10 x11 x12 b s) (S x13 x15 x16 x17 b s) d := by
  rw [val_main_v64_apply, val_main_v63_apply, val_main_v62_apply, x1_eq x0 x1 x2 x3 x4 x5 x6 x7 x8 x9 x10 x11 x12]
  unfold Merge.xres
  have e1 : x13 (idx_main_v62 (ix3 b s d)) = (S x13 x15 x16 x17 b s).g2 d := by
    refine congrArg x13 ((eq_ix3 _).trans ?_)
    exact congrArg (fun b : Fin 2 => (ix3 b 0 d : S2x1x1024.Idx)) (tok_div b s _).symm
  have e2 : val_main_v61 x0 x1 x2 x3 x4 x5 x6 x7 x8 x9 x10 x11 x12 x15 x16 x17 (ix3 b s d) =
      Merge.expert (S x13 x15 x16 x17 b s) (Merge.h2 (R x0 x1 x2 x3 x4 x5 x6 x7 x8 x9 x10 x11 x12 b s)) d := by
    refine (val_main_v61_apply x0 x1 x2 x3 x4 x5 x6 x7 x8 x9 x10 x11 x12 x15 x16 x17 _).trans
      (Merge.expert_of (S x13 x15 x16 x17 b s) (fun f => ?_) fun f => congrArg x17 (eq_ix2 _))
    exact (congrArg (val_main_v60 x0 x1 x2 x3 x4 x5 x6 x7 x8 x9 x10 x11 x12 x15 x16) (eq_ix3 _)).trans (hidden_eq x0 x1 x2 x3 x4 x5 x6 x7 x8 x9 x10 x11 x12 x15 x16 b s f)
  rw [e1, e2]
  rfl

/-- Batch and position of a token. -/
abbrev bat (n : Fin 16384) : Fin 2 := ⟨n.val / 8192, by omega⟩
abbrev pos (n : Fin 16384) : Fin 8192 := ⟨n.val % 8192, by omega⟩

theorem tok_bat (n : Fin 16384) : tok (bat n) (pos n) = n := Fin.ext (by show n.val / 8192 * 8192 + n.val % 8192 = n.val; omega)

theorem idx_65 (n : Fin 16384) (d : Fin 1024) : idx_main_v65 (ix2 n d) = ix3 (bat n) (pos n) d := by
  have h0 := n.isLt
  have h1 := d.isLt
  refine (eq_ix3 _).trans ?_
  congr 1 <;> apply Fin.ext
  · show (n.val * 1024 + d.val) / 8388608 = n.val / 8192
    omega
  · show (n.val * 1024 + d.val) / 1024 % 8192 = n.val % 8192
    omega
  · show (n.val * 1024 + d.val) % 1024 = d.val
    omega

theorem idx_66 (n : Fin 16384) (d : Fin 1024) : idx_main_v66 (ix2 n d) = ix3 (bat n) (pos n) d := by
  have h0 := n.isLt
  have h1 := d.isLt
  refine (eq_ix3 _).trans ?_
  congr 1 <;> apply Fin.ext
  · show (n.val * 1024 + d.val) / 8388608 = n.val / 8192
    omega
  · show (n.val * 1024 + d.val) / 1024 % 8192 = n.val % 8192
    omega
  · show (n.val * 1024 + d.val) % 1024 = d.val
    omega

theorem idx_69 (n : Fin 16384) (e : Fin 256) : idx_main_v69 (ix2 n e) = ix3 (bat n) (pos n) e := by
  have h0 := n.isLt
  have h1 := e.isLt
  refine (eq_ix3 _).trans ?_
  congr 1 <;> apply Fin.ext
  · show (n.val * 256 + e.val) / 2097152 = n.val / 8192
    omega
  · show (n.val * 256 + e.val) / 256 % 8192 = n.val % 8192
    omega
  · show (n.val * 256 + e.val) % 256 = e.val
    omega

theorem result0 (n : Fin 16384) (d : Fin 1024) : val_main_v65 x0 x1 x2 x3 x4 x5 x6 x7 x8 x9 x10 x11 x12 x13 x15 x16 x17 (ix2 n d) =
    Merge.xres (Value3.rowOf x0 x1 x2 x3 x4 x5 x6 x7 x8 x9 x10 x11 x12 n) (Value3.sharedOf x13 x15 x16 x17 n) d := by
  rw [val_main_v65_apply, idx_65, xres_eq]
  unfold R S
  rw [tok_bat]

theorem result1 (n : Fin 16384) (d : Fin 1024) : val_main_v67 x0 x1 x2 x3 x4 x5 x6 x7 x8 x9 x10 x11 x12 (ix2 n d) = Merge.h2 (Value3.rowOf x0 x1 x2 x3 x4 x5 x6 x7 x8 x9 x10 x11 x12 n) d := by
  rw [val_main_v67_apply, val_main_v66_apply, idx_66, h2_eq]
  unfold R
  rw [tok_bat]
  rfl

theorem result2 (e : Fin 256) (n : Fin 16384) : val_main_v70 x0 x1 x2 x3 x4 x5 x6 x7 x8 x9 x10 x11 x12 x14 (ix2 e n) =
    Merge.dot (Merge.h2 (Value3.rowOf x0 x1 x2 x3 x4 x5 x6 x7 x8 x9 x10 x11 x12 n)) (fun k => x14 (ix2 k e)) := by
  rw [val_main_v70_apply, show idx_main_v70 (ix2 e n) = ix2 n e from eq_ix2 _, val_main_v69_apply, idx_69, dot_68]
  unfold R
  rw [tok_bat]

theorem array0 : val_main_v65 x0 x1 x2 x3 x4 x5 x6 x7 x8 x9 x10 x11 x12 x13 x15 x16 x17 = fun i =>
    Merge.xres (Value3.rowOf x0 x1 x2 x3 x4 x5 x6 x7 x8 x9 x10 x11 x12 (i 0)) (Value3.sharedOf x13 x15 x16 x17 (i 0)) (i 1) := by
  funext i
  obtain ⟨n, d, rfl⟩ : ∃ (n : Fin 16384) (d : Fin 1024), i = ix2 n d := ⟨i 0, i 1, eq_ix2 i⟩
  exact result0 x0 x1 x2 x3 x4 x5 x6 x7 x8 x9 x10 x11 x12 x13 x15 x16 x17 n d

theorem array1 : val_main_v67 x0 x1 x2 x3 x4 x5 x6 x7 x8 x9 x10 x11 x12 = fun i => Merge.h2 (Value3.rowOf x0 x1 x2 x3 x4 x5 x6 x7 x8 x9 x10 x11 x12 (i 0)) (i 1) := by
  funext i
  obtain ⟨n, d, rfl⟩ : ∃ (n : Fin 16384) (d : Fin 1024), i = ix2 n d := ⟨i 0, i 1, eq_ix2 i⟩
  exact result1 x0 x1 x2 x3 x4 x5 x6 x7 x8 x9 x10 x11 x12 n d

theorem array2 : val_main_v70 x0 x1 x2 x3 x4 x5 x6 x7 x8 x9 x10 x11 x12 x14 = fun i =>
    Merge.dot (Merge.h2 (Value3.rowOf x0 x1 x2 x3 x4 x5 x6 x7 x8 x9 x10 x11 x12 (i 1))) (fun k => x14 (ix2 k (i 0))) := by
  funext i
  obtain ⟨e, n, rfl⟩ : ∃ (e : Fin 256) (n : Fin 16384), i = ix2 e n := ⟨i 0, i 1, eq_ix2 i⟩
  exact result2 x0 x1 x2 x3 x4 x5 x6 x7 x8 x9 x10 x11 x12 x14 e n

end Cert.RefValue3

end
-- ==== Proof.Finite.lean ====
/- What the precondition `finite` says: the values the router's product is made of are real numbers. -/
module

public import proofs.«01_k».proof.Pre_finite
public import proofs.«01_k».proof.Proof.Merge
public import Idealize.ShloMosaic.Lib.ReduceAll

@[expose] public section

noncomputable section

namespace Cert.Finite

open Idealize.ShloMosaic Cert.Pre_finite

instance facts : Cert.Pre_finite.Facts where
  bcast_S_S2x8192x1024 := by decide
  reducesTo_S2x8192x1024_S_d0_1_2 := by decide
  h_S_ := by decide
  bcast_S_S128x1x512 := by decide
  reducesTo_S128x1x512_S_d0_1_2 := by decide
  bcast_S_S64x512 := by decide
  reducesTo_S64x512_S_d0_1 := by decide
  bcast_S_S16384x512 := by decide
  reducesTo_S16384x512_S_d0_1 := by decide
  bcast_S_S16384x6144 := by decide
  reducesTo_S16384x6144_S_d0_1 := by decide
  bcast_S_S512x1024 := by decide
  reducesTo_S512x1024_S_d0_1 := by decide
  bcast_S_S1024x1024 := by decide
  reducesTo_S1024x1024_S_d0_1 := by decide
  bcast_S_S2x1x1024 := by decide
  reducesTo_S2x1x1024_S_d0_1_2 := by decide
  bcast_S_S1024 := by decide
  reducesTo_S1024_S_d0 := by decide
  bcast_S_S1024x256 := by decide
  reducesTo_S1024x256_S_d0_1 := by decide

theorem inf32 : Ideal.ofBits .f32 0x7F800000#32 = ⊤ := by simp [Ideal.ofBits, Ideal.ieee]

theorem inf16 : Ideal.ofBits .bf16 0x7F80#16 = ⊤ := by simp [Ideal.ofBits, Ideal.ieee]

instance : Subsingleton S_.Idx := ⟨fun _ _ => funext fun k => k.elim0⟩

/-- An array whose test came out true is real everywhere. -/
theorem real_of_test {s : Shape} {axes : List (Fin s.rank)} {φ : FTy} {x v : FVec Ideal s φ} (hv : ∀ i, v i = (⊤ : EReal)) {init : IVec S_ 1}
    {h : s.ReducesTo axes S_} {hu : 0 < S_.numel} {j : S_.Idx} (e : Host.reduce IntOp.andi (cmpf .olt (Host.absf x) v) init h hu j = 1#1)
    (i : s.Idx) : Merge.IsReal (x i) := by
  have t : Ideal.cmp .olt (max (x i : EReal) (-x i : EReal)) (v i) = 1#1 := Host.reduce_andi_all _ _ h hu j e i
  rw [hv i] at t
  refine Merge.isReal_of_abs ?_
  by_contra hn
  revert t
  simp [Ideal.cmp, hn]

/-- The precondition on the arrays: every array the router's product depends on is real. -/
theorem real_of_finite {x0 : FVec Ideal S2x8192x1024 .f32} {x1 : FVec Ideal S128x1x512 .f32} {x2 : FVec Ideal S64x512 .f32} {x3 : FVec Ideal S16384x512 .bf16} {x4 : FVec Ideal S16384x512 .bf16} {x5 : FVec Ideal S16384x6144 .bf16} {x6 : FVec Ideal S512x1024 .f32} {x7 : FVec Ideal S512x1024 .f32} {x8 : FVec Ideal S1024x1024 .f32} {x9 : FVec Ideal S2x1x1024 .f32} {x10 : FVec Ideal S1024 .f32} {x11 : FVec Ideal S2x1x1024 .f32} {x12 : FVec Ideal S2x1x1024 .f32} {x13 : FVec Ideal S2x1x1024 .f32} {x14 : FVec Ideal S1024x256 .f32} {x15 : FVec Ideal S1024x256 .f32} {x16 : FVec Ideal S1024x256 .f32} {x17 : FVec Ideal S256x1024 .f32}
    (h : fn (F := Ideal) x0 x1 x2 x3 x4 x5 x6 x7 x8 x9 x10 x11 x12 x13 x14 x15 x16 x17 = fun _ => 1#1) :
    (∀ i, Merge.IsReal (x0 i)) ∧ (∀ i, Merge.IsReal (x1 i)) ∧ (∀ i, Merge.IsReal (x2 i)) ∧ (∀ i, Merge.IsReal (x3 i)) ∧ (∀ i, Merge.IsReal (x4 i)) ∧ (∀ i, Merge.IsReal (x5 i)) ∧ (∀ i, Merge.IsReal (x6 i)) ∧ (∀ i, Merge.IsReal (x7 i)) ∧ (∀ i, Merge.IsReal (x8 i)) ∧ (∀ i, Merge.IsReal (x9 i)) ∧ (∀ i, Merge.IsReal (x10 i)) ∧ (∀ i, Merge.IsReal (x11 i)) ∧ (∀ i, Merge.IsReal (x12 i)) ∧ (∀ i, Merge.IsReal (x14 i)) := by
  have e := congrFun h fun k => k.elim0
  unfold fn fn_part1 fn_part2 fn_part3 fn_part4 at e
  simp only [andi_apply, IntOp.andi_eq_one] at e
  obtain ⟨⟨⟨⟨⟨⟨⟨⟨⟨⟨⟨⟨⟨e0, e1⟩, e2⟩, e3⟩, e4⟩, e5⟩, e6⟩, e7⟩, e8⟩, e9⟩, e10⟩, e11⟩, e12⟩, e13⟩ := e
  exact ⟨real_of_test (fun _ => inf32) e0, real_of_test (fun _ => inf32) e1, real_of_test (fun _ => inf32) e2, real_of_test (fun _ => inf16) e3, real_of_test (fun _ => inf16) e4, real_of_test (fun _ => inf16) e5, real_of_test (fun _ => inf32) e6, real_of_test (fun _ => inf32) e7, real_of_test (fun _ => inf32) e8, real_of_test (fun _ => inf32) e9, real_of_test (fun _ => inf32) e10, real_of_test (fun _ => inf32) e11, real_of_test (fun _ => inf32) e12, real_of_test (fun _ => inf32) e13⟩

end Cert.Finite

end
-- ==== Proof.Ring4.lean ====
/- The ring of nine weight slots that the grouped product streams its experts through: the slots, the blocks of the
   three weight arrays, the semaphore of a slot, and what is held of a slot in each of its three states. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

/-- The resources the program's assertions speak of. -/
abbrev MM (F : FTy → Type) := MT nD τ sig Unit (Elt F) ℕ (UD sig nD τ) ℕ

/-! ## Slots, blocks, cells -/

theorem inbG (k : Fin 9) : ∀ a, (![k.val, 0, 0] : Fin 3 → Nat) a + S1x1024x256.size a ≤ S9x1024x256.size a := by
  have := k.isLt; intro a; fin_cases a
  · show k.val + 1 ≤ 9; omega
  · show 0 + 1024 ≤ 1024; omega
  · show 0 + 256 ≤ 256; omega
theorem inbD (k : Fin 9) : ∀ a, (![k.val, 0, 0] : Fin 3 → Nat) a + S1x256x1024.size a ≤ S9x256x1024.size a := by
  have := k.isLt; intro a; fin_cases a
  · show k.val + 1 ≤ 9; omega
  · show 0 + 256 ≤ 256; omega
  · show 0 + 1024 ≤ 1024; omega
theorem inbWG (e : Fin 256) : ∀ a, (![e.val, 0, 0] : Fin 3 → Nat) a + S1x1024x256.size a ≤ S256x1024x256.size a := by
  have := e.isLt; intro a; fin_cases a
  · show e.val + 1 ≤ 256; omega
  · show 0 + 1024 ≤ 1024; omega
  · show 0 + 256 ≤ 256; omega
theorem inbWD (e : Fin 256) : ∀ a, (![e.val, 0, 0] : Fin 3 → Nat) a + S1x256x1024.size a ≤ S256x256x1024.size a := by
  have := e.isLt; intro a; fin_cases a
  · show e.val + 1 ≤ 256; omega
  · show 0 + 256 ≤ 256; omega
  · show 0 + 1024 ≤ 1024; omega

/-- Slot `k` of the gate buffer. -/
def slotG (k : Fin 9) : Memref sig .tc .vmem S1024x256 .f32 :=
  ((Memref.whole cc0_scratch0).slice (Rect.unit ![k.val, 0, 0] S1x1024x256.size (inbG k)) (fun _ => rfl)).squeeze S1024x256 squeezes_S1x1024x256_S1024x256
/-- Slot `k` of the up buffer. -/
def slotU (k : Fin 9) : Memref sig .tc .vmem S1024x256 .f32 :=
  ((Memref.whole cc0_scratch1).slice (Rect.unit ![k.val, 0, 0] S1x1024x256.size (inbG k)) (fun _ => rfl)).squeeze S1024x256 squeezes_S1x1024x256_S1024x256
/-- Slot `k` of the down buffer. -/
def slotD (k : Fin 9) : Memref sig .tc .vmem S256x1024 .f32 :=
  ((Memref.whole cc0_scratch2).slice (Rect.unit ![k.val, 0, 0] S1x256x1024.size (inbD k)) (fun _ => rfl)).squeeze S256x1024 squeezes_S1x256x1024_S256x1024
/-- Expert `e`'s block of the gate weights. -/
def srcG (e : Fin 256) : Memref sig .tc .hbm S1024x256 .f32 :=
  ((Memref.whole main_arg4).slice (Rect.unit ![e.val, 0, 0] S1x1024x256.size (inbWG e)) (fun _ => rfl)).squeeze S1024x256 squeezes_S1x1024x256_S1024x256
/-- Expert `e`'s block of the up weights. -/
def srcU (e : Fin 256) : Memref sig .tc .hbm S1024x256 .f32 :=
  ((Memref.whole main_arg5).slice (Rect.unit ![e.val, 0, 0] S1x1024x256.size (inbWG e)) (fun _ => rfl)).squeeze S1024x256 squeezes_S1x1024x256_S1024x256
/-- Expert `e`'s block of the down weights. -/
def srcD (e : Fin 256) : Memref sig .tc .hbm S256x1024 .f32 :=
  ((Memref.whole main_arg6).slice (Rect.unit ![e.val, 0, 0] S1x256x1024.size (inbWD e)) (fun _ => rfl)).squeeze S256x1024 squeezes_S1x256x1024_S256x1024

/-- A semaphore of the array, by its number. -/
theorem inbS (k : Fin 9) : ∀ a, (![k.val] : Fin 1 → Nat) a + S1.size a ≤ S9.size a := by
  have := k.isLt; intro a; fin_cases a
  show k.val + 1 ≤ 9; omega

/-- Slot `k`'s semaphore, as the program takes it out of the array. -/
def semK (k : Fin 9) : DmaSems sig S_ :=
  (cc0_scratch3.slice (Rect.unit (s := S9) ![k.val] S1.size (inbS k))).squeeze S_ squeezes_S1_S_

/-- Slot `k`'s semaphore as a location. -/
abbrev cellK (k : Fin 9) : SemLoc sig := SemLoc.dma (semK k).sem

/-! ## What is held of a slot -/

/-- The contents of the three weight arrays on core `c`. -/
structure WArr (F : FTy → Type) (c : Dev nD) where
  g : Buf (Elt F) ((Memref.whole main_arg4).view.loc (c : Thread nD τ))
  u : Buf (Elt F) ((Memref.whole main_arg5).view.loc (c : Thread nD τ))
  d : Buf (Elt F) ((Memref.whole main_arg6).view.loc (c : Thread nD τ))

variable (c : Dev nD) (w : WArr F c)

/-- Slot `k`'s read share of the gate weights, on the elements `S`. -/
abbrev tokG (k : Fin 9) (S : Finset (Idx ((Memref.whole main_arg4).view.loc (c : Thread nD τ)))) : sProp (MM F) :=
  (Memref.whole main_arg4).view.loc (c : Thread nD τ) ↦[S]{Transfers.shareTok fullShare 9 k} w.g
abbrev tokU (k : Fin 9) (S : Finset (Idx ((Memref.whole main_arg5).view.loc (c : Thread nD τ)))) : sProp (MM F) :=
  (Memref.whole main_arg5).view.loc (c : Thread nD τ) ↦[S]{Transfers.shareTok fullShare 9 k} w.u
abbrev tokD (k : Fin 9) (S : Finset (Idx ((Memref.whole main_arg6).view.loc (c : Thread nD τ)))) : sProp (MM F) :=
  (Memref.whole main_arg6).view.loc (c : Thread nD τ) ↦[S]{Transfers.shareTok fullShare 9 k} w.d

abbrev heldG (k : Fin 9) (f : Buf (Elt F) ((slotG k).view.loc (c : Thread nD τ))) : sProp (MM F) :=
  (slotG k).view.loc (c : Thread nD τ) ↦[(slotG k).view.set]{fullShare} f
abbrev heldU (k : Fin 9) (f : Buf (Elt F) ((slotU k).view.loc (c : Thread nD τ))) : sProp (MM F) :=
  (slotU k).view.loc (c : Thread nD τ) ↦[(slotU k).view.set]{fullShare} f
abbrev heldD (k : Fin 9) (f : Buf (Elt F) ((slotD k).view.loc (c : Thread nD τ))) : sProp (MM F) :=
  (slotD k).view.loc (c : Thread nD τ) ↦[(slotD k).view.set]{fullShare} f

/-- A slot's contents once an expert's block has landed in it. -/
abbrev landG (k : Fin 9) (e : Fin 256) (f : Buf (Elt F) ((slotG k).view.loc (c : Thread nD τ))) :
    Buf (Elt F) ((slotG k).view.loc (c : Thread nD τ)) :=
  (slotG k).view.writes (Elt F) f [⟨Rect.whole S1024x256, ReadAs.same.apply ((srcG e).view.read (Elt F) w.g)⟩]
abbrev landU (k : Fin 9) (e : Fin 256) (f : Buf (Elt F) ((slotU k).view.loc (c : Thread nD τ))) :
    Buf (Elt F) ((slotU k).view.loc (c : Thread nD τ)) :=
  (slotU k).view.writes (Elt F) f [⟨Rect.whole S1024x256, ReadAs.same.apply ((srcU e).view.read (Elt F) w.u)⟩]
abbrev landD (k : Fin 9) (e : Fin 256) (f : Buf (Elt F) ((slotD k).view.loc (c : Thread nD τ))) :
    Buf (Elt F) ((slotD k).view.loc (c : Thread nD τ)) :=
  (slotD k).view.writes (Elt F) f [⟨Rect.whole S256x1024, ReadAs.same.apply ((srcD e).view.read (Elt F) w.d)⟩]

/-- The three deliveries of a fetch of expert `e` into slot `k`: each slot filled, each lent block back. -/
abbrev deliv (k : Fin 9) (e : Fin 256) : Fin 3 → sProp (MM F)
  | 0 => iprop((∃ f, heldG c k (landG c w k e f)) ∗ tokG c w k (srcG e).view.set)
  | 1 => iprop((∃ f, heldU c k (landU c w k e f)) ∗ tokU c w k (srcU e).view.set)
  | 2 => iprop((∃ f, heldD c k (landD c w k e f)) ∗ tokD c w k (srcD e).view.set)

/-- The credit of one of a fetch's three transfers. -/
abbrev NB (k : Fin 9) : ℕ := (slotG k).view.amount (cellK k)

/-- The states of a slot: free, an expert's weights on their way into it, an expert's weights in it. -/
inductive St where
  | free : St
  | flight (e : Fin 256) : St
  | held (e : Fin 256) : St

theorem stG (k : Fin 9) (S) : Storable (upEmb : UEmb _ (MM F)) (tokG c w k S) := inferInstance
theorem stU (k : Fin 9) (S) : Storable (upEmb : UEmb _ (MM F)) (tokU c w k S) := inferInstance
theorem stD (k : Fin 9) (S) : Storable (upEmb : UEmb _ (MM F)) (tokD c w k S) := inferInstance

instance (k : Fin 9) (e : Fin 256) (t : Fin 3) : Storable (upEmb : UEmb _ (MM F)) (deliv c w k e t) := by
  haveI := stG c w k (srcG e).view.set
  haveI := stU c w k (srcU e).view.set
  haveI := stD c w k (srcD e).view.set
  fin_cases t
  · show Storable _ iprop((∃ f, heldG c k (landG c w k e f)) ∗ tokG c w k (srcG e).view.set); infer_instance
  · show Storable _ iprop((∃ f, heldU c k (landU c w k e f)) ∗ tokU c w k (srcU e).view.set); infer_instance
  · show Storable _ iprop((∃ f, heldD c k (landD c w k e f)) ∗ tokD c w k (srcD e).view.set); infer_instance

abbrev freeΦ (k : Fin 9) : sProp (MM F) :=
  iprop(semVal ((c : Thread nD τ), cellK k) 0 ∗ (∃ f, heldG c k f) ∗ (∃ f, heldU c k f) ∗ (∃ f, heldD c k f)
    ∗ tokG c w k Finset.univ ∗ tokU c w k Finset.univ ∗ tokD c w k Finset.univ)
abbrev flightΦ (k : Fin 9) (e : Fin 256) : sProp (MM F) :=
  iprop(Transfers.Batch (countersEmb (U := UD sig nD τ)) (c : Thread nD τ) (cellK k) () (NB k) (deliv c w k e) 3 0
    ∗ tokG c w k (Finset.univ \ (srcG e).view.set) ∗ tokU c w k (Finset.univ \ (srcU e).view.set)
    ∗ tokD c w k (Finset.univ \ (srcD e).view.set))
abbrev heldΦ (k : Fin 9) (e : Fin 256) : sProp (MM F) :=
  iprop(semVal ((c : Thread nD τ), cellK k) 0 ∗ (∃ f, heldG c k (landG c w k e f)) ∗ (∃ f, heldU c k (landU c w k e f))
    ∗ (∃ f, heldD c k (landD c w k e f))
    ∗ tokG c w k Finset.univ ∗ tokU c w k Finset.univ ∗ tokD c w k Finset.univ)

/-- What is held of slot `k` in state `s`. -/
def Φ (k : Fin 9) : St → sProp (MM F)
  | .free => freeΦ c w k
  | .flight e => flightΦ c w k e
  | .held e => heldΦ c w k e

end Cert.Kernel4Ideal.Hand

end
-- ==== Proof.Fetch4.lean ====
module

public import proofs.«01_k».proof.Proof.Ring4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

abbrev PR (F : FTy → Type) (β : Type) := Prog (TpuEff nD τ sig (Elt F) Λ₀ .tc) β

variable {β : Type}

/-- The three transfers of expert `e`'s weights into slot `k`, and then `z`. -/
def issue3 (k : Fin 9) (e : Fin 256) (z : PR F β) : PR F β := do
  Prog.lift (.enqueueDma (srcG e) (.here (slotG k)) (.dma (semK k).sem) ((View.wordExact_bits rfl).reshape _ _) ((View.wordExact_bits rfl).reshape _ _) ⟨Or.inl rfl, trivial⟩)
  Prog.lift (.enqueueDma (srcU e) (.here (slotU k)) (.dma (semK k).sem) ((View.wordExact_bits rfl).reshape _ _) ((View.wordExact_bits rfl).reshape _ _) ⟨Or.inl rfl, trivial⟩)
  Prog.lift (.enqueueDma (srcD e) (.here (slotD k)) (.dma (semK k).sem) ((View.wordExact_bits rfl).reshape _ _) ((View.wordExact_bits rfl).reshape _ _) ⟨Or.inl rfl, trivial⟩)
  z

/-- The three waits for them, and then `z`. -/
def wait3 (k : Fin 9) (e : Fin 256) (z : PR F β) : PR F β := do
  Prog.lift (.waitDma2 (semK k).sem (srcG e) (slotG k) ((View.wordExact_bits rfl).reshape _ _) ((View.wordExact_bits rfl).reshape _ _))
  Prog.lift (.waitDma2 (semK k).sem (srcU e) (slotU k) ((View.wordExact_bits rfl).reshape _ _) ((View.wordExact_bits rfl).reshape _ _))
  Prog.lift (.waitDma2 (semK k).sem (srcD e) (slotD k) ((View.wordExact_bits rfl).reshape _ _) ((View.wordExact_bits rfl).reshape _ _))
  z

variable (c : Dev nD) (w : WArr F c)

/-- A fetch turns a free slot into one with an expert's weights on their way into it. -/
theorem wp_issue3 (k : Fin 9) (e : Fin 256) (z : PR F β) (Q : β → sProp (MM F)) :
    iprop(Φ c w k .free ∗ (Φ c w k (.flight e) -∗ wp frame (wpE (defs₀ (F := F)) Variants.none c none) Set.univ z Q))
      ⊢ wp frame (wpE (defs₀ (F := F)) Variants.none c none) Set.univ (issue3 k e z) Q := by
  simp only [Φ]
  iintro ⟨⟨Hcell, ⟨%fg, HG⟩, ⟨%fu, HU⟩, ⟨%fd, HD⟩, TG, TU, TD⟩, Hz⟩
  imod (Transfers.batch_alloc' (Lvl := ℕ) (countersEmb (U := UD sig nD τ)) (c : Thread nD τ) () (NB k) (deliv c w k e) (sm := cellK k) (E := Set.univ)) $$ Hcell with HB
  unfold issue3
  sl_exec
  iapply Hz
  isplitl [HB]; · iexact HB
  isplitl [TG]; · iexact TG
  isplitl [TU]; · iexact TU
  iexact TD

theorem wp_wait3 (k : Fin 9) (e : Fin 256) (z : PR F β) (Q : β → sProp (MM F)) (W : Waits sig Unit) :
    iprop(Φ c w k (.flight e) ∗ owes (c : Thread nD τ) 0 W ∗ (Φ c w k (.held e) -∗ (∃ W, owes (c : Thread nD τ) 0 W)
        -∗ wp frame (wpE (defs₀ (F := F)) Variants.none c none) Set.univ z Q))
      ⊢ wp frame (wpE (defs₀ (F := F)) Variants.none c none) Set.univ (wait3 k e z) Q := by
  simp only [Φ]
  iintro ⟨⟨HB, TG, TU, TD⟩, HO, Hz⟩
  unfold wait3
  sl_exec
  iapply Hz $$ [HB HB_dst0 HB_dst1 HB_dst2 TG TU TD] [HO]
  · isplitl [HB]; · iexact HB
    isplitl [HB_dst0]; · iexact HB_dst0
    isplitl [HB_dst1]; · iexact HB_dst1
    isplitl [HB_dst2]; · iexact HB_dst2
    isplitl [TG]; · iexact TG
    isplitl [TU]; · iexact TU
    iexact TD
  · iexists _; iexact HO

/-- A slot that holds an expert's weights may be used again. -/
theorem held_free (k : Fin 9) (e : Fin 256) : Φ c w k (.held e) ⊢ Φ c w k .free := by
  simp only [Φ]
  iintro ⟨Hcell, ⟨%fg, HG⟩, ⟨%fu, HU⟩, ⟨%fd, HD⟩, TG, TU, TD⟩
  isplitl [Hcell]; · iexact Hcell
  isplitl [HG]; · iexists _; iexact HG
  isplitl [HU]; · iexists _; iexact HU
  isplitl [HD]; · iexists _; iexact HD
  isplitl [TG]; · iexact TG
  isplitl [TU]; · iexact TU
  iexact TD

end Cert.Kernel4Ideal.Hand

end
-- ==== Proof.Body4.lean ====
module

public import proofs.«01_k».proof.Proof.Fetch4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

variable {β : Type}

/-! ## The body as a few sub-programs, each followed by the rest of the body -/

/-- The look-ahead's slot: five further round the ring. -/
def nxt (s : BitVec 32) : BitVec 32 :=
  Scalar.select (Scalar.andi (Scalar.xori (Scalar.cmpi .slt (Scalar.remsi (Scalar.addi s 5#32) (Scalar.select (Scalar.cmpi .eq 9#32 0#32) 1#32 9#32)) 0#32)
      (Scalar.cmpi .slt (Scalar.select (Scalar.cmpi .eq 9#32 0#32) 1#32 9#32) 0#32))
    (Scalar.cmpi .ne (Scalar.remsi (Scalar.addi s 5#32) (Scalar.select (Scalar.cmpi .eq 9#32 0#32) 1#32 9#32)) 0#32))
    (Scalar.addi (Scalar.remsi (Scalar.addi s 5#32) (Scalar.select (Scalar.cmpi .eq 9#32 0#32) 1#32 9#32)) (Scalar.select (Scalar.cmpi .eq 9#32 0#32) 1#32 9#32))
    (Scalar.remsi (Scalar.addi s 5#32) (Scalar.select (Scalar.cmpi .eq 9#32 0#32) 1#32 9#32))

/-- One step of the first block's fill: run `a`'s weights into slot `a`, if there is such a run. -/
def proStep (a : Fin 9) (inb : ∀ d, (![a.val] : Fin 1 → Nat) d + S1.size d ≤ S777.size d)
    (chk : BitVec 32 → Prop) (dec : ∀ v, Decidable (chk v)) (hb : ∀ v, chk v → k0_cond3 v = 1#1 → v.toNat < 256) (z : PR F β) : PR F β := do
  let v : Elt F .i32 ← smemLoad (Memref.whole main_v28) (Rect.unit (s := S777) ![a.val] S1.size inb) numel1_S1 rfl
  let h ← Prog.lift (TpuEff.assume (chk v) (dec v))
  if hc : k0_cond3 v = 1#1 then issue3 a ⟨v.toNat, hb v h.down hc⟩ z else z

/-- What a block that begins a run does: wait for the run's weights, and fetch those of the run five later. -/
def firstBlk (off : Fin 1 → Nat) (inb : ∀ a, off a + S1.size a ≤ S768.size a)
    (chkS : BitVec 32 → Prop) (decS : ∀ v, Decidable (chkS v)) (hS : ∀ v, chkS v → v.toNat < 9)
    (chkE : BitVec 32 → Prop) (decE : ∀ v, Decidable (chkE v)) (hE : ∀ v, chkE v → v.toNat < 256)
    (chkR : BitVec 32 → Prop) (decR : ∀ v, Decidable (chkR v)) (hR : ∀ v, chkR v → ∀ a, k0_off21 v a + S1.size a ≤ S777.size a)
    (chkX : BitVec 32 → BitVec 32 → Prop) (decX : ∀ s v, Decidable (chkX s v))
    (hX : ∀ s v, chkX s v → k0_cond9 v = 1#1 → (nxt s).toNat < 9) (hY : ∀ s v, chkX s v → k0_cond9 v = 1#1 → v.toNat < 256)
    (z : PR F β) : PR F β := do
  let s : Elt F .i32 ← smemLoad (Memref.whole main_v14) (Rect.unit (s := S768) off S1.size inb) numel1_S1 rfl
  let hs ← Prog.lift (TpuEff.assume (chkS s) (decS s))
  let e : Elt F .i32 ← smemLoad (Memref.whole main_arg0) (Rect.unit (s := S768) off S1.size inb) numel1_S1 rfl
  let he ← Prog.lift (TpuEff.assume (chkE e) (decE e))
  wait3 ⟨s.toNat, hS s hs.down⟩ ⟨e.toNat, hE e he.down⟩ do
  let r : Elt F .i32 ← smemLoad (Memref.whole main_v13) (Rect.unit (s := S768) off S1.size inb) numel1_S1 rfl
  let hr ← Prog.lift (TpuEff.assume (chkR r) (decR r))
  let x : Elt F .i32 ← smemLoad (Memref.whole main_v28) (Rect.unit (s := S777) (k0_off21 r) S1.size (hR r hr.down)) numel1_S1 rfl
  let hx ← Prog.lift (TpuEff.assume (chkX s x) (decX s x))
  if hc : k0_cond9 x = 1#1 then issue3 ⟨(nxt s).toNat, hX s x hx.down hc⟩ ⟨x.toNat, hY s x hx.down hc⟩ z else z

/-- What every block of an active tile does: the product of its 256 rows with the weights in its slot. -/
def compBlk (w8 : Memref sig .tc .vmem S1024x512 .i32) (w12 : Memref sig .tc .vmem S1024x1024 .bf16) (hw12 : w12.IsWhole)
    (off : Fin 1 → Nat) (inb : ∀ a, off a + S1.size a ≤ S768.size a)
    (chkS : BitVec 32 → Prop) (decS : ∀ v, Decidable (chkS v)) (hS : ∀ v, chkS v → v.toNat < 9)
    (o : Nat) (ho8 : ∀ a, (![o, 0] : Fin 2 → Nat) a + S256x512.size a ≤ S1024x512.size a)
    (ho12 : ∀ a, (![o, 0] : Fin 2 → Nat) a + S256x1024.size a ≤ S1024x1024.size a)
    (hp : (Rect.unit (s := S1024x1024) ![o, 0] S256x1024.size ho12).PackedRows (EltTy.packing .bf16))
    (z : PR F β) : PR F β := do
  let s : Elt F .i32 ← smemLoad (Memref.whole main_v14) (Rect.unit (s := S768) off S1.size inb) numel1_S1 rfl
  let hs ← Prog.lift (TpuEff.assume (chkS s) (decS s))
  let x : Vec F S256x512 .i32 ← Prog.lift (.load w8 (Rect.unit (s := S1024x512) ![o, 0] S256x512.size ho8).toLoadRect (View.loadsAt_vmem h_S256x512))
  let nv : Elt F .i32 ← smemLoad (Memref.whole main_arg1) (Rect.unit (s := S768) off S1.size inb) numel1_S1 rfl
  let g : Vec F S1x1024x256 .f32 ← Prog.lift (.load (Memref.whole cc0_scratch0) (Rect.unit (s := S9x1024x256) ![s.toNat, 0, 0] S1x1024x256.size (inbG ⟨s.toNat, hS s hs.down⟩)).toLoadRect (View.loadsAt_vmem h_S1x1024x256))
  let u : Vec F S1x1024x256 .f32 ← Prog.lift (.load (Memref.whole cc0_scratch1) (Rect.unit (s := S9x1024x256) ![s.toNat, 0, 0] S1x1024x256.size (inbG ⟨s.toNat, hS s hs.down⟩)).toLoadRect (View.loadsAt_vmem h_S1x1024x256))
  let d : Vec F S1x256x1024 .f32 ← Prog.lift (.load (Memref.whole cc0_scratch2) (Rect.unit (s := S9x256x1024) ![s.toNat, 0, 0] S1x256x1024.size (inbD ⟨s.toNat, hS s hs.down⟩)).toLoadRect (View.loadsAt_vmem h_S1x256x1024))
  let y : Vec F S256x1024 .bf16 ← Prog.lift (.load w12 (Rect.unit (s := S1024x1024) ![o, 0] S256x1024.size ho12).toLoadRect (View.loadsAt_vmem h_S256x1024))
  Prog.lift (.store w12 (Rect.unit (s := S1024x1024) ![o, 0] S256x1024.size ho12) (k0_pay4 x nv g u d) Finset.univ (View.stores_vmem h_S256x1024 (hw12.storeExact_slice rfl _ hp) (fun _ => rfl)) (.inl rfl))
  z

variable (i : grid0.Coords) (v0 v1 : BitVec 32) (h1 : k0_cond1 i v1 = 1#1)
variable (w8 : Memref sig .tc .vmem S1024x512 .i32) (hw8 : w8.IsWhole) (w12 : Memref sig .tc .vmem S1024x1024 .bf16) (hw12 : w12.IsWhole)

/-- The loads of block 0's first flag, and the block's wait and fetch if it begins a run. -/
def wf0 (z : PR F β) : PR F β := do
    let nb : Elt F .i32 ← smemLoad (Memref.whole main_arg2) (Rect.unit (s := S1) ![0] S1.size inb_S1_S1_0) numel1_S1 rfl
    let f : Elt F .i32 ← smemLoad (Memref.whole main_v10) (Rect.unit (s := S768) (k0_off11 i) S1.size (k0_off11_inb i)) numel1_S1 rfl
    if h2 : k0_cond8 i nb f = 1#1 then
      firstBlk (k0_off12 i) (k0_off12_inb i) (k0_chk6 i v1 nb f) (k0_chk6.dec i v1 nb f) (fun v h => h.1 h1 h2 0)
        (k0_chk7 i v1 nb f) (k0_chk7.dec i v1 nb f) (fun v h => h.1 h1 h2 0)
        (k0_chk8 i v1 nb f) (k0_chk8.dec i v1 nb f) (fun v h => h h1 h2)
        (k0_chk9 i v1 nb f) (k0_chk9.dec i v1 nb f) (fun s v h hc => h.1 h1 h2 hc 0) (fun s v h hc => h.2.2.1 h1 h2 hc 0) z
    else z

/-- Block 0's share of the fetches: the ring's fill, where the block is the very first, then `wf0`. -/
def fb0 (z : PR F β) : PR F β :=
  have r0 := wf0 i v1 h1 z
  if h0 : k0_cond2 i = 1#1 then
     proStep 0 inb_S777_S1_0 (k0_chk1 i v1) (k0_chk1.dec i v1) (fun v h hc => h.1 h1 h0 hc 0) <|
     proStep 1 inb_S777_S1_1 (k0_chk2 i v1) (k0_chk2.dec i v1) (fun v h hc => h.1 h1 h0 hc 0) <|
     proStep 2 inb_S777_S1_2 (k0_chk3 i v1) (k0_chk3.dec i v1) (fun v h hc => h.1 h1 h0 hc 0) <|
     proStep 3 inb_S777_S1_3 (k0_chk4 i v1) (k0_chk4.dec i v1) (fun v h hc => h.1 h1 h0 hc 0) <|
     proStep 4 inb_S777_S1_4 (k0_chk5 i v1) (k0_chk5.dec i v1) (fun v h hc => h.1 h1 h0 hc 0) <|
     r0 else r0

/-- The loads of block 1's first flag, and the block's wait and fetch if it begins a run. -/
def wf1 (z : PR F β) : PR F β := do
    let nb : Elt F .i32 ← smemLoad (Memref.whole main_arg2) (Rect.unit (s := S1) ![0] S1.size inb_S1_S1_0) numel1_S1 rfl
    let f : Elt F .i32 ← smemLoad (Memref.whole main_v10) (Rect.unit (s := S768) (k0_off37 i) S1.size (k0_off37_inb i)) numel1_S1 rfl
    if h2 : k0_cond16 i nb f = 1#1 then
      firstBlk (k0_off38 i) (k0_off38_inb i) (k0_chk15 i v1 nb f) (k0_chk15.dec i v1 nb f) (fun v h => h.1 h1 h2 0)
        (k0_chk16 i v1 nb f) (k0_chk16.dec i v1 nb f) (fun v h => h.1 h1 h2 0)
        (k0_chk17 i v1 nb f) (k0_chk17.dec i v1 nb f) (fun v h => h h1 h2)
        (k0_chk18 i v1 nb f) (k0_chk18.dec i v1 nb f) (fun s v h hc => h.1 h1 h2 hc 0) (fun s v h hc => h.2.2.1 h1 h2 hc 0) z
    else z

/-- Block 1's share of the fetches: the ring's fill, where the block is the very first, then `wf1`. -/
def fb1 (z : PR F β) : PR F β :=
  have r1 := wf1 i v1 h1 z
  if h0 : k0_cond10 i = 1#1 then
     proStep 0 inb_S777_S1_0 (k0_chk10 i v1) (k0_chk10.dec i v1) (fun v h hc => h.1 h1 h0 hc 0) <|
     proStep 1 inb_S777_S1_1 (k0_chk11 i v1) (k0_chk11.dec i v1) (fun v h hc => h.1 h1 h0 hc 0) <|
     proStep 2 inb_S777_S1_2 (k0_chk12 i v1) (k0_chk12.dec i v1) (fun v h hc => h.1 h1 h0 hc 0) <|
     proStep 3 inb_S777_S1_3 (k0_chk13 i v1) (k0_chk13.dec i v1) (fun v h hc => h.1 h1 h0 hc 0) <|
     proStep 4 inb_S777_S1_4 (k0_chk14 i v1) (k0_chk14.dec i v1) (fun v h hc => h.1 h1 h0 hc 0) <|
     r1 else r1

/-- The loads of block 2's first flag, and the block's wait and fetch if it begins a run. -/
def wf2 (z : PR F β) : PR F β := do
    let nb : Elt F .i32 ← smemLoad (Memref.whole main_arg2) (Rect.unit (s := S1) ![0] S1.size inb_S1_S1_0) numel1_S1 rfl
    let f : Elt F .i32 ← smemLoad (Memref.whole main_v10) (Rect.unit (s := S768) (k0_off63 i) S1.size (k0_off63_inb i)) numel1_S1 rfl
    if h2 : k0_cond24 i nb f = 1#1 then
      firstBlk (k0_off64 i) (k0_off64_inb i) (k0_chk24 i v1 nb f) (k0_chk24.dec i v1 nb f) (fun v h => h.1 h1 h2 0)
        (k0_chk25 i v1 nb f) (k0_chk25.dec i v1 nb f) (fun v h => h.1 h1 h2 0)
        (k0_chk26 i v1 nb f) (k0_chk26.dec i v1 nb f) (fun v h => h h1 h2)
        (k0_chk27 i v1 nb f) (k0_chk27.dec i v1 nb f) (fun s v h hc => h.1 h1 h2 hc 0) (fun s v h hc => h.2.2.1 h1 h2 hc 0) z
    else z

/-- Block 2's share of the fetches: the ring's fill, where the block is the very first, then `wf2`. -/
def fb2 (z : PR F β) : PR F β :=
  have r2 := wf2 i v1 h1 z
  if h0 : k0_cond18 i = 1#1 then
     proStep 0 inb_S777_S1_0 (k0_chk19 i v1) (k0_chk19.dec i v1) (fun v h hc => h.1 h1 h0 hc 0) <|
     proStep 1 inb_S777_S1_1 (k0_chk20 i v1) (k0_chk20.dec i v1) (fun v h hc => h.1 h1 h0 hc 0) <|
     proStep 2 inb_S777_S1_2 (k0_chk21 i v1) (k0_chk21.dec i v1) (fun v h hc => h.1 h1 h0 hc 0) <|
     proStep 3 inb_S777_S1_3 (k0_chk22 i v1) (k0_chk22.dec i v1) (fun v h hc => h.1 h1 h0 hc 0) <|
     proStep 4 inb_S777_S1_4 (k0_chk23 i v1) (k0_chk23.dec i v1) (fun v h hc => h.1 h1 h0 hc 0) <|
     r2 else r2

/-- The loads of block 3's first flag, and the block's wait and fetch if it begins a run. -/
def wf3 (z : PR F β) : PR F β := do
    let nb : Elt F .i32 ← smemLoad (Memref.whole main_arg2) (Rect.unit (s := S1) ![0] S1.size inb_S1_S1_0) numel1_S1 rfl
    let f : Elt F .i32 ← smemLoad (Memref.whole main_v10) (Rect.unit (s := S768) (k0_off89 i) S1.size (k0_off89_inb i)) numel1_S1 rfl
    if h2 : k0_cond32 i nb f = 1#1 then
      firstBlk (k0_off90 i) (k0_off90_inb i) (k0_chk33 i v1 nb f) (k0_chk33.dec i v1 nb f) (fun v h => h.1 h1 h2 0)
        (k0_chk34 i v1 nb f) (k0_chk34.dec i v1 nb f) (fun v h => h.1 h1 h2 0)
        (k0_chk35 i v1 nb f) (k0_chk35.dec i v1 nb f) (fun v h => h h1 h2)
        (k0_chk36 i v1 nb f) (k0_chk36.dec i v1 nb f) (fun s v h hc => h.1 h1 h2 hc 0) (fun s v h hc => h.2.2.1 h1 h2 hc 0) z
    else z

/-- Block 3's share of the fetches: the ring's fill, where the block is the very first, then `wf3`. -/
def fb3 (z : PR F β) : PR F β :=
  have r3 := wf3 i v1 h1 z
  if h0 : k0_cond26 i = 1#1 then
     proStep 0 inb_S777_S1_0 (k0_chk28 i v1) (k0_chk28.dec i v1) (fun v h hc => h.1 h1 h0 hc 0) <|
     proStep 1 inb_S777_S1_1 (k0_chk29 i v1) (k0_chk29.dec i v1) (fun v h hc => h.1 h1 h0 hc 0) <|
     proStep 2 inb_S777_S1_2 (k0_chk30 i v1) (k0_chk30.dec i v1) (fun v h hc => h.1 h1 h0 hc 0) <|
     proStep 3 inb_S777_S1_3 (k0_chk31 i v1) (k0_chk31.dec i v1) (fun v h hc => h.1 h1 h0 hc 0) <|
     proStep 4 inb_S777_S1_4 (k0_chk32 i v1) (k0_chk32.dec i v1) (fun v h hc => h.1 h1 h0 hc 0) <|
     r3 else r3

set_option maxRecDepth 65536 in
set_option maxHeartbeats 4000000 in
theorem part5_eq : k0_part5 (F := F) i (Memref.whole main_arg0) (Memref.isWhole_whole _) (Memref.whole main_arg1) (Memref.isWhole_whole _) (Memref.whole main_arg2) (Memref.isWhole_whole _) (Memref.whole main_v10) (Memref.isWhole_whole _) (Memref.whole main_v13) (Memref.isWhole_whole _) (Memref.whole main_v14) (Memref.isWhole_whole _) (Memref.whole main_v28) (Memref.isWhole_whole _) w8 hw8 (Memref.whole main_arg4) (Memref.isWhole_whole _) (Memref.whole main_arg5) (Memref.isWhole_whole _) (Memref.whole main_arg6) (Memref.isWhole_whole _) w12 hw12 (Memref.whole cc0_scratch0) (Memref.isWhole_whole _) (Memref.whole cc0_scratch1) (Memref.isWhole_whole _) (Memref.whole cc0_scratch2) (Memref.isWhole_whole _) cc0_scratch3 v0 v1 h1 = fb0 i v1 h1 (fb1 i v1 h1 (fb2 i v1 h1 (pure ⟨⟩))) := by
  rw [k0_part5_eq_skeleton]; rfl

/-- The end of the body's sixth part: the first block's hidden rows. -/
def tail6 : PR F (Σ' (v55 : Elt F .i32) (k0_hw37 : k0_chk37 i v1 v55), FVec F S256x256 .f32) := do
  let v55 : Elt F .i32 ← smemLoad (Memref.whole main_v14) (Rect.unit (s := S768) (k0_off105 i) S1.size (k0_off105_inb i)) numel1_S1 rfl
  have k0_hw37 : k0_chk37 i v1 v55 := (← Prog.lift (TpuEff.assume (k0_chk37 i v1 v55) (k0_chk37.dec i v1 v55))).down
  let v56 : Vec F S256x512 .i32 ← Prog.lift (.load w8 (Rect.unit (s := S1024x512) ![0, 0] S256x512.size inb_S1024x512_S256x512_0_0).toLoadRect (View.loadsAt_vmem h_S256x512))
  let v62 : Elt F .i32 ← smemLoad (Memref.whole main_arg1) (Rect.unit (s := S768) (k0_off105 i) S1.size (k0_off105_inb i)) numel1_S1 rfl
  let v70 : Vec F S1x1024x256 .f32 ← Prog.lift (.load (Memref.whole cc0_scratch0) (Rect.unit (s := S9x1024x256) (k0_off106 v55) S1x1024x256.size (k0_off106_inb i v1 v55 k0_hw37 h1)).toLoadRect (View.loadsAt_vmem h_S1x1024x256))
  let v76 : Vec F S1x1024x256 .f32 ← Prog.lift (.load (Memref.whole cc0_scratch1) (Rect.unit (s := S9x1024x256) (k0_off106 v55) S1x1024x256.size (k0_off106_inb i v1 v55 k0_hw37 h1)).toLoadRect (View.loadsAt_vmem h_S1x1024x256))
  pure ⟨v55, k0_hw37, k0_pay2 v56 v62 v70 v76⟩

set_option maxRecDepth 65536 in
set_option maxHeartbeats 4000000 in
theorem part6_eq : k0_part6 (F := F) i (Memref.whole main_arg0) (Memref.isWhole_whole _) (Memref.whole main_arg1) (Memref.isWhole_whole _) (Memref.whole main_arg2) (Memref.isWhole_whole _) (Memref.whole main_v10) (Memref.isWhole_whole _) (Memref.whole main_v13) (Memref.isWhole_whole _) (Memref.whole main_v14) (Memref.isWhole_whole _) (Memref.whole main_v28) (Memref.isWhole_whole _) w8 hw8 (Memref.whole main_arg4) (Memref.isWhole_whole _) (Memref.whole main_arg5) (Memref.isWhole_whole _) (Memref.whole main_arg6) (Memref.isWhole_whole _) w12 hw12 (Memref.whole cc0_scratch0) (Memref.isWhole_whole _) (Memref.whole cc0_scratch1) (Memref.isWhole_whole _) (Memref.whole cc0_scratch2) (Memref.isWhole_whole _) cc0_scratch3 v0 v1 h1 = fb3 i v1 h1 (tail6 i v1 h1 w8) := by
  rw [k0_part6_eq_skeleton]; rfl

/-- What every block of an active tile does, block by block. -/
def comp4 (z : PR F β) : PR F β :=
  compBlk w8 w12 hw12 (k0_off105 i) (k0_off105_inb i) (k0_chk37 i v1) (k0_chk37.dec i v1) (fun v h => h.1 h1 0) 0 inb_S1024x512_S256x512_0_0 inb_S1024x1024_S256x1024_0_0 packedbf16_S1024x1024_S256x1024_0_0 <|
  compBlk w8 w12 hw12 (k0_off108 i) (k0_off108_inb i) (k0_chk38 i v1) (k0_chk38.dec i v1) (fun v h => h.1 h1 0) 256 inb_S1024x512_S256x512_256_0 inb_S1024x1024_S256x1024_256_0 packedbf16_S1024x1024_S256x1024_256_0 <|
  compBlk w8 w12 hw12 (k0_off111 i) (k0_off111_inb i) (k0_chk39 i v1) (k0_chk39.dec i v1) (fun v h => h.1 h1 0) 512 inb_S1024x512_S256x512_512_0 inb_S1024x1024_S256x1024_512_0 packedbf16_S1024x1024_S256x1024_512_0 <|
  compBlk w8 w12 hw12 (k0_off114 i) (k0_off114_inb i) (k0_chk40 i v1) (k0_chk40.dec i v1) (fun v h => h.1 h1 0) 768 inb_S1024x512_S256x512_768_0 inb_S1024x1024_S256x1024_768_0 packedbf16_S1024x1024_S256x1024_768_0 z

/-- The body after its fetches. -/
def after6 (r : Σ' (v55 : Elt F .i32) (k0_hw37 : k0_chk37 i v1 v55), FVec F S256x256 .f32) : PR F PUnit := do
  let ⟨v55, k0_hw37, v79⟩ := r
  k0_part7 i (Memref.whole main_arg0) (Memref.isWhole_whole _) (Memref.whole main_arg1) (Memref.isWhole_whole _) (Memref.whole main_arg2) (Memref.isWhole_whole _) (Memref.whole main_v10) (Memref.isWhole_whole _) (Memref.whole main_v13) (Memref.isWhole_whole _) (Memref.whole main_v14) (Memref.isWhole_whole _) (Memref.whole main_v28) (Memref.isWhole_whole _) w8 hw8 (Memref.whole main_arg4) (Memref.isWhole_whole _) (Memref.whole main_arg5) (Memref.isWhole_whole _) (Memref.whole main_arg6) (Memref.isWhole_whole _) w12 hw12 (Memref.whole cc0_scratch0) (Memref.isWhole_whole _) (Memref.whole cc0_scratch1) (Memref.isWhole_whole _) (Memref.whole cc0_scratch2) (Memref.isWhole_whole _) cc0_scratch3 v0 v1 h1 v55 k0_hw37 v79
  let ⟨v152, v154, k0_hw40, v156, v157⟩ : Σ' (v152 : BitVec 32) (v154 : Elt F .i32) (k0_hw40 : k0_chk40 i v1 v154) (v156 : FVec F S256x512 .f32), FVec F S256x512 .f32 ← k0_part8 i (Memref.whole main_arg0) (Memref.isWhole_whole _) (Memref.whole main_arg1) (Memref.isWhole_whole _) (Memref.whole main_arg2) (Memref.isWhole_whole _) (Memref.whole main_v10) (Memref.isWhole_whole _) (Memref.whole main_v13) (Memref.isWhole_whole _) (Memref.whole main_v14) (Memref.isWhole_whole _) (Memref.whole main_v28) (Memref.isWhole_whole _) w8 hw8 (Memref.whole main_arg4) (Memref.isWhole_whole _) (Memref.whole main_arg5) (Memref.isWhole_whole _) (Memref.whole main_arg6) (Memref.isWhole_whole _) w12 hw12 (Memref.whole cc0_scratch0) (Memref.isWhole_whole _) (Memref.whole cc0_scratch1) (Memref.isWhole_whole _) (Memref.whole cc0_scratch2) (Memref.isWhole_whole _) cc0_scratch3 v0 v1 h1
  let v161 : Elt F .i32 ← smemLoad (Memref.whole main_arg1) (Rect.unit (s := S768) (k0_off114 i) S1.size (k0_off114_inb i)) numel1_S1 rfl
  let v169 : Vec F S1x1024x256 .f32 ← Prog.lift (.load (Memref.whole cc0_scratch0) (Rect.unit (s := S9x1024x256) (k0_off115 v154) S1x1024x256.size (k0_off115_inb i v1 v154 k0_hw40 h1)).toLoadRect (View.loadsAt_vmem h_S1x1024x256))
  let v175 : Vec F S1x1024x256 .f32 ← Prog.lift (.load (Memref.whole cc0_scratch1) (Rect.unit (s := S9x1024x256) (k0_off115 v154) S1x1024x256.size (k0_off115_inb i v1 v154 k0_hw40 h1)).toLoadRect (View.loadsAt_vmem h_S1x1024x256))
  let v180 : Vec F S1x256x1024 .f32 ← Prog.lift (.load (Memref.whole cc0_scratch2) (Rect.unit (s := S9x256x1024) (k0_off116 v154) S1x256x1024.size (k0_off116_inb i v1 v154 k0_hw40 h1)).toLoadRect (View.loadsAt_vmem h_S1x256x1024))
  let v184 : Vec F S256x1024 .bf16 ← Prog.lift (.load w12 (Rect.unit (s := S1024x1024) ![768, 0] S256x1024.size inb_S1024x1024_S256x1024_768_0).toLoadRect (View.loadsAt_vmem h_S256x1024))
  Prog.lift (.store w12 (Rect.unit (s := S1024x1024) ![768, 0] S256x1024.size inb_S1024x1024_S256x1024_768_0) (k0_pay1 v156 v157 v161 v169 v175 v180) Finset.univ (View.stores_vmem h_S256x1024 (hw12.storeExact_slice rfl _ packedbf16_S1024x1024_S256x1024_768_0) (fun _ => rfl)) (.inl rfl))
  pure ⟨⟩

set_option maxRecDepth 65536 in
set_option maxHeartbeats 4000000 in
theorem tail_eq : (tail6 (F := F) i v1 h1 w8 >>= after6 i v0 v1 h1 w8 hw8 w12 hw12) = comp4 i v1 h1 w8 w12 hw12 (pure ⟨⟩) := by
  unfold after6
  rw [k0_part7_eq_skeleton, k0_part8_eq_skeleton]; rfl

set_option maxRecDepth 65536 in
set_option maxHeartbeats 4000000 in
theorem body_eq : cc0_grouped_mlp (F := F) i (Memref.whole main_arg0) (Memref.isWhole_whole _) (Memref.whole main_arg1) (Memref.isWhole_whole _) (Memref.whole main_arg2) (Memref.isWhole_whole _) (Memref.whole main_v10) (Memref.isWhole_whole _) (Memref.whole main_v13) (Memref.isWhole_whole _) (Memref.whole main_v14) (Memref.isWhole_whole _) (Memref.whole main_v28) (Memref.isWhole_whole _) w8 hw8 (Memref.whole main_arg4) (Memref.isWhole_whole _) (Memref.whole main_arg5) (Memref.isWhole_whole _) (Memref.whole main_arg6) (Memref.isWhole_whole _) w12 hw12 (Memref.whole cc0_scratch0) (Memref.isWhole_whole _) (Memref.whole cc0_scratch1) (Memref.isWhole_whole _) (Memref.whole cc0_scratch2) (Memref.isWhole_whole _) cc0_scratch3 = (do
    let v1 : Elt F .i32 ← smemLoad (Memref.whole main_arg2) (Rect.unit (s := S1) ![0] S1.size inb_S1_S1_0) numel1_S1 rfl
    if h1 : k0_cond1 i v1 = 1#1 then
      k0_part5 i (Memref.whole main_arg0) (Memref.isWhole_whole _) (Memref.whole main_arg1) (Memref.isWhole_whole _) (Memref.whole main_arg2) (Memref.isWhole_whole _) (Memref.whole main_v10) (Memref.isWhole_whole _) (Memref.whole main_v13) (Memref.isWhole_whole _) (Memref.whole main_v14) (Memref.isWhole_whole _) (Memref.whole main_v28) (Memref.isWhole_whole _) w8 hw8 (Memref.whole main_arg4) (Memref.isWhole_whole _) (Memref.whole main_arg5) (Memref.isWhole_whole _) (Memref.whole main_arg6) (Memref.isWhole_whole _) w12 hw12 (Memref.whole cc0_scratch0) (Memref.isWhole_whole _) (Memref.whole cc0_scratch1) (Memref.isWhole_whole _) (Memref.whole cc0_scratch2) (Memref.isWhole_whole _) cc0_scratch3 (Scalar.muli (BitVec.ofNat 32 (i 0).val) 4#32) v1 h1 >>= fun _ =>
      k0_part6 i (Memref.whole main_arg0) (Memref.isWhole_whole _) (Memref.whole main_arg1) (Memref.isWhole_whole _) (Memref.whole main_arg2) (Memref.isWhole_whole _) (Memref.whole main_v10) (Memref.isWhole_whole _) (Memref.whole main_v13) (Memref.isWhole_whole _) (Memref.whole main_v14) (Memref.isWhole_whole _) (Memref.whole main_v28) (Memref.isWhole_whole _) w8 hw8 (Memref.whole main_arg4) (Memref.isWhole_whole _) (Memref.whole main_arg5) (Memref.isWhole_whole _) (Memref.whole main_arg6) (Memref.isWhole_whole _) w12 hw12 (Memref.whole cc0_scratch0) (Memref.isWhole_whole _) (Memref.whole cc0_scratch1) (Memref.isWhole_whole _) (Memref.whole cc0_scratch2) (Memref.isWhole_whole _) cc0_scratch3 (Scalar.muli (BitVec.ofNat 32 (i 0).val) 4#32) v1 h1 >>=
      after6 i (Scalar.muli (BitVec.ofNat 32 (i 0).val) 4#32) v1 h1 w8 hw8 w12 hw12
    else pure ⟨⟩) := by
  rw [cc0_grouped_mlp_eq_skeleton]; rfl

end Cert.Kernel4Ideal.Hand

end
-- ==== Proof.Steps4.lean ====
module

public import proofs.«01_k».proof.Proof.Body4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Ring.Tabled
public import Idealize.ShloMosaic.Lib.Tactic
public import Idealize.ShloMosaic.Lib.UnfoldOut
public import Idealize.ShloMosaic.Lib.WordCmp

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

set_option pp.maxSteps 600

variable {β : Type} (c : Dev nD) (w : WArr F c)

/-- The contents of the seven tables. -/
structure Tabs where
  be : S768.Idx → BitVec 32
  nv : S768.Idx → BitVec 32
  nb : S1.Idx → BitVec 32
  fi : S768.Idx → BitVec 32
  ru : S768.Idx → BitVec 32
  sl : S768.Idx → BitVec 32
  rx : S777.Idx → BitVec 32

/-- The place of word `j` in a table of 768, and in one of 777. -/
def p768 (j : Nat) (h : j < 768) : S768.Idx := fun _ => ⟨j, by rename_i a; fin_cases a; exact h⟩
def p777 (j : Nat) (h : j < 777) : S777.Idx := fun _ => ⟨j, by rename_i a; fin_cases a; exact h⟩
def p1 : S1.Idx := fun _ => ⟨0, by rename_i a; fin_cases a; exact Nat.one_pos⟩

variable (t : Tabs)

abbrev tbE (f : S768.Idx → Elt F .i32) : sProp (MM F) := (Memref.whole main_arg0).view.loc (c : Thread nD τ) ↦{fullShare.right} f
abbrev tbV (f : S768.Idx → Elt F .i32) : sProp (MM F) := (Memref.whole main_arg1).view.loc (c : Thread nD τ) ↦{fullShare.right} f
abbrev tbB (f : S1.Idx → Elt F .i32) : sProp (MM F) := (Memref.whole main_arg2).view.loc (c : Thread nD τ) ↦{fullShare.right} f
abbrev tbF (f : S768.Idx → Elt F .i32) : sProp (MM F) := (Memref.whole main_v10).view.loc (c : Thread nD τ) ↦{fullShare.right} f
abbrev tbR (f : S768.Idx → Elt F .i32) : sProp (MM F) := (Memref.whole main_v13).view.loc (c : Thread nD τ) ↦{fullShare.right} f
abbrev tbS (f : S768.Idx → Elt F .i32) : sProp (MM F) := (Memref.whole main_v14).view.loc (c : Thread nD τ) ↦{fullShare.right} f
abbrev tbX (f : S777.Idx → Elt F .i32) : sProp (MM F) := (Memref.whole main_v28).view.loc (c : Thread nD τ) ↦{fullShare.right} f

/-- The seven tables, held for reading. -/
def TB : sProp (MM F) :=
  iprop(tbE c t.be ∗ tbV c t.nv ∗ tbB c t.nb ∗ tbF c t.fi ∗ tbR c t.ru ∗ tbS c t.sl ∗ tbX c t.rx)

theorem wp_ldE (f : S768.Idx → Elt F .i32) (off : Fin 1 → Nat) (inb : ∀ d, off d + S1.size d ≤ S768.size d) (j : Nat) (hj : j < 768)
    (ho : off 0 = j) (k : Elt F .i32 → PR F β) (Q : β → sProp (MM F)) :
    iprop(tbE c f ∗ (tbE c f -∗ wp frame (wpE (defs₀ (F := F)) Variants.none c none) Set.univ (k (f (p768 j hj))) Q))
      ⊢ wp frame (wpE (defs₀ (F := F)) Variants.none c none) Set.univ
          (smemLoad (Memref.whole main_arg0) (Rect.unit (s := S768) off S1.size inb) numel1_S1 rfl >>= k) Q := by
  iintro ⟨T, Hz⟩
  sl_exec
  have e : wp_ldE.sl.r f off inb = f (p768 j hj) := by
    unfold wp_ldE.sl.r
    refine congrArg f (funext fun a => ?_)
    fin_cases a
    exact Fin.ext ho
  rw [e]
  iapply Hz; iexact T

theorem wp_ldV (f : S768.Idx → Elt F .i32) (off : Fin 1 → Nat) (inb : ∀ d, off d + S1.size d ≤ S768.size d) (j : Nat) (hj : j < 768)
    (ho : off 0 = j) (k : Elt F .i32 → PR F β) (Q : β → sProp (MM F)) :
    iprop(tbV c f ∗ (tbV c f -∗ wp frame (wpE (defs₀ (F := F)) Variants.none c none) Set.univ (k (f (p768 j hj))) Q))
      ⊢ wp frame (wpE (defs₀ (F := F)) Variants.none c none) Set.univ
          (smemLoad (Memref.whole main_arg1) (Rect.unit (s := S768) off S1.size inb) numel1_S1 rfl >>= k) Q := by
  iintro ⟨T, Hz⟩
  sl_exec
  have e : wp_ldV.sl.r f off inb = f (p768 j hj) := by
    unfold wp_ldV.sl.r
    refine congrArg f (funext fun a => ?_)
    fin_cases a
    exact Fin.ext ho
  rw [e]
  iapply Hz; iexact T

theorem wp_ldF (f : S768.Idx → Elt F .i32) (off : Fin 1 → Nat) (inb : ∀ d, off d + S1.size d ≤ S768.size d) (j : Nat) (hj : j < 768)
    (ho : off 0 = j) (k : Elt F .i32 → PR F β) (Q : β → sProp (MM F)) :
    iprop(tbF c f ∗ (tbF c f -∗ wp frame (wpE (defs₀ (F := F)) Variants.none c none) Set.univ (k (f (p768 j hj))) Q))
      ⊢ wp frame (wpE (defs₀ (F := F)) Variants.none c none) Set.univ
          (smemLoad (Memref.whole main_v10) (Rect.unit (s := S768) off S1.size inb) numel1_S1 rfl >>= k) Q := by
  iintro ⟨T, Hz⟩
  sl_exec
  have e : wp_ldF.sl.r f off inb = f (p768 j hj) := by
    unfold wp_ldF.sl.r
    refine congrArg f (funext fun a => ?_)
    fin_cases a
    exact Fin.ext ho
  rw [e]
  iapply Hz; iexact T

theorem wp_ldR (f : S768.Idx → Elt F .i32) (off : Fin 1 → Nat) (inb : ∀ d, off d + S1.size d ≤ S768.size d) (j : Nat) (hj : j < 768)
    (ho : off 0 = j) (k : Elt F .i32 → PR F β) (Q : β → sProp (MM F)) :
    iprop(tbR c f ∗ (tbR c f -∗ wp frame (wpE (defs₀ (F := F)) Variants.none c none) Set.univ (k (f (p768 j hj))) Q))
      ⊢ wp frame (wpE (defs₀ (F := F)) Variants.none c none) Set.univ
          (smemLoad (Memref.whole main_v13) (Rect.unit (s := S768) off S1.size inb) numel1_S1 rfl >>= k) Q := by
  iintro ⟨T, Hz⟩
  sl_exec
  have e : wp_ldR.sl.r f off inb = f (p768 j hj) := by
    unfold wp_ldR.sl.r
    refine congrArg f (funext fun a => ?_)
    fin_cases a
    exact Fin.ext ho
  rw [e]
  iapply Hz; iexact T

theorem wp_ldS (f : S768.Idx → Elt F .i32) (off : Fin 1 → Nat) (inb : ∀ d, off d + S1.size d ≤ S768.size d) (j : Nat) (hj : j < 768)
    (ho : off 0 = j) (k : Elt F .i32 → PR F β) (Q : β → sProp (MM F)) :
    iprop(tbS c f ∗ (tbS c f -∗ wp frame (wpE (defs₀ (F := F)) Variants.none c none) Set.univ (k (f (p768 j hj))) Q))
      ⊢ wp frame (wpE (defs₀ (F := F)) Variants.none c none) Set.univ
          (smemLoad (Memref.whole main_v14) (Rect.unit (s := S768) off S1.size inb) numel1_S1 rfl >>= k) Q := by
  iintro ⟨T, Hz⟩
  sl_exec
  have e : wp_ldS.sl.r f off inb = f (p768 j hj) := by
    unfold wp_ldS.sl.r
    refine congrArg f (funext fun a => ?_)
    fin_cases a
    exact Fin.ext ho
  rw [e]
  iapply Hz; iexact T

theorem wp_ldX (f : S777.Idx → Elt F .i32) (off : Fin 1 → Nat) (inb : ∀ d, off d + S1.size d ≤ S777.size d) (j : Nat) (hj : j < 777)
    (ho : off 0 = j) (k : Elt F .i32 → PR F β) (Q : β → sProp (MM F)) :
    iprop(tbX c f ∗ (tbX c f -∗ wp frame (wpE (defs₀ (F := F)) Variants.none c none) Set.univ (k (f (p777 j hj))) Q))
      ⊢ wp frame (wpE (defs₀ (F := F)) Variants.none c none) Set.univ
          (smemLoad (Memref.whole main_v28) (Rect.unit (s := S777) off S1.size inb) numel1_S1 rfl >>= k) Q := by
  iintro ⟨T, Hz⟩
  sl_exec
  have e : wp_ldX.sl.r f off inb = f (p777 j hj) := by
    unfold wp_ldX.sl.r
    refine congrArg f (funext fun a => ?_)
    fin_cases a
    exact Fin.ext ho
  rw [e]
  iapply Hz; iexact T

theorem wp_ldB (f : S1.Idx → Elt F .i32) (inb : ∀ d, (![0] : Fin 1 → Nat) d + S1.size d ≤ S1.size d) (k : Elt F .i32 → PR F β) (Q : β → sProp (MM F)) :
    iprop(tbB c f ∗ (tbB c f -∗ wp frame (wpE (defs₀ (F := F)) Variants.none c none) Set.univ (k (f p1)) Q))
      ⊢ wp frame (wpE (defs₀ (F := F)) Variants.none c none) Set.univ
          (smemLoad (Memref.whole main_arg2) (Rect.unit (s := S1) ![0] S1.size inb) numel1_S1 rfl >>= k) Q := by
  iintro ⟨T, Hz⟩
  sl_exec
  have e : wp_ldB.sl.r f inb = f p1 := by
    unfold wp_ldB.sl.r
    refine congrArg f (funext fun a => ?_)
    fin_cases a
    exact Fin.ext rfl
  rw [e]
  iapply Hz; iexact T
theorem wp_asm (P : Prop) (dec : Decidable P) (h : P) (k : PLift P → PR F β) (Q : β → sProp (MM F)) :
    wp frame (wpE (defs₀ (F := F)) Variants.none c none) Set.univ (k ⟨h⟩) Q
      ⊢ wp frame (wpE (defs₀ (F := F)) Variants.none c none) Set.univ (Prog.lift (TpuEff.assume P dec) >>= k) Q := by
  iintro H
  sl_exec
  iexact H

theorem wp_proStep (a : Fin 9) (inb : ∀ d, (![a.val] : Fin 1 → Nat) d + S1.size d ≤ S777.size d)
    (chk : BitVec 32 → Prop) (dec : ∀ v, Decidable (chk v)) (hb : ∀ v, chk v → k0_cond3 v = 1#1 → v.toNat < 256) (z : PR F β)
    (Q : β → sProp (MM F)) (ha : a.val < 777) (hc : chk (t.rx (p777 a.val ha))) (X : St)
    (hX : ∀ h : k0_cond3 (t.rx (p777 a.val ha)) = 1#1, X = .flight ⟨_, hb _ hc h⟩)
    (hX' : ¬ k0_cond3 (t.rx (p777 a.val ha)) = 1#1 → X = .free) :
    iprop(TB c t ∗ Φ c w a .free ∗ (TB c t -∗ Φ c w a X -∗ wp frame (wpE (defs₀ (F := F)) Variants.none c none) Set.univ z Q))
      ⊢ wp frame (wpE (defs₀ (F := F)) Variants.none c none) Set.univ (proStep a inb chk dec hb z) Q := by
  unfold TB
  iintro ⟨⟨T0, T1, T2, T3, T4, T5, T6⟩, H, Hz⟩
  unfold proStep
  iapply (wp_ldX c t.rx _ _ a.val ha rfl)
  isplitl [T6]; · iexact T6
  iintro T6
  by_cases h : k0_cond3 (t.rx (p777 a.val ha)) = 1#1
  · sl_exec
    iapply (wp_issue3 c w a ⟨_, hb _ hc h⟩ z)
    isplitl [H]; · iexact H
    iintro H
    rw [hX h]
    iapply Hz $$ [T0 T1 T2 T3 T4 T5 T6] [H]
    · isplitl [T0]; · iexact T0
      isplitl [T1]; · iexact T1
      isplitl [T2]; · iexact T2
      isplitl [T3]; · iexact T3
      isplitl [T4]; · iexact T4
      isplitl [T5]; · iexact T5
      iexact T6
    · iexact H
  · sl_exec
    rw [hX' h]
    iapply Hz $$ [T0 T1 T2 T3 T4 T5 T6] [H]
    · isplitl [T0]; · iexact T0
      isplitl [T1]; · iexact T1
      isplitl [T2]; · iexact T2
      isplitl [T3]; · iexact T3
      isplitl [T4]; · iexact T4
      isplitl [T5]; · iexact T5
      iexact T6
    · iexact H

theorem wp_firstBlk (off : Fin 1 → Nat) (inb : ∀ a, off a + S1.size a ≤ S768.size a)
    (chkS : BitVec 32 → Prop) (decS : ∀ v, Decidable (chkS v)) (hS : ∀ v, chkS v → v.toNat < 9)
    (chkE : BitVec 32 → Prop) (decE : ∀ v, Decidable (chkE v)) (hE : ∀ v, chkE v → v.toNat < 256)
    (chkR : BitVec 32 → Prop) (decR : ∀ v, Decidable (chkR v)) (hR : ∀ v, chkR v → ∀ a, k0_off21 v a + S1.size a ≤ S777.size a)
    (chkX : BitVec 32 → BitVec 32 → Prop) (decX : ∀ s v, Decidable (chkX s v))
    (hX : ∀ s v, chkX s v → k0_cond9 v = 1#1 → (nxt s).toNat < 9) (hY : ∀ s v, chkX s v → k0_cond9 v = 1#1 → v.toNat < 256)
    (z : PR F β) (Q : β → sProp (MM F)) (j : Nat) (hj : j < 768) (ho : off 0 = j)
    (cs : chkS (t.sl (p768 j hj))) (ce : chkE (t.be (p768 j hj))) (cr : chkR (t.ru (p768 j hj)))
    (r : Nat) (hr : r < 777) (ho2 : k0_off21 (t.ru (p768 j hj)) 0 = r) (cx : chkX (t.sl (p768 j hj)) (t.rx (p777 r hr)))
    (st st' : Fin 9 → St) (k k2 : Fin 9) (e : Fin 256) (hk : k.val = (t.sl (p768 j hj)).toNat) (he : e.val = (t.be (p768 j hj)).toNat)
    (hkk : k ≠ k2) (s1 : st k = .flight e) (s2 : st k2 = .free ∨ ∃ e', st k2 = .held e') (s3 : st' k = .held e)
    (s4 : ∀ h : k0_cond9 (t.rx (p777 r hr)) = 1#1, (nxt (t.sl (p768 j hj))).toNat = k2.val ∧ st' k2 = .flight ⟨_, hY _ _ cx h⟩)
    (s5 : ¬ k0_cond9 (t.rx (p777 r hr)) = 1#1 → st' k2 = .free)
    (s6 : ∀ q, q ∉ [k, k2] → st' q = st q) (W : Waits sig Unit) :
    iprop(TB c t ∗ Ring.AtW (σ := fun _ => St) (Φ c w) st ∗ owes (c : Thread nD τ) 0 W
        ∗ (TB c t -∗ Ring.AtW (σ := fun _ => St) (Φ c w) st' -∗ (∃ W, owes (c : Thread nD τ) 0 W)
          -∗ wp frame (wpE (defs₀ (F := F)) Variants.none c none) Set.univ z Q))
      ⊢ wp frame (wpE (defs₀ (F := F)) Variants.none c none) Set.univ
        (firstBlk off inb chkS decS hS chkE decE hE chkR decR hR chkX decX hX hY z) Q := by
  have nd : [k, k2].Nodup := by simp [hkk]
  rw [Ring.AtW_focusL (Φ c w) st [k, k2] nd,
    show bigSepL [k, k2] (fun s => Φ c w s (st s)) = iprop(Φ c w k (st k) ∗ Φ c w k2 (st k2)) from rfl, s1]
  unfold TB
  iintro ⟨⟨T0, T1, T2, T3, T4, T5, T6⟩, ⟨⟨H, H2⟩, HR⟩, HO, Hz⟩
  ihave H2 : Φ c w k2 .free $$ [H2]
  · rcases s2 with s2 | ⟨e', s2⟩
    · rw [s2]; iexact H2
    · rw [s2]; iapply (held_free c w k2 e'); iexact H2
  unfold firstBlk
  iapply (wp_ldS c t.sl _ _ j hj ho)
  isplitl [T5]; · iexact T5
  iintro T5
  iapply (wp_asm c _ _ cs)
  iapply (wp_ldE c t.be _ _ j hj ho)
  isplitl [T0]; · iexact T0
  iintro T0
  iapply (wp_asm c _ _ ce)
  have hk' : (⟨(t.sl (p768 j hj)).toNat, hS _ cs⟩ : Fin 9) = k := Fin.ext hk.symm
  have he' : (⟨(t.be (p768 j hj)).toNat, hE _ ce⟩ : Fin 256) = e := Fin.ext he.symm
  subst hk' he'
  iapply (wp_wait3 c w _ _ _ _ W)
  isplitl [H]; · iexact H
  isplitl [HO]; · iexact HO
  iintro H HO
  iapply (wp_ldR c t.ru _ _ j hj ho)
  isplitl [T4]; · iexact T4
  iintro T4
  iapply (wp_asm c _ _ cr)
  iapply (wp_ldX c t.rx _ _ r hr ho2)
  isplitl [T6]; · iexact T6
  iintro T6
  iapply (wp_asm c _ _ cx)
  by_cases h : k0_cond9 (t.rx (p777 r hr)) = 1#1
  · rw [dif_pos h]
    obtain ⟨hn, s4⟩ := s4 h
    have hk2 : (⟨(nxt (t.sl (p768 j hj))).toNat, hX _ _ cx h⟩ : Fin 9) = k2 := Fin.ext hn
    subst hk2
    iapply (wp_issue3 c w _ _ z)
    isplitl [H2]; · iexact H2
    iintro H2
    iapply Hz $$ [T0 T1 T2 T3 T4 T5 T6] [H H2 HR] [HO]
    · isplitl [T0]; · iexact T0
      isplitl [T1]; · iexact T1
      isplitl [T2]; · iexact T2
      isplitl [T3]; · iexact T3
      isplitl [T4]; · iexact T4
      isplitl [T5]; · iexact T5
      iexact T6
    · iapply (Ring.AtW_refocusL (Φ c w) st st' _ nd s6)
      rw [show bigSepL [_, _] (fun s => Φ c w s (st' s)) = iprop(Φ c w _ (st' _) ∗ Φ c w _ (st' _)) from rfl, s3, s4]
      isplitr [HR]
      · isplitl [H]; · iexact H
        iexact H2
      · iexact HR
    · iexact HO
  · rw [dif_neg h]
    iapply Hz $$ [T0 T1 T2 T3 T4 T5 T6] [H H2 HR] [HO]
    · isplitl [T0]; · iexact T0
      isplitl [T1]; · iexact T1
      isplitl [T2]; · iexact T2
      isplitl [T3]; · iexact T3
      isplitl [T4]; · iexact T4
      isplitl [T5]; · iexact T5
      iexact T6
    · iapply (Ring.AtW_refocusL (Φ c w) st st' _ nd s6)
      rw [show bigSepL [_, _] (fun s => Φ c w s (st' s)) = iprop(Φ c w _ (st' _) ∗ Φ c w _ (st' _)) from rfl, s3, s5 h]
      isplitr [HR]
      · isplitl [H]; · iexact H
        iexact H2
      · iexact HR
    · iexact HO
end Cert.Kernel4Ideal.Hand
end
-- ==== Proof.Load4.lean ====
module

public import proofs.«01_k».proof.Proof.Steps4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Ring.Tabled
public import Idealize.ShloMosaic.Lib.Tactic
public import Idealize.ShloMosaic.Lib.UnfoldOut
public import Idealize.ShloMosaic.Lib.WordCmp

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

set_option pp.maxSteps 600

variable {β : Type} (c : Dev nD) (w : WArr F c)

/-! ## A slot's contents as the compute reads them -/

/-- Expert `e`'s gate, up and down matrices. -/
def vG (e : Fin 256) : Vec F S1x1024x256 .f32 :=
  ((Memref.whole main_arg4).view.slice (Rect.unit (s := S256x1024x256) ![e.val, 0, 0] S1x1024x256.size (inbWG e))).read (Elt F) w.g
def vU (e : Fin 256) : Vec F S1x1024x256 .f32 :=
  ((Memref.whole main_arg5).view.slice (Rect.unit (s := S256x1024x256) ![e.val, 0, 0] S1x1024x256.size (inbWG e))).read (Elt F) w.u
def vD (e : Fin 256) : Vec F S1x256x1024 .f32 :=
  ((Memref.whole main_arg6).view.slice (Rect.unit (s := S256x256x1024) ![e.val, 0, 0] S1x256x1024.size (inbWD e))).read (Elt F) w.d

theorem wp_ldG (k : Fin 9) (e : Fin 256) (inb) (hl) (kk : Vec F S1x1024x256 .f32 → PR F β) (Q : β → sProp (MM F)) :
    iprop((∃ f, heldG c k (landG c w k e f)) ∗ ((∃ f, heldG c k (landG c w k e f)) -∗ wp frame (wpE (defs₀ (F := F)) Variants.none c none) Set.univ (kk (vG c w e)) Q))
      ⊢ wp frame (wpE (defs₀ (F := F)) Variants.none c none) Set.univ
          (Prog.lift (.load (Memref.whole cc0_scratch0) (Rect.unit (s := S9x1024x256) ![k.val, 0, 0] S1x1024x256.size inb).toLoadRect hl) >>= kk) Q := by
  iintro ⟨⟨%f, H⟩, Hz⟩
  sl_exec
  have e : wp_ldG.sl.v c w k e inb = vG c w e := by
    have h := View.read_writes_whole (Val := Elt F) (slotG k).view (slotG k).view.junk (ReadAs.same.apply (View.read (Elt F) (srcG e).view w.g))
    funext y
    have hy := congrFun h ((Shape.reshapeEquiv squeezes_S1x1024x256_S1024x256.numel_eq).symm y)
    have hz : (Shape.reshapeEquiv squeezes_S1x1024x256_S1024x256.numel_eq) ((Shape.reshapeEquiv squeezes_S1x1024x256_S1024x256.numel_eq).symm y) = y := Equiv.apply_symm_apply _ _
    have h1 : (slotG k).view.read (Elt F) ((slotG k).view.writes (Elt F) (slotG k).view.junk [⟨Rect.whole S1024x256, ReadAs.same.apply (View.read (Elt F) (srcG e).view w.g)⟩]) ((Shape.reshapeEquiv squeezes_S1x1024x256_S1024x256.numel_eq).symm y)
        = wp_ldG.sl.v c w k e inb ((Shape.reshapeEquiv squeezes_S1x1024x256_S1024x256.numel_eq) ((Shape.reshapeEquiv squeezes_S1x1024x256_S1024x256.numel_eq).symm y)) := rfl
    have h2 : (ReadAs.same.apply (View.read (Elt F) (srcG e).view w.g)) ((Shape.reshapeEquiv squeezes_S1x1024x256_S1024x256.numel_eq).symm y)
        = vG c w e ((Shape.reshapeEquiv squeezes_S1x1024x256_S1024x256.numel_eq) ((Shape.reshapeEquiv squeezes_S1x1024x256_S1024x256.numel_eq).symm y)) := rfl
    rw [h1, h2, hz] at hy
    exact hy
  rw [e]
  iapply Hz; iexists _; iexact H

theorem wp_ldU (k : Fin 9) (e : Fin 256) (inb) (hl) (kk : Vec F S1x1024x256 .f32 → PR F β) (Q : β → sProp (MM F)) :
    iprop((∃ f, heldU c k (landU c w k e f)) ∗ ((∃ f, heldU c k (landU c w k e f)) -∗ wp frame (wpE (defs₀ (F := F)) Variants.none c none) Set.univ (kk (vU c w e)) Q))
      ⊢ wp frame (wpE (defs₀ (F := F)) Variants.none c none) Set.univ
          (Prog.lift (.load (Memref.whole cc0_scratch1) (Rect.unit (s := S9x1024x256) ![k.val, 0, 0] S1x1024x256.size inb).toLoadRect hl) >>= kk) Q := by
  iintro ⟨⟨%f, H⟩, Hz⟩
  sl_exec
  have e : wp_ldU.sl.v c w k e inb = vU c w e := by
    have h := View.read_writes_whole (Val := Elt F) (slotU k).view (slotU k).view.junk (ReadAs.same.apply (View.read (Elt F) (srcU e).view w.u))
    funext y
    have hy := congrFun h ((Shape.reshapeEquiv squeezes_S1x1024x256_S1024x256.numel_eq).symm y)
    have hz : (Shape.reshapeEquiv squeezes_S1x1024x256_S1024x256.numel_eq) ((Shape.reshapeEquiv squeezes_S1x1024x256_S1024x256.numel_eq).symm y) = y := Equiv.apply_symm_apply _ _
    have h1 : (slotU k).view.read (Elt F) ((slotU k).view.writes (Elt F) (slotU k).view.junk [⟨Rect.whole S1024x256, ReadAs.same.apply (View.read (Elt F) (srcU e).view w.u)⟩]) ((Shape.reshapeEquiv squeezes_S1x1024x256_S1024x256.numel_eq).symm y)
        = wp_ldU.sl.v c w k e inb ((Shape.reshapeEquiv squeezes_S1x1024x256_S1024x256.numel_eq) ((Shape.reshapeEquiv squeezes_S1x1024x256_S1024x256.numel_eq).symm y)) := rfl
    have h2 : (ReadAs.same.apply (View.read (Elt F) (srcU e).view w.u)) ((Shape.reshapeEquiv squeezes_S1x1024x256_S1024x256.numel_eq).symm y)
        = vU c w e ((Shape.reshapeEquiv squeezes_S1x1024x256_S1024x256.numel_eq) ((Shape.reshapeEquiv squeezes_S1x1024x256_S1024x256.numel_eq).symm y)) := rfl
    rw [h1, h2, hz] at hy
    exact hy
  rw [e]
  iapply Hz; iexists _; iexact H

theorem wp_ldD (k : Fin 9) (e : Fin 256) (inb) (hl) (kk : Vec F S1x256x1024 .f32 → PR F β) (Q : β → sProp (MM F)) :
    iprop((∃ f, heldD c k (landD c w k e f)) ∗ ((∃ f, heldD c k (landD c w k e f)) -∗ wp frame (wpE (defs₀ (F := F)) Variants.none c none) Set.univ (kk (vD c w e)) Q))
      ⊢ wp frame (wpE (defs₀ (F := F)) Variants.none c none) Set.univ
          (Prog.lift (.load (Memref.whole cc0_scratch2) (Rect.unit (s := S9x256x1024) ![k.val, 0, 0] S1x256x1024.size inb).toLoadRect hl) >>= kk) Q := by
  iintro ⟨⟨%f, H⟩, Hz⟩
  sl_exec
  have e : wp_ldD.sl.v c w k e inb = vD c w e := by
    have h := View.read_writes_whole (Val := Elt F) (slotD k).view (slotD k).view.junk (ReadAs.same.apply (View.read (Elt F) (srcD e).view w.d))
    funext y
    have hy := congrFun h ((Shape.reshapeEquiv squeezes_S1x256x1024_S256x1024.numel_eq).symm y)
    have hz : (Shape.reshapeEquiv squeezes_S1x256x1024_S256x1024.numel_eq) ((Shape.reshapeEquiv squeezes_S1x256x1024_S256x1024.numel_eq).symm y) = y := Equiv.apply_symm_apply _ _
    have h1 : (slotD k).view.read (Elt F) ((slotD k).view.writes (Elt F) (slotD k).view.junk [⟨Rect.whole S256x1024, ReadAs.same.apply (View.read (Elt F) (srcD e).view w.d)⟩]) ((Shape.reshapeEquiv squeezes_S1x256x1024_S256x1024.numel_eq).symm y)
        = wp_ldD.sl.v c w k e inb ((Shape.reshapeEquiv squeezes_S1x256x1024_S256x1024.numel_eq) ((Shape.reshapeEquiv squeezes_S1x256x1024_S256x1024.numel_eq).symm y)) := rfl
    have h2 : (ReadAs.same.apply (View.read (Elt F) (srcD e).view w.d)) ((Shape.reshapeEquiv squeezes_S1x256x1024_S256x1024.numel_eq).symm y)
        = vD c w e ((Shape.reshapeEquiv squeezes_S1x256x1024_S256x1024.numel_eq) ((Shape.reshapeEquiv squeezes_S1x256x1024_S256x1024.numel_eq).symm y)) := rfl
    rw [h1, h2, hz] at hy
    exact hy
  rw [e]
  iapply Hz; iexists _; iexact H

variable (t : Tabs)

abbrev h8 (w8 : Memref sig .tc .vmem S1024x512 .i32) (f : Buf (Elt F) (w8.view.loc (c : Thread nD τ))) : sProp (MM F) :=
  w8.view.loc (c : Thread nD τ) ↦[w8.view.set]{fullShare} f
abbrev h12 (w12 : Memref sig .tc .vmem S1024x1024 .bf16) (f : Buf (Elt F) (w12.view.loc (c : Thread nD τ))) : sProp (MM F) :=
  w12.view.loc (c : Thread nD τ) ↦[w12.view.set]{fullShare} f

theorem wp_ld8 (w8 : Memref sig .tc .vmem S1024x512 .i32) (f : Buf (Elt F) (w8.view.loc (c : Thread nD τ))) (o : Nat) (ho8) (hl)
    (kk : Vec F S256x512 .i32 → PR F β) (Q : β → sProp (MM F)) :
    iprop(h8 c w8 f ∗ (h8 c w8 f -∗ wp frame (wpE (defs₀ (F := F)) Variants.none c none) Set.univ
        (kk (w8.view.readAt (Elt F) (Rect.unit (s := S1024x512) ![o, 0] S256x512.size ho8).toLoadRect f)) Q))
      ⊢ wp frame (wpE (defs₀ (F := F)) Variants.none c none) Set.univ
          (Prog.lift (.load w8 (Rect.unit (s := S1024x512) ![o, 0] S256x512.size ho8).toLoadRect hl) >>= kk) Q := by
  iintro ⟨H, Hz⟩
  sl_exec
  iapply Hz; iexact H

theorem wp_rw12 (w12 : Memref sig .tc .vmem S1024x1024 .bf16) (f : Buf (Elt F) (w12.view.loc (c : Thread nD τ)))
    (L : List (View.Piece (Elt F) S1024x1024 .bf16)) (o : Nat) (ho12) (hl) (y : Vec F S256x1024 .bf16) (hst) (hne)
    (z : PR F β) (Q : β → sProp (MM F)) :
    iprop(h12 c w12 (w12.view.writes (Elt F) f L) ∗ (h12 c w12 (w12.view.writes (Elt F) f (⟨Rect.unit (s := S1024x1024) ![o, 0] S256x1024.size ho12, y⟩ :: L))
        -∗ wp frame (wpE (defs₀ (F := F)) Variants.none c none) Set.univ z Q))
      ⊢ wp frame (wpE (defs₀ (F := F)) Variants.none c none) Set.univ
          (Prog.lift (.load w12 (Rect.unit (s := S1024x1024) ![o, 0] S256x1024.size ho12).toLoadRect hl) >>= fun (_ : Vec F S256x1024 .bf16) =>
            Prog.lift (.store w12 (Rect.unit (s := S1024x1024) ![o, 0] S256x1024.size ho12) y Finset.univ hst hne) >>= fun _ => z) Q := by
  iintro ⟨H, Hz⟩
  sl_exec
  iapply Hz; iexact H

theorem wp_compBlk (w8 : Memref sig .tc .vmem S1024x512 .i32) (w12 : Memref sig .tc .vmem S1024x1024 .bf16) (hw12 : w12.IsWhole)
    (off : Fin 1 → Nat) (inb : ∀ a, off a + S1.size a ≤ S768.size a)
    (chkS : BitVec 32 → Prop) (decS : ∀ v, Decidable (chkS v)) (hS : ∀ v, chkS v → v.toNat < 9)
    (o : Nat) (ho8 : ∀ a, (![o, 0] : Fin 2 → Nat) a + S256x512.size a ≤ S1024x512.size a)
    (ho12 : ∀ a, (![o, 0] : Fin 2 → Nat) a + S256x1024.size a ≤ S1024x1024.size a)
    (hp : (Rect.unit (s := S1024x1024) ![o, 0] S256x1024.size ho12).PackedRows (EltTy.packing .bf16))
    (z : PR F β) (Q : β → sProp (MM F)) (j : Nat) (hj : j < 768) (ho : off 0 = j) (cs : chkS (t.sl (p768 j hj)))
    (st : Fin 9 → St) (k : Fin 9) (e : Fin 256) (hk : k.val = (t.sl (p768 j hj)).toNat) (s1 : st k = .held e)
    (f8 : Buf (Elt F) (w8.view.loc (c : Thread nD τ))) (f12 : Buf (Elt F) (w12.view.loc (c : Thread nD τ))) (L : List (View.Piece (Elt F) S1024x1024 .bf16)) :
    iprop(TB c t ∗ Ring.AtW (σ := fun _ => St) (Φ c w) st ∗ h8 c w8 f8 ∗ h12 c w12 (w12.view.writes (Elt F) f12 L)
        ∗ (TB c t -∗ Ring.AtW (σ := fun _ => St) (Φ c w) st -∗ h8 c w8 f8
          -∗ h12 c w12 (w12.view.writes (Elt F) f12 (⟨Rect.unit (s := S1024x1024) ![o, 0] S256x1024.size ho12,
              k0_pay4 (w8.view.readAt (Elt F) (Rect.unit (s := S1024x512) ![o, 0] S256x512.size ho8).toLoadRect f8) (t.nv (p768 j hj)) (vG c w e) (vU c w e) (vD c w e)⟩ :: L))
          -∗ wp frame (wpE (defs₀ (F := F)) Variants.none c none) Set.univ z Q))
      ⊢ wp frame (wpE (defs₀ (F := F)) Variants.none c none) Set.univ
        (compBlk w8 w12 hw12 off inb chkS decS hS o ho8 ho12 hp z) Q := by
  have hk' : (⟨(t.sl (p768 j hj)).toNat, hS _ cs⟩ : Fin 9) = k := Fin.ext hk.symm
  rw [Ring.AtW_focusL (Φ c w) st [k] (by simp),
    show bigSepL [k] (fun s => Φ c w s (st s)) = Φ c w k (st k) from rfl, s1, show Φ c w k (.held e) = heldΦ c w k e from rfl]
  unfold TB heldΦ
  iintro ⟨⟨T0, T1, T2, T3, T4, T5, T6⟩, ⟨H, HR⟩, H8, H12, Hz⟩
  unfold compBlk
  iapply (wp_ldS c t.sl _ _ j hj ho)
  isplitl [T5]; · iexact T5
  iintro T5
  iapply (wp_asm c _ _ cs)
  iapply (wp_ld8 c w8 f8 o ho8)
  isplitl [H8]; · iexact H8
  iintro H8
  iapply (wp_ldV c t.nv _ _ j hj ho)
  isplitl [T1]; · iexact T1
  iintro T1
  subst hk'
  icases H with ⟨HS, HG, HU, HD, HT⟩
  iapply (wp_ldG c w ⟨(t.sl (p768 j hj)).toNat, hS _ cs⟩ e)
  isplitl [HG]; · iexact HG
  iintro HG
  iapply (wp_ldU c w ⟨(t.sl (p768 j hj)).toNat, hS _ cs⟩ e)
  isplitl [HU]; · iexact HU
  iintro HU
  iapply (wp_ldD c w ⟨(t.sl (p768 j hj)).toNat, hS _ cs⟩ e)
  isplitl [HD]; · iexact HD
  iintro HD
  iapply (wp_rw12 c w12 f12 L o ho12)
  isplitl [H12]; · iexact H12
  iintro H12
  iapply Hz $$ [T0 T1 T2 T3 T4 T5 T6] [HS HG HU HD HT HR] [H8] [H12]
  · isplitl [T0]; · iexact T0
    isplitl [T1]; · iexact T1
    isplitl [T2]; · iexact T2
    isplitl [T3]; · iexact T3
    isplitl [T4]; · iexact T4
    isplitl [T5]; · iexact T5
    iexact T6
  · isplitr [HR]
    · isplitl [HS]; · iexact HS
      isplitl [HG]; · iexact HG
      isplitl [HU]; · iexact HU
      isplitl [HD]; · iexact HD
      iexact HT
    · iexact HR
  · iexact H8
  · iexact H12
end Cert.Kernel4Ideal.Hand
end
-- ==== Proof.Model4.lean ====
module

public import proofs.«01_k».proof.Proof.Load4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Ring.Tabled
public import Idealize.ShloMosaic.Lib.WordCmp
public import Idealize.ShloMosaic.Lib.Tactic
public import Idealize.ShloMosaic.Lib.UnfoldOut
public import Idealize.ShloMosaic.Lib.WordCmp

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

/-! ## The runs -/

/-- What the tables say: `n` blocks are used; `R j` runs begin before block `j`, `NR` in all; run `r` is of expert `ex r`. -/
structure Runs (t : Tabs) where
  n : Nat
  NR : Nat
  R : Nat → Nat
  ex : Nat → Fin 256
  n_pos : 1 ≤ n
  n_le : n ≤ 768
  nb : t.nb p1 = BitVec.ofNat 32 n
  R0 : R 0 = 0
  Rs : ∀ j (h : j < 768), R (j + 1) = if t.fi (p768 j h) = 1#32 ∧ j < n then R j + 1 else R j
  fi0 : ∀ h, t.fi (p768 0 h) = 1#32
  NR_eq : R 768 = NR
  ru : ∀ j (h : j < 768), t.ru (p768 j h) = BitVec.ofNat 32 (R (j + 1) - 1)
  sl : ∀ j (h : j < 768), t.sl (p768 j h) = BitVec.ofNat 32 ((R (j + 1) - 1) % 9)
  rx1 : ∀ r (h : r < 777), r < NR → t.rx (p777 r h) = BitVec.ofNat 32 (ex r).val
  rx0 : ∀ r (h : r < 777), NR ≤ r → t.rx (p777 r h) = 4294967295#32
  be : ∀ j (h : j < 768), j < n → t.be (p768 j h) = BitVec.ofNat 32 (ex (R (j + 1) - 1)).val

namespace Runs
variable {t : Tabs} (T : Runs t)

theorem R_mono (j d : Nat) (h : j + d ≤ 768) : T.R j ≤ T.R (j + d) ∧ T.R (j + d) ≤ T.R j + d := by
  induction d with
  | zero => simp
  | succ d ih =>
    have h1 := ih (by omega)
    have h2 := T.Rs (j + d) (by omega)
    rw [show j + (d + 1) = j + d + 1 from rfl, h2]
    split <;> omega

theorem R_le (j : Nat) (h : j ≤ 768) : T.R j ≤ j := by
  have := (T.R_mono 0 j (by omega)).2
  rw [T.R0] at this; simpa using this

theorem R_le_NR (j : Nat) (h : j ≤ 768) : T.R j ≤ T.NR := by
  have := (T.R_mono j (768 - j) (by omega)).1
  rwa [show j + (768 - j) = 768 by omega, T.NR_eq] at this

theorem R_pos (j : Nat) (h : j < 768) : 1 ≤ T.R (j + 1) := by
  have h1 := T.Rs 0 (by omega)
  rw [if_pos ⟨T.fi0 _, T.n_pos⟩, T.R0] at h1
  have := (T.R_mono 1 j (by omega)).1
  rw [show 1 + j = j + 1 by omega] at this
  have h1' : T.R 1 = 1 := h1
  omega

/-- The ring once `r` runs have begun: the next five runs' weights on their way, the last four's held. -/
def st (r : Nat) (k : Fin 9) : St :=
  if (k.val + 9 - r % 9) % 9 < 5 then
    if r + (k.val + 9 - r % 9) % 9 < T.NR then .flight (T.ex (r + (k.val + 9 - r % 9) % 9)) else .free
  else if 9 ≤ r + (k.val + 9 - r % 9) % 9 then .held (T.ex (r + (k.val + 9 - r % 9) % 9 - 9)) else .free

def slot (r : Nat) : Fin 9 := ⟨r % 9, Nat.mod_lt _ (by decide)⟩

theorem st_flight (r q : Nat) (h1 : r ≤ q) (h2 : q < r + 5) : T.st r (slot q) = if q < T.NR then .flight (T.ex q) else .free := by
  have : ((slot q).val + 9 - r % 9) % 9 = q - r := by show (q % 9 + 9 - r % 9) % 9 = q - r; omega
  unfold st
  rw [this, if_pos (by omega), show r + (q - r) = q by omega]

theorem st_held (r q : Nat) (h1 : q < r) (h2 : r ≤ q + 4) : T.st r (slot q) = .held (T.ex q) := by
  have : ((slot q).val + 9 - r % 9) % 9 = q + 9 - r := by show (q % 9 + 9 - r % 9) % 9 = q + 9 - r; omega
  unfold st
  rw [this, if_neg (by omega), if_pos (by omega), show r + (q + 9 - r) - 9 = q by omega]

theorem st_old (r : Nat) : T.st r (slot (r + 5)) = .free ∨ ∃ e', T.st r (slot (r + 5)) = .held e' := by
  have : ((slot (r + 5)).val + 9 - r % 9) % 9 = 5 := by show ((r + 5) % 9 + 9 - r % 9) % 9 = 5; omega
  unfold st
  rw [this, if_neg (by omega)]
  split
  · exact Or.inr ⟨_, rfl⟩
  · exact Or.inl rfl

theorem st_other (r : Nat) (k : Fin 9) (h1 : k ≠ slot r) (h2 : k ≠ slot (r + 5)) : T.st (r + 1) k = T.st r k := by
  have h1' : k.val ≠ r % 9 := fun h => h1 (Fin.ext h)
  have h2' : k.val ≠ (r + 5) % 9 := fun h => h2 (Fin.ext h)
  have hk := k.isLt
  have e : r + 1 + (k.val + 9 - (r + 1) % 9) % 9 = r + (k.val + 9 - r % 9) % 9 := by omega
  have e2 : ((k.val + 9 - (r + 1) % 9) % 9 < 5) = ((k.val + 9 - r % 9) % 9 < 5) := by apply propext; omega
  unfold st
  rw [e]; simp only [e2]

/-- The ring part-way through the first fill, `a` of whose five steps are done. -/
def fill (a : Nat) (k : Fin 9) : St := if k.val < a then T.st 0 k else .free

theorem fill0 : T.fill 0 = fun _ => St.free := by funext k; unfold fill; rw [if_neg (by omega)]
theorem fill5 : T.fill 5 = T.st 0 := by
  funext k; unfold fill
  by_cases h : k.val < 5
  · rw [if_pos h]
  · rw [if_neg h]; unfold st; have hk := k.isLt
    rw [if_neg (by omega), if_neg (by omega)]
end Runs

/-! ## Words -/

theorem chkSl (v : BitVec 32) (n : Nat) (h : v = BitVec.ofNat 32 (n % 9)) : v.toNat = n % 9 := by
  rw [h, BitVec.toNat_ofNat]; omega

theorem nxt_ofNat : ∀ n : Fin 9, (nxt (BitVec.ofNat 32 n.val)).toNat = (n.val + 5) % 9 := by decide +kernel

theorem cond9_fin : ∀ e : Fin 256, k0_cond9 (BitVec.ofNat 32 e.val) = 1#1 := by decide +kernel

theorem cond9_neg : ¬ k0_cond9 4294967295#32 = 1#1 := by decide +kernel

theorem condF (a n : Nat) (f : BitVec 32) (ha : a < 2 ^ 31) (hn : n < 2 ^ 31) :
    Scalar.cmpi .ne (Scalar.extui (Scalar.andi (Scalar.cmpi .slt (BitVec.ofNat 32 a) (BitVec.ofNat 32 n)) (Scalar.cmpi .eq f 1#32)) : BitVec 32) 0#32 = 1#1 ↔ (f = 1#32 ∧ a < n) := by
  have h1 : Scalar.cmpi .slt (BitVec.ofNat 32 a) (BitVec.ofNat 32 n) = BitVec.ofBool (decide (a < n)) := WordCmp.cmpi_slt_ofNat ha hn
  have h2 : Scalar.cmpi .eq f 1#32 = BitVec.ofBool (decide (f = 1#32)) := WordCmp.cmpi_eq_eq _ _
  rw [h1, h2]
  by_cases p : a < n <;> by_cases q : f = 1#32 <;> simp [p, q] <;> decide

theorem word4 (i : grid0.Coords) (s : Nat) (hs : s < 4) : Scalar.addi (Scalar.muli (BitVec.ofNat 32 (i 0).val) 4#32) (BitVec.ofNat 32 s) = BitVec.ofNat 32 (4 * (i 0).val + s) := by
  have h : (i 0).val < 192 := (i 0).isLt
  apply BitVec.eq_of_toNat_eq
  simp [Scalar.addi, Scalar.muli, IntOp.addi, IntOp.muli]
  omega

theorem cond8_iff (i : grid0.Coords) (n : Nat) (hn : n ≤ 768) (f : BitVec 32) : k0_cond8 i (BitVec.ofNat 32 n) f = 1#1 ↔ (f = 1#32 ∧ 4 * (i 0).val + 0 < n) := by
  have h : (i 0).val < 192 := (i 0).isLt
  have := condF (4 * (i 0).val + 0) n f (by omega) (by omega)
  rw [← word4 i 0 (by omega)] at this
  exact this

theorem off11_eq (i : grid0.Coords) : k0_off11 i 0 = 4 * (i 0).val + 0 := by
  have h : (i 0).val < 192 := (i 0).isLt
  have e : k0_off11 i 0 = (Scalar.addi (Scalar.muli (BitVec.ofNat 32 (i 0).val) 4#32) (BitVec.ofNat 32 0)).toNat := rfl
  rw [e, word4 i 0 (by omega), BitVec.toNat_ofNat]; omega

theorem off12_eq (i : grid0.Coords) : k0_off12 i 0 = 4 * (i 0).val + 0 := by
  have h : (i 0).val < 192 := (i 0).isLt
  have e : k0_off12 i 0 = (Scalar.addi (Scalar.muli (BitVec.ofNat 32 (i 0).val) 4#32) (BitVec.ofNat 32 0)).toNat := rfl
  rw [e, word4 i 0 (by omega), BitVec.toNat_ofNat]; omega

theorem off20_eq (i : grid0.Coords) : k0_off20 i 0 = 4 * (i 0).val + 0 := by
  have h : (i 0).val < 192 := (i 0).isLt
  have e : k0_off20 i 0 = (Scalar.addi (Scalar.muli (BitVec.ofNat 32 (i 0).val) 4#32) (BitVec.ofNat 32 0)).toNat := rfl
  rw [e, word4 i 0 (by omega), BitVec.toNat_ofNat]; omega

theorem off105_eq (i : grid0.Coords) : k0_off105 i 0 = 4 * (i 0).val + 0 := by
  have h : (i 0).val < 192 := (i 0).isLt
  have e : k0_off105 i 0 = (Scalar.addi (Scalar.muli (BitVec.ofNat 32 (i 0).val) 4#32) (BitVec.ofNat 32 0)).toNat := rfl
  rw [e, word4 i 0 (by omega), BitVec.toNat_ofNat]; omega

theorem cond16_iff (i : grid0.Coords) (n : Nat) (hn : n ≤ 768) (f : BitVec 32) : k0_cond16 i (BitVec.ofNat 32 n) f = 1#1 ↔ (f = 1#32 ∧ 4 * (i 0).val + 1 < n) := by
  have h : (i 0).val < 192 := (i 0).isLt
  have := condF (4 * (i 0).val + 1) n f (by omega) (by omega)
  rw [← word4 i 1 (by omega)] at this
  exact this

theorem off37_eq (i : grid0.Coords) : k0_off37 i 0 = 4 * (i 0).val + 1 := by
  have h : (i 0).val < 192 := (i 0).isLt
  have e : k0_off37 i 0 = (Scalar.addi (Scalar.muli (BitVec.ofNat 32 (i 0).val) 4#32) (BitVec.ofNat 32 1)).toNat := rfl
  rw [e, word4 i 1 (by omega), BitVec.toNat_ofNat]; omega

theorem off38_eq (i : grid0.Coords) : k0_off38 i 0 = 4 * (i 0).val + 1 := by
  have h : (i 0).val < 192 := (i 0).isLt
  have e : k0_off38 i 0 = (Scalar.addi (Scalar.muli (BitVec.ofNat 32 (i 0).val) 4#32) (BitVec.ofNat 32 1)).toNat := rfl
  rw [e, word4 i 1 (by omega), BitVec.toNat_ofNat]; omega

theorem off46_eq (i : grid0.Coords) : k0_off46 i 0 = 4 * (i 0).val + 1 := by
  have h : (i 0).val < 192 := (i 0).isLt
  have e : k0_off46 i 0 = (Scalar.addi (Scalar.muli (BitVec.ofNat 32 (i 0).val) 4#32) (BitVec.ofNat 32 1)).toNat := rfl
  rw [e, word4 i 1 (by omega), BitVec.toNat_ofNat]; omega

theorem off108_eq (i : grid0.Coords) : k0_off108 i 0 = 4 * (i 0).val + 1 := by
  have h : (i 0).val < 192 := (i 0).isLt
  have e : k0_off108 i 0 = (Scalar.addi (Scalar.muli (BitVec.ofNat 32 (i 0).val) 4#32) (BitVec.ofNat 32 1)).toNat := rfl
  rw [e, word4 i 1 (by omega), BitVec.toNat_ofNat]; omega

theorem cond24_iff (i : grid0.Coords) (n : Nat) (hn : n ≤ 768) (f : BitVec 32) : k0_cond24 i (BitVec.ofNat 32 n) f = 1#1 ↔ (f = 1#32 ∧ 4 * (i 0).val + 2 < n) := by
  have h : (i 0).val < 192 := (i 0).isLt
  have := condF (4 * (i 0).val + 2) n f (by omega) (by omega)
  rw [← word4 i 2 (by omega)] at this
  exact this

theorem off63_eq (i : grid0.Coords) : k0_off63 i 0 = 4 * (i 0).val + 2 := by
  have h : (i 0).val < 192 := (i 0).isLt
  have e : k0_off63 i 0 = (Scalar.addi (Scalar.muli (BitVec.ofNat 32 (i 0).val) 4#32) (BitVec.ofNat 32 2)).toNat := rfl
  rw [e, word4 i 2 (by omega), BitVec.toNat_ofNat]; omega

theorem off64_eq (i : grid0.Coords) : k0_off64 i 0 = 4 * (i 0).val + 2 := by
  have h : (i 0).val < 192 := (i 0).isLt
  have e : k0_off64 i 0 = (Scalar.addi (Scalar.muli (BitVec.ofNat 32 (i 0).val) 4#32) (BitVec.ofNat 32 2)).toNat := rfl
  rw [e, word4 i 2 (by omega), BitVec.toNat_ofNat]; omega

theorem off72_eq (i : grid0.Coords) : k0_off72 i 0 = 4 * (i 0).val + 2 := by
  have h : (i 0).val < 192 := (i 0).isLt
  have e : k0_off72 i 0 = (Scalar.addi (Scalar.muli (BitVec.ofNat 32 (i 0).val) 4#32) (BitVec.ofNat 32 2)).toNat := rfl
  rw [e, word4 i 2 (by omega), BitVec.toNat_ofNat]; omega

theorem off111_eq (i : grid0.Coords) : k0_off111 i 0 = 4 * (i 0).val + 2 := by
  have h : (i 0).val < 192 := (i 0).isLt
  have e : k0_off111 i 0 = (Scalar.addi (Scalar.muli (BitVec.ofNat 32 (i 0).val) 4#32) (BitVec.ofNat 32 2)).toNat := rfl
  rw [e, word4 i 2 (by omega), BitVec.toNat_ofNat]; omega

theorem cond32_iff (i : grid0.Coords) (n : Nat) (hn : n ≤ 768) (f : BitVec 32) : k0_cond32 i (BitVec.ofNat 32 n) f = 1#1 ↔ (f = 1#32 ∧ 4 * (i 0).val + 3 < n) := by
  have h : (i 0).val < 192 := (i 0).isLt
  have := condF (4 * (i 0).val + 3) n f (by omega) (by omega)
  rw [← word4 i 3 (by omega)] at this
  exact this

theorem off89_eq (i : grid0.Coords) : k0_off89 i 0 = 4 * (i 0).val + 3 := by
  have h : (i 0).val < 192 := (i 0).isLt
  have e : k0_off89 i 0 = (Scalar.addi (Scalar.muli (BitVec.ofNat 32 (i 0).val) 4#32) (BitVec.ofNat 32 3)).toNat := rfl
  rw [e, word4 i 3 (by omega), BitVec.toNat_ofNat]; omega

theorem off90_eq (i : grid0.Coords) : k0_off90 i 0 = 4 * (i 0).val + 3 := by
  have h : (i 0).val < 192 := (i 0).isLt
  have e : k0_off90 i 0 = (Scalar.addi (Scalar.muli (BitVec.ofNat 32 (i 0).val) 4#32) (BitVec.ofNat 32 3)).toNat := rfl
  rw [e, word4 i 3 (by omega), BitVec.toNat_ofNat]; omega

theorem off98_eq (i : grid0.Coords) : k0_off98 i 0 = 4 * (i 0).val + 3 := by
  have h : (i 0).val < 192 := (i 0).isLt
  have e : k0_off98 i 0 = (Scalar.addi (Scalar.muli (BitVec.ofNat 32 (i 0).val) 4#32) (BitVec.ofNat 32 3)).toNat := rfl
  rw [e, word4 i 3 (by omega), BitVec.toNat_ofNat]; omega

theorem off114_eq (i : grid0.Coords) : k0_off114 i 0 = 4 * (i 0).val + 3 := by
  have h : (i 0).val < 192 := (i 0).isLt
  have e : k0_off114 i 0 = (Scalar.addi (Scalar.muli (BitVec.ofNat 32 (i 0).val) 4#32) (BitVec.ofNat 32 3)).toNat := rfl
  rw [e, word4 i 3 (by omega), BitVec.toNat_ofNat]; omega

theorem off21_eq (n : Nat) (hn : n < 768) : k0_off21 (BitVec.ofNat 32 n) 0 = n + 5 := by
  have e : k0_off21 (BitVec.ofNat 32 n) 0 = (BitVec.ofNat 32 n + 5#32).toNat := rfl
  rw [e, BitVec.toNat_add, BitVec.toNat_ofNat]; simp; omega
end Cert.Kernel4Ideal.Hand
end
-- ==== Proof.First4.lean ====
module

public import proofs.«01_k».proof.Proof.Model4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Ring.Tabled
public import Idealize.ShloMosaic.Lib.Tactic
public import Idealize.ShloMosaic.Lib.UnfoldOut
public import Idealize.ShloMosaic.Lib.WordCmp

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

variable {β : Type} (c : Dev nD) (w : WArr F c) {t : Tabs} (T : Runs t)

/-! ## The fetches of one grid point -/

variable (i : grid0.Coords) (h1 : k0_cond1 i (BitVec.ofNat 32 T.n) = 1#1)

theorem rx_lt (T : Runs t) (r : Nat) (hr : r < 777) (h : k0_cond9 (t.rx (p777 r hr)) = 1#1) : r < T.NR := by
  by_contra hc
  rw [T.rx0 r hr (by omega)] at h
  exact cond9_neg h

theorem rx_cond (T : Runs t) (r : Nat) (hr : r < 777) (h : r < T.NR) : k0_cond9 (t.rx (p777 r hr)) = 1#1 := by
  rw [T.rx1 r hr h]; exact cond9_fin _

theorem rx_nat (T : Runs t) (r : Nat) (hr : r < 777) (h : r < T.NR) : (t.rx (p777 r hr)).toNat = (T.ex r).val := by
  rw [T.rx1 r hr h, BitVec.toNat_ofNat]; have := (T.ex r).isLt; omega

/-- One step of the ring at a block that begins run `r`. -/
theorem ring_step (T : Runs t) (r : Nat) (hr : r < T.NR) :
    T.st r (Runs.slot r) = .flight (T.ex r) ∧ T.st (r + 1) (Runs.slot r) = .held (T.ex r)
      ∧ T.st (r + 1) (Runs.slot (r + 5)) = (if r + 5 < T.NR then .flight (T.ex (r + 5)) else .free) :=
  ⟨by rw [T.st_flight r r (Nat.le_refl _) (by omega), if_pos hr], T.st_held _ _ (by omega) (by omega), T.st_flight _ _ (by omega) (by omega)⟩

theorem wp_wf0 (z : PR F β) (Q : β → sProp (MM F)) (W : Waits sig Unit) :
    iprop(TB c t ∗ Ring.AtW (σ := fun _ => St) (Φ c w) (T.st (T.R (4 * (i 0).val + 0))) ∗ owes (c : Thread nD τ) 0 W
        ∗ (TB c t -∗ Ring.AtW (σ := fun _ => St) (Φ c w) (T.st (T.R (4 * (i 0).val + 1))) -∗ (∃ W, owes (c : Thread nD τ) 0 W)
          -∗ wp frame (wpE (defs₀ (F := F)) Variants.none c none) Set.univ z Q))
      ⊢ wp frame (wpE (defs₀ (F := F)) Variants.none c none) Set.univ (wf0 i (BitVec.ofNat 32 T.n) h1 z) Q := by
  have hi : (i 0).val < 192 := (i 0).isLt
  have hj : 4 * (i 0).val + 0 < 768 := by omega
  have hs := T.Rs _ hj
  have hR := T.R_le_NR (4 * (i 0).val + 0 + 1) (by omega)
  have hRl := T.R_le (4 * (i 0).val + 0) (by omega)
  have hNR := T.R_le 768 (by omega)
  rw [T.NR_eq] at hNR
  iintro ⟨TT, HR, HO, Hz⟩
  unfold wf0
  unfold TB
  icases TT with ⟨T0, T1, T2, T3, T4, T5, T6⟩
  iapply (wp_ldB c t.nb)
  isplitl [T2]; · iexact T2
  iintro T2
  iapply (wp_ldF c t.fi _ _ (4 * (i 0).val + 0) hj (off11_eq i))
  isplitl [T3]; · iexact T3
  iintro T3
  ihave TT : TB c t $$ [T0 T1 T2 T3 T4 T5 T6]
  · unfold TB
    isplitl [T0]; · iexact T0
    isplitl [T1]; · iexact T1
    isplitl [T2]; · iexact T2
    isplitl [T3]; · iexact T3
    isplitl [T4]; · iexact T4
    isplitl [T5]; · iexact T5
    iexact T6
  have hnb : (t.nb p1) = BitVec.ofNat 32 T.n := T.nb
  rw [show (t.nb p1 : Elt F .i32) = BitVec.ofNat 32 T.n from T.nb]
  by_cases h2 : k0_cond8 i (BitVec.ofNat 32 T.n) (t.fi (p768 (4 * (i 0).val + 0) hj)) = 1#1
  · have h2' := (cond8_iff i T.n T.n_le _).mp h2
    rw [dif_pos h2]
    rw [if_pos h2'] at hs
    generalize hr : T.R (4 * (i 0).val + 0) = r at *
    obtain ⟨s1, s3, s4⟩ := ring_step T r (by omega)
    have hsl : (t.sl (p768 (4 * (i 0).val + 0) hj)).toNat = (Runs.slot r).val := by
      have := chkSl _ _ (T.sl _ hj); rw [hs, Nat.add_sub_cancel] at this; exact this
    have hbe : (t.be (p768 (4 * (i 0).val + 0) hj)).toNat = (T.ex r).val := by
      rw [T.be _ hj h2'.2, hs, Nat.add_sub_cancel, BitVec.toNat_ofNat]; have := (T.ex r).isLt; omega
    have hru : t.ru (p768 (4 * (i 0).val + 0) hj) = BitVec.ofNat 32 r := by
      have := T.ru _ hj; rw [hs, Nat.add_sub_cancel] at this; exact this
    have ho2 : k0_off21 (t.ru (p768 (4 * (i 0).val + 0) hj)) 0 = r + 5 := by rw [hru]; exact off21_eq r (by omega)
    have hnx : (nxt (t.sl (p768 (4 * (i 0).val + 0) hj))).toNat = (Runs.slot (r + 5)).val := by
      have e := T.sl _ hj; rw [hs, Nat.add_sub_cancel] at e
      rw [e]; refine (nxt_ofNat (Runs.slot r)).trans ?_
      show (r % 9 + 5) % 9 = (r + 5) % 9; omega
    iapply (wp_firstBlk c w t (k0_off12 i) (k0_off12_inb i) _ _ _ _ _ _ _ _ _ _ _ _ _ z Q (4 * (i 0).val + 0) hj (off12_eq i)
      ⟨fun _ _ => by have e := inbS (Runs.slot r); rw [← hsl] at e; exact e, fun _ _ => by have e := inbG (Runs.slot r); rw [← hsl] at e; exact e,
        fun _ _ => by have e := inbS (Runs.slot r); rw [← hsl] at e; exact e, fun _ _ => by have e := inbG (Runs.slot r); rw [← hsl] at e; exact e,
        fun _ _ => by have e := inbD (Runs.slot r); rw [← hsl] at e; exact e⟩
      ⟨fun _ _ => by have e := inbWG (T.ex r); rw [← hbe] at e; exact e, fun _ _ => by have e := inbWD (T.ex r); rw [← hbe] at e; exact e⟩
      (fun _ _ a => by fin_cases a; rw [show (⟨0, Nat.one_pos⟩ : Fin 1) = 0 from rfl]; show k0_off21 _ 0 + 1 ≤ 777; rw [ho2]; omega)
      (r + 5) (by omega) ho2
      ⟨fun _ _ _ => by have e := inbS (Runs.slot (r + 5)); rw [← hnx] at e; exact e, fun _ _ _ => by have e := inbG (Runs.slot (r + 5)); rw [← hnx] at e; exact e,
        fun _ _ h => by have e := inbWG (T.ex (r + 5)); rw [← rx_nat T (r + 5) (by omega) (rx_lt T _ _ h)] at e; exact e,
        fun _ _ _ => by have e := inbD (Runs.slot (r + 5)); rw [← hnx] at e; exact e,
        fun _ _ h => by have e := inbWD (T.ex (r + 5)); rw [← rx_nat T (r + 5) (by omega) (rx_lt T _ _ h)] at e; exact e⟩
      (T.st r) (T.st (r + 1)) (Runs.slot r) (Runs.slot (r + 5)) (T.ex r) hsl.symm hbe.symm
      (fun h => by have e : r % 9 = (r + 5) % 9 := congrArg Fin.val h; omega) s1 (T.st_old r) s3
      (fun h => ⟨hnx, by
        have hl := rx_lt T (r + 5) (by omega) h
        rw [s4, if_pos hl]
        exact congrArg St.flight (Fin.ext (rx_nat T (r + 5) (by omega) hl).symm)⟩)
      (fun h => by rw [s4, if_neg (fun hl => h (rx_cond T _ _ hl))])
      (fun q hq => T.st_other r q (fun e => hq (by simp [e])) (fun e => hq (by simp [e]))) W)
    isplitl [TT]; · iexact TT
    isplitl [HR]; · iexact HR
    isplitl [HO]; · iexact HO
    rw [show 4 * (i 0).val + 1 = 4 * (i 0).val + 0 + 1 from rfl, hs]
    iexact Hz
  · have h2' := fun h => h2 ((cond8_iff i T.n T.n_le _).mpr h)
    rw [dif_neg h2]
    rw [if_neg h2'] at hs
    rw [show 4 * (i 0).val + 1 = 4 * (i 0).val + 0 + 1 from rfl, hs]
    iapply Hz $$ [TT] [HR] [HO]
    · unfold TB; iexact TT
    · iexact HR
    · iexists W; iexact HO

theorem wp_wf1 (z : PR F β) (Q : β → sProp (MM F)) (W : Waits sig Unit) :
    iprop(TB c t ∗ Ring.AtW (σ := fun _ => St) (Φ c w) (T.st (T.R (4 * (i 0).val + 1))) ∗ owes (c : Thread nD τ) 0 W
        ∗ (TB c t -∗ Ring.AtW (σ := fun _ => St) (Φ c w) (T.st (T.R (4 * (i 0).val + 2))) -∗ (∃ W, owes (c : Thread nD τ) 0 W)
          -∗ wp frame (wpE (defs₀ (F := F)) Variants.none c none) Set.univ z Q))
      ⊢ wp frame (wpE (defs₀ (F := F)) Variants.none c none) Set.univ (wf1 i (BitVec.ofNat 32 T.n) h1 z) Q := by
  have hi : (i 0).val < 192 := (i 0).isLt
  have hj : 4 * (i 0).val + 1 < 768 := by omega
  have hs := T.Rs _ hj
  have hR := T.R_le_NR (4 * (i 0).val + 1 + 1) (by omega)
  have hRl := T.R_le (4 * (i 0).val + 1) (by omega)
  have hNR := T.R_le 768 (by omega)
  rw [T.NR_eq] at hNR
  iintro ⟨TT, HR, HO, Hz⟩
  unfold wf1
  unfold TB
  icases TT with ⟨T0, T1, T2, T3, T4, T5, T6⟩
  iapply (wp_ldB c t.nb)
  isplitl [T2]; · iexact T2
  iintro T2
  iapply (wp_ldF c t.fi _ _ (4 * (i 0).val + 1) hj (off37_eq i))
  isplitl [T3]; · iexact T3
  iintro T3
  ihave TT : TB c t $$ [T0 T1 T2 T3 T4 T5 T6]
  · unfold TB
    isplitl [T0]; · iexact T0
    isplitl [T1]; · iexact T1
    isplitl [T2]; · iexact T2
    isplitl [T3]; · iexact T3
    isplitl [T4]; · iexact T4
    isplitl [T5]; · iexact T5
    iexact T6
  have hnb : (t.nb p1) = BitVec.ofNat 32 T.n := T.nb
  rw [show (t.nb p1 : Elt F .i32) = BitVec.ofNat 32 T.n from T.nb]
  by_cases h2 : k0_cond16 i (BitVec.ofNat 32 T.n) (t.fi (p768 (4 * (i 0).val + 1) hj)) = 1#1
  · have h2' := (cond16_iff i T.n T.n_le _).mp h2
    rw [dif_pos h2]
    rw [if_pos h2'] at hs
    generalize hr : T.R (4 * (i 0).val + 1) = r at *
    obtain ⟨s1, s3, s4⟩ := ring_step T r (by omega)
    have hsl : (t.sl (p768 (4 * (i 0).val + 1) hj)).toNat = (Runs.slot r).val := by
      have := chkSl _ _ (T.sl _ hj); rw [hs, Nat.add_sub_cancel] at this; exact this
    have hbe : (t.be (p768 (4 * (i 0).val + 1) hj)).toNat = (T.ex r).val := by
      rw [T.be _ hj h2'.2, hs, Nat.add_sub_cancel, BitVec.toNat_ofNat]; have := (T.ex r).isLt; omega
    have hru : t.ru (p768 (4 * (i 0).val + 1) hj) = BitVec.ofNat 32 r := by
      have := T.ru _ hj; rw [hs, Nat.add_sub_cancel] at this; exact this
    have ho2 : k0_off21 (t.ru (p768 (4 * (i 0).val + 1) hj)) 0 = r + 5 := by rw [hru]; exact off21_eq r (by omega)
    have hnx : (nxt (t.sl (p768 (4 * (i 0).val + 1) hj))).toNat = (Runs.slot (r + 5)).val := by
      have e := T.sl _ hj; rw [hs, Nat.add_sub_cancel] at e
      rw [e]; refine (nxt_ofNat (Runs.slot r)).trans ?_
      show (r % 9 + 5) % 9 = (r + 5) % 9; omega
    iapply (wp_firstBlk c w t (k0_off38 i) (k0_off38_inb i) _ _ _ _ _ _ _ _ _ _ _ _ _ z Q (4 * (i 0).val + 1) hj (off38_eq i)
      ⟨fun _ _ => by have e := inbS (Runs.slot r); rw [← hsl] at e; exact e, fun _ _ => by have e := inbG (Runs.slot r); rw [← hsl] at e; exact e,
        fun _ _ => by have e := inbS (Runs.slot r); rw [← hsl] at e; exact e, fun _ _ => by have e := inbG (Runs.slot r); rw [← hsl] at e; exact e,
        fun _ _ => by have e := inbD (Runs.slot r); rw [← hsl] at e; exact e⟩
      ⟨fun _ _ => by have e := inbWG (T.ex r); rw [← hbe] at e; exact e, fun _ _ => by have e := inbWD (T.ex r); rw [← hbe] at e; exact e⟩
      (fun _ _ a => by fin_cases a; rw [show (⟨0, Nat.one_pos⟩ : Fin 1) = 0 from rfl]; show k0_off21 _ 0 + 1 ≤ 777; rw [ho2]; omega)
      (r + 5) (by omega) ho2
      ⟨fun _ _ _ => by have e := inbS (Runs.slot (r + 5)); rw [← hnx] at e; exact e, fun _ _ _ => by have e := inbG (Runs.slot (r + 5)); rw [← hnx] at e; exact e,
        fun _ _ h => by have e := inbWG (T.ex (r + 5)); rw [← rx_nat T (r + 5) (by omega) (rx_lt T _ _ h)] at e; exact e,
        fun _ _ _ => by have e := inbD (Runs.slot (r + 5)); rw [← hnx] at e; exact e,
        fun _ _ h => by have e := inbWD (T.ex (r + 5)); rw [← rx_nat T (r + 5) (by omega) (rx_lt T _ _ h)] at e; exact e⟩
      (T.st r) (T.st (r + 1)) (Runs.slot r) (Runs.slot (r + 5)) (T.ex r) hsl.symm hbe.symm
      (fun h => by have e : r % 9 = (r + 5) % 9 := congrArg Fin.val h; omega) s1 (T.st_old r) s3
      (fun h => ⟨hnx, by
        have hl := rx_lt T (r + 5) (by omega) h
        rw [s4, if_pos hl]
        exact congrArg St.flight (Fin.ext (rx_nat T (r + 5) (by omega) hl).symm)⟩)
      (fun h => by rw [s4, if_neg (fun hl => h (rx_cond T _ _ hl))])
      (fun q hq => T.st_other r q (fun e => hq (by simp [e])) (fun e => hq (by simp [e]))) W)
    isplitl [TT]; · iexact TT
    isplitl [HR]; · iexact HR
    isplitl [HO]; · iexact HO
    rw [show 4 * (i 0).val + 2 = 4 * (i 0).val + 1 + 1 from rfl, hs]
    iexact Hz
  · have h2' := fun h => h2 ((cond16_iff i T.n T.n_le _).mpr h)
    rw [dif_neg h2]
    rw [if_neg h2'] at hs
    rw [show 4 * (i 0).val + 2 = 4 * (i 0).val + 1 + 1 from rfl, hs]
    iapply Hz $$ [TT] [HR] [HO]
    · unfold TB; iexact TT
    · iexact HR
    · iexists W; iexact HO

theorem wp_wf2 (z : PR F β) (Q : β → sProp (MM F)) (W : Waits sig Unit) :
    iprop(TB c t ∗ Ring.AtW (σ := fun _ => St) (Φ c w) (T.st (T.R (4 * (i 0).val + 2))) ∗ owes (c : Thread nD τ) 0 W
        ∗ (TB c t -∗ Ring.AtW (σ := fun _ => St) (Φ c w) (T.st (T.R (4 * (i 0).val + 3))) -∗ (∃ W, owes (c : Thread nD τ) 0 W)
          -∗ wp frame (wpE (defs₀ (F := F)) Variants.none c none) Set.univ z Q))
      ⊢ wp frame (wpE (defs₀ (F := F)) Variants.none c none) Set.univ (wf2 i (BitVec.ofNat 32 T.n) h1 z) Q := by
  have hi : (i 0).val < 192 := (i 0).isLt
  have hj : 4 * (i 0).val + 2 < 768 := by omega
  have hs := T.Rs _ hj
  have hR := T.R_le_NR (4 * (i 0).val + 2 + 1) (by omega)
  have hRl := T.R_le (4 * (i 0).val + 2) (by omega)
  have hNR := T.R_le 768 (by omega)
  rw [T.NR_eq] at hNR
  iintro ⟨TT, HR, HO, Hz⟩
  unfold wf2
  unfold TB
  icases TT with ⟨T0, T1, T2, T3, T4, T5, T6⟩
  iapply (wp_ldB c t.nb)
  isplitl [T2]; · iexact T2
  iintro T2
  iapply (wp_ldF c t.fi _ _ (4 * (i 0).val + 2) hj (off63_eq i))
  isplitl [T3]; · iexact T3
  iintro T3
  ihave TT : TB c t $$ [T0 T1 T2 T3 T4 T5 T6]
  · unfold TB
    isplitl [T0]; · iexact T0
    isplitl [T1]; · iexact T1
    isplitl [T2]; · iexact T2
    isplitl [T3]; · iexact T3
    isplitl [T4]; · iexact T4
    isplitl [T5]; · iexact T5
    iexact T6
  have hnb : (t.nb p1) = BitVec.ofNat 32 T.n := T.nb
  rw [show (t.nb p1 : Elt F .i32) = BitVec.ofNat 32 T.n from T.nb]
  by_cases h2 : k0_cond24 i (BitVec.ofNat 32 T.n) (t.fi (p768 (4 * (i 0).val + 2) hj)) = 1#1
  · have h2' := (cond24_iff i T.n T.n_le _).mp h2
    rw [dif_pos h2]
    rw [if_pos h2'] at hs
    generalize hr : T.R (4 * (i 0).val + 2) = r at *
    obtain ⟨s1, s3, s4⟩ := ring_step T r (by omega)
    have hsl : (t.sl (p768 (4 * (i 0).val + 2) hj)).toNat = (Runs.slot r).val := by
      have := chkSl _ _ (T.sl _ hj); rw [hs, Nat.add_sub_cancel] at this; exact this
    have hbe : (t.be (p768 (4 * (i 0).val + 2) hj)).toNat = (T.ex r).val := by
      rw [T.be _ hj h2'.2, hs, Nat.add_sub_cancel, BitVec.toNat_ofNat]; have := (T.ex r).isLt; omega
    have hru : t.ru (p768 (4 * (i 0).val + 2) hj) = BitVec.ofNat 32 r := by
      have := T.ru _ hj; rw [hs, Nat.add_sub_cancel] at this; exact this
    have ho2 : k0_off21 (t.ru (p768 (4 * (i 0).val + 2) hj)) 0 = r + 5 := by rw [hru]; exact off21_eq r (by omega)
    have hnx : (nxt (t.sl (p768 (4 * (i 0).val + 2) hj))).toNat = (Runs.slot (r + 5)).val := by
      have e := T.sl _ hj; rw [hs, Nat.add_sub_cancel] at e
      rw [e]; refine (nxt_ofNat (Runs.slot r)).trans ?_
      show (r % 9 + 5) % 9 = (r + 5) % 9; omega
    iapply (wp_firstBlk c w t (k0_off64 i) (k0_off64_inb i) _ _ _ _ _ _ _ _ _ _ _ _ _ z Q (4 * (i 0).val + 2) hj (off64_eq i)
      ⟨fun _ _ => by have e := inbS (Runs.slot r); rw [← hsl] at e; exact e, fun _ _ => by have e := inbG (Runs.slot r); rw [← hsl] at e; exact e,
        fun _ _ => by have e := inbS (Runs.slot r); rw [← hsl] at e; exact e, fun _ _ => by have e := inbG (Runs.slot r); rw [← hsl] at e; exact e,
        fun _ _ => by have e := inbD (Runs.slot r); rw [← hsl] at e; exact e⟩
      ⟨fun _ _ => by have e := inbWG (T.ex r); rw [← hbe] at e; exact e, fun _ _ => by have e := inbWD (T.ex r); rw [← hbe] at e; exact e⟩
      (fun _ _ a => by fin_cases a; rw [show (⟨0, Nat.one_pos⟩ : Fin 1) = 0 from rfl]; show k0_off21 _ 0 + 1 ≤ 777; rw [ho2]; omega)
      (r + 5) (by omega) ho2
      ⟨fun _ _ _ => by have e := inbS (Runs.slot (r + 5)); rw [← hnx] at e; exact e, fun _ _ _ => by have e := inbG (Runs.slot (r + 5)); rw [← hnx] at e; exact e,
        fun _ _ h => by have e := inbWG (T.ex (r + 5)); rw [← rx_nat T (r + 5) (by omega) (rx_lt T _ _ h)] at e; exact e,
        fun _ _ _ => by have e := inbD (Runs.slot (r + 5)); rw [← hnx] at e; exact e,
        fun _ _ h => by have e := inbWD (T.ex (r + 5)); rw [← rx_nat T (r + 5) (by omega) (rx_lt T _ _ h)] at e; exact e⟩
      (T.st r) (T.st (r + 1)) (Runs.slot r) (Runs.slot (r + 5)) (T.ex r) hsl.symm hbe.symm
      (fun h => by have e : r % 9 = (r + 5) % 9 := congrArg Fin.val h; omega) s1 (T.st_old r) s3
      (fun h => ⟨hnx, by
        have hl := rx_lt T (r + 5) (by omega) h
        rw [s4, if_pos hl]
        exact congrArg St.flight (Fin.ext (rx_nat T (r + 5) (by omega) hl).symm)⟩)
      (fun h => by rw [s4, if_neg (fun hl => h (rx_cond T _ _ hl))])
      (fun q hq => T.st_other r q (fun e => hq (by simp [e])) (fun e => hq (by simp [e]))) W)
    isplitl [TT]; · iexact TT
    isplitl [HR]; · iexact HR
    isplitl [HO]; · iexact HO
    rw [show 4 * (i 0).val + 3 = 4 * (i 0).val + 2 + 1 from rfl, hs]
    iexact Hz
  · have h2' := fun h => h2 ((cond24_iff i T.n T.n_le _).mpr h)
    rw [dif_neg h2]
    rw [if_neg h2'] at hs
    rw [show 4 * (i 0).val + 3 = 4 * (i 0).val + 2 + 1 from rfl, hs]
    iapply Hz $$ [TT] [HR] [HO]
    · unfold TB; iexact TT
    · iexact HR
    · iexists W; iexact HO

theorem wp_wf3 (z : PR F β) (Q : β → sProp (MM F)) (W : Waits sig Unit) :
    iprop(TB c t ∗ Ring.AtW (σ := fun _ => St) (Φ c w) (T.st (T.R (4 * (i 0).val + 3))) ∗ owes (c : Thread nD τ) 0 W
        ∗ (TB c t -∗ Ring.AtW (σ := fun _ => St) (Φ c w) (T.st (T.R (4 * (i 0).val + 4))) -∗ (∃ W, owes (c : Thread nD τ) 0 W)
          -∗ wp frame (wpE (defs₀ (F := F)) Variants.none c none) Set.univ z Q))
      ⊢ wp frame (wpE (defs₀ (F := F)) Variants.none c none) Set.univ (wf3 i (BitVec.ofNat 32 T.n) h1 z) Q := by
  have hi : (i 0).val < 192 := (i 0).isLt
  have hj : 4 * (i 0).val + 3 < 768 := by omega
  have hs := T.Rs _ hj
  have hR := T.R_le_NR (4 * (i 0).val + 3 + 1) (by omega)
  have hRl := T.R_le (4 * (i 0).val + 3) (by omega)
  have hNR := T.R_le 768 (by omega)
  rw [T.NR_eq] at hNR
  iintro ⟨TT, HR, HO, Hz⟩
  unfold wf3
  unfold TB
  icases TT with ⟨T0, T1, T2, T3, T4, T5, T6⟩
  iapply (wp_ldB c t.nb)
  isplitl [T2]; · iexact T2
  iintro T2
  iapply (wp_ldF c t.fi _ _ (4 * (i 0).val + 3) hj (off89_eq i))
  isplitl [T3]; · iexact T3
  iintro T3
  ihave TT : TB c t $$ [T0 T1 T2 T3 T4 T5 T6]
  · unfold TB
    isplitl [T0]; · iexact T0
    isplitl [T1]; · iexact T1
    isplitl [T2]; · iexact T2
    isplitl [T3]; · iexact T3
    isplitl [T4]; · iexact T4
    isplitl [T5]; · iexact T5
    iexact T6
  have hnb : (t.nb p1) = BitVec.ofNat 32 T.n := T.nb
  rw [show (t.nb p1 : Elt F .i32) = BitVec.ofNat 32 T.n from T.nb]
  by_cases h2 : k0_cond32 i (BitVec.ofNat 32 T.n) (t.fi (p768 (4 * (i 0).val + 3) hj)) = 1#1
  · have h2' := (cond32_iff i T.n T.n_le _).mp h2
    rw [dif_pos h2]
    rw [if_pos h2'] at hs
    generalize hr : T.R (4 * (i 0).val + 3) = r at *
    obtain ⟨s1, s3, s4⟩ := ring_step T r (by omega)
    have hsl : (t.sl (p768 (4 * (i 0).val + 3) hj)).toNat = (Runs.slot r).val := by
      have := chkSl _ _ (T.sl _ hj); rw [hs, Nat.add_sub_cancel] at this; exact this
    have hbe : (t.be (p768 (4 * (i 0).val + 3) hj)).toNat = (T.ex r).val := by
      rw [T.be _ hj h2'.2, hs, Nat.add_sub_cancel, BitVec.toNat_ofNat]; have := (T.ex r).isLt; omega
    have hru : t.ru (p768 (4 * (i 0).val + 3) hj) = BitVec.ofNat 32 r := by
      have := T.ru _ hj; rw [hs, Nat.add_sub_cancel] at this; exact this
    have ho2 : k0_off21 (t.ru (p768 (4 * (i 0).val + 3) hj)) 0 = r + 5 := by rw [hru]; exact off21_eq r (by omega)
    have hnx : (nxt (t.sl (p768 (4 * (i 0).val + 3) hj))).toNat = (Runs.slot (r + 5)).val := by
      have e := T.sl _ hj; rw [hs, Nat.add_sub_cancel] at e
      rw [e]; refine (nxt_ofNat (Runs.slot r)).trans ?_
      show (r % 9 + 5) % 9 = (r + 5) % 9; omega
    iapply (wp_firstBlk c w t (k0_off90 i) (k0_off90_inb i) _ _ _ _ _ _ _ _ _ _ _ _ _ z Q (4 * (i 0).val + 3) hj (off90_eq i)
      ⟨fun _ _ => by have e := inbS (Runs.slot r); rw [← hsl] at e; exact e, fun _ _ => by have e := inbG (Runs.slot r); rw [← hsl] at e; exact e,
        fun _ _ => by have e := inbS (Runs.slot r); rw [← hsl] at e; exact e, fun _ _ => by have e := inbG (Runs.slot r); rw [← hsl] at e; exact e,
        fun _ _ => by have e := inbD (Runs.slot r); rw [← hsl] at e; exact e⟩
      ⟨fun _ _ => by have e := inbWG (T.ex r); rw [← hbe] at e; exact e, fun _ _ => by have e := inbWD (T.ex r); rw [← hbe] at e; exact e⟩
      (fun _ _ a => by fin_cases a; rw [show (⟨0, Nat.one_pos⟩ : Fin 1) = 0 from rfl]; show k0_off21 _ 0 + 1 ≤ 777; rw [ho2]; omega)
      (r + 5) (by omega) ho2
      ⟨fun _ _ _ => by have e := inbS (Runs.slot (r + 5)); rw [← hnx] at e; exact e, fun _ _ _ => by have e := inbG (Runs.slot (r + 5)); rw [← hnx] at e; exact e,
        fun _ _ h => by have e := inbWG (T.ex (r + 5)); rw [← rx_nat T (r + 5) (by omega) (rx_lt T _ _ h)] at e; exact e,
        fun _ _ _ => by have e := inbD (Runs.slot (r + 5)); rw [← hnx] at e; exact e,
        fun _ _ h => by have e := inbWD (T.ex (r + 5)); rw [← rx_nat T (r + 5) (by omega) (rx_lt T _ _ h)] at e; exact e⟩
      (T.st r) (T.st (r + 1)) (Runs.slot r) (Runs.slot (r + 5)) (T.ex r) hsl.symm hbe.symm
      (fun h => by have e : r % 9 = (r + 5) % 9 := congrArg Fin.val h; omega) s1 (T.st_old r) s3
      (fun h => ⟨hnx, by
        have hl := rx_lt T (r + 5) (by omega) h
        rw [s4, if_pos hl]
        exact congrArg St.flight (Fin.ext (rx_nat T (r + 5) (by omega) hl).symm)⟩)
      (fun h => by rw [s4, if_neg (fun hl => h (rx_cond T _ _ hl))])
      (fun q hq => T.st_other r q (fun e => hq (by simp [e])) (fun e => hq (by simp [e]))) W)
    isplitl [TT]; · iexact TT
    isplitl [HR]; · iexact HR
    isplitl [HO]; · iexact HO
    rw [show 4 * (i 0).val + 4 = 4 * (i 0).val + 3 + 1 from rfl, hs]
    iexact Hz
  · have h2' := fun h => h2 ((cond32_iff i T.n T.n_le _).mpr h)
    rw [dif_neg h2]
    rw [if_neg h2'] at hs
    rw [show 4 * (i 0).val + 4 = 4 * (i 0).val + 3 + 1 from rfl, hs]
    iapply Hz $$ [TT] [HR] [HO]
    · unfold TB; iexact TT
    · iexact HR
    · iexists W; iexact HO

end Cert.Kernel4Ideal.Hand
end
-- ==== Proof.Point4.lean ====
module

public import proofs.«01_k».proof.Proof.First4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Ring.Tabled
public import Idealize.ShloMosaic.Lib.WordCmp
public import Idealize.ShloMosaic.Lib.Tactic
public import Idealize.ShloMosaic.Lib.UnfoldOut
public import Idealize.ShloMosaic.Lib.WordCmp

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

variable {β : Type} (c : Dev nD) (w : WArr F c) {t : Tabs} (T : Runs t)

/-! ## One grid point -/

variable (i : grid0.Coords) (h1 : k0_cond1 i (BitVec.ofNat 32 T.n) = 1#1)

/-- The ring before block `m`. -/
def ringAt (m : Nat) : Fin 9 → St := if m = 0 then (fun _ => .free) else T.st (T.R m)

theorem cond1_iff (i : grid0.Coords) (n : Nat) (hn : n ≤ 768) : k0_cond1 i (BitVec.ofNat 32 n) = 1#1 ↔ 4 * (i 0).val < n := by
  have h : (i 0).val < 192 := (i 0).isLt
  have e : k0_cond1 i (BitVec.ofNat 32 n) = Scalar.cmpi .ne (Scalar.extui (Scalar.cmpi .slt (Scalar.muli (BitVec.ofNat 32 (i 0).val) 4#32) (BitVec.ofNat 32 n)) : BitVec 32) 0#32 := rfl
  have e2 : Scalar.muli (BitVec.ofNat 32 (i 0).val) 4#32 = BitVec.ofNat 32 (4 * (i 0).val) := by
    apply BitVec.eq_of_toNat_eq
    simp [Scalar.muli, IntOp.muli]
    omega
  have h1 : Scalar.cmpi .slt (BitVec.ofNat 32 (4 * (i 0).val)) (BitVec.ofNat 32 n) = BitVec.ofBool (decide (4 * (i 0).val < n)) := WordCmp.cmpi_slt_ofNat (by omega) (by omega)
  rw [e, e2, h1]
  by_cases p : 4 * (i 0).val < n <;> simp [p] <;> decide

theorem condZ : ∀ (i : Fin 192) (s : Fin 4), Scalar.cmpi .ne (Scalar.extui (Scalar.cmpi .eq (Scalar.addi (Scalar.muli (BitVec.ofNat 32 i.val) 4#32) (BitVec.ofNat 32 s.val)) 0#32) : BitVec 32) 0#32 = 1#1 ↔ (i.val = 0 ∧ s.val = 0) := by
  decide +kernel

theorem wp_fill (a : Fin 9) (ha5 : a.val < 5) (inb : ∀ d, (![a.val] : Fin 1 → Nat) d + S1.size d ≤ S777.size d)
    (chk : BitVec 32 → Prop) (dec : ∀ v, Decidable (chk v)) (hb : ∀ v, chk v → k0_cond3 v = 1#1 → v.toNat < 256) (z : PR F β)
    (Q : β → sProp (MM F)) (ha : a.val < 777) (hc : chk (t.rx (p777 a.val ha))) :
    iprop(TB c t ∗ Ring.AtW (σ := fun _ => St) (Φ c w) (T.fill a.val) ∗ (TB c t -∗ Ring.AtW (σ := fun _ => St) (Φ c w) (T.fill (a.val + 1)) -∗ wp frame (wpE (defs₀ (F := F)) Variants.none c none) Set.univ z Q))
      ⊢ wp frame (wpE (defs₀ (F := F)) Variants.none c none) Set.univ (proStep a inb chk dec hb z) Q := by
  have s1 : T.fill a.val a = .free := by unfold Runs.fill; rw [if_neg (by omega)]
  have hs : Runs.slot a.val = a := Fin.ext (Nat.mod_eq_of_lt a.isLt)
  have s2 : T.fill (a.val + 1) a = if a.val < T.NR then .flight (T.ex a.val) else .free := by
    unfold Runs.fill; rw [if_pos (by omega)]
    have := T.st_flight 0 a.val (by omega) (by omega)
    rwa [hs] at this
  have s3 : ∀ q, q ∉ [a] → T.fill (a.val + 1) q = T.fill a.val q := by
    intro q hq
    have hq' : q.val ≠ a.val := fun e => hq (by simp [Fin.ext e])
    unfold Runs.fill
    by_cases h : q.val < a.val
    · rw [if_pos h, if_pos (by omega)]
    · rw [if_neg h, if_neg (by omega)]
  rw [Ring.AtW_focusL (Φ c w) (T.fill a.val) [a] (by simp),
    show bigSepL [a] (fun s => Φ c w s (T.fill a.val s)) = Φ c w a (T.fill a.val a) from rfl, s1]
  iintro ⟨TT, ⟨H, HR⟩, Hz⟩
  iapply (wp_proStep c w t a inb chk dec hb z Q ha hc (T.fill (a.val + 1) a)
    (fun h => by
      have hl := rx_lt T a.val ha h
      rw [s2, if_pos hl]
      exact congrArg St.flight (Fin.ext (rx_nat T a.val ha hl).symm))
    (fun h => by rw [s2, if_neg (fun hl => h (rx_cond T _ _ hl))]))
  isplitl [TT]; · iexact TT
  isplitl [H]; · iexact H
  iintro TT H
  iapply Hz $$ [TT] [H HR]
  · iexact TT
  · iapply (Ring.AtW_refocusL (Φ c w) (T.fill a.val) (T.fill (a.val + 1)) [a] (by simp) s3)
    rw [show bigSepL [a] (fun s => Φ c w s (T.fill (a.val + 1) s)) = Φ c w a (T.fill (a.val + 1) a) from rfl]
    isplitr [HR]
    · iexact H
    · iexact HR

theorem wp_fb0 (z : PR F β) (Q : β → sProp (MM F)) (W : Waits sig Unit) :
    iprop(TB c t ∗ Ring.AtW (σ := fun _ => St) (Φ c w) (ringAt T (4 * (i 0).val)) ∗ owes (c : Thread nD τ) 0 W
        ∗ (TB c t -∗ Ring.AtW (σ := fun _ => St) (Φ c w) (T.st (T.R (4 * (i 0).val + 1))) -∗ (∃ W, owes (c : Thread nD τ) 0 W)
          -∗ wp frame (wpE (defs₀ (F := F)) Variants.none c none) Set.univ z Q))
      ⊢ wp frame (wpE (defs₀ (F := F)) Variants.none c none) Set.univ (fb0 i (BitVec.ofNat 32 T.n) h1 z) Q := by
  have hz : k0_cond2 i = 1#1 ↔ (i 0).val = 0 ∧ 0 = 0 := condZ (i 0) 0
  unfold fb0
  by_cases h0 : k0_cond2 i = 1#1
  · have hi0 := (hz.mp h0).1
    rw [dif_pos h0]
    have hf : ringAt T (4 * (i 0).val) = T.fill 0 := by rw [hi0]; exact T.fill0.symm
    rw [hf]
    iintro ⟨TT, HR, HO, Hz⟩
    iapply (wp_fill c w T 0 (by decide) inb_S777_S1_0 _ _ _ _ _ (by decide)
      ⟨fun _ _ h => by have e := inbWG (T.ex 0); rw [← rx_nat T 0 (by omega) (rx_lt T _ _ h)] at e; exact e,
        fun _ _ h => by have e := inbWD (T.ex 0); rw [← rx_nat T 0 (by omega) (rx_lt T _ _ h)] at e; exact e⟩)
    isplitl [TT]; · iexact TT
    isplitl [HR]; · iexact HR
    iintro TT HR
    iapply (wp_fill c w T 1 (by decide) inb_S777_S1_1 _ _ _ _ _ (by decide)
      ⟨fun _ _ h => by have e := inbWG (T.ex 1); rw [← rx_nat T 1 (by omega) (rx_lt T _ _ h)] at e; exact e,
        fun _ _ h => by have e := inbWD (T.ex 1); rw [← rx_nat T 1 (by omega) (rx_lt T _ _ h)] at e; exact e⟩)
    isplitl [TT]; · iexact TT
    isplitl [HR]; · iexact HR
    iintro TT HR
    iapply (wp_fill c w T 2 (by decide) inb_S777_S1_2 _ _ _ _ _ (by decide)
      ⟨fun _ _ h => by have e := inbWG (T.ex 2); rw [← rx_nat T 2 (by omega) (rx_lt T _ _ h)] at e; exact e,
        fun _ _ h => by have e := inbWD (T.ex 2); rw [← rx_nat T 2 (by omega) (rx_lt T _ _ h)] at e; exact e⟩)
    isplitl [TT]; · iexact TT
    isplitl [HR]; · iexact HR
    iintro TT HR
    iapply (wp_fill c w T 3 (by decide) inb_S777_S1_3 _ _ _ _ _ (by decide)
      ⟨fun _ _ h => by have e := inbWG (T.ex 3); rw [← rx_nat T 3 (by omega) (rx_lt T _ _ h)] at e; exact e,
        fun _ _ h => by have e := inbWD (T.ex 3); rw [← rx_nat T 3 (by omega) (rx_lt T _ _ h)] at e; exact e⟩)
    isplitl [TT]; · iexact TT
    isplitl [HR]; · iexact HR
    iintro TT HR
    iapply (wp_fill c w T 4 (by decide) inb_S777_S1_4 _ _ _ _ _ (by decide)
      ⟨fun _ _ h => by have e := inbWG (T.ex 4); rw [← rx_nat T 4 (by omega) (rx_lt T _ _ h)] at e; exact e,
        fun _ _ h => by have e := inbWD (T.ex 4); rw [← rx_nat T 4 (by omega) (rx_lt T _ _ h)] at e; exact e⟩)
    isplitl [TT]; · iexact TT
    isplitl [HR]; · iexact HR
    iintro TT HR
    have h5 : T.fill ((4 : Fin 9).val + 1) = T.st (T.R (4 * (i 0).val + 0)) := by rw [hi0]; exact T.fill5.trans (congrArg T.st T.R0.symm)
    rw [h5]
    iapply (wp_wf0 c w T i h1 z Q W)
    isplitl [TT]; · iexact TT
    isplitl [HR]; · iexact HR
    isplitl [HO]; · iexact HO
    iexact Hz
  · rw [dif_neg h0]
    have hi0 : (i 0).val ≠ 0 := fun e => h0 (hz.mpr ⟨e, rfl⟩)
    have hf : ringAt T (4 * (i 0).val) = T.st (T.R (4 * (i 0).val + 0)) := by unfold ringAt; rw [if_neg (by omega)]; rfl
    rw [hf]
    exact wp_wf0 c w T i h1 z Q W

theorem fb1_eq (z : PR F β) : fb1 i (BitVec.ofNat 32 T.n) h1 z = wf1 i (BitVec.ofNat 32 T.n) h1 z := by
  have hz : k0_cond10 i = 1#1 ↔ (i 0).val = 0 ∧ 1 = 0 := condZ (i 0) 1
  unfold fb1
  rw [dif_neg (fun h => absurd (hz.mp h).2 (by decide))]

theorem fb2_eq (z : PR F β) : fb2 i (BitVec.ofNat 32 T.n) h1 z = wf2 i (BitVec.ofNat 32 T.n) h1 z := by
  have hz : k0_cond18 i = 1#1 ↔ (i 0).val = 0 ∧ 2 = 0 := condZ (i 0) 2
  unfold fb2
  rw [dif_neg (fun h => absurd (hz.mp h).2 (by decide))]

theorem fb3_eq (z : PR F β) : fb3 i (BitVec.ofNat 32 T.n) h1 z = wf3 i (BitVec.ofNat 32 T.n) h1 z := by
  have hz : k0_cond26 i = 1#1 ↔ (i 0).val = 0 ∧ 3 = 0 := condZ (i 0) 3
  unfold fb3
  rw [dif_neg (fun h => absurd (hz.mp h).2 (by decide))]

/-- The expert of block `j`'s run. -/
def blkE (j : Nat) : Fin 256 := T.ex (T.R (j + 1) - 1)

theorem lt192 (i : grid0.Coords) : (i 0).val < 192 := (i 0).isLt

/-- The stores of an active tile, last first. -/
def tileP (w8 : Memref sig .tc .vmem S1024x512 .i32) (f8 : Buf (Elt F) (w8.view.loc (c : Thread nD τ))) : List (View.Piece (Elt F) S1024x1024 .bf16) :=
  [⟨Rect.unit (s := S1024x1024) ![768, 0] S256x1024.size inb_S1024x1024_S256x1024_768_0,
      k0_pay4 (w8.view.readAt (Elt F) (Rect.unit (s := S1024x512) ![768, 0] S256x512.size inb_S1024x512_S256x512_768_0).toLoadRect f8)
        (t.nv (p768 (4 * (i 0).val + 3) (by have := lt192 i; omega))) (vG c w (blkE T (4 * (i 0).val + 3))) (vU c w (blkE T (4 * (i 0).val + 3))) (vD c w (blkE T (4 * (i 0).val + 3)))⟩,
   ⟨Rect.unit (s := S1024x1024) ![512, 0] S256x1024.size inb_S1024x1024_S256x1024_512_0,
      k0_pay4 (w8.view.readAt (Elt F) (Rect.unit (s := S1024x512) ![512, 0] S256x512.size inb_S1024x512_S256x512_512_0).toLoadRect f8)
        (t.nv (p768 (4 * (i 0).val + 2) (by have := lt192 i; omega))) (vG c w (blkE T (4 * (i 0).val + 2))) (vU c w (blkE T (4 * (i 0).val + 2))) (vD c w (blkE T (4 * (i 0).val + 2)))⟩,
   ⟨Rect.unit (s := S1024x1024) ![256, 0] S256x1024.size inb_S1024x1024_S256x1024_256_0,
      k0_pay4 (w8.view.readAt (Elt F) (Rect.unit (s := S1024x512) ![256, 0] S256x512.size inb_S1024x512_S256x512_256_0).toLoadRect f8)
        (t.nv (p768 (4 * (i 0).val + 1) (by have := lt192 i; omega))) (vG c w (blkE T (4 * (i 0).val + 1))) (vU c w (blkE T (4 * (i 0).val + 1))) (vD c w (blkE T (4 * (i 0).val + 1)))⟩,
   ⟨Rect.unit (s := S1024x1024) ![0, 0] S256x1024.size inb_S1024x1024_S256x1024_0_0,
      k0_pay4 (w8.view.readAt (Elt F) (Rect.unit (s := S1024x512) ![0, 0] S256x512.size inb_S1024x512_S256x512_0_0).toLoadRect f8)
        (t.nv (p768 (4 * (i 0).val + 0) (by have := lt192 i; omega))) (vG c w (blkE T (4 * (i 0).val + 0))) (vU c w (blkE T (4 * (i 0).val + 0))) (vD c w (blkE T (4 * (i 0).val + 0)))⟩]

variable (w8 : Memref sig .tc .vmem S1024x512 .i32) (hw8 : w8.IsWhole) (w12 : Memref sig .tc .vmem S1024x1024 .bf16) (hw12 : w12.IsWhole)

theorem wp_comp4 (z : PR F β) (Q : β → sProp (MM F)) (f8 : Buf (Elt F) (w8.view.loc (c : Thread nD τ))) (f12 : Buf (Elt F) (w12.view.loc (c : Thread nD τ))) :
    iprop(TB c t ∗ Ring.AtW (σ := fun _ => St) (Φ c w) (T.st (T.R (4 * (i 0).val + 4))) ∗ h8 c w8 f8 ∗ h12 c w12 f12
        ∗ (TB c t -∗ Ring.AtW (σ := fun _ => St) (Φ c w) (T.st (T.R (4 * (i 0).val + 4))) -∗ h8 c w8 f8
          -∗ h12 c w12 (w12.view.writes (Elt F) f12 (tileP c w T i w8 f8))
          -∗ wp frame (wpE (defs₀ (F := F)) Variants.none c none) Set.univ z Q))
      ⊢ wp frame (wpE (defs₀ (F := F)) Variants.none c none) Set.univ (comp4 i (BitVec.ofNat 32 T.n) h1 w8 w12 hw12 z) Q := by
  have hi := lt192 i
  unfold comp4 tileP
  iintro ⟨TT, HR, H8, H12, Hz⟩
  have hj0 : 4 * (i 0).val + 0 < 768 := by omega
  have hp0 := T.R_pos _ hj0
  have hm0 := T.R_mono (4 * (i 0).val + 0 + 1) 3 (by omega)
  have hsl0 : (t.sl (p768 (4 * (i 0).val + 0) hj0)).toNat = (Runs.slot (T.R (4 * (i 0).val + 0 + 1) - 1)).val := chkSl _ _ (T.sl _ hj0)
  iapply (wp_compBlk c w t w8 w12 hw12 (k0_off105 i) (k0_off105_inb i) _ _ _ 0 _ _ _ _ Q (4 * (i 0).val + 0) hj0 (off105_eq i)
    ⟨fun _ => by have e := inbG (Runs.slot (T.R (4 * (i 0).val + 0 + 1) - 1)); rw [← hsl0] at e; exact e,
      fun _ => by have e := inbD (Runs.slot (T.R (4 * (i 0).val + 0 + 1) - 1)); rw [← hsl0] at e; exact e⟩
    (T.st (T.R (4 * (i 0).val + 4))) (Runs.slot (T.R (4 * (i 0).val + 0 + 1) - 1)) (T.ex (T.R (4 * (i 0).val + 0 + 1) - 1)) hsl0.symm
    (T.st_held _ _ (by
      rw [show 4 * (i 0).val + 0 + 1 + 3 = 4 * (i 0).val + 4 by omega] at hm0; omega) (by
      rw [show 4 * (i 0).val + 0 + 1 + 3 = 4 * (i 0).val + 4 by omega] at hm0; omega)) f8 f12 [])
  isplitl [TT]; · iexact TT
  isplitl [HR]; · iexact HR
  isplitl [H8]; · iexact H8
  isplitl [H12]; · iexact H12
  iintro TT HR H8 H12
  have hj1 : 4 * (i 0).val + 1 < 768 := by omega
  have hp1 := T.R_pos _ hj1
  have hm1 := T.R_mono (4 * (i 0).val + 1 + 1) 2 (by omega)
  have hsl1 : (t.sl (p768 (4 * (i 0).val + 1) hj1)).toNat = (Runs.slot (T.R (4 * (i 0).val + 1 + 1) - 1)).val := chkSl _ _ (T.sl _ hj1)
  iapply (wp_compBlk c w t w8 w12 hw12 (k0_off108 i) (k0_off108_inb i) _ _ _ 256 _ _ _ _ Q (4 * (i 0).val + 1) hj1 (off108_eq i)
    ⟨fun _ => by have e := inbG (Runs.slot (T.R (4 * (i 0).val + 1 + 1) - 1)); rw [← hsl1] at e; exact e,
      fun _ => by have e := inbD (Runs.slot (T.R (4 * (i 0).val + 1 + 1) - 1)); rw [← hsl1] at e; exact e⟩
    (T.st (T.R (4 * (i 0).val + 4))) (Runs.slot (T.R (4 * (i 0).val + 1 + 1) - 1)) (T.ex (T.R (4 * (i 0).val + 1 + 1) - 1)) hsl1.symm
    (T.st_held _ _ (by
      rw [show 4 * (i 0).val + 1 + 1 + 2 = 4 * (i 0).val + 4 by omega] at hm1; omega) (by
      rw [show 4 * (i 0).val + 1 + 1 + 2 = 4 * (i 0).val + 4 by omega] at hm1; omega)) f8 f12 _)
  isplitl [TT]; · iexact TT
  isplitl [HR]; · iexact HR
  isplitl [H8]; · iexact H8
  isplitl [H12]; · iexact H12
  iintro TT HR H8 H12
  have hj2 : 4 * (i 0).val + 2 < 768 := by omega
  have hp2 := T.R_pos _ hj2
  have hm2 := T.R_mono (4 * (i 0).val + 2 + 1) 1 (by omega)
  have hsl2 : (t.sl (p768 (4 * (i 0).val + 2) hj2)).toNat = (Runs.slot (T.R (4 * (i 0).val + 2 + 1) - 1)).val := chkSl _ _ (T.sl _ hj2)
  iapply (wp_compBlk c w t w8 w12 hw12 (k0_off111 i) (k0_off111_inb i) _ _ _ 512 _ _ _ _ Q (4 * (i 0).val + 2) hj2 (off111_eq i)
    ⟨fun _ => by have e := inbG (Runs.slot (T.R (4 * (i 0).val + 2 + 1) - 1)); rw [← hsl2] at e; exact e,
      fun _ => by have e := inbD (Runs.slot (T.R (4 * (i 0).val + 2 + 1) - 1)); rw [← hsl2] at e; exact e⟩
    (T.st (T.R (4 * (i 0).val + 4))) (Runs.slot (T.R (4 * (i 0).val + 2 + 1) - 1)) (T.ex (T.R (4 * (i 0).val + 2 + 1) - 1)) hsl2.symm
    (T.st_held _ _ (by
      rw [show 4 * (i 0).val + 2 + 1 + 1 = 4 * (i 0).val + 4 by omega] at hm2; omega) (by
      rw [show 4 * (i 0).val + 2 + 1 + 1 = 4 * (i 0).val + 4 by omega] at hm2; omega)) f8 f12 _)
  isplitl [TT]; · iexact TT
  isplitl [HR]; · iexact HR
  isplitl [H8]; · iexact H8
  isplitl [H12]; · iexact H12
  iintro TT HR H8 H12
  have hj3 : 4 * (i 0).val + 3 < 768 := by omega
  have hp3 := T.R_pos _ hj3
  have hm3 := T.R_mono (4 * (i 0).val + 3 + 1) 0 (by omega)
  have hsl3 : (t.sl (p768 (4 * (i 0).val + 3) hj3)).toNat = (Runs.slot (T.R (4 * (i 0).val + 3 + 1) - 1)).val := chkSl _ _ (T.sl _ hj3)
  iapply (wp_compBlk c w t w8 w12 hw12 (k0_off114 i) (k0_off114_inb i) _ _ _ 768 _ _ _ _ Q (4 * (i 0).val + 3) hj3 (off114_eq i)
    ⟨fun _ => by have e := inbG (Runs.slot (T.R (4 * (i 0).val + 3 + 1) - 1)); rw [← hsl3] at e; exact e,
      fun _ => by have e := inbD (Runs.slot (T.R (4 * (i 0).val + 3 + 1) - 1)); rw [← hsl3] at e; exact e⟩
    (T.st (T.R (4 * (i 0).val + 4))) (Runs.slot (T.R (4 * (i 0).val + 3 + 1) - 1)) (T.ex (T.R (4 * (i 0).val + 3 + 1) - 1)) hsl3.symm
    (T.st_held _ _ (by
      rw [show 4 * (i 0).val + 3 + 1 + 0 = 4 * (i 0).val + 4 by omega] at hm3; have e3 : T.R (4 * (i 0).val + 3 + 1) = T.R (4 * (i 0).val + 4) := rfl; have hp3 := T.R_pos _ hj3; generalize T.R (4 * (i 0).val + 3 + 1) = x at *; generalize T.R (4 * (i 0).val + 4) = y at *; omega) (by
      rw [show 4 * (i 0).val + 3 + 1 + 0 = 4 * (i 0).val + 4 by omega] at hm3; have e3 : T.R (4 * (i 0).val + 3 + 1) = T.R (4 * (i 0).val + 4) := rfl; have hp3 := T.R_pos _ hj3; generalize T.R (4 * (i 0).val + 3 + 1) = x at *; generalize T.R (4 * (i 0).val + 4) = y at *; omega)) f8 f12 _)
  isplitl [TT]; · iexact TT
  isplitl [HR]; · iexact HR
  isplitl [H8]; · iexact H8
  isplitl [H12]; · iexact H12
  iintro TT HR H8 H12
  iapply Hz $$ [TT] [HR] [H8] [H12]
  · iexact TT
  · iexact HR
  · iexact H8
  · iexact H12

theorem wp_body (Q : PUnit → sProp (MM F)) (W : Waits sig Unit) (f8 : Buf (Elt F) (w8.view.loc (c : Thread nD τ))) (f12 : Buf (Elt F) (w12.view.loc (c : Thread nD τ))) :
    iprop(TB c t ∗ Ring.AtW (σ := fun _ => St) (Φ c w) (ringAt T (4 * (i 0).val)) ∗ owes (c : Thread nD τ) 0 W ∗ h8 c w8 f8 ∗ h12 c w12 f12
        ∗ (TB c t -∗ Ring.AtW (σ := fun _ => St) (Φ c w) (ringAt T (4 * (i 0).val + 4)) -∗ (∃ W, owes (c : Thread nD τ) 0 W) -∗ h8 c w8 f8
          -∗ h12 c w12 (if 4 * (i 0).val < T.n then w12.view.writes (Elt F) f12 (tileP c w T i w8 f8) else f12)
          -∗ Q ⟨⟩))
      ⊢ wp frame (wpE (defs₀ (F := F)) Variants.none c none) Set.univ (cc0_grouped_mlp i (Memref.whole main_arg0) (Memref.isWhole_whole _) (Memref.whole main_arg1) (Memref.isWhole_whole _) (Memref.whole main_arg2) (Memref.isWhole_whole _) (Memref.whole main_v10) (Memref.isWhole_whole _) (Memref.whole main_v13) (Memref.isWhole_whole _) (Memref.whole main_v14) (Memref.isWhole_whole _) (Memref.whole main_v28) (Memref.isWhole_whole _) w8 hw8 (Memref.whole main_arg4) (Memref.isWhole_whole _) (Memref.whole main_arg5) (Memref.isWhole_whole _) (Memref.whole main_arg6) (Memref.isWhole_whole _) w12 hw12 (Memref.whole cc0_scratch0) (Memref.isWhole_whole _) (Memref.whole cc0_scratch1) (Memref.isWhole_whole _) (Memref.whole cc0_scratch2) (Memref.isWhole_whole _) cc0_scratch3) Q := by
  have hi := lt192 i
  have hrT : ringAt T (4 * (i 0).val + 4) = T.st (T.R (4 * (i 0).val + 4)) := by unfold ringAt; rw [if_neg (by omega)]
  rw [body_eq]
  iintro ⟨TT, HR, HO, H8, H12, Hz⟩
  unfold TB
  icases TT with ⟨T0, T1, T2, T3, T4, T5, T6⟩
  iapply (wp_ldB c t.nb)
  isplitl [T2]; · iexact T2
  iintro T2
  ihave TT : TB c t $$ [T0 T1 T2 T3 T4 T5 T6]
  · unfold TB
    isplitl [T0]; · iexact T0
    isplitl [T1]; · iexact T1
    isplitl [T2]; · iexact T2
    isplitl [T3]; · iexact T3
    isplitl [T4]; · iexact T4
    isplitl [T5]; · iexact T5
    iexact T6
  rw [show (t.nb p1 : Elt F .i32) = BitVec.ofNat 32 T.n from T.nb]
  by_cases h1 : k0_cond1 i (BitVec.ofNat 32 T.n) = 1#1
  · rw [dif_pos h1, if_pos ((cond1_iff i T.n T.n_le).mp h1), part5_eq, part6_eq, fb1_eq, fb2_eq, fb3_eq, wp_bind]
    iapply (wp_fb0 c w T i h1 _ _ W)
    isplitl [TT]; · iexact TT
    isplitl [HR]; · iexact HR
    isplitl [HO]; · iexact HO
    iintro TT HR ⟨%W1, HO⟩
    iapply (wp_wf1 c w T i h1 _ _ W1)
    isplitl [TT]; · iexact TT
    isplitl [HR]; · iexact HR
    isplitl [HO]; · iexact HO
    iintro TT HR ⟨%W2, HO⟩
    iapply (wp_wf2 c w T i h1 _ _ W2)
    isplitl [TT]; · iexact TT
    isplitl [HR]; · iexact HR
    isplitl [HO]; · iexact HO
    iintro TT HR ⟨%W3, HO⟩
    sl_step
    rw [wp_bind]
    iapply (wp_wf3 c w T i h1 _ _ W3)
    isplitl [TT]; · iexact TT
    isplitl [HR]; · iexact HR
    isplitl [HO]; · iexact HO
    iintro TT HR HO
    rw [← wp_bind, tail_eq]
    iapply (wp_comp4 c w T i h1 w8 w12 hw12 _ _ f8 f12)
    isplitl [TT]; · iexact TT
    isplitl [HR]; · iexact HR
    isplitl [H8]; · iexact H8
    isplitl [H12]; · iexact H12
    iintro TT HR H8 H12
    sl_step
    rw [hrT]
    iapply Hz $$ [TT] [HR] [HO] [H8] [H12]
    · unfold TB; iexact TT
    · iexact HR
    · iexact HO
    · iexact H8
    · iexact H12
  · have hn : ¬ 4 * (i 0).val < T.n := fun h => h1 ((cond1_iff i T.n T.n_le).mpr h)
    have hpos := T.n_pos
    have e1 := T.Rs (4 * (i 0).val) (by omega)
    have e2 := T.Rs (4 * (i 0).val + 1) (by omega)
    have e3 := T.Rs (4 * (i 0).val + 2) (by omega)
    have e4 := T.Rs (4 * (i 0).val + 3) (by omega)
    rw [if_neg (fun h => absurd h.2 (by omega))] at e1 e2 e3 e4
    have hr : ringAt T (4 * (i 0).val) = ringAt T (4 * (i 0).val + 4) := by
      rw [hrT, e4, e3, e2, e1]; unfold ringAt; rw [if_neg (by omega)]
    rw [dif_neg h1, if_neg hn, hr]
    sl_step
    iapply Hz $$ [TT] [HR] [HO] [H8] [H12]
    · unfold TB; iexact TT
    · iexact HR
    · iexists W; iexact HO
    · iexact H8
    · iexact H12

end Cert.Kernel4Ideal.Hand
end
-- ==== Proof.Set4.lean ====
module

public import proofs.«01_k».proof.Proof.Point4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.WordArith

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

variable (m : (ℓ : Loc nD τ sig) → Buf (Elt F) ℓ) (ρ : Dev nD → PrngReg)

/-! ## What the region finds -/

/-- The host operations before the region, in order. -/
abbrev opss : List (List (HloOp τ sig (Elt F))) :=
  [hostOps0, hostOps0_1, hostOps0_2, hostOps0_3, hostOps0_4, hostOps0_5, hostOps0_6, hostOps0_7, hostOps0_8, hostOps0_9, hostOps0_10]

/-- Core `c`'s buffers when the region is entered. -/
def V (c : Dev nD) (b : Ref sig .tc) : Buf (Elt F) ((c : Thread nD τ).loc b) :=
  StableHlo.after (opss (F := F)).flatten (fun b => m (c, b)) b

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub⟩

theorem opss_fresh : (opss (F := F)).Forall fun ops => ops.Forall fun op => op.fresh = ∅ := by
  simp only [List.Forall]; repeat' constructor

set_option maxHeartbeats 800000 in
theorem hmain (𝒱₀ : Variants) : Pipeline.HMainP (Ix := Unit) (Name := ℕ) (U := UD sig nD τ) (Lvl := ℕ) (pcfgs (F := F)) 0 defs₀ 𝒱₀ m (main (F := F)) (V m) :=
  Pipeline.hmainP_prefixes pcfgs 0 defs₀ 𝒱₀ m main opss opss_sub opss_fresh main_chain

/-- The tables as the region finds them. -/
def pf : pre0.Contents (Elt F) := fun k => V m 0 (pre0.ref k)

/-- The same, one by one. -/
def tabs : Tabs := ⟨V m 0 main_arg0, V m 0 main_arg1, V m 0 main_arg2, V m 0 main_v10, V m 0 main_v13, V m 0 main_v14, V m 0 main_v28⟩

/-- The weights as the region finds them. -/
def warr (c : Dev nD) : WArr F c := ⟨V m c main_arg4, V m c main_arg5, V m c main_arg6⟩

/-! ## The index maps -/

/-- The last active tile, as the index maps compute it from the number of used blocks. -/
def lastW (v0 : BitVec 32) : BitVec 32 :=
  Scalar.select
    (Scalar.andi
      (Scalar.cmpi .ne
        (Scalar.subi (Scalar.extui (Scalar.cmpi .sgt (Scalar.subi v0 1#32) 0#32)) (Scalar.extui (Scalar.cmpi .slt (Scalar.subi v0 1#32) 0#32)) : BitVec 32)
        (Scalar.subi (Scalar.extui (Scalar.cmpi .sgt (4#32 : BitVec 32) 0#32)) (Scalar.extui (Scalar.cmpi .slt (4#32 : BitVec 32) 0#32)) : BitVec 32))
      (Scalar.cmpi .ne (Scalar.remsi (Scalar.subi v0 1#32) 4#32) 0#32))
    (Scalar.subi (Scalar.divsi (Scalar.subi v0 1#32) 4#32) 1#32)
    (Scalar.divsi (Scalar.subi v0 1#32) 4#32)

theorem lastW_fin : ∀ n : Fin 768, lastW (BitVec.ofNat 32 (n.val + 1)) = BitVec.ofNat 32 (n.val / 4) := by decide +kernel

theorem lastW_eq (n : Nat) (h1 : 1 ≤ n) (h2 : n ≤ 768) : lastW (BitVec.ofNat 32 n) = BitVec.ofNat 32 ((n - 1) / 4) := by
  have := lastW_fin ⟨n - 1, by omega⟩
  rw [show (⟨n - 1, by omega⟩ : Fin 768).val + 1 = n from by show n - 1 + 1 = n; omega] at this
  exact this

theorem minW (a b : Nat) (ha : a < 2 ^ 31) (hb : b < 2 ^ 31) : (Scalar.minsi (BitVec.ofNat 32 a) (BitVec.ofNat 32 b)).toNat = min a b := by
  have e1 : (BitVec.ofNat 32 a).toNat = a := by rw [BitVec.toNat_ofNat]; exact Nat.mod_eq_of_lt (by omega)
  have e2 : (BitVec.ofNat 32 b).toNat = b := by rw [BitVec.toNat_ofNat]; exact Nat.mod_eq_of_lt (by omega)
  have := WordArith.toNat_minsi_of_lt (BitVec.ofNat 32 a) (BitVec.ofNat 32 b) (by omega) (by omega)
  rw [e1, e2] at this
  exact this

variable (T : Runs (tabs m))

theorem tr0_eq (i : grid0.Coords) : cc0_transform_0 Facts₀.inb_S1_S1_0 Facts₀.numel1_S1 (pf m) i = ![min (i 0).val ((T.n - 1) / 4), 0] := by
  have hn : (pf m).at 2 (Rect.unit (s := S1) ![0] S1.size Facts₀.inb_S1_S1_0) Facts₀.numel1_S1 = BitVec.ofNat 32 T.n := by
    rw [← T.nb]
    show V m 0 main_arg2 _ = V m 0 main_arg2 p1
    congr 1; funext a; fin_cases a; rfl
  have e : cc0_transform_0 Facts₀.inb_S1_S1_0 Facts₀.numel1_S1 (pf m) i
      = ![(Scalar.minsi (BitVec.ofNat 32 (i 0).val) (lastW ((pf m).at 2 (Rect.unit (s := S1) ![0] S1.size Facts₀.inb_S1_S1_0) Facts₀.numel1_S1))).toNat, (0#32 : BitVec 32).toNat] := rfl
  have h192 : (i 0).val < 192 := (i 0).isLt
  have := T.n_le
  rw [e, hn, lastW_eq T.n T.n_pos T.n_le, minW _ _ (by omega) (by omega)]
  rfl

theorem tr4_eq (i : grid0.Coords) : cc0_transform_4 Facts₀.inb_S1_S1_0 Facts₀.numel1_S1 (pf m) i = ![min (i 0).val ((T.n - 1) / 4), 0] :=
  (show cc0_transform_4 Facts₀.inb_S1_S1_0 Facts₀.numel1_S1 (pf m) i = cc0_transform_0 Facts₀.inb_S1_S1_0 Facts₀.numel1_S1 (pf m) i from rfl).trans (tr0_eq m T i)

include T in
theorem ok_pf : ok0 (F := F) (pf m) := by
  have := T.n_le
  refine ⟨fun i => ?_, fun i => ?_⟩
  · have h192 : (i 0).val < 192 := (i 0).isLt
    rw [tr0_eq m T i]
    exact ⟨fun a => by
      fin_cases a
      · show (min (i 0).val ((T.n - 1) / 4) + 1) * 1024 ≤ 196608; omega
      · show (0 + 1) * 512 ≤ 512; omega, .inl rfl⟩
  · have h192 : (i 0).val < 192 := (i 0).isLt
    rw [tr4_eq m T i]
    exact ⟨fun a => by
      fin_cases a
      · show (min (i 0).val ((T.n - 1) / 4) + 1) * 1024 ≤ 196608; omega
      · show (0 + 1) * 1024 ≤ 1024; omega, .inr (.inl (.inr ⟨by decide, rfl, .inl ⟨⟨min (i 0).val ((T.n - 1) / 4) * 512, by
        show min (i 0).val ((T.n - 1) / 4) * 1024 = 2 * _; omega⟩, ⟨512, rfl⟩⟩⟩))⟩

/-- The tables, admissible. -/
def adm : (p : Fin 1) → (pcfgs (F := F) p).Adm := fun _ => ⟨pf m, ok_pf m T⟩

abbrev cfgT : Cfg sig Λ₀ := cfg0 (F := F) (adm m T 0)

/-! ## What the body leaves -/

/-- The last active tile. -/
def lastT : Nat := (T.n - 1) / 4

theorem lastT_lt : lastT m T < grid0.N := by rw [N_0]; unfold lastT; have := T.n_le; omega

/-- The tile at the grid point `t`. -/
def tl (t : Fin grid0.N) : Fin grid0.N := ⟨min t.val (lastT m T), lt_of_le_of_lt (min_le_left _ _) t.isLt⟩

/-- The block of the rows at a point. -/
def xblk (c : Dev nD) (t : Fin grid0.N) : S1024x512.Idx → Elt F .i32 :=
  (((cfgT m T).win 0).blk t).view.read (Elt F) (V m c (Pipeline.arrRef spec0 0))

/-- 256 rows of a block. -/
def rows256 (x : S1024x512.Idx → Elt F .i32) (o : Nat) (inb : ∀ a, (![o, 0] : Fin 2 → Nat) a + S256x512.size a ≤ S1024x512.size a) : Vec F S256x512 .i32 :=
  fun y => x ((Rect.unit (s := S1024x512) ![o, 0] S256x512.size inb).toLoadRect.idx y)

/-- The stores of the active tile `i` from the block `x`. -/
def tileX (c : Dev nD) (i : grid0.Coords) (x : S1024x512.Idx → Elt F .i32) : List (View.Piece (Elt F) S1024x1024 .bf16) :=
  [⟨Rect.unit (s := S1024x1024) ![768, 0] S256x1024.size Facts₀.inb_S1024x1024_S256x1024_768_0,
      k0_pay4 (rows256 x 768 Facts₀.inb_S1024x512_S256x512_768_0)
        ((tabs m).nv (p768 (4 * (i 0).val + 3) (by have := lt192 i; omega))) (vG c (warr m c) (blkE T (4 * (i 0).val + 3))) (vU c (warr m c) (blkE T (4 * (i 0).val + 3))) (vD c (warr m c) (blkE T (4 * (i 0).val + 3)))⟩,
   ⟨Rect.unit (s := S1024x1024) ![512, 0] S256x1024.size Facts₀.inb_S1024x1024_S256x1024_512_0,
      k0_pay4 (rows256 x 512 Facts₀.inb_S1024x512_S256x512_512_0)
        ((tabs m).nv (p768 (4 * (i 0).val + 2) (by have := lt192 i; omega))) (vG c (warr m c) (blkE T (4 * (i 0).val + 2))) (vU c (warr m c) (blkE T (4 * (i 0).val + 2))) (vD c (warr m c) (blkE T (4 * (i 0).val + 2)))⟩,
   ⟨Rect.unit (s := S1024x1024) ![256, 0] S256x1024.size Facts₀.inb_S1024x1024_S256x1024_256_0,
      k0_pay4 (rows256 x 256 Facts₀.inb_S1024x512_S256x512_256_0)
        ((tabs m).nv (p768 (4 * (i 0).val + 1) (by have := lt192 i; omega))) (vG c (warr m c) (blkE T (4 * (i 0).val + 1))) (vU c (warr m c) (blkE T (4 * (i 0).val + 1))) (vD c (warr m c) (blkE T (4 * (i 0).val + 1)))⟩,
   ⟨Rect.unit (s := S1024x1024) ![0, 0] S256x1024.size Facts₀.inb_S1024x1024_S256x1024_0_0,
      k0_pay4 (rows256 x 0 Facts₀.inb_S1024x512_S256x512_0_0)
        ((tabs m).nv (p768 (4 * (i 0).val + 0) (by have := lt192 i; omega))) (vG c (warr m c) (blkE T (4 * (i 0).val + 0))) (vU c (warr m c) (blkE T (4 * (i 0).val + 0))) (vD c (warr m c) (blkE T (4 * (i 0).val + 0)))⟩]

theorem tileP_eq (c : Dev nD) (i : grid0.Coords) (w8 : Memref sig .tc .vmem S1024x512 .i32) (f8 : Buf (Elt F) (w8.view.loc (c : Thread nD τ))) :
    tileP c (warr m c) T i w8 f8 = tileX m T c i (w8.view.read (Elt F) f8) := rfl

theorem tileX_cover (c : Dev nD) (i : grid0.Coords) (x : S1024x512.Idx → Elt F .i32) (y : S1024x1024.Idx) :
    ∃ p ∈ tileX m T c i x, y ∈ p.1.set :=
  View.cover_of_tiled (tileX m T c i x) S256x1024.size (by rfl) y

/-- What the result's buffer holds after the body at the tile `t`. -/
def tileV (c : Dev nD) (t : Fin grid0.N) : S1024x1024.Idx → Elt F .bf16 :=
  View.canon (tileX m T c (grid0.coords t) (xblk m T c t))

end Cert.Kernel4Ideal.Hand

end
-- ==== Proof.Host4.lean ====
module

public import proofs.«01_k».proof.Proof.Set4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Routing.OpsSet
public import Idealize.ShloMosaic.Lib.Routing.OpsPair
public import Idealize.ShloMosaic.Lib.Routing.Words
public import Idealize.ShloMosaic.Lib.StableHlo.Predicate
public import Idealize.ShloMosaic.Lib.Pipeline.TableIdle
public import proofs.«01_k».proof.Proof.Gen.Kernel4Ideal.Launch

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

open Idealize.ShloMosaic.Routing Idealize.ShloMosaic.ValueIdx

/-! ## Runs of equal words, counted -/

section Count
variable (bw : Nat → BitVec 32) (n : Nat)

/-- One where a run begins among the first `n` words. -/
def beg (j : Nat) : Nat := if j < n ∧ (j = 0 ∨ bw j ≠ bw (j - 1)) then 1 else 0

/-- The runs begun among the first `j` words. -/
def cnt (j : Nat) : Nat := ((List.range j).map (beg bw n)).sum

theorem cnt_zero : cnt bw n 0 = 0 := rfl
theorem cnt_succ (j : Nat) : cnt bw n (j + 1) = cnt bw n j + beg bw n j := by
  unfold cnt; rw [List.range_succ, List.map_append, List.sum_append]; simp

theorem beg_le (j : Nat) : beg bw n j ≤ 1 := by unfold beg; split <;> omega

theorem cnt_mono (j d : Nat) : cnt bw n j ≤ cnt bw n (j + d) := by
  induction d with
  | zero => exact le_refl _
  | succ d ih => rw [show j + (d + 1) = j + d + 1 from rfl, cnt_succ]; omega

theorem cnt_le (j : Nat) : cnt bw n j ≤ j := by
  induction j with
  | zero => exact le_refl _
  | succ j ih => have := beg_le bw n j; rw [cnt_succ]; omega

theorem cnt_pos (hn : 1 ≤ n) (j : Nat) : 1 ≤ cnt bw n (j + 1) := by
  have h := cnt_mono bw n 1 j
  have h1 : cnt bw n 1 = 1 := by rw [cnt_succ, cnt_zero]; unfold beg; rw [if_pos ⟨hn, .inl rfl⟩]
  rw [show 1 + j = j + 1 by omega] at h; omega

theorem cnt_inj (i k : Nat) (hi : beg bw n i = 1) (hk : beg bw n k = 1) (h : cnt bw n i = cnt bw n k) : i = k := by
  rcases Nat.lt_trichotomy i k with h' | h' | h'
  · have := cnt_mono bw n (i + 1) (k - (i + 1)); rw [show i + 1 + (k - (i + 1)) = k by omega, cnt_succ] at this; omega
  · exact h'
  · have := cnt_mono bw n (k + 1) (i - (k + 1)); rw [show k + 1 + (i - (k + 1)) = i by omega, cnt_succ] at this; omega

theorem cnt_ex (r j : Nat) (h : r < cnt bw n j) : ∃ i, i < j ∧ beg bw n i = 1 ∧ cnt bw n i = r := by
  induction j with
  | zero => rw [cnt_zero] at h; omega
  | succ j ih =>
    by_cases hr : r < cnt bw n j
    · obtain ⟨i, h1, h2⟩ := ih hr; exact ⟨i, by omega, h2⟩
    · rw [cnt_succ] at h; have := beg_le bw n j
      exact ⟨j, by omega, by omega, by omega⟩

/-- A used word is the word its run began with. -/
theorem run_word (j : Nat) (hj : j < n) : ∃ i, i ≤ j ∧ beg bw n i = 1 ∧ cnt bw n i = cnt bw n (j + 1) - 1 ∧ bw i = bw j := by
  induction j with
  | zero => exact ⟨0, le_refl _, by unfold beg; rw [if_pos ⟨hj, .inl rfl⟩], by rw [cnt_succ, cnt_zero]; unfold beg; rw [if_pos ⟨hj, .inl rfl⟩], rfl⟩
  | succ j ih =>
    by_cases hb : bw (j + 1) = bw j
    · obtain ⟨i, h1, h2, h3, h4⟩ := ih (by omega)
      have h0 : beg bw n (j + 1) = 0 := by
        unfold beg; rw [if_neg]; rintro ⟨-, h | h⟩
        · omega
        · exact h hb
      exact ⟨i, by omega, h2, by rw [cnt_succ bw n (j + 1), h0]; exact h3, h4.trans hb.symm⟩
    · have h1 : beg bw n (j + 1) = 1 := by unfold beg; rw [if_pos ⟨hj, .inr hb⟩]
      exact ⟨j + 1, le_refl _, h1, by rw [cnt_succ bw n (j + 1), h1]; omega, rfl⟩

end Count

/-! ## The tables as the host computes them -/

/-- Block `j`'s flag: it is used and its expert isn't the one before. -/
def fiT (be : IVec S768 32) (nb : IVec S1 32) : IVec S768 32 :=
  extui 32 (andi (cmpi .slt (iotaInDim S768 32 0) (broadcastInDim S768 ![] Facts₀.bcast_S_S768 (shapeCast S_ nb shapeCasts_S1_S_)))
    (ori (cmpi .eq (iotaInDim S768 32 0) (broadcastInDim S768 ![] Facts₀.bcast_S_S768 (constantI S_ 32 0#32)))
      (cmpi .ne be (concatenate S768 0 [⟨S1, extractStridedSlice S1 ![767] be Facts₀.slices_S768_S1_767⟩, ⟨S767, extractStridedSlice S767 ![0] be Facts₀.slices_S768_S767_0⟩] Facts₀.concatenates_S1_S767_S768_d0))))
    Facts₀.natLt_1_32

/-- Which run block `j` lies in, from the flags. -/
def ruT (fi : IVec S768 32) : IVec S768 32 :=
  subi (Host.reduceWindow IntOp.addi ![768] ![1] ![767] ![0] fi (broadcastInDim S_ ![] Facts₀.bcast_S_S_ (constantI S_ 32 0#32)) Facts₀.reduceWindows_S768_S768_w768s1p767_0 Facts₀.h_S_)
    (broadcastInDim S768 ![] Facts₀.bcast_S_S768 (constantI S_ 32 1#32))

/-- Which slot that run's weights are fetched into. -/
def slT (ru : IVec S768 32) : IVec S768 32 := pyRem Facts₀.bcast_S_S768 ru (constantI S_ 32 9#32)

/-- Where block `j`'s expert is written: at its run if it begins one, else at 768. -/
def atT (fi ru : IVec S768 32) : IVec S768 32 :=
  select (cmpi .eq fi (broadcastInDim S768 ![] Facts₀.bcast_S_S768 (constantI S_ 32 1#32))) ru (broadcastInDim S768 ![] Facts₀.bcast_S_S768 (constantI S_ 32 768#32))

/-- The same with a negative index counted from the end. -/
def wrT (a : IVec S768 32) : IVec S768 32 :=
  select (cmpi .slt a (broadcastInDim S768 ![] Facts₀.bcast_S_S768 (constantI S_ 32 0#32))) (addi a (broadcastInDim S768 ![] Facts₀.bcast_S_S768 (constantI S_ 32 777#32))) a

/-- What block `j` writes there. -/
def upT (be fi : IVec S768 32) : IVec S768 32 :=
  select (cmpi .eq fi (broadcastInDim S768 ![] Facts₀.bcast_S_S768 (constantI S_ 32 1#32))) be (broadcastInDim S768 ![] Facts₀.bcast_S_S768 (constantI S_ 32 4294967295#32))

/-- Each run's expert. -/
def rxT (be fi ru : IVec S768 32) : IVec S777 32 :=
  Host.scatter scatter_S777_S768x1_S768_n_0_0_1 (fun _ b => b) (broadcastInDim S777 ![] Facts₀.bcast_S_S777 (constantI S_ 32 4294967295#32))
    (broadcastInDim S768x1 ![0] Facts₀.bcast_S768_S768x1_0 (wrT (atT fi ru))) (upT be fi)

variable (m : (ℓ : Loc nD τ sig) → Buf (Elt F) ℓ)

theorem V_v10 : V m 0 main_v10 = fiT (m (((0 : Dev nD) : Thread nD τ).loc main_arg0)) (m (((0 : Dev nD) : Thread nD τ).loc main_arg2)) := by
  show StableHlo.after (opss (F := F)).flatten _ _ = _
  simp only [opss, List.flatten_cons, List.flatten_nil, List.append_nil, List.cons_append, List.nil_append]
  after_results
  rfl

theorem V_v13 : V m 0 main_v13 = ruT (fiT (m (((0 : Dev nD) : Thread nD τ).loc main_arg0)) (m (((0 : Dev nD) : Thread nD τ).loc main_arg2))) := by
  show StableHlo.after (opss (F := F)).flatten _ _ = _
  simp only [opss, List.flatten_cons, List.flatten_nil, List.append_nil, List.cons_append, List.nil_append]
  after_results
  simp -implicitDefEqProofs only [StableHlo.TRef.toBuf, StableHlo.TRef.ofBuf, cast_cast, cast_eq, id]
  rfl

theorem V_v14 : V m 0 main_v14 = slT (ruT (fiT (m (((0 : Dev nD) : Thread nD τ).loc main_arg0)) (m (((0 : Dev nD) : Thread nD τ).loc main_arg2)))) := by
  show StableHlo.after (opss (F := F)).flatten _ _ = _
  simp only [opss, List.flatten_cons, List.flatten_nil, List.append_nil, List.cons_append, List.nil_append]
  after_results
  simp -implicitDefEqProofs only [StableHlo.TRef.toBuf, StableHlo.TRef.ofBuf, cast_cast, cast_eq, id]
  rfl

theorem V_v28 : V m 0 main_v28 = rxT (m (((0 : Dev nD) : Thread nD τ).loc main_arg0)) (fiT (m (((0 : Dev nD) : Thread nD τ).loc main_arg0)) (m (((0 : Dev nD) : Thread nD τ).loc main_arg2))) (ruT (fiT (m (((0 : Dev nD) : Thread nD τ).loc main_arg0)) (m (((0 : Dev nD) : Thread nD τ).loc main_arg2)))) := by
  show StableHlo.after (opss (F := F)).flatten _ _ = _
  simp only [opss, List.flatten_cons, List.flatten_nil, List.append_nil, List.cons_append, List.nil_append]
  after_results
  simp -implicitDefEqProofs only [StableHlo.TRef.toBuf, StableHlo.TRef.ofBuf, cast_cast, cast_eq, id]
  rfl

theorem V_a0 : V m 0 main_arg0 = m (((0 : Dev nD) : Thread nD τ).loc main_arg0) := by
  show StableHlo.after (opss (F := F)).flatten _ _ = _
  simp only [opss, List.flatten_cons, List.flatten_nil, List.append_nil, List.cons_append, List.nil_append]
  after_results

theorem V_a1 : V m 0 main_arg1 = m (((0 : Dev nD) : Thread nD τ).loc main_arg1) := by
  show StableHlo.after (opss (F := F)).flatten _ _ = _
  simp only [opss, List.flatten_cons, List.flatten_nil, List.append_nil, List.cons_append, List.nil_append]
  after_results

theorem V_a2 : V m 0 main_arg2 = m (((0 : Dev nD) : Thread nD τ).loc main_arg2) := by
  show StableHlo.after (opss (F := F)).flatten _ _ = _
  simp only [opss, List.flatten_cons, List.flatten_nil, List.append_nil, List.cons_append, List.nil_append]
  after_results

end Cert.Kernel4Ideal.Hand

end
-- ==== Proof.Words4.lean ====
module

public import proofs.«01_k».proof.Proof.Host4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Routing.OpsSet
public import Idealize.ShloMosaic.Lib.Routing.OpsPair
public import Idealize.ShloMosaic.Lib.Routing.Words
public import Idealize.ShloMosaic.Lib.StableHlo.Predicate
public import Idealize.ShloMosaic.Lib.Pipeline.TableIdle
public import proofs.«01_k».proof.Proof.Gen.Kernel4Ideal.Launch

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

open Idealize.ShloMosaic.Routing Idealize.ShloMosaic.ValueIdx

theorem ix768 (j : Nat) (h : j < 768) : p768 j h = ix1 ⟨j, h⟩ := by funext a; fin_cases a; rfl
theorem ix777 (j : Nat) (h : j < 777) : p777 j h = ix1 ⟨j, h⟩ := by funext a; fin_cases a; rfl

/-- Word `j` of the blocks' experts. -/
def bwT (be : IVec S768 32) (j : Nat) : BitVec 32 := if h : j < 768 then be (p768 j h) else 0#32

theorem bwT_of (be : IVec S768 32) (j : Nat) (h : j < 768) : bwT be j = be (p768 j h) := dif_pos h

theorem one_slt (a b : BitVec 32) : IntOp.cmpi .slt a b = if a.slt b then 1#1 else 0#1 := by
  unfold IntOp.cmpi; cases a.slt b <;> rfl
theorem one_eq (a b : BitVec 32) : IntOp.cmpi .eq a b = if a = b then 1#1 else 0#1 := by
  unfold IntOp.cmpi; by_cases h : a = b
  · subst h; rw [if_pos rfl]; simp
  · rw [if_neg h, show (a == b) = false from beq_eq_false_iff_ne.mpr h]; rfl
theorem one_ne (a b : BitVec 32) : IntOp.cmpi .ne a b = if a ≠ b then 1#1 else 0#1 := by
  unfold IntOp.cmpi; by_cases h : a = b
  · subst h; rw [if_neg (fun q => q rfl)]; simp
  · rw [if_pos h, show (a != b) = true from bne_iff_ne.mpr h]; rfl

theorem ofNat_slt (a b : Nat) (ha : a < 2 ^ 31) (hb : b < 2 ^ 31) : (BitVec.ofNat 32 a).slt (BitVec.ofNat 32 b) = decide (a < b) := by
  rw [BitVec.slt_eq_decide, BitVec.toInt_ofNat', BitVec.toInt_ofNat', Int.bmod_eq_of_le (by omega) (by omega), Int.bmod_eq_of_le (by omega) (by omega)]
  simp

theorem rolled (be : IVec S768 32) (j : Nat) (h : j < 768) (h0 : j ≠ 0) :
    concatenate S768 0 [⟨S1, extractStridedSlice S1 ![767] be Facts₀.slices_S768_S1_767⟩, ⟨S767, extractStridedSlice S767 ![0] be Facts₀.slices_S768_S767_0⟩] Facts₀.concatenates_S1_S767_S768_d0 (p768 j h) = bwT be (j - 1) := by
  rw [bwT_of be (j - 1) (by omega)]
  refine (concatenate_pair_apply_right (t := S768) (s₁ := S1) (s₂ := S767) 0 _ _ Facts₀.concatenates_S1_S767_S768_d0 (p768 j h) rfl rfl (fun _ => ⟨j - 1, ?_⟩) ?_ ?_).trans (congrArg be ?_)
  · rename_i a; fin_cases a; show j - 1 < 767; omega
  · intro b hb; fin_cases b; exact (hb rfl).elim
  · show j - 1 + 1 = j; omega
  · funext a; fin_cases a; apply Fin.ext; show 0 + (j - 1) = j - 1; omega

theorem fi_word (be : IVec S768 32) (nb : IVec S1 32) (n : Nat) (hn : n ≤ 768) (hnb : nb p1 = BitVec.ofNat 32 n) (j : Nat) (h : j < 768) :
    fiT be nb (p768 j h) = BitVec.ofNat 32 (beg (bwT be) n j) := by
  have hc : shapeCast S_ nb Facts₀.shapeCasts_S1_S_ ValueIdx.ix0 = BitVec.ofNat 32 n := (congrArg nb (by funext a; fin_cases a; exact Subsingleton.elim (α := Fin 1) _ _)).trans hnb
  show (IntOp.andi (IntOp.cmpi .slt (BitVec.ofNat 32 j) (broadcastInDim S768 ![] Facts₀.bcast_S_S768 (shapeCast S_ nb Facts₀.shapeCasts_S1_S_) (p768 j h)))
    (IntOp.ori (IntOp.cmpi .eq (BitVec.ofNat 32 j) 0#32) (IntOp.cmpi .ne (be (p768 j h)) (concatenate S768 0 [⟨S1, extractStridedSlice S1 ![767] be Facts₀.slices_S768_S1_767⟩, ⟨S767, extractStridedSlice S767 ![0] be Facts₀.slices_S768_S767_0⟩] Facts₀.concatenates_S1_S767_S768_d0 (p768 j h))))).setWidth 32 = _
  rw [bc0, hc, one_slt, one_eq, one_ne, ofNat_slt _ _ (by omega) (by omega)]
  unfold beg
  by_cases h0 : j = 0
  · subst h0
    by_cases hn0 : 0 < n <;> simp [hn0, IntOp.andi, IntOp.ori] <;> split <;> rfl
  · rw [rolled be j h h0, ← bwT_of be j h]
    have hz : ¬ BitVec.ofNat 32 j = 0#32 := by
      intro e; have := congrArg BitVec.toNat e; rw [BitVec.toNat_ofNat] at this; simp at this; omega
    by_cases hj : j < n <;> by_cases hb : bwT be j = bwT be (j - 1) <;> simp [hj, hb, h0, hz, IntOp.andi, IntOp.ori]

theorem ru_word (fi : IVec S768 32) (f : Nat → Nat) (hf : ∀ j h, fi (p768 j h) = BitVec.ofNat 32 (f j)) (j : Nat) (h : j < 768)
    (h1 : 1 ≤ ((List.range (j + 1)).map f).sum) : ruT fi (p768 j h) = BitVec.ofNat 32 (((List.range (j + 1)).map f).sum - 1) := by
  have e := cumsum1 (N := 768) (Nm1 := 767) rfl fi f (fun i => (congrArg fi (ix768 i.val i.isLt).symm).trans (hf i.val i.isLt)) (broadcastInDim S_ ![] Facts₀.bcast_S_S_ (constantI S_ 32 0#32))
    (bc0 _ _ _) Facts₀.reduceWindows_S768_S768_w768s1p767_0 Facts₀.h_S_ ⟨j, h⟩
  rw [← ix768 j h] at e
  refine (congrArg (fun z => z - 1#32) e).trans ?_
  obtain ⟨k, hk⟩ : ∃ k, ((List.range (j + 1)).map f).sum = k + 1 := ⟨_, (Nat.sub_add_cancel h1).symm⟩
  show BitVec.ofNat 32 ((List.range (j + 1)).map f).sum - 1#32 = _
  rw [hk, Nat.add_sub_cancel]
  have : BitVec.ofNat 32 (k + 1) = BitVec.ofNat 32 k + 1#32 := by rw [BitVec.ofNat_add]
  rw [this, BitVec.add_sub_cancel]

theorem sl_word (ru : IVec S768 32) (i : S768.Idx) (a : Nat) (ha : a < 2 ^ 31) (h : ru i = BitVec.ofNat 32 a) : slT ru i = BitVec.ofNat 32 (a % 9) :=
  pyRem_ap _ ru _ i h rfl ha (by omega) (by omega)

/-- Block `k`'s write lands at its index. -/
theorem lands (a : IVec S768 32) (g : Nat) (k : Nat) (hk : k < 768) (hg : g < 2 ^ 31) (ha : a (p768 k hk) = BitVec.ofNat 32 g) (r : Nat) (hr : r < 777) :
    (scatter_S777_S768x1_S768_n_0_0_1).resultIdx? (p768 k hk) (broadcastInDim S768x1 ![0] Facts₀.bcast_S768_S768x1_0 a) = some (p777 r hr) ↔ g = r := by
  rw [ix777 r hr]
  refine (resultIdx?_ix1 (N := 777) scatter_S777_S768x1_S768_n_0_0_1 (p768 k hk) _ ⟨r, hr⟩).trans ?_
  have h1 : (scatter_S777_S768x1_S768_n_0_0_1).window (p768 k hk) 0 = 0 := by
    unfold ScatterDims.window; rw [dif_neg (by decide)]
  have h2 : (scatter_S777_S768x1_S768_n_0_0_1).start (p768 k hk) (broadcastInDim S768x1 ![0] Facts₀.bcast_S768_S768x1_0 a) 0 = (g : Int) := by
    unfold ScatterDims.start; rw [dif_pos (by decide)]
    have hx : broadcastInDim S768x1 ![0] Facts₀.bcast_S768_S768x1_0 a
        ((scatter_S777_S768x1_S768_n_0_0_1).siIdx (p768 k hk) ⟨List.idxOf 0 (scatter_S777_S768x1_S768_n_0_0_1).scatterDimsToOperandDims, by decide⟩) = a (p768 k hk) := by
      unfold broadcastInDim
      refine congrArg a ?_
      funext b; fin_cases b; rfl
    refine (congrArg BitVec.toInt (hx.trans ha)).trans ?_
    rw [BitVec.toInt_ofNat', Int.bmod_eq_of_le (by omega) (by omega)]
  rw [h1, h2]
  constructor <;> intro e <;> push_cast at * <;> omega

section Runs
variable (be : IVec S768 32) (n : Nat)

/-- The flags a count gives. -/
abbrev wr (k : Nat) : Nat := if beg (bwT be) n k = 1 then cnt (bwT be) n (k + 1) - 1 else 768

variable (fi : IVec S768 32) (hfi : ∀ j h, fi (p768 j h) = BitVec.ofNat 32 (beg (bwT be) n j))
variable (ru : IVec S768 32) (hru : ∀ j h, ru (p768 j h) = BitVec.ofNat 32 (cnt (bwT be) n (j + 1) - 1))

include hfi in
theorem flag_iff (j : Nat) (h : j < 768) : (fi (p768 j h) = 1#32) ↔ beg (bwT be) n j = 1 := by
  rw [hfi j h]; have := beg_le (bwT be) n j
  rcases (show beg (bwT be) n j = 0 ∨ beg (bwT be) n j = 1 by omega) with e | e <;> rw [e] <;> decide

include hfi in
theorem up_word (j : Nat) (h : j < 768) : upT be fi (p768 j h) = if beg (bwT be) n j = 1 then be (p768 j h) else 4294967295#32 := by
  show Scalar.select (IntOp.cmpi .eq (fi (p768 j h)) 1#32) (be (p768 j h)) 4294967295#32 = _
  rw [one_eq]
  by_cases e : beg (bwT be) n j = 1
  · rw [if_pos ((flag_iff be n fi hfi j h).2 e), if_pos e]; rfl
  · rw [if_neg (fun q => e ((flag_iff be n fi hfi j h).1 q)), if_neg e]; rfl

include hfi hru in
theorem wr_word (j : Nat) (h : j < 768) : wrT (atT fi ru) (p768 j h) = BitVec.ofNat 32 (wr be n j) := by
  have ha : atT fi ru (p768 j h) = BitVec.ofNat 32 (wr be n j) := by
    show Scalar.select (IntOp.cmpi .eq (fi (p768 j h)) 1#32) (ru (p768 j h)) 768#32 = _
    rw [one_eq]; unfold wr
    by_cases e : beg (bwT be) n j = 1
    · rw [if_pos ((flag_iff be n fi hfi j h).2 e), if_pos e]; exact hru j h
    · rw [if_neg (fun q => e ((flag_iff be n fi hfi j h).1 q)), if_neg e]; rfl
  have hw : wr be n j ≤ 768 := by have := cnt_le (bwT be) n (j + 1); unfold wr; split <;> omega
  show Scalar.select (IntOp.cmpi .slt (atT fi ru (p768 j h)) 0#32) (atT fi ru (p768 j h) + 777#32) (atT fi ru (p768 j h)) = _
  rw [ha, one_slt, show (0#32 : BitVec 32) = BitVec.ofNat 32 0 from rfl, ofNat_slt _ _ (by omega) (by omega)]
  simp only [Nat.not_lt_zero, decide_false]; rfl

theorem of768 (k : S768.Idx) : ∃ j h, k = p768 j h := ⟨(k 0).val, (k 0).isLt, by funext a; fin_cases a; rfl⟩

include hfi hru in
theorem lands_iff (k : Nat) (hk : k < 768) (r : Nat) (hr : r < 777) :
    (scatter_S777_S768x1_S768_n_0_0_1).resultIdx? (p768 k hk) (broadcastInDim S768x1 ![0] Facts₀.bcast_S768_S768x1_0 (wrT (atT fi ru))) = some (p777 r hr) ↔ wr be n k = r := by
  have hw : wr be n k ≤ 768 := by have := cnt_le (bwT be) n (k + 1); unfold wr; split <;> omega
  exact lands _ _ k hk (by omega) (wr_word be n fi hfi ru hru k hk) r hr

include hfi hru in
/-- A run's expert is the word it begins with. -/
theorem rx_first (k : Nat) (hk : k < 768) (hb : beg (bwT be) n k = 1) (hr : cnt (bwT be) n (k + 1) - 1 < 777) :
    rxT be fi ru (p777 (cnt (bwT be) n (k + 1) - 1) hr) = be (p768 k hk) := by
  have hwk : wr be n k = cnt (bwT be) n (k + 1) - 1 := if_pos hb
  refine scatter_set_hit _ _ _ _ _ _ (fun q hq => ?_) (p768 k hk) ((lands_iff be n fi hfi ru hru k hk _ hr).2 hwk)
  obtain ⟨j, hj, rfl⟩ := of768 q
  have e := (lands_iff be n fi hfi ru hru j hj _ hr).1 hq
  have hl := cnt_le (bwT be) n (k + 1)
  have hbj : beg (bwT be) n j = 1 := by
    by_contra hne; unfold wr at e; rw [if_neg hne] at e; omega
  have ej : j = k := by
    refine cnt_inj (bwT be) n j k hbj hb ?_
    unfold wr at e; rw [if_pos hbj, cnt_succ, cnt_succ, hbj, hb] at e; omega
  subst ej
  rw [up_word be n fi hfi, if_pos hb]

include hfi hru in
theorem rx_none (r : Nat) (hr : r < 777) (h : cnt (bwT be) n 768 ≤ r) : rxT be fi ru (p777 r hr) = 4294967295#32 := by
  have hno : ∀ j, j < 768 → wr be n j = r → beg (bwT be) n j ≠ 1 := by
    intro j hj e hb
    unfold wr at e; rw [if_pos hb] at e
    have h1 := cnt_mono (bwT be) n (j + 1) (768 - (j + 1)); rw [show j + 1 + (768 - (j + 1)) = 768 by omega] at h1
    have h2 := cnt_succ (bwT be) n j
    omega
  by_cases hx : ∃ q, (scatter_S777_S768x1_S768_n_0_0_1).resultIdx? q (broadcastInDim S768x1 ![0] Facts₀.bcast_S768_S768x1_0 (wrT (atT fi ru))) = some (p777 r hr)
  · obtain ⟨q, hq⟩ := hx
    refine scatter_set_hit _ _ _ _ _ _ (fun q hq => ?_) q hq
    obtain ⟨j, hj, rfl⟩ := of768 q
    rw [up_word be n fi hfi, if_neg (hno j hj ((lands_iff be n fi hfi ru hru j hj _ hr).1 hq))]
  · exact (scatter_set_miss _ _ _ _ _ (fun q hq => hx ⟨q, hq⟩)).trans rfl

/-- The expert of run `r`. -/
def exT (rx : IVec S777 32) (r : Nat) : Fin 256 := ⟨(if h : r < 777 then (rx (p777 r h)).toNat else 0) % 256, Nat.mod_lt _ (by decide)⟩

theorem exT_word (rx : IVec S777 32) (r : Nat) (h : r < 777) (hb : (rx (p777 r h)).toNat < 256) : rx (p777 r h) = BitVec.ofNat 32 (exT rx r).val := by
  apply BitVec.eq_of_toNat_eq
  show _ = (BitVec.ofNat 32 ((if h : r < 777 then (rx (p777 r h)).toNat else 0) % 256)).toNat
  rw [dif_pos h, BitVec.toNat_ofNat, Nat.mod_eq_of_lt hb, Nat.mod_eq_of_lt (by omega)]

end Runs

/-- The runs any tables with these words describe. -/
def runsA (t : Tabs) (n : Nat) (h1 : 1 ≤ n) (h2 : n ≤ 768) (hnb : t.nb p1 = BitVec.ofNat 32 n) (hbe : ∀ j h, (t.be (p768 j h)).toNat < 256)
    (hfi : ∀ j h, t.fi (p768 j h) = BitVec.ofNat 32 (beg (bwT t.be) n j)) (hru : ∀ j h, t.ru (p768 j h) = BitVec.ofNat 32 (cnt (bwT t.be) n (j + 1) - 1))
    (hsl : ∀ j h, t.sl (p768 j h) = BitVec.ofNat 32 ((cnt (bwT t.be) n (j + 1) - 1) % 9))
    (hrf : ∀ k hk, beg (bwT t.be) n k = 1 → ∀ hr : cnt (bwT t.be) n (k + 1) - 1 < 777, t.rx (p777 (cnt (bwT t.be) n (k + 1) - 1) hr) = t.be (p768 k hk))
    (hrn : ∀ r hr, cnt (bwT t.be) n 768 ≤ r → t.rx (p777 r hr) = 4294967295#32) : Runs t where
  n := n
  NR := cnt (bwT t.be) n 768
  R := cnt (bwT t.be) n
  ex := exT t.rx
  n_pos := h1
  n_le := h2
  nb := hnb
  R0 := rfl
  Rs := fun j h => by
    have hf := flag_iff t.be n t.fi hfi j h
    have hb := beg_le (bwT t.be) n j
    rw [cnt_succ]
    by_cases e : beg (bwT t.be) n j = 1
    · rw [if_pos ⟨hf.2 e, by unfold beg at e; by_contra hn; rw [if_neg (fun q => hn q.1)] at e; omega⟩, e]
    · rw [if_neg (fun q => e (hf.1 q.1))]; omega
  fi0 := fun h => (flag_iff t.be n t.fi hfi 0 h).2 (by unfold beg; rw [if_pos ⟨h1, .inl rfl⟩])
  NR_eq := rfl
  ru := hru
  sl := hsl
  rx1 := fun r h hr => by
    obtain ⟨i, hi, hb, hc⟩ := cnt_ex _ _ r 768 hr
    have hrr : cnt (bwT t.be) n (i + 1) - 1 = r := by rw [cnt_succ, hb, hc]; omega
    subst hrr
    have e := hrf i hi hb h
    exact exT_word _ _ h (by rw [e]; exact hbe i hi)
  rx0 := hrn
  be := fun j h hj => by
    obtain ⟨i, hi, hb, hc, hw⟩ := run_word (bwT t.be) n j hj
    have hrr : cnt (bwT t.be) n (j + 1) - 1 = cnt (bwT t.be) n (i + 1) - 1 := by rw [cnt_succ _ _ i, hb, hc]; omega
    have hlt : cnt (bwT t.be) n (i + 1) - 1 < 777 := by have := cnt_le (bwT t.be) n (i + 1); omega
    have e := hrf i (by omega) hb hlt
    have ew : t.be (p768 i (by omega)) = t.be (p768 j h) := by rw [← bwT_of t.be i (by omega), ← bwT_of t.be j h]; exact hw
    rw [hrr, ← exT_word _ _ hlt (by rw [e]; exact hbe i (by omega)), e, ew]

theorem fiT_word (be : IVec S768 32) (nb : IVec S1 32) (h2 : (nb p1).toNat ≤ 768) (j : Nat) (h : j < 768) :
    fiT be nb (p768 j h) = BitVec.ofNat 32 (beg (bwT be) (nb p1).toNat j) :=
  fi_word be nb (nb p1).toNat h2 (by rw [BitVec.ofNat_toNat, BitVec.setWidth_eq]) j h

/-- The runs of the tables whose flags are `fi`. -/
def runsB (be nv : IVec S768 32) (nb : IVec S1 32) (fi ru : IVec S768 32) (hru : ruT fi = ru) (rx : IVec S777 32) (hrx : rxT be fi ru = rx) (n : Nat) (h1 : 1 ≤ n) (h2 : n ≤ 768) (hnb : nb p1 = BitVec.ofNat 32 n)
    (hbe : ∀ j h, (be (p768 j h)).toNat < 256) (hfi : ∀ j h, fi (p768 j h) = BitVec.ofNat 32 (beg (bwT be) n j)) :
    Runs (⟨be, nv, nb, fi, ru, slT ru, rx⟩ : Tabs) :=
  have hru' : ∀ j h, ru (p768 j h) = BitVec.ofNat 32 (cnt (bwT be) n (j + 1) - 1) := fun j h => hru ▸ ru_word fi _ hfi j h (cnt_pos _ _ h1 j)
  have hlt : ∀ j, j < 768 → cnt (bwT be) n (j + 1) - 1 < 2 ^ 31 := fun j h => by have := cnt_le (bwT be) n (j + 1); omega
  have hsl : ∀ j h, slT ru (p768 j h) = BitVec.ofNat 32 ((cnt (bwT be) n (j + 1) - 1) % 9) := fun j h => sl_word ru (p768 j h) _ (hlt j h) (hru' j h)
  have hrf : ∀ k hk, beg (bwT be) n k = 1 → ∀ hr : cnt (bwT be) n (k + 1) - 1 < 777, rx (p777 (cnt (bwT be) n (k + 1) - 1) hr) = be (p768 k hk) := fun k hk hb hr => by
    rw [← hrx]; exact rx_first be n fi hfi ru hru' k hk hb hr
  have hrn : ∀ r hr, cnt (bwT be) n 768 ≤ r → rx (p777 r hr) = 4294967295#32 := fun r hr h => by
    rw [← hrx]; exact rx_none be n fi hfi ru hru' r hr h
  runsA _ n h1 h2 hnb hbe hfi hru' hsl hrf hrn

/-- The runs of the tables a launch computes from its arguments. -/
def runsT (be nv : IVec S768 32) (nb : IVec S1 32) (hbe : ∀ j h, (be (p768 j h)).toNat < 256) (h1 : 1 ≤ (nb p1).toNat) (h2 : (nb p1).toNat ≤ 768) :
    Runs (⟨be, nv, nb, fiT be nb, ruT (fiT be nb), slT (ruT (fiT be nb)), rxT be (fiT be nb) (ruT (fiT be nb))⟩ : Tabs) :=
  runsB be nv nb (fiT be nb) _ rfl _ rfl (nb p1).toNat h1 h2 (by rw [BitVec.ofNat_toNat, BitVec.setWidth_eq]) hbe (fiT_word be nb h2)

variable (m : (ℓ : Loc nD τ sig) → Buf (Elt F) ℓ)

theorem tabs_eq : tabs m = ⟨m (((0 : Dev nD) : Thread nD τ).loc main_arg0), m (((0 : Dev nD) : Thread nD τ).loc main_arg1), m (((0 : Dev nD) : Thread nD τ).loc main_arg2),
    fiT (m (((0 : Dev nD) : Thread nD τ).loc main_arg0)) (m (((0 : Dev nD) : Thread nD τ).loc main_arg2)),
    ruT (fiT (m (((0 : Dev nD) : Thread nD τ).loc main_arg0)) (m (((0 : Dev nD) : Thread nD τ).loc main_arg2))),
    slT (ruT (fiT (m (((0 : Dev nD) : Thread nD τ).loc main_arg0)) (m (((0 : Dev nD) : Thread nD τ).loc main_arg2)))),
    rxT (m (((0 : Dev nD) : Thread nD τ).loc main_arg0)) (fiT (m (((0 : Dev nD) : Thread nD τ).loc main_arg0)) (m (((0 : Dev nD) : Thread nD τ).loc main_arg2)))
      (ruT (fiT (m (((0 : Dev nD) : Thread nD τ).loc main_arg0)) (m (((0 : Dev nD) : Thread nD τ).loc main_arg2))))⟩ := by
  unfold tabs
  rw [V_a0, V_a1, V_a2, V_v10, V_v13, V_v14, V_v28]

/-- The runs of the tables a launch starts from. -/
def runsOf (hbe : ∀ j h, ((m (((0 : Dev nD) : Thread nD τ).loc main_arg0) : IVec S768 32) (p768 j h)).toNat < 256)
    (h1 : 1 ≤ ((m (((0 : Dev nD) : Thread nD τ).loc main_arg2) : IVec S1 32) p1).toNat) (h2 : ((m (((0 : Dev nD) : Thread nD τ).loc main_arg2) : IVec S1 32) p1).toNat ≤ 768) :
    Runs (tabs m) :=
  cast (congrArg Runs (tabs_eq m).symm) (runsT _ _ _ hbe h1 h2)

end Cert.Kernel4Ideal.Hand

end
-- ==== Proof.Frame4.lean ====
module

public import proofs.«01_k».proof.Proof.Set4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle
public import proofs.«01_k».proof.Proof.Gen.Kernel4Ideal.Launch

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

variable (m : (ℓ : Loc nD τ sig) → Buf (Elt F) ℓ) (ρ : Dev nD → PrngReg)
variable (T : Runs (tabs m))

theorem coord0 : ∀ t : Fin grid0.N, (grid0.coords t 0).val = t.val := by decide +kernel

/-! ## The proof data -/

/-- What remains of the weights' shares beside the nine slots' tokens. -/
def remW (c : Dev nD) : sProp (MM F) :=
  iprop(((Memref.whole main_arg4).view.loc (c : Thread nD τ) ↦{Transfers.shareDrop fullShare 9} (warr m c).g)
    ∗ ((Memref.whole main_arg5).view.loc (c : Thread nD τ) ↦{Transfers.shareDrop fullShare 9} (warr m c).u)
    ∗ ((Memref.whole main_arg6).view.loc (c : Thread nD τ) ↦{Transfers.shareDrop fullShare 9} (warr m c).d))

/-- What is held between the grid points. -/
def inv (c : Dev nD) (n : Nat) : sProp (MM F) :=
  iprop(TB c (tabs m) ∗ Ring.AtW (σ := fun _ => St) (Φ c (warr m c)) (ringAt T n) ∗ remW m c ∗ (∃ r, prngReg c r))

/-- The proof data: the input's block stays, the result's buffer holds the last computed tile. -/
def dats (_ : Fin 1) (c : Dev nD) : Dat τ (Elt F) Unit ℕ (UD sig nD τ) ℕ (cfgT m T) c where
  A w := V m c (Pipeline.arrRef spec0 w)
  after w t := match w with
    | ⟨0, _⟩ => xblk m T c t
    | ⟨1, _⟩ => tileV m T c (tl m T t)
  Φ t := inv m T c (4 * t.val)
  q _ := fullShare
  owed _ := 0

theorem A_eq (c : Dev nD) (w : Fin (cfgT m T).W) : (dats m T 0 c).A w = V m c (Pipeline.arrRef spec0 w) := by dsimp only [dats]
theorem after_0 (c : Dev nD) (t : Fin (cfgT m T).N) : (dats m T 0 c).after 0 t = xblk m T c t := by dsimp only [dats]; rfl
theorem after_1 (c : Dev nD) (t : Fin (cfgT m T).N) : (dats m T 0 c).after 1 t = tileV m T c (tl m T t) := by dsimp only [dats]; rfl

theorem before_0 (c : Dev nD) (t : Fin (cfgT m T).N) (d) : (dats m T 0 c).before 0 t d = xblk m T c t :=
  ((dats m T 0 c).before_in_eq_fetched 0 rfl (fun _ => rfl) (fun _ _ _ => rfl) (fun t => by rw [after_0]; unfold Dat.blockOf xblk; rw [A_eq]; try rfl) t d).trans
    (by unfold Dat.fetched Dat.blockOf xblk; rw [A_eq]; try rfl)

/-! ## The points past the used blocks -/

theorem idle_gen (a : (pcfg0 (F := F)).Adm) (i : grid0.Coords) : (cfg0 a).idle 1 i = !(k0_cond1 i (a.1.atD 2 ![0]) == 1#1) := by exact rfl

theorem tab_n (a : pre0.Contents (Elt F)) (n : BitVec 32) (h : (a 2 : S1.Idx → BitVec 32) p1 = n) : a.atD 2 ![0] = n := by
  rw [← h]
  show (a 2 : S1.Idx → BitVec 32) _ = (a 2 : S1.Idx → BitVec 32) p1
  congr 1; funext x; fin_cases x; rfl

theorem idle_iff (t : Fin (cfgT m T).N) : (cfgT m T).idle 1 ((cfgT m T).grid.coords t) = true ↔ T.n ≤ 4 * t.val := by
  have hn : (adm m T 0).1.atD 2 ![0] = BitVec.ofNat 32 T.n := tab_n (adm m T 0).1 _ T.nb
  refine (Iff.of_eq (congrArg (· = true) (idle_gen (adm m T 0) (grid0.coords t)))).trans ?_
  show (!(k0_cond1 (grid0.coords t) ((adm m T 0).1.atD 2 ![0]) == 1#1)) = true ↔ _
  have h := cond1_iff (grid0.coords t) T.n T.n_le
  rw [coord0] at h
  rw [hn]
  by_cases h1 : k0_cond1 (grid0.coords t) (BitVec.ofNat 32 T.n) = 1#1
  · have := h.mp h1; rw [h1]; simp; omega
  · have : ¬ 4 * t.val < T.n := fun h' => h1 (h.mpr h')
    simp [h1]; omega

theorem index_1 (t : Fin (cfgT m T).N) : ((cfgT m T).win 1).index t = ![min t.val ((T.n - 1) / 4), 0] := by
  have := tr4_eq m T (grid0.coords t)
  rw [coord0] at this
  exact this

theorem noflush (t t' : Fin (cfgT m T).N) (ht : t.val = t'.val + 1) (h : T.n ≤ 4 * t.val) : ((cfgT m T).win 1).flush t' = false := by
  have hN : t'.val + 1 < (cfgT m T).N := ht ▸ t.isLt
  have e : ((cfgT m T).win 1).index ⟨t'.val + 1, hN⟩ = ((cfgT m T).win 1).index t' := by
    rw [index_1, index_1]
    have := T.n_pos
    show ![min (t'.val + 1) ((T.n - 1) / 4), 0] = _
    rw [show min (t'.val + 1) ((T.n - 1) / 4) = min t'.val ((T.n - 1) / 4) by omega]
  unfold Pipeline.Window.flush
  rw [Bool.and_eq_false_iff]; right
  rw [Bool.or_eq_false_iff]
  refine ⟨decide_eq_false (Nat.ne_of_lt hN), decide_eq_false ?_⟩
  rintro ⟨h1, h2⟩
  exact h2 e

theorem tl_eq (t t' : Fin (cfgT m T).N) (ht : t.val = t'.val + 1) (h : T.n ≤ 4 * t.val) : tl m T t = tl m T t' := by
  have := T.n_pos
  apply Fin.ext
  show min t.val (lastT m T) = min t'.val (lastT m T)
  unfold lastT; omega

theorem tl_act (t : Fin (cfgT m T).N) (h : 4 * t.val < T.n) : tl m T t = t := by
  apply Fin.ext
  show min t.val (lastT m T) = t.val
  unfold lastT; omega

/-- Past the used blocks the result's buffer still holds the last computed tile. -/
theorem before_1 (c : Dev nD) : ∀ (k : Nat) (t : Fin (cfgT m T).N) (d), t.val = k → T.n ≤ 4 * t.val →
    (dats m T 0 c).before 1 t d = (dats m T 0 c).after 1 t := by
  intro k
  induction k with
  | zero => intro t d hk h; have := T.n_pos; omega
  | succ k ih =>
    intro t d hk h
    have ht' : k < (cfgT m T).N := by have := t.isLt; omega
    have e := (dats m T 0 c).before_of_pos 1 t (by omega) (by rfl) d
    have et : (⟨t.val - 1, Nat.lt_of_le_of_lt (Nat.sub_le _ _) t.isLt⟩ : Fin (cfgT m T).N) = ⟨k, ht'⟩ := Fin.ext (by show t.val - 1 = k; omega)
    rw [et, noflush m T t ⟨k, ht'⟩ hk h, if_neg Bool.false_ne_true] at e
    rw [e, after_1, tl_eq m T t ⟨k, ht'⟩ hk h, ← after_1]
    unfold Dat.left
    by_cases hi : T.n ≤ 4 * k
    · rw [(idle_iff m T ⟨k, ht'⟩).mpr hi]
      exact ih ⟨k, ht'⟩ d rfl hi
    · have : (cfgT m T).idle 1 ((cfgT m T).grid.coords ⟨k, ht'⟩) = false := by
        rw [← Bool.not_eq_true]; exact fun h' => hi ((idle_iff m T ⟨k, ht'⟩).mp h')
      rw [this]
      rfl

/-! ## The body at a point -/

theorem sound_body (c : Dev nD) (t : Fin grid0.N) (w8 : Memref sig .tc .vmem S1024x512 .i32) (hw8 : w8.IsWhole)
    (w12 : Memref sig .tc .vmem S1024x1024 .bf16) (hw12 : w12.IsWhole) :
    iprop(inv m T c (4 * t.val) ∗ (∃ W, owes (c : Thread nD τ) 0 W)
        ∗ (∃ d : S1024x512.Idx → Elt F .i32, owns (c : Thread nD τ) w8 fullShare ((dats m T 0 c).before 0 t d))
        ∗ (∃ d : S1024x1024.Idx → Elt F .bf16, owns (c : Thread nD τ) w12 fullShare ((dats m T 0 c).before 1 t d)))
      ⊢ wp frame (wpE (defs₀ (F := F)) Variants.none c none) Set.univ (cc0_grouped_mlp (grid0.coords t) (Memref.whole main_arg0) (Memref.isWhole_whole _) (Memref.whole main_arg1) (Memref.isWhole_whole _) (Memref.whole main_arg2) (Memref.isWhole_whole _) (Memref.whole main_v10) (Memref.isWhole_whole _) (Memref.whole main_v13) (Memref.isWhole_whole _) (Memref.whole main_v14) (Memref.isWhole_whole _) (Memref.whole main_v28) (Memref.isWhole_whole _) w8 hw8 (Memref.whole main_arg4) (Memref.isWhole_whole _) (Memref.whole main_arg5) (Memref.isWhole_whole _) (Memref.whole main_arg6) (Memref.isWhole_whole _) w12 hw12 (Memref.whole cc0_scratch0) (Memref.isWhole_whole _) (Memref.whole cc0_scratch1) (Memref.isWhole_whole _) (Memref.whole cc0_scratch2) (Memref.isWhole_whole _) cc0_scratch3)
          fun _ => iprop(inv m T c (4 * (t.val + 1)) ∗ (∃ W, owes (c : Thread nD τ) 0 W)
            ∗ owns (c : Thread nD τ) w8 fullShare ((dats m T 0 c).after 0 t)
            ∗ owns (c : Thread nD τ) w12 fullShare ((dats m T 0 c).after 1 t)) := by
  unfold inv owns
  iintro ⟨⟨TT, HR, HM, HP⟩, ⟨%W, HO⟩, ⟨%d8, %f8, %hf8, H8⟩, ⟨%d12, %f12, %hf12, H12⟩⟩
  replace hf8 := hf8.trans (before_0 m T c t d8)
  iapply (wp_body c (warr m c) T (grid0.coords t) w8 hw8 w12 hw12 _ W f8 f12)
  rw [coord0]
  isplitl [TT]; · iexact TT
  isplitl [HR]; · iexact HR
  isplitl [HO]; · iexact HO
  isplitl [H8]; · iexact H8
  isplitl [H12]; · iexact H12
  iintro TT HR HO H8 H12
  isplitl [TT HR HM HP]
  · isplitl [TT]; · iexact TT
    isplitl [HR]; · iexact HR
    isplitl [HM]; · iexact HM
    iexact HP
  isplitl [HO]; · iexact HO
  isplitl [H8]
  · iexists f8; isplitr; · ipureintro; exact hf8.trans (after_0 m T c t).symm
    iexact H8
  iexists _; isplitr
  swap; · iexact H12
  ipureintro
  refine Eq.trans ?_ (after_1 m T c t).symm
  by_cases h : 4 * t.val < T.n
  · rw [if_pos h, tl_act m T t h, tileP_eq, hf8]
    exact View.read_writes_eq_canon _ _ _ (tileX_cover m T c (grid0.coords t) (xblk m T c t))
  · rw [if_neg h]; exact hf12.trans ((before_1 m T c _ t d12 rfl (by omega)).trans (after_1 m T c t))

theorem defs₀_row (t : Fin (cfgT m T).N) :
    defs₀ (F := F) .tc (cfgT m T).body ((cfgT m T).bodyArgs t ((cfgT m T).slots t))
      = cc0_grouped_mlp (grid0.coords t) (Memref.whole main_arg0) (Memref.isWhole_whole _) (Memref.whole main_arg1) (Memref.isWhole_whole _) (Memref.whole main_arg2) (Memref.isWhole_whole _) (Memref.whole main_v10) (Memref.isWhole_whole _) (Memref.whole main_v13) (Memref.isWhole_whole _) (Memref.whole main_v14) (Memref.isWhole_whole _) (Memref.whole main_v28) (Memref.isWhole_whole _) (spec0_0.stage ((cfgT m T).slots t 0)) (hstage0_0 ((cfgT m T).slots t 0)) (Memref.whole main_arg4) (Memref.isWhole_whole _) (Memref.whole main_arg5) (Memref.isWhole_whole _) (Memref.whole main_arg6) (Memref.isWhole_whole _) (spec0_1.stage ((cfgT m T).slots t 1)) (hstage0_1 ((cfgT m T).slots t 1)) (Memref.whole cc0_scratch0) (Memref.isWhole_whole _) (Memref.whole cc0_scratch1) (Memref.isWhole_whole _) (Memref.whole cc0_scratch2) (Memref.isWhole_whole _) cc0_scratch3 := by
  unfold defs₀; rw [Defs.onTc_tc]

theorem owes_of (c : Dev nD) (t : Fin ((cfgT m T).N + 1)) : (dats m T 0 c).owesAt () t ⊢ iprop(∃ W, owes (c : Thread nD τ) 0 W) := by
  unfold Dat.owesAt Pipeline.owesWithin
  iintro ⟨%W, -, H⟩
  iexists W; iexact H

theorem of_owes (c : Dev nD) (t : Fin ((cfgT m T).N + 1)) : iprop(∃ W, owes (c : Thread nD τ) 0 W) ⊢ (dats m T 0 c).owesAt () t := by
  unfold Dat.owesAt Pipeline.owesWithin
  iintro ⟨%W, H⟩
  iexists W; isplitr
  · ipureintro; exact fun _ _ => Or.inl trivial
  iexact H

theorem phi_succ (c : Dev nD) (t : Fin (cfgT m T).N) : inv m T c (4 * (t.val + 1)) ⊢ (dats m T 0 c).Φ t.succ := by
  rw [show (dats m T 0 c).Φ t.succ = inv m T c (4 * (t.val + 1)) from rfl]

/-- What a window's buffer must hold after a point, from what the body leaves in it: at a point where the window is
    idle the two are the same contents. -/
theorem leave_of {nW : Nat} {Λ : Fin nW → Bool} (w : Fin nW) (b b' : Bool) {X A B : sProp (MM F)} (hb : b = true → A ⊢ B) (hf : Λ w = false) :
    A ⊢ (match (generalizing := false) Λ w with
        | true => X
        | false => match (generalizing := false) b with
          | true => match (generalizing := false) b' with
            | false => B
            | true => A
          | false => A) := by
  rw [hf]
  cases b with
  | false => exact .rfl
  | true =>
    cases b' with
    | true => exact .rfl
    | false => exact hb rfl

/-- The obligation of a launch none of whose windows is forgotten, from the body's triple with every buffer left at
    its stated contents, when at an idle point the stated contents are what the buffer already held. -/
theorem obligation_of {cfg : Cfg sig Λ₀} {c : Dev nD} (dat : Dat τ (Elt F) Unit ℕ (UD sig nD τ) ℕ cfg c)
    (hb : ∀ t : Fin cfg.N, iprop(dat.Φ t.castSucc ∗ dat.owesAt () t.castSucc
        ∗ bigSep Finset.univ fun w : Fin cfg.W => iprop(∃ d, owns (c : Thread nD τ) ((cfg.win w).stage (cfg.slots t w)) fullShare (dat.before w t d)))
      ⊢ wp frame (wpE (defs₀ (F := F)) Variants.none c none) Set.univ (defs₀ .tc cfg.body (cfg.bodyArgs t (cfg.slots t))) fun _ =>
          iprop(dat.Φ t.succ ∗ dat.owesAt () t.succ
            ∗ bigSep Finset.univ fun w : Fin cfg.W => owns (c : Thread nD τ) ((cfg.win w).stage (cfg.slots t w)) fullShare (dat.after w t)))
    (hi : ∀ w (t : Fin cfg.N), cfg.idle w (cfg.grid.coords t) = true → ∃ d, dat.before w t d = dat.after w t) :
    BodyObligation dat (defs₀ (F := F)) Variants.none () Set.univ := fun t => by
  refine triple_restated (hb t) rfl .rfl fun _ => ?_
  refine BIClass.sep_mono .rfl (BIClass.sep_mono .rfl (bigSep_mono fun w _ => ?_))
  refine leave_of (F := F) (Λ := fun _ => false) (X := iprop(∃ X, owns (c : Thread nD τ) ((cfg.win w).stage (cfg.slots t w)) fullShare X)) w (cfg.idle w (cfg.grid.coords t)) _ (fun h => ?_) rfl
  obtain ⟨d, e⟩ := hi w t h
  rw [← e]
  iintro H
  iexists d
  iexact H

theorem idle_0 (a : pcfg0.Adm) (t : Fin (cfg0 (F := F) a).N) : (cfg0 (F := F) a).idle 0 ((cfg0 (F := F) a).grid.coords t) = false := by exact rfl

theorem idle_before (c : Dev nD) (w : Fin 2) (t : Fin (cfgT m T).N) (h : (cfgT m T).idle w ((cfgT m T).grid.coords t) = true) :
    ∃ d, (dats m T 0 c).before w t d = (dats m T 0 c).after w t := by
  obtain rfl | rfl : w = 0 ∨ w = 1 := by omega
  · exact absurd ((idle_0 (F := F) (adm m T 0) t).symm.trans h) Bool.false_ne_true
  · exact ⟨(dats m T 0 c).after 1 t, before_1 m T c _ t _ rfl ((idle_iff m T t).mp h)⟩

theorem body_obligation (c : Dev nD) : BodyObligation (dats (F := F) m T 0 c) (defs₀ (F := F)) Variants.none () Set.univ := by
  refine obligation_of _ (fun t => ?_) (idle_before m T c)
  rw [bigSep_W0, bigSep_W0, defs₀_row]
  refine triple_restated (sound_body m T c t (spec0_0.stage ((cfgT m T).slots t 0)) (hstage0_0 ((cfgT m T).slots t 0)) (spec0_1.stage ((cfgT m T).slots t 1)) (hstage0_1 ((cfgT m T).slots t 1))) rfl ?_ fun _ => ?_
  · show iprop(inv m T c (4 * t.val) ∗ (dats m T 0 c).owesAt () t.castSucc
        ∗ (∃ d, owns (c : Thread nD τ) (spec0_0.stage ((cfgT m T).slots t 0)) fullShare ((dats m T 0 c).before 0 t d))
        ∗ (∃ d, owns (c : Thread nD τ) (spec0_1.stage ((cfgT m T).slots t 1)) fullShare ((dats m T 0 c).before 1 t d))) ⊢ _
    iintro ⟨HΦ, HO, H0, H1⟩
    isplitl [HΦ]; · iexact HΦ
    isplitl [HO]; · iapply (owes_of m T c); iexact HO
    isplitl [H0]; · iexact H0
    iexact H1
  · exact BIClass.sep_mono (phi_succ m T c t) (BIClass.sep_mono (of_owes m T c t.succ) .rfl)

end Cert.Kernel4Ideal.Hand

end
-- ==== Proof.Run4.lean ====
module

public import proofs.«01_k».proof.Proof.Frame4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Pipeline.TableIdle
public import proofs.«01_k».proof.Proof.Gen.Kernel4Ideal.Launch

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

variable (m : (ℓ : Loc nD τ sig) → Buf (Elt F) ℓ) (ρ : Dev nD → PrngReg)
variable (T : Runs (tabs m))

/-! ## The slots, and the buffers they are cut from -/

theorem setG (k : Fin 9) : (slotG k).view.set = (Rect.unit (s := S9x1024x256) ![k.val, 0, 0] S1x1024x256.size (inbG k)).set := by
  unfold slotG
  exact (View.set_reshape _ _).trans (View.set_slice_whole _ _)
theorem setU (k : Fin 9) : (slotU k).view.set = (Rect.unit (s := S9x1024x256) ![k.val, 0, 0] S1x1024x256.size (inbG k)).set := by
  unfold slotU
  exact (View.set_reshape _ _).trans (View.set_slice_whole _ _)
theorem setD (k : Fin 9) : (slotD k).view.set = (Rect.unit (s := S9x256x1024) ![k.val, 0, 0] S1x256x1024.size (inbD k)).set := by
  unfold slotD
  exact (View.set_reshape _ _).trans (View.set_slice_whole _ _)

theorem disjG (k k' : Fin 9) (h : k ≠ k') : Disjoint (Rect.unit (s := S9x1024x256) ![k.val, 0, 0] S1x1024x256.size (inbG k)).set (Rect.unit (s := S9x1024x256) ![k'.val, 0, 0] S1x1024x256.size (inbG k')).set :=
  Ring.lead_disjoint (s := S9x1024x256) 0 1 (fun k : Fin 9 => ![k.val, 0, 0]) S1x1024x256.size inbG (fun b => (Nat.one_mul _).symm) rfl k k' h
theorem disjD (k k' : Fin 9) (h : k ≠ k') : Disjoint (Rect.unit (s := S9x256x1024) ![k.val, 0, 0] S1x256x1024.size (inbD k)).set (Rect.unit (s := S9x256x1024) ![k'.val, 0, 0] S1x256x1024.size (inbD k')).set :=
  Ring.lead_disjoint (s := S9x256x1024) 0 1 (fun k : Fin 9 => ![k.val, 0, 0]) S1x256x1024.size inbD (fun b => (Nat.one_mul _).symm) rfl k k' h
theorem coverG : Finset.univ.biUnion (fun k : Fin 9 => (Rect.unit (s := S9x1024x256) ![k.val, 0, 0] S1x1024x256.size (inbG k)).set) = Finset.univ :=
  Ring.lead_cover (s := S9x1024x256) 0 1 (fun k : Fin 9 => ![k.val, 0, 0]) S1x1024x256.size inbG (fun b => (Nat.one_mul _).symm)
    (fun b a ha => by fin_cases a <;> first | exact absurd rfl ha | rfl) rfl (fun a ha => by fin_cases a <;> first | exact absurd rfl ha | rfl) rfl
theorem coverD : Finset.univ.biUnion (fun k : Fin 9 => (Rect.unit (s := S9x256x1024) ![k.val, 0, 0] S1x256x1024.size (inbD k)).set) = Finset.univ :=
  Ring.lead_cover (s := S9x256x1024) 0 1 (fun k : Fin 9 => ![k.val, 0, 0]) S1x256x1024.size inbD (fun b => (Nat.one_mul _).symm)
    (fun b a ha => by fin_cases a <;> first | exact absurd rfl ha | rfl) rfl (fun a ha => by fin_cases a <;> first | exact absurd rfl ha | rfl) rfl

variable (c : Dev nD)

theorem splitG : iprop(∃ f : Buf (Elt F) ((c : Thread nD τ).loc cc0_scratch0), ((c : Thread nD τ).loc cc0_scratch0) ↦{fullShare} f)
    ⊢ (bigSep Finset.univ (fun k : Fin 9 => iprop(∃ f, heldG c k f)) : sProp (MM F)) := by
  iintro ⟨%f, H⟩
  iapply ((Entails.of_eq (Ring.pointsTo_blocks (q := fullShare) (ℓ := (c : Thread nD τ).loc cc0_scratch0) (fun k : Fin 9 => (slotG k).view.set)
    (fun k k' h => by rw [setG, setG]; exact disjG k k' h) ((Finset.biUnion_congr rfl fun k _ => setG k).trans coverG) f)).trans
    (bigSep_mono fun k _ => BIClass.exists_intro (Φ := fun f => heldG c k f) f))
  iexact H
theorem joinG : (bigSep Finset.univ (fun k : Fin 9 => iprop(∃ f, heldG c k f)) : sProp (MM F))
    ⊢ iprop(∃ f : Buf (Elt F) ((c : Thread nD τ).loc cc0_scratch0), ((c : Thread nD τ).loc cc0_scratch0) ↦{fullShare} f) :=
  Ring.pointsTo_blocks_join_exists (ℓ := (c : Thread nD τ).loc cc0_scratch0) (fun k : Fin 9 => (slotG k).view.set)
    (fun k k' h => by rw [setG, setG]; exact disjG k k' h) ((Finset.biUnion_congr rfl fun k _ => setG k).trans coverG) (fun _ => Classical.arbitrary _)

theorem splitU : iprop(∃ f : Buf (Elt F) ((c : Thread nD τ).loc cc0_scratch1), ((c : Thread nD τ).loc cc0_scratch1) ↦{fullShare} f)
    ⊢ (bigSep Finset.univ (fun k : Fin 9 => iprop(∃ f, heldU c k f)) : sProp (MM F)) := by
  iintro ⟨%f, H⟩
  iapply ((Entails.of_eq (Ring.pointsTo_blocks (q := fullShare) (ℓ := (c : Thread nD τ).loc cc0_scratch1) (fun k : Fin 9 => (slotU k).view.set)
    (fun k k' h => by rw [setU, setU]; exact disjG k k' h) ((Finset.biUnion_congr rfl fun k _ => setU k).trans coverG) f)).trans
    (bigSep_mono fun k _ => BIClass.exists_intro (Φ := fun f => heldU c k f) f))
  iexact H
theorem joinU : (bigSep Finset.univ (fun k : Fin 9 => iprop(∃ f, heldU c k f)) : sProp (MM F))
    ⊢ iprop(∃ f : Buf (Elt F) ((c : Thread nD τ).loc cc0_scratch1), ((c : Thread nD τ).loc cc0_scratch1) ↦{fullShare} f) :=
  Ring.pointsTo_blocks_join_exists (ℓ := (c : Thread nD τ).loc cc0_scratch1) (fun k : Fin 9 => (slotU k).view.set)
    (fun k k' h => by rw [setU, setU]; exact disjG k k' h) ((Finset.biUnion_congr rfl fun k _ => setU k).trans coverG) (fun _ => Classical.arbitrary _)

theorem splitD : iprop(∃ f : Buf (Elt F) ((c : Thread nD τ).loc cc0_scratch2), ((c : Thread nD τ).loc cc0_scratch2) ↦{fullShare} f)
    ⊢ (bigSep Finset.univ (fun k : Fin 9 => iprop(∃ f, heldD c k f)) : sProp (MM F)) := by
  iintro ⟨%f, H⟩
  iapply ((Entails.of_eq (Ring.pointsTo_blocks (q := fullShare) (ℓ := (c : Thread nD τ).loc cc0_scratch2) (fun k : Fin 9 => (slotD k).view.set)
    (fun k k' h => by rw [setD, setD]; exact disjD k k' h) ((Finset.biUnion_congr rfl fun k _ => setD k).trans coverD) f)).trans
    (bigSep_mono fun k _ => BIClass.exists_intro (Φ := fun f => heldD c k f) f))
  iexact H
theorem joinD : (bigSep Finset.univ (fun k : Fin 9 => iprop(∃ f, heldD c k f)) : sProp (MM F))
    ⊢ iprop(∃ f : Buf (Elt F) ((c : Thread nD τ).loc cc0_scratch2), ((c : Thread nD τ).loc cc0_scratch2) ↦{fullShare} f) :=
  Ring.pointsTo_blocks_join_exists (ℓ := (c : Thread nD τ).loc cc0_scratch2) (fun k : Fin 9 => (slotD k).view.set)
    (fun k k' h => by rw [setD, setD]; exact disjD k k' h) ((Finset.biUnion_congr rfl fun k _ => setD k).trans coverD) (fun _ => Classical.arbitrary _)

/-! ## The weights, cut into the slots' shares -/

variable (w : WArr F c)

theorem free_of : iprop((bigSep Finset.univ fun k : Fin 9 => semVal ((c : Thread nD τ), cellK k) 0)
      ∗ (bigSep Finset.univ fun k : Fin 9 => iprop(∃ f, heldG c k f)) ∗ (bigSep Finset.univ fun k : Fin 9 => iprop(∃ f, heldU c k f))
      ∗ (bigSep Finset.univ fun k : Fin 9 => iprop(∃ f, heldD c k f))
      ∗ (bigSep Finset.univ fun k : Fin 9 => tokG c w k Finset.univ) ∗ (bigSep Finset.univ fun k : Fin 9 => tokU c w k Finset.univ)
      ∗ (bigSep Finset.univ fun k : Fin 9 => tokD c w k Finset.univ))
    ⊢ (bigSep Finset.univ (fun k : Fin 9 => freeΦ c w k) : sProp (MM F)) :=
  (BIClass.sep_mono .rfl ((BIClass.sep_mono .rfl ((BIClass.sep_mono .rfl ((BIClass.sep_mono .rfl ((BIClass.sep_mono .rfl
    (Transfers.bigSep_sep_in _ _ _)).trans (Transfers.bigSep_sep_in _ _ _))).trans (Transfers.bigSep_sep_in _ _ _))).trans
    (Transfers.bigSep_sep_in _ _ _))).trans (Transfers.bigSep_sep_in _ _ _))).trans (Transfers.bigSep_sep_in _ _ _)

theorem of_free : (bigSep Finset.univ (fun k : Fin 9 => freeΦ c w k) : sProp (MM F)) ⊢
    iprop((bigSep Finset.univ fun k : Fin 9 => semVal ((c : Thread nD τ), cellK k) 0)
      ∗ (bigSep Finset.univ fun k : Fin 9 => iprop(∃ f, heldG c k f)) ∗ (bigSep Finset.univ fun k : Fin 9 => iprop(∃ f, heldU c k f))
      ∗ (bigSep Finset.univ fun k : Fin 9 => iprop(∃ f, heldD c k f))
      ∗ (bigSep Finset.univ fun k : Fin 9 => tokG c w k Finset.univ) ∗ (bigSep Finset.univ fun k : Fin 9 => tokU c w k Finset.univ)
      ∗ (bigSep Finset.univ fun k : Fin 9 => tokD c w k Finset.univ)) :=
  (Transfers.bigSep_sep_out _ _ _).trans (BIClass.sep_mono .rfl ((Transfers.bigSep_sep_out _ _ _).trans (BIClass.sep_mono .rfl
    ((Transfers.bigSep_sep_out _ _ _).trans (BIClass.sep_mono .rfl ((Transfers.bigSep_sep_out _ _ _).trans (BIClass.sep_mono .rfl
    ((Transfers.bigSep_sep_out _ _ _).trans (BIClass.sep_mono .rfl (Transfers.bigSep_sep_out _ _ _))))))))))

/-- The arrays the kernel copies from itself. -/
abbrev HW : Finset (Ref sig .tc) := {main_arg4, main_arg5, main_arg6}

theorem bigSep_HW (Ψ : Ref sig .tc → sProp (MM F)) : bigSep HW Ψ = iprop(Ψ main_arg4 ∗ Ψ main_arg5 ∗ Ψ main_arg6) :=
  bigSep_eq_bigSepL_of_eq [main_arg4, main_arg5, main_arg6] (by decide) (by decide) Ψ

theorem bigSep_pre (Ψ : Fin 7 → sProp (MM F)) : bigSep Finset.univ Ψ = iprop(Ψ 0 ∗ Ψ 1 ∗ Ψ 2 ∗ Ψ 3 ∗ Ψ 4 ∗ Ψ 5 ∗ Ψ 6) :=
  bigSep_univ_eq_bigSepL [(0 : Fin 7), 1, 2, 3, 4, 5, 6] (by decide) (by decide) Ψ

theorem ringAt_0 (T : Runs (tabs m)) : ringAt T 0 = fun _ => .free := by unfold ringAt; rw [if_pos rfl]

theorem st_last (T : Runs (tabs m)) (k : Fin 9) : ringAt T (4 * grid0.N) k = .free ∨ ∃ e, ringAt T (4 * grid0.N) k = .held e := by
  unfold ringAt Runs.st
  rw [N_0, if_neg (by decide), show 4 * 192 = 768 from rfl, T.NR_eq]
  split
  · rw [if_neg (by omega)]; exact .inl rfl
  · split
    · exact .inr ⟨_, rfl⟩
    · exact .inl rfl

/-- The tables of any contents, one by one. -/
def tabsOf (v : pre0.Contents (Elt F)) : Tabs := ⟨v 0, v 1, v 2, v 3, v 4, v 5, v 6⟩

theorem tabsOf_pf : tabsOf (pf m) = tabs m := by unfold tabsOf pf tabs; rfl

theorem tables_of (v : pre0.Contents (Elt F)) :
    iprop((((c : Thread nD τ).loc (pre0.ref 0)) ↦{fullShare.right} v 0) ∗ (((c : Thread nD τ).loc (pre0.ref 1)) ↦{fullShare.right} v 1)
      ∗ (((c : Thread nD τ).loc (pre0.ref 2)) ↦{fullShare.right} v 2) ∗ (((c : Thread nD τ).loc (pre0.ref 3)) ↦{fullShare.right} v 3)
      ∗ (((c : Thread nD τ).loc (pre0.ref 4)) ↦{fullShare.right} v 4) ∗ (((c : Thread nD τ).loc (pre0.ref 5)) ↦{fullShare.right} v 5)
      ∗ (((c : Thread nD τ).loc (pre0.ref 6)) ↦{fullShare.right} v 6)) ⊢ (TB (F := F) c (tabsOf v) : sProp (MM F)) := by
  unfold TB tabsOf; exact .rfl

theorem hin (T : Runs (tabs m)) : iprop(Pipeline.ΦD (fun k : Fin 9 => cellK k) spec0 HW (V m) c ∗ Pipeline.ΦT pre0 (pf m) c)
    ⊢ (inv m T c 0 : sProp (MM F)) := by
  obtain rfl : c = 0 := Subsingleton.elim _ _
  rw [Pipeline.ΦD_eq, scopedRest0_eq]
  unfold Pipeline.ΦT Pipeline.prefHeld Pipeline.ownSems0 inv
  rw [bigSep_HW, bigSep_pre, ringAt_0, ← tabsOf_pf]
  iintro ⟨⟨⟨HG, HU, HD⟩, HP, HS, ⟨H4, H5, H6⟩⟩, T0, T1, T2, T3, T4, T5, T6⟩
  isplitl [T0 T1 T2 T3 T4 T5 T6]
  · iapply (tables_of (F := F) 0 (pf m))
    isplitl [T0]; · iexact T0
    isplitl [T1]; · iexact T1
    isplitl [T2]; · iexact T2
    isplitl [T3]; · iexact T3
    isplitl [T4]; · iexact T4
    isplitl [T5]; · iexact T5
    iexact T6
  ihave HG := (splitG (F := F) 0) $$ HG
  ihave HU := (splitU (F := F) 0) $$ HU
  ihave HD := (splitD (F := F) 0) $$ HD
  ihave H4 := (Transfers.pointsTo_toks_split fullShare 9) $$ H4
  ihave H5 := (Transfers.pointsTo_toks_split fullShare 9) $$ H5
  ihave H6 := (Transfers.pointsTo_toks_split fullShare 9) $$ H6
  icases H4 with ⟨R4, H4⟩
  icases H5 with ⟨R5, H5⟩
  icases H6 with ⟨R6, H6⟩
  isplitl [HG HU HD H4 H5 H6 HS]
  · have e : (bigSep Finset.univ (fun k : Fin 9 => freeΦ 0 (warr m 0) k) : sProp (MM F))
        ⊢ Ring.AtW (σ := fun _ => St) (Φ 0 (warr m 0)) (fun _ => .free) := by unfold Ring.AtW Φ; exact .rfl
    iapply ((free_of 0 (warr m 0)).trans e)
    isplitl [HS]; · iexact HS
    isplitl [HG]; · iexact HG
    isplitl [HU]; · iexact HU
    isplitl [HD]; · iexact HD
    isplitl [H4]; · iexact H4
    isplitl [H5]; · iexact H5
    iexact H6
  isplitl [R4 R5 R6]
  · have e : iprop(((Memref.whole main_arg4).view.loc ((0 : Dev nD) : Thread nD τ) ↦{Transfers.shareDrop fullShare 9} (warr m 0).g)
      ∗ ((Memref.whole main_arg5).view.loc ((0 : Dev nD) : Thread nD τ) ↦{Transfers.shareDrop fullShare 9} (warr m 0).u)
      ∗ ((Memref.whole main_arg6).view.loc ((0 : Dev nD) : Thread nD τ) ↦{Transfers.shareDrop fullShare 9} (warr m 0).d)) ⊢ (remW m 0 : sProp (MM F)) := by
      unfold remW; exact .rfl
    iapply e
    isplitl [R4]; · iexact R4
    isplitl [R5]; · iexact R5
    iexact R6
  iexact HP

theorem hout (T : Runs (tabs m)) : (inv m T c (4 * grid0.N) : sProp (MM F)) ⊢ Pipeline.ΦD (fun k : Fin 9 => cellK k) spec0 HW (V m) c := by
  rw [Pipeline.ΦD_eq, scopedRest0_eq]
  unfold Pipeline.ownSems0 inv remW
  rw [bigSep_HW]
  have e : (Ring.AtW (σ := fun _ => St) (Φ c (warr m c)) (ringAt T (4 * grid0.N)) : sProp (MM F)) ⊢ bigSep Finset.univ (fun k : Fin 9 => freeΦ c (warr m c) k) := by
    unfold Ring.AtW
    refine bigSep_mono fun k _ => ?_
    rcases st_last m T k with h | ⟨x, h⟩
    · exact Entails.of_eq (congrArg (Φ c (warr m c) k) h)
    · rw [h]; exact held_free c (warr m c) k x
  iintro ⟨-, HR, ⟨R4, R5, R6⟩, HP⟩
  ihave HR := (e.trans (of_free c (warr m c))) $$ HR
  icases HR with ⟨HS, HG, HU, HD, H4, H5, H6⟩
  isplitl [HG HU HD]
  · isplitl [HG]; · iapply (joinG (F := F) c); iexact HG
    isplitl [HU]; · iapply (joinU (F := F) c); iexact HU
    iapply (joinD (F := F) c); iexact HD
  isplitl [HP]; · iexact HP
  isplitl [HS]; · iexact HS
  isplitl [R4 H4]
  · iapply (Transfers.pointsTo_toks_join fullShare 9)
    isplitl [R4]; · iexact R4
    iexact H4
  isplitl [R5 H5]
  · iapply (Transfers.pointsTo_toks_join fullShare 9)
    isplitl [R5]; · iexact R5
    iexact H5
  iapply (Transfers.pointsTo_toks_join fullShare 9)
  isplitl [R6]; · iexact R6
  iexact H6

/-! ## The run -/

theorem HW_sub : HW ⊆ Pipeline.restRefsP sig pre0 spec0 := by decide

theorem osem_facts : Pipeline.OwnSemFacts spec0 (fun k : Fin 9 => cellK k) := by decide

set_option backward.isDefEq.respectTransparency.types false in
set_option maxHeartbeats 800000 in
/-- The program runs to the end, every window's array as the proof data say and every other array kept. -/
theorem run_main (T : Runs (tabs m)) : θ_run defs (onTc (τ := τ) (main (F := F))) (s₀ m ρ)
    (fun r => Pipeline.FramePost (Pipeline.pin pcfgs (adm m T)) (dats m T) 0 (V m) r ∧ r.2.sem = fun _ => 0) :=
  Pipeline.θ_run_frameP_dma pcfgs (adm m T) (dats m T) 0 launch0 (fun k : Fin 9 => cellK k) defs₀ Variants.none
    osem_facts HW HW_sub m ρ main
    (hbody := fun c => (body_obligation m T c).loose) (hshare := fun c => (dats m T 0 c).share_full fun _ => rfl) (howed := fun _ _ => rfl)
    (V := V m) (hmain := hmain m Variants.none) (hA := A_eq m T) (hpf := fun c k => by obtain rfl : c = 0 := Subsingleton.elim _ _; rfl)
    (hin := fun c => hin m c T) (hout := fun c => hout m c T) (Q' := _)

end Cert.Kernel4Ideal.Hand

end
-- ==== Proof.Done4.lean ====
module

public import proofs.«01_k».proof.Proof.Words4
public import proofs.«01_k».proof.Proof.Gen.Kernel4Ideal.Skeleton
public import Idealize.ShloMosaic.Lib.Pipeline.FrameBody
public import Idealize.ShloMosaic.Lib.Batch
public import Idealize.ShloMosaic.Lib.Claim
public import Idealize.ShloMosaic.Lib.Ring
public import Idealize.ShloMosaic.Lib.Tactic
public import Idealize.ShloMosaic.Lib.UnfoldOut
public import Idealize.ShloMosaic.Lib.WordCmp
public import Idealize.ShloMosaic.Lib.Routing.OpsSet
public import Idealize.ShloMosaic.Lib.ReduceAll
public import proofs.«01_k».proof.Pre_experts
public import proofs.«01_k».proof.Proof.Gen.Pre_experts
public import proofs.«01_k».proof.Proof.Run4
public import Idealize.ShloMosaic.Lib.Routing.OpsPair
public import Idealize.ShloMosaic.Lib.Routing.Words
public import Idealize.ShloMosaic.Lib.StableHlo.Predicate
public import Idealize.ShloMosaic.Lib.Pipeline.TableIdle
public import proofs.«01_k».proof.Proof.Gen.Kernel4Ideal.Launch

@[expose] public section

set_option maxRecDepth 16384

noncomputable section

namespace Cert.Kernel4Ideal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf UD)

open Cert.Kernel4Ideal.Gen

variable {F : FTy → Type} [FloatOps F]

/-- A word at least zero and below a small bound, both signed, is below it unsigned. -/
theorem word_lt {a : BitVec 32} {n : Nat} (hn : n < 2 ^ 31) (h0 : IntOp.cmpi .sge a 0#32 = 1#1) (h1 : IntOp.cmpi .slt a (BitVec.ofNat 32 n) = 1#1) : a.toNat < n := by
  have ha : a.toNat < 2 ^ 31 := by
    unfold IntOp.cmpi at h0
    have h0' : (0#32 : BitVec 32).sle a = true := by revert h0; cases (0#32 : BitVec 32).sle a <;> simp
    rw [BitVec.sle_eq_decide] at h0'
    have := of_decide_eq_true h0'
    rw [BitVec.toInt_eq_toNat_cond, BitVec.toInt_eq_toNat_cond] at this
    split at this <;> split at this <;> simp at * <;> omega
  have hb : (BitVec.ofNat 32 n).toNat = n := by rw [BitVec.toNat_ofNat]; omega
  have := (StableHlo.Predicate.slt_iff_toNat ha (by omega)).1 h1
  omega

/-- A word at least one and at most a small bound, both signed, is so unsigned. -/
theorem word_mem {a : BitVec 32} (h0 : IntOp.cmpi .sge a 1#32 = 1#1) (h1 : IntOp.cmpi .sle a 768#32 = 1#1) : 1 ≤ a.toNat ∧ a.toNat ≤ 768 := by
  have ha : a.toNat < 2 ^ 31 := by
    unfold IntOp.cmpi at h0
    have h0' : (1#32 : BitVec 32).sle a = true := by revert h0; cases (1#32 : BitVec 32).sle a <;> simp
    rw [BitVec.sle_eq_decide] at h0'
    have := of_decide_eq_true h0'
    rw [BitVec.toInt_eq_toNat_cond, BitVec.toInt_eq_toNat_cond] at this
    split at this <;> split at this <;> simp at * <;> omega
  have h2 := (StableHlo.Predicate.sge_iff_toNat ha (by decide)).1 h0
  have h3 := (StableHlo.Predicate.sle_iff_toNat ha (by decide)).1 h1
  exact ⟨h2, h3⟩

instance : Subsingleton S_.Idx := ⟨fun _ _ => funext fun k => k.elim0⟩

/-- The precondition on the words: each block's expert is an expert, and the blocks in use are from 1 to 768. -/
theorem bounds {a0 a1 : IVec S768 32} {a2 : IVec S1 32} {a3 : IVec S196608x512 32} {a4 a5 : FVec F S256x1024x256 .f32} {a6 : FVec F S256x256x1024 .f32}
    (h : Cert.Pre_experts.fn (F := F) a0 a1 a2 a3 a4 a5 a6 = fun _ => 1#1) :
    (∀ j h, (a0 (p768 j h)).toNat < 256) ∧ 1 ≤ (a2 p1).toNat ∧ (a2 p1).toNat ≤ 768 := by
  have e := congrFun h ValueIdx.ix0
  simp only [Cert.Pre_experts.fn, andi_apply, IntOp.andi_eq_one] at e
  obtain ⟨e0, e1⟩ := e
  refine ⟨fun j hj => ?_, ?_⟩
  · have t := Host.reduce_andi_all _ _ _ _ _ e0 (p768 j hj)
    simp only [andi_apply, IntOp.andi_eq_one] at t
    exact word_lt (n := 256) (by decide) t.1 t.2
  · have t := Host.reduce_andi_all _ _ _ _ _ e1 p1
    simp only [andi_apply, IntOp.andi_eq_one] at t
    exact word_mem t.1 t.2

section Frame
variable (m : (ℓ : Loc nD τ sig) → Buf (Elt F) ℓ) (ρ : Dev nD → PrngReg) (c : Dev nD)

theorem Va0 : V m c main_arg0 = m ((c.tc : Thread nD τ).loc main_arg0) := by
  show StableHlo.after (opss (F := F)).flatten _ _ = _
  simp only [opss, List.flatten_cons, List.flatten_nil, List.append_nil, List.cons_append, List.nil_append]
  after_results

theorem Va1 : V m c main_arg1 = m ((c.tc : Thread nD τ).loc main_arg1) := by
  show StableHlo.after (opss (F := F)).flatten _ _ = _
  simp only [opss, List.flatten_cons, List.flatten_nil, List.append_nil, List.cons_append, List.nil_append]
  after_results

theorem Va2 : V m c main_arg2 = m ((c.tc : Thread nD τ).loc main_arg2) := by
  show StableHlo.after (opss (F := F)).flatten _ _ = _
  simp only [opss, List.flatten_cons, List.flatten_nil, List.append_nil, List.cons_append, List.nil_append]
  after_results

theorem Va3 : V m c main_arg3 = m ((c.tc : Thread nD τ).loc main_arg3) := by
  show StableHlo.after (opss (F := F)).flatten _ _ = _
  simp only [opss, List.flatten_cons, List.flatten_nil, List.append_nil, List.cons_append, List.nil_append]
  after_results

theorem Va4 : V m c main_arg4 = m ((c.tc : Thread nD τ).loc main_arg4) := by
  show StableHlo.after (opss (F := F)).flatten _ _ = _
  simp only [opss, List.flatten_cons, List.flatten_nil, List.append_nil, List.cons_append, List.nil_append]
  after_results

theorem Va5 : V m c main_arg5 = m ((c.tc : Thread nD τ).loc main_arg5) := by
  show StableHlo.after (opss (F := F)).flatten _ _ = _
  simp only [opss, List.flatten_cons, List.flatten_nil, List.append_nil, List.cons_append, List.nil_append]
  after_results

theorem Va6 : V m c main_arg6 = m ((c.tc : Thread nD τ).loc main_arg6) := by
  show StableHlo.after (opss (F := F)).flatten _ _ = _
  simp only [opss, List.flatten_cons, List.flatten_nil, List.append_nil, List.cons_append, List.nil_append]
  after_results

/-- The launch's precondition, on whichever device. -/
abbrev Pre (m : (ℓ : Loc nD τ sig) → Buf (Elt F) ℓ) : Prop := ∀ c : Dev nD,
  Cert.Pre_experts.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = fun _ => 1#1

/-- The runs of a launch whose words meet the precondition. -/
def runsP (h : Pre m) : Runs (tabs m) := runsOf m (bounds (h 0)).1 (bounds (h 0)).2.1 (bounds (h 0)).2.2

/-- The result holds what the proof data say, every argument is left as it was and no signal is owed. -/
theorem run0 (hp : Pre m) : θ_run (defs (F := F)) (onTc (τ := τ) (main (F := F))) ⟨m, fun _ => 0, ρ⟩ (fun r => (∀ c : Dev nD, r.2.mem ((c.tc : Thread nD τ).loc main_v29) = (dats m (runsP m hp) 0 c).arrAt 1 (cfgT m (runsP m hp)).N ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
    ∧ r.2.sem = fun _ => 0) :=
  (θ_run defs _ _).mono (fun r h => ⟨fun c => ⟨(h.1 c).1 1, ((h.1 c).2 main_arg0 (Pipeline.mem_restRefs_of main_arg0 (by decide) (show ∀ w : Fin 2, (spec0 w).arr.view.ref ≠ main_arg0 from by decide))).trans (Va0 m c), ((h.1 c).2 main_arg1 (Pipeline.mem_restRefs_of main_arg1 (by decide) (show ∀ w : Fin 2, (spec0 w).arr.view.ref ≠ main_arg1 from by decide))).trans (Va1 m c), ((h.1 c).2 main_arg2 (Pipeline.mem_restRefs_of main_arg2 (by decide) (show ∀ w : Fin 2, (spec0 w).arr.view.ref ≠ main_arg2 from by decide))).trans (Va2 m c), ((h.1 c).1 0).trans (((dats m (runsP m hp) 0 c).arrAt_in 0 rfl _).trans ((A_eq m (runsP m hp) c 0).trans (Va3 m c))), ((h.1 c).2 main_arg4 (Pipeline.mem_restRefs_of main_arg4 (by decide) (show ∀ w : Fin 2, (spec0 w).arr.view.ref ≠ main_arg4 from by decide))).trans (Va4 m c), ((h.1 c).2 main_arg5 (Pipeline.mem_restRefs_of main_arg5 (by decide) (show ∀ w : Fin 2, (spec0 w).arr.view.ref ≠ main_arg5 from by decide))).trans (Va5 m c), ((h.1 c).2 main_arg6 (Pipeline.mem_restRefs_of main_arg6 (by decide) (show ∀ w : Fin 2, (spec0 w).arr.view.ref ≠ main_arg6 from by decide))).trans (Va6 m c)⟩, h.2⟩) (run_main m ρ (runsP m hp))

/-- Every argument is left as it was and no signal is owed. -/
theorem frame (hp : Pre m) : θ_run (defs (F := F)) (onTc (τ := τ) (main (F := F))) ⟨m, fun _ => 0, ρ⟩ (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6))
    ∧ r.2.sem = fun _ => 0) :=
  (θ_run defs _ _).mono (fun r h => ⟨fun c => (h.1 c).2, h.2⟩) (run0 m ρ hp)

end Frame

end Cert.Kernel4Ideal.Hand

end
-- ==== Proof.Expert4.lean ====
/- What one block of rows gets from its expert, element by element: a row of packed halves, zero past the block's valid rows,
   through the expert's gated two products. -/
module

public import proofs.«01_k».proof.Proof.Merge
public import proofs.«01_k».proof.Proof.Row
public import proofs.«01_k».proof.Proof.Gen.Kernel4Ideal.Skeleton
public import Idealize.ShloMosaic.Lib.Pointwise.Reduce
public import Idealize.ShloMosaic.Lib.Pointwise.Select
public import Idealize.ShloMosaic.Lib.Pointwise.Reshape
public import Idealize.ShloMosaic.Lib.Pointwise.Contract
public import Idealize.ShloMosaic.Lib.Pipeline.ValueKit

@[expose] public section

noncomputable section

namespace Cert.Expert

open Idealize.ShloMosaic Cert.Kernel4Ideal Cert.Kernel4Ideal.Gen

/-- A row as its expert takes it: its halves where the row is valid, else zero. -/
def row (w : Fin 512 → BitVec 32) (keep : BitVec 1) (q : Fin 1024) : EReal := Scalar.select keep (Row.feat w q) 0

/-- A row's result from an expert's three matrices. -/
def out (x : Fin 1024 → EReal) (g u : Fin 1024 → Fin 256 → EReal) (d : Fin 256 → Fin 1024 → EReal) (k : Fin 1024) : EReal :=
  ∑ h : Fin 256, Merge.hidden x (fun q => g q h) (fun q => u q h) * d h k

theorem select_mul (c : BitVec 1) (a b : EReal) : Scalar.select c (a * b) 0 = Scalar.select c a 0 * b := by
  unfold Scalar.select; split
  · rfl
  · exact (zero_mul b).symm

/-- A product with a row's halves, low and high apart. -/
theorem dot_halves (w : Fin 512 → BitVec 32) (c : BitVec 1) (p : Fin 1024 → EReal) :
    ∑ l : Fin 512, Scalar.select c (Row.half 0 (w l) * p ⟨l.val, by omega⟩) 0 + ∑ l : Fin 512, Scalar.select c (Row.half 1 (w l) * p ⟨512 + l.val, by omega⟩) 0
      = ∑ q : Fin 1024, Scalar.select c (Row.feat w q) 0 * p q := by
  rw [Row.sum_halves]
  refine congrArg₂ (· + ·) (Finset.sum_congr rfl fun l _ => ?_) (Finset.sum_congr rfl fun l _ => ?_)
  · rw [Row.feat_lo, select_mul]
  · rw [Row.feat_hi, select_mul]

theorem pay4_apply (w : Vec Ideal S256x512 .i32) (nv : Elt Ideal .i32) (g u : Vec Ideal S1x1024x256 .f32) (d : Vec Ideal S1x256x1024 .f32) (r : Fin 256) (k : Fin 1024) :
    k0_pay4 w nv g u d (ix2 r k) = out (row (fun l => w (ix2 r l)) (IntOp.cmpi .slt (BitVec.ofNat 32 r.val) nv)) (fun q h => g (ix3 0 q h)) (fun q h => u (ix3 0 q h)) (fun h k => d (ix3 0 h k)) k := by
  unfold k0_pay4
  pointwise
  unfold out
  refine Finset.sum_congr rfl fun h _ => congrArg₂ (· * ·) ?_ rfl
  unfold Merge.hidden Merge.dot row
  have e := fun p => dot_halves (fun l => w (ix2 r l)) (IntOp.cmpi .slt (BitVec.ofNat 32 r.val) nv) p
  exact congrArg₂ (· * ·) (congrArg₂ (· * ·) (e fun q => g (ix3 0 q h)) (congrArg Ideal.logistic (e fun q => g (ix3 0 q h)))) (e fun q => u (ix3 0 q h))

end Cert.Expert

end
-- ==== Proof.Value4.lean ====
/-
  The grouped experts' result: on the used blocks' rows the array a launch leaves holds, row by row, the row's own
  expert's product. A block's expert is the one its run has, which is the one its table entry names.
-/
module

public import proofs.«01_k».proof.Proof.Done4
public import proofs.«01_k».proof.Proof.Expert4
public import Idealize.ShloMosaic.Lib.Pipeline.ValueKit

@[expose] public section

noncomputable section

namespace Cert.Kernel4Ideal.Hand

open Idealize.ShloMosaic Idealize.ShloMosaic.TcCoe
open Idealize.ShloMosaic.Pipeline (Dat Cfg)
open Cert.Kernel4Ideal.Gen

variable (m : (ℓ : Loc nD τ sig) → Buf (Elt Ideal) ℓ) (T : Runs (tabs m)) (c : Dev nD)

/-- The count of the valid rows of the block `b`. -/
def nvb (b : Nat) (h : b < 768) : BitVec 32 := (tabs m).nv (p768 b h)

/-- A row of a tile whose blocks begin at `b`, through the expert of the row's block. -/
def tileRow (i : grid0.Coords) (x : S1024x512.Idx → Elt Ideal .i32) (y : S1024x1024.Idx) : EReal :=
  Expert.out (Expert.row (fun l => x (ix2 (y 0) l)) (IntOp.cmpi .slt (BitVec.ofNat 32 ((y 0).val % 256)) (nvb m (4 * (i 0).val + (y 0).val / 256) (by have h : (y 0).val < 1024 := (y 0).isLt; have := lt192 i; omega))))
    (fun q h => vG c (warr m c) (blkE T (4 * (i 0).val + (y 0).val / 256)) (ix3 0 q h))
    (fun q h => vU c (warr m c) (blkE T (4 * (i 0).val + (y 0).val / 256)) (ix3 0 q h))
    (fun h k => vD c (warr m c) (blkE T (4 * (i 0).val + (y 0).val / 256)) (ix3 0 h k)) (y 1)

/-- One store of a tile: the rows from `256 * j`. -/
theorem piece (i : grid0.Coords) (x : S1024x512.Idx → Elt Ideal .i32) (o j : Nat) (hj : j < 4) (ho : o = 256 * j) (inb) (inb' : ∀ a, (![o, 0] : Fin 2 → Nat) a + S256x1024.size a ≤ S1024x1024.size a)
    (y : S256x1024.Idx) :
    k0_pay4 (rows256 x o inb) (nvb m (4 * (i 0).val + j) (by have := lt192 i; omega)) (vG c (warr m c) (blkE T (4 * (i 0).val + j))) (vU c (warr m c) (blkE T (4 * (i 0).val + j))) (vD c (warr m c) (blkE T (4 * (i 0).val + j))) y
      = tileRow m T c i x ((Rect.unit (s := S1024x1024) ![o, 0] S256x1024.size inb').emb y) := by
  obtain ⟨r, k, rfl⟩ : ∃ (r : Fin 256) (k : Fin 1024), y = ix2 r k := ⟨y 0, y 1, eq_ix2 y⟩
  rw [Expert.pay4_apply]
  have hr := r.isLt
  have e : (Rect.unit (s := S1024x1024) ![o, 0] S256x1024.size inb').emb (ix2 r k) = ix2 ⟨256 * j + r.val, by omega⟩ k := by
    refine (eq_ix2 _).trans (congrArg₂ ix2 (Fin.ext ?_) (Fin.ext ?_)) <;> simp [Rect.emb_apply, ho]
  rw [e]
  have h1 : (256 * j + r.val) / 256 = j := by omega
  have h2 : (256 * j + r.val) % 256 = r.val := by omega
  unfold tileRow
  have ex : ∀ l : Fin 512, rows256 x o inb (ix2 r l) = x (ix2 ⟨256 * j + r.val, by omega⟩ l) := fun l => by
    unfold rows256
    refine congrArg x ((eq_ix2 _).trans (congrArg₂ ix2 (Fin.ext ?_) (Fin.ext ?_)))
    · show o + 1 * r.val = 256 * j + r.val; omega
    · show 0 + 1 * l.val = l.val; omega
  simp only [ex]
  show _ = Expert.out (Expert.row (fun l => x (ix2 ⟨256 * j + r.val, _⟩ l)) (IntOp.cmpi .slt (BitVec.ofNat 32 ((256 * j + r.val) % 256)) (nvb m (4 * (i 0).val + (256 * j + r.val) / 256) _)))
    (fun q h => vG c (warr m c) (blkE T (4 * (i 0).val + (256 * j + r.val) / 256)) (ix3 0 q h))
    (fun q h => vU c (warr m c) (blkE T (4 * (i 0).val + (256 * j + r.val) / 256)) (ix3 0 q h))
    (fun h k => vD c (warr m c) (blkE T (4 * (i 0).val + (256 * j + r.val) / 256)) (ix3 0 h k)) k
  simp only [h1, h2]

theorem tile_apply (t : Fin grid0.N) (y : S1024x1024.Idx) : tileV m T c t y = tileRow m T c (grid0.coords t) (xblk m T c t) y := by
  unfold tileV
  refine (View.canon_apply_of_pieces (tileRow m T c (grid0.coords t) (xblk m T c t)) _ ?_ _ (tileX_cover m T c _ _ y))
  unfold tileX
  simp only [List.forall_mem_cons, List.not_mem_nil, false_imp_iff, implies_true, and_true]
  refine ⟨?_, ?_, ?_, ?_⟩
  · exact fun x => piece m T c _ _ 768 3 (by decide) rfl _ _ x
  · exact fun x => piece m T c _ _ 512 2 (by decide) rfl _ _ x
  · exact fun x => piece m T c _ _ 256 1 (by decide) rfl _ _ x
  · exact fun x => piece m T c _ _ 0 0 (by decide) rfl _ _ x

theorem vG_apply (e : Fin 256) (q : Fin 1024) (h : Fin 256) : vG c (warr m c) e (ix3 0 q h) = (V m c main_arg4 : S256x1024x256.Idx → EReal) (ix3 e q h) := by
  unfold vG
  refine congrArg (V m c main_arg4 : S256x1024x256.Idx → EReal) (?_ : _ = ix3 e q h)
  funext a
  fin_cases a <;> apply Fin.ext
  · show e.val + 1 * 0 = e.val; omega
  · show 0 + 1 * q.val = q.val; omega
  · show 0 + 1 * h.val = h.val; omega

theorem vU_apply (e : Fin 256) (q : Fin 1024) (h : Fin 256) : vU c (warr m c) e (ix3 0 q h) = (V m c main_arg5 : S256x1024x256.Idx → EReal) (ix3 e q h) := by
  unfold vU
  refine congrArg (V m c main_arg5 : S256x1024x256.Idx → EReal) (?_ : _ = ix3 e q h)
  funext a
  fin_cases a <;> apply Fin.ext
  · show e.val + 1 * 0 = e.val; omega
  · show 0 + 1 * q.val = q.val; omega
  · show 0 + 1 * h.val = h.val; omega

theorem vD_apply (e : Fin 256) (h : Fin 256) (k : Fin 1024) : vD c (warr m c) e (ix3 0 h k) = (V m c main_arg6 : S256x256x1024.Idx → EReal) (ix3 e h k) := by
  unfold vD
  refine congrArg (V m c main_arg6 : S256x256x1024.Idx → EReal) (?_ : _ = ix3 e h k)
  funext a
  fin_cases a <;> apply Fin.ext
  · show e.val + 1 * 0 = e.val; omega
  · show 0 + 1 * h.val = h.val; omega
  · show 0 + 1 * k.val = k.val; omega

theorem index_0 (t : Fin (cfgT m T).N) : ((cfgT m T).win 0).index t = ![min t.val ((T.n - 1) / 4), 0] := by
  have := tr0_eq m T (grid0.coords t)
  rw [coord0] at this
  exact this

theorem xblk_apply (t : Fin (cfgT m T).N) (ht : t.val ≤ lastT m T) (r : Fin 1024) (l : Fin 512) :
    xblk m T c t (ix2 r l) = (V m c main_arg3 : S196608x512.Idx → BitVec 32) (ix2 ⟨t.val * 1024 + r.val, by have : t.val < 192 := t.isLt; omega⟩ l) := by
  unfold xblk
  have e := index_0 m T t
  have hl : t.val ≤ (T.n - 1) / 4 := ht
  blk_ext! [e]

/-- The result on the rows of the block `b`. -/
def blockRow (b : Fin 768) (r : Fin 256) (k : Fin 1024) : EReal :=
  Expert.out (Expert.row (fun l => (V m c main_arg3 : S196608x512.Idx → BitVec 32) (ix2 ⟨b.val * 256 + r.val, by omega⟩ l)) (IntOp.cmpi .slt (BitVec.ofNat 32 r.val) (nvb m b.val b.isLt)))
    (fun q h => (V m c main_arg4 : S256x1024x256.Idx → EReal) (ix3 (blkE T b.val) q h))
    (fun q h => (V m c main_arg5 : S256x1024x256.Idx → EReal) (ix3 (blkE T b.val) q h))
    (fun h k => (V m c main_arg6 : S256x256x1024.Idx → EReal) (ix3 (blkE T b.val) h k)) k

theorem tile_row (t : Fin grid0.N) (ht : t.val ≤ lastT m T) (r : Fin 1024) (k : Fin 1024) :
    tileV m T c t (ix2 r k) = blockRow m T c ⟨4 * t.val + r.val / 256, by have : t.val < 192 := t.isLt; omega⟩ ⟨r.val % 256, Nat.mod_lt _ (by decide)⟩ k := by
  rw [tile_apply]
  unfold tileRow blockRow
  have hc := coord0 t
  simp only [vG_apply, vU_apply, vD_apply]
  show Expert.out (Expert.row (fun l => xblk m T c t (ix2 r l)) (IntOp.cmpi .slt (BitVec.ofNat 32 (r.val % 256)) (nvb m (4 * (grid0.coords t 0).val + r.val / 256) _)))
    (fun q h => (V m c main_arg4 : S256x1024x256.Idx → EReal) (ix3 (blkE T (4 * (grid0.coords t 0).val + r.val / 256)) q h))
    (fun q h => (V m c main_arg5 : S256x1024x256.Idx → EReal) (ix3 (blkE T (4 * (grid0.coords t 0).val + r.val / 256)) q h))
    (fun h k => (V m c main_arg6 : S256x256x1024.Idx → EReal) (ix3 (blkE T (4 * (grid0.coords t 0).val + r.val / 256)) h k)) k = _
  have hx : ∀ l : Fin 512, xblk m T c t (ix2 r l) = (V m c main_arg3 : S196608x512.Idx → BitVec 32) (ix2 ⟨(4 * t.val + r.val / 256) * 256 + r.val % 256, by have : t.val < 192 := t.isLt; omega⟩ l) := fun l =>
    (xblk_apply m T c t ht r l).trans (congrArg (fun a => (V m c main_arg3 : S196608x512.Idx → BitVec 32) (ix2 a l)) (Fin.ext (by show t.val * 1024 + r.val = (4 * t.val + r.val / 256) * 256 + r.val % 256; omega)))
  simp only [hx, hc]

theorem flush_of (t : Fin (cfgT m T).N) (h : t.val < lastT m T ∨ t.val = 191) : ((cfgT m T).win 1).flush t = true := by
  unfold Pipeline.Window.flush
  rw [Bool.and_eq_true_iff]
  refine ⟨rfl, ?_⟩
  rw [Bool.or_eq_true_iff]
  rcases h with h | h
  · right
    have hN : t.val + 1 < (cfgT m T).N := lt_of_le_of_lt h (lastT_lt m T)
    refine decide_eq_true ⟨hN, fun e => ?_⟩
    rw [index_1, index_1] at e
    have e0 := congrFun e 0
    have h' : t.val < (T.n - 1) / 4 := h
    have : min (t.val + 1) ((T.n - 1) / 4) = min t.val ((T.n - 1) / 4) := e0
    omega
  · left
    exact decide_eq_true (by rw [h]; rfl)

/-- A used block's row of the result array. -/
theorem arr_row (b : Fin 768) (hb : b.val < T.n) (r : Fin 256) (k : Fin 1024) :
    (dats m T 0 c).arrAt 1 (cfgT m T).N (ix2 ⟨b.val * 256 + r.val, by omega⟩ k) = blockRow m T c b r k := by
  have key := (dats m T 0 c).arrAt_forall_of_flushed 1
    (fun (i : S196608x1024.Idx) (v : EReal) => ∀ (b : Fin 768) (r : Fin 256) (k : Fin 1024), i = ix2 ⟨b.val * 256 + r.val, by omega⟩ k → v = blockRow m T c b r k)
    (fun t hf y => by
      intro b r k h
      have e := index_1 m T t
      have h0 := congrArg (fun i : S196608x1024.Idx => (i 0).val) h
      have h1 := congrArg (fun i : S196608x1024.Idx => (i 1).val) h
      blk_simp [e] at h0 h1
      blk_simp
      refine (congrFun (after_1 m T c t) y).trans ?_
      obtain ⟨p, q, hp⟩ : ∃ (p : Fin 1024) (q : Fin 1024), (y : S1024x1024.Idx) = ix2 p q := (fun z : S1024x1024.Idx => ⟨z 0, z 1, eq_ix2 z⟩ : ∀ z : S1024x1024.Idx, ∃ (p : Fin 1024) (q : Fin 1024), z = ix2 p q) y
      have h0' : min t.val ((T.n - 1) / 4) * 1024 + p.val = b.val * 256 + r.val :=
        (congrArg (fun z : S1024x1024.Idx => min t.val ((T.n - 1) / 4) * 1024 + (z 0).val) hp).symm.trans h0
      have h1' : q = k := Fin.ext ((congrArg (fun z : S1024x1024.Idx => (z 1).val) hp).symm.trans h1)
      refine (congrArg (tileV m T c (tl m T t)) hp).trans ?_
      refine (tile_row m T c (tl m T t) (min_le_right _ _) p q).trans ?_
      have hp' := p.isLt
      have hr' := r.isLt
      have a1 : (⟨4 * (tl m T t).val + p.val / 256, by have : (tl m T t).val < 192 := (tl m T t).isLt; omega⟩ : Fin 768) = b :=
        Fin.ext (by show 4 * min t.val ((T.n - 1) / 4) + p.val / 256 = b.val; omega)
      have a2 : (⟨p.val % 256, Nat.mod_lt _ (by decide)⟩ : Fin 256) = r := Fin.ext (by show p.val % 256 = r.val; omega)
      rw [a1, a2, h1'])
  have hL : b.val / 4 ≤ lastT m T := by unfold lastT; omega
  have hL' : lastT m T = (T.n - 1) / 4 := rfl
  have hn := T.n_le
  obtain ⟨t, ht, hf⟩ : ∃ t : Fin (cfgT m T).N, min t.val ((T.n - 1) / 4) = b.val / 4 ∧ ((cfgT m T).win 1).flush t = true := by
    rcases Nat.lt_or_ge (b.val / 4) (lastT m T) with h | h
    · exact ⟨⟨b.val / 4, lt_trans h (lastT_lt m T)⟩, by show min (b.val / 4) _ = _; omega, flush_of m T _ (.inl h)⟩
    · exact ⟨⟨191, by show 191 < grid0.N; rw [N_0]; decide⟩, by show min 191 _ = _; omega, flush_of m T _ (.inr rfl)⟩
  refine key (cfgT m T).N t (ix2 ⟨b.val * 256 + r.val, by omega⟩ k) t.isLt hf ?_ b r k rfl
  refine (((cfgT m T).win 1).emb_mem_blk_iff_cell ?_ t ?_ (ix2 ⟨b.val * 256 + r.val, by omega⟩ k)).mpr ?_
  · intro a; show 0 < ![1024, 1024] a
    exact (by decide : ∀ a : Fin 2, 0 < ![1024, 1024] a) a
  · exact fun a => .inl rfl
  · rw [index_1, ht]
    funext a
    have hr := r.isLt
    have hk := k.isLt
    match a with
    | ⟨0, _⟩ => show b.val / 4 = (b.val * 256 + r.val) / 1024; omega
    | ⟨1, _⟩ => show 0 = k.val / 1024; omega

end Cert.Kernel4Ideal.Hand

end
-- ==== Proof.RefValue4.lean ====
/- The plain expert layer's result, element by element: the same row function of the same arrays. -/
module

public import proofs.«01_k».proof.Proof.Expert4
public import proofs.«01_k».proof.Proof.RefValue
public import proofs.«01_k».proof.Proof.Gen.Reference4Ideal.Read

@[expose] public section

noncomputable section

namespace Cert.RefValue4

open Idealize.ShloMosaic Idealize.ShloMosaic.TcCoe Cert.Reference4Ideal Cert.Reference4Ideal.Gen Cert.Reference4Ideal.Read

section Gather
variable {α : Type}

/-- Whole blocks taken by a column of block indices. -/
abbrev blockDims (N B P Q : Nat) (wf : GatherDims.WF ⟨3, ![N, P, Q]⟩ ⟨2, ![B, 1]⟩ ⟨3, ![B, P, Q]⟩ [1, 2] [0] [] [0] [] 1 ![1, P, Q]) :
    GatherDims ⟨3, ![N, P, Q]⟩ ⟨2, ![B, 1]⟩ ⟨3, ![B, P, Q]⟩ where
  offsetDims := [1, 2]
  collapsedSliceDims := [0]
  operandBatchingDims := []
  startIndicesBatchingDims := []
  startIndexMap := [0]
  indexVectorDim := 1
  sliceSizes := ![1, P, Q]
  wf := wf

theorem gather_block {N B P Q : Nat} (hN : 0 < N) (wf : GatherDims.WF ⟨3, ![N, P, Q]⟩ ⟨2, ![B, 1]⟩ ⟨3, ![B, P, Q]⟩ [1, 2] [0] [] [0] [] 1 ![1, P, Q])
    (x : (⟨3, ![N, P, Q]⟩ : Shape).Idx → α) (idx : IVec ⟨2, ![B, 1]⟩ 32) (b : Fin B) (p : Fin P) (q : Fin Q) :
    Host.gather (blockDims N B P Q wf) x idx (ix3 b p q) = x (ix3 ⟨min (idx (ix2 b 0)).toInt.toNat (N - 1), by omega⟩ p q) := by
  unfold Host.gather
  congr 1
  funext a
  refine Fin.ext ?_
  show (blockDims N B P Q wf).start (ix3 b p q) idx a + (blockDims N B P Q wf).batchCoord (ix3 b p q) a + (blockDims N B P Q wf).offCoord (ix3 b p q) a = _
  rw [GatherDims.batchCoord_eq_zero _ _ _ List.not_mem_nil]
  have h3 : a = 0 ∨ a = 1 ∨ a = 2 := by
    match a with
    | ⟨0, _⟩ => exact .inl rfl
    | ⟨1, _⟩ => exact .inr (.inl rfl)
    | ⟨2, _⟩ => exact .inr (.inr rfl)
  rcases h3 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (blockDims N B P Q wf).startIndexMap from List.mem_singleton.mpr rfl)]
    have hsi : (blockDims N B P Q wf).siIdx (ix3 b p q) ⟨List.idxOf (0 : Fin 3) (blockDims N B P Q wf).startIndexMap,
        List.idxOf_lt_length_iff.2 (List.mem_singleton.mpr rfl)⟩ = ix2 b 0 := by
      funext c; refine Fin.ext ?_
      match c with
      | ⟨0, _⟩ => rfl
      | ⟨1, _⟩ => rfl
    rw [hsi]
    rfl
  · unfold GatherDims.start
    rw [dif_neg (show ¬ (1 : Fin 3) ∈ (blockDims N B P Q wf).startIndexMap from by simp)]
    unfold GatherDims.offCoord
    rw [dif_pos (show (1 : Fin 3) ∈ (blockDims N B P Q wf).sKept from (by decide : (1 : Fin 3) ∈ ([1, 2] : List (Fin 3))))]
    exact (Nat.zero_add _).trans rfl
  · unfold GatherDims.start
    rw [dif_neg (show ¬ (2 : Fin 3) ∈ (blockDims N B P Q wf).startIndexMap from by simp)]
    unfold GatherDims.offCoord
    rw [dif_pos (show (2 : Fin 3) ∈ (blockDims N B P Q wf).sKept from (by decide : (2 : Fin 3) ∈ ([1, 2] : List (Fin 3))))]
    exact (Nat.zero_add _).trans rfl
end Gather

variable (x0 x1 : (⟨S768, .i32⟩ : BufTy).Contents (Elt Ideal)) (x3 : (⟨S196608x512, .i32⟩ : BufTy).Contents (Elt Ideal)) (x4 x5 : (⟨S256x1024x256, .f32⟩ : BufTy).Contents (Elt Ideal)) (x6 : (⟨S256x256x1024, .f32⟩ : BufTy).Contents (Elt Ideal))

/-- A block's expert. -/
def ex (hbe : ∀ b : Fin 768, (x0 (ix1 b)).toNat < 256) (b : Fin 768) : Fin 256 := ⟨(x0 (ix1 b)).toNat, hbe b⟩

/-- A small word isn't negative. -/
theorem kept {a b : BitVec 32} (h : a.toNat < 256) : Scalar.select (IntOp.cmpi .slt a 0#32) b a = a := by
  have e : IntOp.cmpi .slt a 0#32 = 0#1 := by
    unfold IntOp.cmpi
    have : a.slt 0#32 = false := by
      rw [BitVec.slt_eq_decide, BitVec.toInt_eq_toNat_of_lt (by omega)]; simp
    simp only [this]; rfl
  rw [e]; rfl

variable (hbe : ∀ b : Fin 768, (x0 (ix1 b)).toNat < 256)
include hbe

theorem v20_word (b : Fin 768) : val_main_v20 x0 (ix2 b 0) = x0 (ix1 b) := by
  rw [val_main_v20_apply, val_main_v19_apply, val_main_v16_apply, val_main_v15_apply, val_main_c_2_apply, show idx_main_v20 (ix2 b 0) = ix1 b from eq_ix1 _]
  exact kept (hbe b)

theorem v29_word (b : Fin 768) : val_main_v29 x0 (ix2 b 0) = x0 (ix1 b) := by
  rw [val_main_v29_apply, val_main_v28_apply, val_main_v25_apply, val_main_v24_apply, val_main_c_4_apply, show idx_main_v29 (ix2 b 0) = ix1 b from eq_ix1 _]
  exact kept (hbe b)

theorem v38_word (b : Fin 768) : val_main_v38 x0 (ix2 b 0) = x0 (ix1 b) := by
  rw [val_main_v38_apply, val_main_v37_apply, val_main_v34_apply, val_main_v33_apply, val_main_c_6_apply, show idx_main_v38 (ix2 b 0) = ix1 b from eq_ix1 _]
  exact kept (hbe b)

theorem v21_eq (b : Fin 768) (p : Fin 1024) (q : Fin 256) : val_main_v21 x0 x4 (ix3 b p q) = x4 (ix3 (ex x0 hbe b) p q) := by
  unfold val_main_v21
  refine (gather_block (N := 256) (B := 768) (P := 1024) (Q := 256) (by decide) _ x4 _ b p q).trans (congrArg x4 (congrArg (fun e => ix3 e p q) (Fin.ext ?_)))
  show min (val_main_v20 x0 (ix2 b 0)).toInt.toNat 255 = (x0 (ix1 b)).toNat
  have h := hbe b
  rw [show val_main_v20 x0 (ix2 b 0) = x0 (ix1 b) from v20_word x0 hbe b]
  rw [BitVec.toInt_eq_toNat_of_lt (by omega)]
  omega

theorem v30_eq (b : Fin 768) (p : Fin 1024) (q : Fin 256) : val_main_v30 x0 x5 (ix3 b p q) = x5 (ix3 (ex x0 hbe b) p q) := by
  unfold val_main_v30
  refine (gather_block (N := 256) (B := 768) (P := 1024) (Q := 256) (by decide) _ x5 _ b p q).trans (congrArg x5 (congrArg (fun e => ix3 e p q) (Fin.ext ?_)))
  show min (val_main_v29 x0 (ix2 b 0)).toInt.toNat 255 = (x0 (ix1 b)).toNat
  have h := hbe b
  rw [show val_main_v29 x0 (ix2 b 0) = x0 (ix1 b) from v29_word x0 hbe b]
  rw [BitVec.toInt_eq_toNat_of_lt (by omega)]
  omega

theorem v39_eq (b : Fin 768) (p : Fin 256) (q : Fin 1024) : val_main_v39 x0 x6 (ix3 b p q) = x6 (ix3 (ex x0 hbe b) p q) := by
  unfold val_main_v39
  refine (gather_block (N := 256) (B := 768) (P := 256) (Q := 1024) (by decide) _ x6 _ b p q).trans (congrArg x6 (congrArg (fun e => ix3 e p q) (Fin.ext ?_)))
  show min (val_main_v38 x0 (ix2 b 0)).toInt.toNat 255 = (x0 (ix1 b)).toNat
  have h := hbe b
  rw [show val_main_v38 x0 (ix2 b 0) = x0 (ix1 b) from v38_word x0 hbe b]
  rw [BitVec.toInt_eq_toNat_of_lt (by omega)]
  omega

omit hbe in
/-- A row's valid halves. -/
theorem row_eq (b : Fin 768) (r : Fin 256) (q : Fin 1024) : val_main_v14 x1 x3 (ix3 b r q)
    = Expert.row (fun l => x3 (ix2 ⟨b.val * 256 + r.val, by omega⟩ l)) (IntOp.cmpi .slt (BitVec.ofNat 32 r.val) (x1 (ix1 b))) q := by
  rw [val_main_v14_apply, val_main_v7_apply]
  unfold Expert.row
  have hi : idx_main_v7 (ix3 b r q) = ix2 ⟨b.val * 256 + r.val, by omega⟩ q := by
    have hq := q.isLt
    refine (eq_ix2 _).trans ?_
    congr 1 <;> apply Fin.ext
    · show ((b.val * 256 + r.val) * 1024 + q.val) / 1024 = b.val * 256 + r.val
      omega
    · show ((b.val * 256 + r.val) * 1024 + q.val) % 1024 = q.val
      omega
  have hf : val_main_v6 (F := Ideal) x3 (ix2 ⟨b.val * 256 + r.val, by omega⟩ q) = Row.feat (fun l => x3 (ix2 ⟨b.val * 256 + r.val, by omega⟩ l)) q := by
    unfold val_main_v6
    pointwise
    unfold Row.feat
    split
    · rw [val_main_v2_apply, val_main_v1_apply]; exact Row.ofBits_shl _
    · rw [val_main_v5_apply, val_main_v4_apply]; exact Row.ofBits_mask _
  rw [hi, hf]
  have hz : val_main_call0_v2 (F := Ideal) (ix3 b r q) = (0 : EReal) := by
    rw [val_main_call0_v2_apply, val_main_call0_v0_apply]
    show ((((0#32 : BitVec 32).toInt : ℤ) : ℝ) : EReal) = 0
    simp
  have hc : val_main_call0_v1 (F := Ideal) x1 (ix3 b r q) = IntOp.cmpi .slt (BitVec.ofNat 32 r.val) (x1 (ix1 b)) := by
    rw [val_main_call0_v1_apply, val_main_v13_apply, val_main_v11_apply, val_main_v12_apply]
    rw [val_main_v9_apply, val_main_v10_apply, show idx_main_v12 (idx_main_call0_v1 (ix3 b r q)) = ix3 b 0 0 from by funext a; fin_cases a <;> rfl]
    have e1 : val_main_v8 (F := Ideal) (idx_main_v9 (idx_main_v11 (idx_main_call0_v1 (ix3 b r q)))) = BitVec.ofNat 32 r.val := rfl
    rw [e1, show idx_main_v10 (ix3 b 0 0) = ix1 b from eq_ix1 _]
  rw [hz, hc]

/-- The plain result: each row through its block's expert. -/
theorem ref_apply (b : Fin 768) (r : Fin 256) (k : Fin 1024) : val_main_v42 x0 x1 x3 x4 x5 x6 (ix2 ⟨b.val * 256 + r.val, by omega⟩ k)
    = Expert.out (Expert.row (fun l => x3 (ix2 ⟨b.val * 256 + r.val, by omega⟩ l)) (IntOp.cmpi .slt (BitVec.ofNat 32 r.val) (x1 (ix1 b))))
        (fun q h => x4 (ix3 (ex x0 hbe b) q h)) (fun q h => x5 (ix3 (ex x0 hbe b) q h)) (fun h k => x6 (ix3 (ex x0 hbe b) h k)) k := by
  rw [val_main_v42_apply, val_main_v41_apply]
  have hi : idx_main_v41 (ix2 ⟨b.val * 256 + r.val, by omega⟩ k) = ix3 b r k := by
    have hq := k.isLt
    refine (eq_ix3 _).trans ?_
    congr 1 <;> apply Fin.ext
    · show ((b.val * 256 + r.val) * 1024 + k.val) / 262144 = b.val
      omega
    · show ((b.val * 256 + r.val) * 1024 + k.val) / 1024 % 256 = r.val
      omega
    · show ((b.val * 256 + r.val) * 1024 + k.val) % 1024 = k.val
      omega
  rw [hi]
  show val_main_v40 (F := Ideal) x0 x1 x3 x4 x5 x6 (ix3 b r k) = _
  rw [val_main_v40_apply]
  unfold Expert.out
  refine Finset.sum_congr rfl fun h _ => ?_
  rw [show lidx_main_v40 (ix3 b r k) h = ix3 b r h from eq_ix3 _, show ridx_main_v40 (ix3 b r k) h = ix3 b h k from eq_ix3 _, v39_eq x0 x6 hbe]
  refine congrArg (· * _) ?_
  have hg : val_main_v22 (F := Ideal) x0 x1 x3 x4 (ix3 b r h) = Merge.dot (Expert.row (fun l => x3 (ix2 ⟨b.val * 256 + r.val, by omega⟩ l)) (IntOp.cmpi .slt (BitVec.ofNat 32 r.val) (x1 (ix1 b)))) (fun q => x4 (ix3 (ex x0 hbe b) q h)) := by
    rw [val_main_v22_apply]
    refine Finset.sum_congr rfl fun q _ => ?_
    rw [show lidx_main_v22 (ix3 b r h) q = ix3 b r q from eq_ix3 _, show ridx_main_v22 (ix3 b r h) q = ix3 b q h from eq_ix3 _, v21_eq x0 x4 hbe, row_eq]
  have hu : val_main_v31 (F := Ideal) x0 x1 x3 x5 (ix3 b r h) = Merge.dot (Expert.row (fun l => x3 (ix2 ⟨b.val * 256 + r.val, by omega⟩ l)) (IntOp.cmpi .slt (BitVec.ofNat 32 r.val) (x1 (ix1 b)))) (fun q => x5 (ix3 (ex x0 hbe b) q h)) := by
    rw [val_main_v31_apply]
    refine Finset.sum_congr rfl fun q _ => ?_
    rw [show lidx_main_v31 (ix3 b r h) q = ix3 b r q from eq_ix3 _, show ridx_main_v31 (ix3 b r h) q = ix3 b q h from eq_ix3 _, v30_eq x0 x5 hbe, row_eq]
  unfold Merge.hidden
  rw [val_main_v32_apply, val_main_v23_apply, val_main_call1_v5_apply, val_main_call1_v4_apply, val_main_call1_cst_0_apply, val_main_call1_v3_apply, val_main_call1_v2_apply, val_main_call1_cst_apply,
    val_main_call1_v1_apply, val_main_call1_v0_apply, hg, hu]
  rw [show FloatOps.ofBits (F := Ideal) FTy.f32 1065353216#32 = (1 : EReal) from Ideal.ofBits_one_f32]
  rfl

end Cert.RefValue4

end
-- ==== Proof.Result4.lean ====
/- On the used blocks' rows the grouped experts' call and its plain reading hold the same values. -/
module

public import proofs.«01_k».proof.Defs
public import proofs.«01_k».proof.Proof.Value4
public import proofs.«01_k».proof.Proof.RefValue4
public import proofs.«01_k».proof.Proof.Gen.Kernel4Ideal
public import proofs.«01_k».proof.Proof.Gen.Reference4Ideal
public import proofs.«01_k».proof.Proof.Gen.Reference4Ideal.Run
public import proofs.«01_k».proof.Proof.Gen.Pre_experts
public import proofs.«01_k».proof.Proof.Gen.On_rows_used
public import Idealize.ShloMosaic.Lib.Claim

@[expose] public section

noncomputable section

namespace Cert.Kernel4Ideal.Hand

open Idealize.ShloMosaic Idealize.ShloMosaic.TcCoe
open Cert.Kernel4Ideal.Gen

/-- A row the mask keeps is a row of a used block. -/
theorem used {a0 a1 : IVec S768 32} {a2 : IVec S1 32} {a3 : IVec S196608x512 32} {a4 a5 : FVec Ideal S256x1024x256 .f32} {a6 : FVec Ideal S256x256x1024 .f32}
    (n : Nat) (hn : n ≤ 768) (h2 : a2 p1 = BitVec.ofNat 32 n) (i : S196608x1024.Idx)
    (h : Cert.On_rows_used.fn (F := Ideal) a0 a1 a2 a3 a4 a5 a6 i = 1#1) : (i 0).val < 256 * n := by
  have e : Cert.On_rows_used.fn (F := Ideal) a0 a1 a2 a3 a4 a5 a6 i = IntOp.cmpi .slt (BitVec.ofNat 32 (i 0).val) (a2 p1 * 256#32) := by
    unfold Cert.On_rows_used.fn
    have h1 : ∀ z : S1.Idx, z = p1 := fun z => funext fun a => by
      match a with
      | ⟨0, _⟩ => exact Fin.ext (by have h : (z 0).val < 1 := (z 0).isLt; show (z 0).val = 0; omega)
    exact congrArg (fun z => IntOp.cmpi .slt (BitVec.ofNat 32 (i 0).val) (a2 z * 256#32)) (h1 _)
  have hi : (i 0).val < 196608 := (i 0).isLt
  rw [e, h2] at h
  unfold IntOp.cmpi at h
  have h' : (BitVec.ofNat 32 (i 0).val).slt (BitVec.ofNat 32 n * 256#32) = true := by
    revert h; cases (BitVec.ofNat 32 (i 0).val).slt (BitVec.ofNat 32 n * 256#32) <;> simp
  have en : BitVec.ofNat 32 n * 256#32 = BitVec.ofNat 32 (256 * n) := by
    apply BitVec.eq_of_toNat_eq
    rw [BitVec.toNat_mul, BitVec.toNat_ofNat, BitVec.toNat_ofNat, BitVec.toNat_ofNat]
    omega
  rw [en, BitVec.slt_eq_decide] at h'
  have hd := of_decide_eq_true h'
  rw [BitVec.toInt_eq_toNat_of_lt (by rw [BitVec.toNat_ofNat]; omega), BitVec.toInt_eq_toNat_of_lt (by rw [BitVec.toNat_ofNat]; omega),
    BitVec.toNat_ofNat, BitVec.toNat_ofNat] at hd
  omega

/-- A row's block and its place there. -/
theorem split_row : ∀ i : S196608x1024.Idx, ∃ (b : Fin 768) (r : Fin 256) (k : Fin 1024), i = ix2 ⟨b.val * 256 + r.val, by omega⟩ k := fun i =>
  have h : (i 0).val < 196608 := (i 0).isLt
  ⟨⟨(i 0).val / 256, by omega⟩, ⟨(i 0).val % 256, by omega⟩, i 1,
    (eq_ix2 i).trans (congrArg (fun a => ix2 a (i 1)) (Fin.ext (by show (i 0).val = (i 0).val / 256 * 256 + (i 0).val % 256; omega)))⟩

variable (m : (ℓ : Loc nD τ sig) → Buf (Elt Ideal) ℓ) (c : Dev nD)

/-- An argument array at launch. -/
abbrev at0 (b : Ref sig .tc) : Buf (Elt Ideal) ((c : Thread nD τ).loc b) := m ((c : Thread nD τ).loc b)

theorem bexp (h : ∀ j h, ((at0 m c main_arg0 : IVec S768 32) (p768 j h)).toNat < 256) (b : Fin 768) : ((at0 m c main_arg0 : IVec S768 32) (ix1 b)).toNat < 256 := by
  have := h b.val b.isLt
  have e : (p768 b.val b.isLt) = ix1 b := eq_ix1 _
  rwa [e] at this

theorem blkE_eq {t : Tabs} (T : Runs t) (j : Nat) : blkE T j = T.ex (T.R (j + 1) - 1) := rfl

/-- A used block's row, from the arrays the launch is given. -/
theorem row_of (hp : Pre m) (hbe : ∀ b : Fin 768, ((at0 m c main_arg0 : IVec S768 32) (ix1 b)).toNat < 256) (b : Fin 768) (hb : b.val < (runsP m hp).n) (r : Fin 256) (k : Fin 1024) :
    blockRow m (runsP m hp) c b r k = Expert.out (Expert.row (fun l => (at0 m c main_arg3 : IVec S196608x512 32) (ix2 ⟨b.val * 256 + r.val, by omega⟩ l))
        (IntOp.cmpi .slt (BitVec.ofNat 32 r.val) ((at0 m c main_arg1 : IVec S768 32) (ix1 b))))
      (fun q h => (at0 m c main_arg4 : FVec Ideal S256x1024x256 .f32) (ix3 (RefValue4.ex (at0 m c main_arg0) hbe b) q h))
      (fun q h => (at0 m c main_arg5 : FVec Ideal S256x1024x256 .f32) (ix3 (RefValue4.ex (at0 m c main_arg0) hbe b) q h))
      (fun h k => (at0 m c main_arg6 : FVec Ideal S256x256x1024 .f32) (ix3 (RefValue4.ex (at0 m c main_arg0) hbe b) h k)) k := by
  obtain rfl : c = 0 := Subsingleton.elim _ _
  have e1 : (p768 b.val b.isLt) = ix1 b := eq_ix1 _
  have hx : blkE (runsP m hp) b.val = RefValue4.ex (at0 m 0 main_arg0) hbe b := by
    have t := (runsP m hp).be b.val b.isLt hb
    have tb : (tabs m).be = at0 m 0 main_arg0 := Va0 m 0
    rw [tb, e1, ← blkE_eq] at t
    apply Fin.ext
    show _ = (at0 m 0 main_arg0 (ix1 b)).toNat
    have h := (blkE (runsP m hp) b.val).isLt
    rw [show at0 m 0 main_arg0 (ix1 b) = _ from t, BitVec.toNat_ofNat]
    omega
  have hv : nvb m b.val b.isLt = (at0 m 0 main_arg1 : IVec S768 32) (ix1 b) := by
    have tv : (tabs m).nv = at0 m 0 main_arg1 := Va1 m 0
    unfold nvb
    rw [tv, e1]
  unfold blockRow
  rw [Va3, Va4, Va5, Va6, hv, hx]

set_option maxHeartbeats 4000000 in
/-- On the used blocks' rows both results are each row's own expert's product. -/
theorem value : Cert.algebraic_Kernel4Ideal_Reference4Ideal_on_rows_used := fun m ρ m' ρ' hp hagree => by
  have hp : Pre m := hp
  refine ⟨fun c => (dats m (runsP m hp) 0 c).arrAt 1 (cfgT m (runsP m hp)).N, ?_, ?_⟩
  · exact (θ_run defs _ _).mono (fun r h c => ⟨fun i _ => congrFun (h.1 c).1 i, (h.1 c).2⟩) (run0 m ρ hp)
  · refine (θ_run Cert.Reference4Ideal.defs _ _).mono (fun r h c => ⟨fun i hi => ?_, (h c).2⟩) (Cert.Reference4Ideal.Value.run (F := Ideal) m' ρ')
    obtain ⟨h0, h1, h2, h3, h4, h5, h6⟩ := hagree c
    obtain rfl : c = 0 := Subsingleton.elim _ _
    obtain ⟨hb, hn1, hn2⟩ := bounds (hp 0)
    have hbe := bexp m 0 hb
    have hn : (runsP m hp).n ≤ 768 := (runsP m hp).n_le
    have hu := used (runsP m hp).n hn ((congrFun (Va2 m 0) p1).symm.trans (runsP m hp).nb) i hi
    obtain ⟨b, r, k, rfl⟩ := split_row i
    have hlt : b.val < (runsP m hp).n := by
      have : b.val * 256 + r.val < 256 * (runsP m hp).n := hu
      omega
    refine (congrFun (h 0).1 _).trans ?_
    rw [Cert.Reference4Ideal.Read.val_main_v42_eq, h0, h1, h3, h4, h5, h6]
    refine (Cert.RefValue4.ref_apply _ _ _ _ _ _ hbe b r k).trans ?_
    exact ((arr_row m (runsP m hp) 0 b hlt r k).trans (row_of m 0 hp hbe b hlt r k)).symm

end Cert.Kernel4Ideal.Hand

end
-- ==== Proof.lean ====
/- The claims about the calls: frames of every program, of its idealization and of its reference, and the equality of the
   idealization's results with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal.Run
public import proofs.«01_k».proof.Proof.Gen.Reference4Ideal.Read
public import proofs.«01_k».proof.Proof.Gen.Reference4Ideal
public import proofs.«01_k».proof.Proof.Gen.Pre_experts
public import proofs.«01_k».proof.Proof.Gen.On_rows_used
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Final
public import proofs.«01_k».proof.Proof.Run
public import proofs.«01_k».proof.Proof.RefValue
public import proofs.«01_k».proof.Proof.RefValue2
public import proofs.«01_k».proof.Proof.RefValue3
public import proofs.«01_k».proof.Proof.Finite
public import proofs.«01_k».proof.Proof.Done4B
public import proofs.«01_k».proof.Proof.Result4
public import Idealize.ShloMosaic.Adequacy
public import Idealize.ShloMosaic.Init
public import Idealize.ShloMosaic.Lib.Claim

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Both results are `Regions.result` of the eight arguments. -/
theorem value : Cert.algebraic_KernelIdeal_ReferenceIdeal := fun m ρ m' ρ' _ hagree =>
  ⟨fun c => Cert.Final.OUT m c,
    (θ_run Cert.KernelIdeal.defs _ _).mono (fun _ h c => ⟨(h c).1.trans (Cert.Final.value m ρ c), (h c).2⟩)
      (Cert.Run.run (F := Ideal) m ρ),
    (θ_run Cert.ReferenceIdeal.defs _ _).mono (fun _ h c => ⟨(h c).1.trans (by
        obtain ⟨h0, h1, h2, h3, h4, h5, h6, h7⟩ := hagree c
        rw [Cert.ReferenceIdeal.Read.val_main_v30_eq, h0, h1, h2, h3, h4, h5, h6, h7]
        exact Cert.RefValue.result_eq _ _ _ _ _ _ _ _), (h c).2⟩)
      (Cert.ReferenceIdeal.Value.run (F := Ideal) m' ρ')⟩

theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)

/-- Both projections are `Value2.result` of the seven arguments. -/
theorem value2 : Cert.algebraic_Kernel2Ideal_Reference2Ideal := fun m ρ m' ρ' _ hagree =>
  ⟨fun c => Cert.Value2.OUT m c,
    (θ_run Cert.Kernel2Ideal.defs _ _).mono (fun _ h c => ⟨(h c).1.trans (Cert.Value2.value m c), (h c).2⟩)
      (Cert.Kernel2Ideal.Value.run_blocks m ρ),
    (θ_run Cert.Reference2Ideal.defs _ _).mono (fun _ h c => ⟨(h c).1.trans (by
        obtain ⟨h0, h1, h2, h3, h4, h5, h6⟩ := hagree c
        rw [Cert.Reference2Ideal.Read.val_main_v29_eq, h0, h1, h2, h3, h4, h5, h6]
        exact Cert.RefValue2.result_eq _ _ _ _ _ _ _), (h c).2⟩)
      (Cert.Reference2Ideal.Value.run (F := Ideal) m' ρ')⟩

set_option maxHeartbeats 4000000 in
/-- The three results of both middles are `Merge.xres`, `Merge.h2` and the router's products, row by row. -/
theorem value3 : Cert.algebraic_Kernel3Ideal_Reference3Ideal_pre_finite := fun m ρ m' ρ' hpre hagree =>
  ⟨fun c => Cert.Value3.XRES m c, fun c => Cert.Value3.H2 m c, fun c => Cert.Value3.LOGITS m c,
    (θ_run Cert.Kernel3Ideal.defs _ _).mono (fun _ h c => ⟨(h c).1.trans (Cert.Value3.value19 m c),
        (h c).2.1.trans (Cert.Value3.value20 m c), (h c).2.2.1.trans (by
          obtain ⟨h0, h1, h2, h3, h4, h5, h6, h7, h8, h9, h10, h11, h12, h14⟩ := Cert.Finite.real_of_finite (hpre c)
          exact Cert.Value3.value21 m c h14 fun n d => Cert.Merge.h2_real (fun _ => h0 _) (fun _ => h1 _) (fun _ => h2 _) (fun _ => h3 _)
            (fun _ => h4 _) (fun _ => h5 _) (fun _ => h5 _) (fun _ _ => h6 _) (fun _ _ => h7 _) (fun _ _ => h8 _) (fun _ => h9 _)
            (fun _ => h10 _) (fun _ => h12 _) (fun _ => h11 _) d), (h c).2.2.2⟩)
      (Cert.Kernel3Ideal.Value.run_blocks m ρ),
    (θ_run Cert.Reference3Ideal.defs _ _).mono (fun _ h c => by
        obtain ⟨h0, h1, h2, h3, h4, h5, h6, h7, h8, h9, h10, h11, h12, h13, h14, h15, h16, h17⟩ := hagree c
        refine ⟨(h c).1.trans ?_, (h c).2.1.trans ?_, (h c).2.2.1.trans ?_, (h c).2.2.2⟩
        · rw [Cert.Reference3Ideal.Read.val_main_v65_eq, h0, h1, h2, h3, h4, h5, h6, h7, h8, h9, h10, h11, h12, h13, h15, h16, h17]
          exact Cert.RefValue3.array0 _ _ _ _ _ _ _ _ _ _ _ _ _ _ _ _ _
        · rw [Cert.Reference3Ideal.Read.val_main_v67_eq, h0, h1, h2, h3, h4, h5, h6, h7, h8, h9, h10, h11, h12]
          exact Cert.RefValue3.array1 _ _ _ _ _ _ _ _ _ _ _ _ _
        · rw [Cert.Reference3Ideal.Read.val_main_v70_eq, h0, h1, h2, h3, h4, h5, h6, h7, h8, h9, h10, h11, h12, h14]
          exact Cert.RefValue3.array2 _ _ _ _ _ _ _ _ _ _ _ _ _ _)
      (Cert.Reference3Ideal.Value.run (F := Ideal) m' ρ')⟩

theorem frame_reference4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Finite.facts, Cert.Pre_experts.Gen.facts, Cert.On_rows_used.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, fun m ρ _ => Cert.Kernel3Ideal.Gen.frame m ρ,
  frame_reference3, fun m ρ _ => frame_reference3 m ρ trivial,
  fun m ρ hp => Cert.Kernel4.Hand.frame m ρ hp, fun m ρ hp => Cert.Kernel4Ideal.Hand.frame m ρ hp, frame_reference4, fun m ρ _ => frame_reference4 m ρ trivial,
  trivial, value, trivial, value2, trivial, value3, trivial, Cert.Kernel4Ideal.Hand.value⟩

end Cert.Proof

end
